-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v515) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x4096x1024 : Shape := ⟨3, ![2, 4096, 1024]⟩
abbrev S2x1024 : Shape := ⟨2, ![2, 1024]⟩
abbrev S2x1024x1024 : Shape := ⟨3, ![2, 1024, 1024]⟩
abbrev S2x4096x256 : Shape := ⟨3, ![2, 4096, 256]⟩
abbrev S2x1024x4096 : Shape := ⟨3, ![2, 1024, 4096]⟩
abbrev S2x4096 : Shape := ⟨2, ![2, 4096]⟩
abbrev S2x1024x1024x16 : Shape := ⟨4, ![2, 1024, 1024, 16]⟩
abbrev S8192x1024 : Shape := ⟨2, ![8192, 1024]⟩
abbrev S2x256x1024 : Shape := ⟨3, ![2, 256, 1024]⟩
abbrev S1x512x1024 : Shape := ⟨3, ![1, 512, 1024]⟩
abbrev S1x1024x1024 : Shape := ⟨3, ![1, 1024, 1024]⟩
abbrev S1x512x256 : Shape := ⟨3, ![1, 512, 256]⟩
abbrev S1x256x1024 : Shape := ⟨3, ![1, 256, 1024]⟩
abbrev S512x1024 : Shape := ⟨2, ![512, 1024]⟩
abbrev S1x1024 : Shape := ⟨2, ![1, 1024]⟩
abbrev S512 : Shape := ⟨1, ![512]⟩
abbrev S512x1 : Shape := ⟨2, ![512, 1]⟩
abbrev S1024x1024 : Shape := ⟨2, ![1024, 1024]⟩
abbrev S512x256 : Shape := ⟨2, ![512, 256]⟩
abbrev S256x1024 : Shape := ⟨2, ![256, 1024]⟩
abbrev S1x1024x4096 : Shape := ⟨3, ![1, 1024, 4096]⟩
abbrev S1x4096x1024 : Shape := ⟨3, ![1, 4096, 1024]⟩
abbrev S256 : Shape := ⟨1, ![256]⟩
abbrev S256x1 : Shape := ⟨2, ![256, 1]⟩
abbrev S256x128 : Shape := ⟨2, ![256, 128]⟩
abbrev S256x256 : Shape := ⟨2, ![256, 256]⟩
abbrev S1x1024x512 : Shape := ⟨3, ![1, 1024, 512]⟩
abbrev S1024x512 : Shape := ⟨2, ![1024, 512]⟩
abbrev S256x512 : Shape := ⟨2, ![256, 512]⟩
abbrev S1x512 : Shape := ⟨2, ![1, 512]⟩
abbrev S2x1024x16x1024 : Shape := ⟨4, ![2, 1024, 16, 1024]⟩
abbrev S2x256x16x1024 : Shape := ⟨4, ![2, 256, 16, 1024]⟩
abbrev S2x1024x1x1024 : Shape := ⟨4, ![2, 1024, 1, 1024]⟩
abbrev S2x2x256x1x1024 : Shape := ⟨5, ![2, 2, 256, 1, 1024]⟩
abbrev S2x4 : Shape := ⟨2, ![2, 4]⟩
abbrev S1x1 : Shape := ⟨2, ![1, 1]⟩
abbrev S_ : Shape := ⟨0, ![]⟩
abbrev S1x1024x1x1024 : Shape := ⟨4, ![1, 1024, 1, 1024]⟩
abbrev S1024x1x1024 : Shape := ⟨3, ![1024, 1, 1024]⟩
abbrev S1x2x256x1x1024 : Shape := ⟨5, ![1, 2, 256, 1, 1024]⟩
abbrev S2x256x1x1024 : Shape := ⟨4, ![2, 256, 1, 1024]⟩
abbrev S1x1x256x1x1024 : Shape := ⟨5, ![1, 1, 256, 1, 1024]⟩

abbrev nBuf : Space → Nat
  | .hbm => 56
  | .vmem => 136
  | .smem => 0
  | _ => 0

abbrev vmemTy0_0 (i : Nat) : BufTy := match i % 128 with
  | 0 => ⟨S1x512x1024, .f32⟩
  | 1 => ⟨S1x512x1024, .f32⟩
  | 2 => ⟨S2x1024, .f32⟩
  | 3 => ⟨S2x1024, .f32⟩
  | 4 => ⟨S1x1024x1024, .f32⟩
  | 5 => ⟨S1x1024x1024, .f32⟩
  | 6 => ⟨S1x512x256, .f32⟩
  | 7 => ⟨S1x512x256, .f32⟩
  | 8 => ⟨S1x512x256, .f32⟩
  | 9 => ⟨S1x512x256, .f32⟩
  | 10 => ⟨S1x256x1024, .f32⟩
  | 11 => ⟨S1x256x1024, .f32⟩
  | 12 => ⟨S1x256x1024, .f32⟩
  | 13 => ⟨S1x256x1024, .f32⟩
  | 14 => ⟨S1x256x1024, .f32⟩
  | 15 => ⟨S1x256x1024, .f32⟩
  | 16 => ⟨S2x1024, .f32⟩
  | 17 => ⟨S2x1024, .f32⟩
  | 18 => ⟨S1x1024x1024, .f32⟩
  | 19 => ⟨S1x256x1024, .f32⟩
  | 20 => ⟨S1x256x1024, .f32⟩
  | 21 => ⟨S1x256x1024, .f32⟩
  | 22 => ⟨S1x256x1024, .f32⟩
  | 23 => ⟨S1x1024x1024, .f32⟩
  | 24 => ⟨S2x1024, .f32⟩
  | 25 => ⟨S2x1024, .f32⟩
  | 26 => ⟨S2x1024, .f32⟩
  | 27 => ⟨S1x1024x4096, .f32⟩
  | 28 => ⟨S2x4096, .f32⟩
  | 29 => ⟨S1x4096x1024, .f32⟩
  | 30 => ⟨S2x1024, .f32⟩
  | 31 => ⟨S1x256x1024, .f32⟩
  | 32 => ⟨S1x256x1024, .f32⟩
  | 33 => ⟨S1x512x1024, .f32⟩
  | 34 => ⟨S1x512x1024, .f32⟩
  | 35 => ⟨S2x1024, .f32⟩
  | 36 => ⟨S2x1024, .f32⟩
  | 37 => ⟨S1x1024x1024, .f32⟩
  | 38 => ⟨S1x1024x1024, .f32⟩
  | 39 => ⟨S1x512x256, .f32⟩
  | 40 => ⟨S1x512x256, .f32⟩
  | 41 => ⟨S1x512x256, .f32⟩
  | 42 => ⟨S1x512x256, .f32⟩
  | 43 => ⟨S1x256x1024, .f32⟩
  | 44 => ⟨S1x256x1024, .f32⟩
  | 45 => ⟨S1x256x1024, .f32⟩
  | 46 => ⟨S1x256x1024, .f32⟩
  | 47 => ⟨S1x256x1024, .f32⟩
  | 48 => ⟨S1x256x1024, .f32⟩
  | 49 => ⟨S2x1024, .f32⟩
  | 50 => ⟨S2x1024, .f32⟩
  | 51 => ⟨S1x1024x1024, .f32⟩
  | 52 => ⟨S1x256x1024, .f32⟩
  | 53 => ⟨S1x256x1024, .f32⟩
  | 54 => ⟨S1x256x1024, .f32⟩
  | 55 => ⟨S1x256x1024, .f32⟩
  | 56 => ⟨S1x1024x1024, .f32⟩
  | 57 => ⟨S2x1024, .f32⟩
  | 58 => ⟨S2x1024, .f32⟩
  | 59 => ⟨S2x1024, .f32⟩
  | 60 => ⟨S1x1024x4096, .f32⟩
  | 61 => ⟨S2x4096, .f32⟩
  | 62 => ⟨S1x4096x1024, .f32⟩
  | 63 => ⟨S2x1024, .f32⟩
  | 64 => ⟨S1x256x1024, .f32⟩
  | 65 => ⟨S1x256x1024, .f32⟩
  | 66 => ⟨S256x1024, .f32⟩
  | 67 => ⟨S256x1024, .f32⟩
  | 68 => ⟨S2x1024, .f32⟩
  | 69 => ⟨S2x1024, .f32⟩
  | 70 => ⟨S1x1024x1024, .f32⟩
  | 71 => ⟨S1x1024x1024, .f32⟩
  | 72 => ⟨S256x1024, .f32⟩
  | 73 => ⟨S256x1024, .f32⟩
  | 74 => ⟨S256x1024, .f32⟩
  | 75 => ⟨S256x1024, .f32⟩
  | 76 => ⟨S2x256x1024, .f32⟩
  | 77 => ⟨S2x256x1024, .f32⟩
  | 78 => ⟨S2x1024x1x1024, .f32⟩
  | 79 => ⟨S2x1024x1x1024, .f32⟩
  | 80 => ⟨S2x2x256x1x1024, .f32⟩
  | 81 => ⟨S2x2x256x1x1024, .f32⟩
  | 82 => ⟨S1x256x1024, .f32⟩
  | 83 => ⟨S1x256x1024, .f32⟩
  | 84 => ⟨S2x1024, .f32⟩
  | 85 => ⟨S2x1024, .f32⟩
  | 86 => ⟨S1x1024x1024, .f32⟩
  | 87 => ⟨S1x256x1024, .f32⟩
  | 88 => ⟨S1x256x1024, .f32⟩
  | 89 => ⟨S1x256x1024, .f32⟩
  | 90 => ⟨S1x256x1024, .f32⟩
  | 91 => ⟨S1x1024x1024, .f32⟩
  | 92 => ⟨S2x1024, .f32⟩
  | 93 => ⟨S2x1024, .f32⟩
  | 94 => ⟨S2x1024, .f32⟩
  | 95 => ⟨S1x1024x4096, .f32⟩
  | 96 => ⟨S2x4096, .f32⟩
  | 97 => ⟨S1x4096x1024, .f32⟩
  | 98 => ⟨S2x1024, .f32⟩
  | 99 => ⟨S1x256x1024, .f32⟩
  | 100 => ⟨S1x256x1024, .f32⟩
  | 101 => ⟨S256x1024, .f32⟩
  | 102 => ⟨S256x1024, .f32⟩
  | 103 => ⟨S2x1024, .f32⟩
  | 104 => ⟨S2x1024, .f32⟩
  | 105 => ⟨S1x1024x1024, .f32⟩
  | 106 => ⟨S1x1024x1024, .f32⟩
  | 107 => ⟨S256x1024, .f32⟩
  | 108 => ⟨S256x1024, .f32⟩
  | 109 => ⟨S256x1024, .f32⟩
  | 110 => ⟨S256x1024, .f32⟩
  | 111 => ⟨S2x256x1024, .f32⟩
  | 112 => ⟨S2x256x1024, .f32⟩
  | 113 => ⟨S2x1024x1x1024, .f32⟩
  | 114 => ⟨S2x1024x1x1024, .f32⟩
  | 115 => ⟨S2x2x256x1x1024, .f32⟩
  | 116 => ⟨S2x2x256x1x1024, .f32⟩
  | 117 => ⟨S1x256x1024, .f32⟩
  | 118 => ⟨S1x256x1024, .f32⟩
  | 119 => ⟨S2x1024, .f32⟩
  | 120 => ⟨S2x1024, .f32⟩
  | 121 => ⟨S1x1024x1024, .f32⟩
  | 122 => ⟨S1x256x1024, .f32⟩
  | 123 => ⟨S1x256x1024, .f32⟩
  | 124 => ⟨S1x256x1024, .f32⟩
  | 125 => ⟨S1x256x1024, .f32⟩
  | 126 => ⟨S1x1024x1024, .f32⟩
  | 127 => ⟨S2x1024, .f32⟩
  | _ => ⟨S2x4096x1024, .f32⟩

abbrev vmemTy0_1 (i : Nat) : BufTy := match i % 128 with
  | 0 => ⟨S2x1024, .f32⟩
  | 1 => ⟨S2x1024, .f32⟩
  | 2 => ⟨S1x1024x4096, .f32⟩
  | 3 => ⟨S2x4096, .f32⟩
  | 4 => ⟨S1x4096x1024, .f32⟩
  | 5 => ⟨S2x1024, .f32⟩
  | 6 => ⟨S1x256x1024, .f32⟩
  | 7 => ⟨S1x256x1024, .f32⟩
  | _ => ⟨S2x4096x1024, .f32⟩

abbrev vmemTy (i : Nat) : BufTy := match i / 128 with
  | 0 => vmemTy0_0 i
  | 1 => vmemTy0_1 i
  | _ => ⟨S2x4096x1024, .f32⟩

abbrev bufTy : (tb : Table) → Fin (tcTables nBuf tb) → BufTy
  | .hbm, ⟨0, _⟩ => ⟨S2x4096x1024, .f32⟩
  | .hbm, ⟨1, _⟩ => ⟨S2x1024, .f32⟩
  | .hbm, ⟨2, _⟩ => ⟨S2x1024, .f32⟩
  | .hbm, ⟨3, _⟩ => ⟨S2x1024x1024, .f32⟩
  | .hbm, ⟨4, _⟩ => ⟨S2x1024x1024, .f32⟩
  | .hbm, ⟨5, _⟩ => ⟨S2x1024x1024, .f32⟩
  | .hbm, ⟨6, _⟩ => ⟨S2x4096x256, .f32⟩
  | .hbm, ⟨7, _⟩ => ⟨S2x4096x256, .f32⟩
  | .hbm, ⟨8, _⟩ => ⟨S2x1024x1024, .f32⟩
  | .hbm, ⟨9, _⟩ => ⟨S2x1024, .f32⟩
  | .hbm, ⟨10, _⟩ => ⟨S2x1024, .f32⟩
  | .hbm, ⟨11, _⟩ => ⟨S2x1024, .f32⟩
  | .hbm, ⟨12, _⟩ => ⟨S2x1024x4096, .f32⟩
  | .hbm, ⟨13, _⟩ => ⟨S2x4096, .f32⟩
  | .hbm, ⟨14, _⟩ => ⟨S2x4096x1024, .f32⟩
  | .hbm, ⟨15, _⟩ => ⟨S2x1024, .f32⟩
  | .hbm, ⟨16, _⟩ => ⟨S2x1024, .f32⟩
  | .hbm, ⟨17, _⟩ => ⟨S2x1024, .f32⟩
  | .hbm, ⟨18, _⟩ => ⟨S2x1024x1024, .f32⟩
  | .hbm, ⟨19, _⟩ => ⟨S2x1024x1024, .f32⟩
  | .hbm, ⟨20, _⟩ => ⟨S2x1024x1024, .f32⟩
  | .hbm, ⟨21, _⟩ => ⟨S2x1024x1024x16, .f32⟩
  | .hbm, ⟨22, _⟩ => ⟨S2x1024x1024x16, .f32⟩
  | .hbm, ⟨23, _⟩ => ⟨S2x1024x1024, .f32⟩
  | .hbm, ⟨24, _⟩ => ⟨S2x1024, .f32⟩
  | .hbm, ⟨25, _⟩ => ⟨S2x1024, .f32⟩
  | .hbm, ⟨26, _⟩ => ⟨S2x1024, .f32⟩
  | .hbm, ⟨27, _⟩ => ⟨S2x1024x4096, .f32⟩
  | .hbm, ⟨28, _⟩ => ⟨S2x4096, .f32⟩
  | .hbm, ⟨29, _⟩ => ⟨S2x4096x1024, .f32⟩
  | .hbm, ⟨30, _⟩ => ⟨S2x1024, .f32⟩
  | .hbm, ⟨31, _⟩ => ⟨S8192x1024, .f32⟩
  | .hbm, ⟨32, _⟩ => ⟨S2x256x1024, .f32⟩
  | .hbm, ⟨33, _⟩ => ⟨S2x256x1024, .f32⟩
  | .hbm, ⟨34, _⟩ => ⟨S2x4096x1024, .f32⟩
  | .hbm, ⟨35, _⟩ => ⟨S2x256x1024, .f32⟩
  | .hbm, ⟨36, _⟩ => ⟨S2x256x1024, .f32⟩
  | .hbm, ⟨37, _⟩ => ⟨S2x4096x1024, .f32⟩
  | .hbm, ⟨38, _⟩ => ⟨S2x1024x16x1024, .f32⟩
  | .hbm, ⟨39, _⟩ => ⟨S2x1024x16x1024, .f32⟩
  | .hbm, ⟨40, _⟩ => ⟨S8192x1024, .f32⟩
  | .hbm, ⟨41, _⟩ => ⟨S8192x1024, .f32⟩
  | .hbm, ⟨42, _⟩ => ⟨S8192x1024, .f32⟩
  | .hbm, ⟨43, _⟩ => ⟨S2x256x16x1024, .f32⟩
  | .hbm, ⟨44, _⟩ => ⟨S2x256x16x1024, .f32⟩
  | .hbm, ⟨45, _⟩ => ⟨S2x256x1024, .f32⟩
  | .hbm, ⟨46, _⟩ => ⟨S2x256x1024, .f32⟩
  | .hbm, ⟨47, _⟩ => ⟨S2x4096x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S2x256x16x1024, .f32⟩
  | .hbm, ⟨52, _⟩ => ⟨S2x256x16x1024, .f32⟩
  | .hbm, ⟨53, _⟩ => ⟨S2x256x1024, .f32⟩
  | .hbm, ⟨54, _⟩ => ⟨S2x256x1024, .f32⟩
  | .hbm, ⟨55, _⟩ => ⟨S2x4096x1024, .f32⟩
  | .local _ .vmem, ⟨i, _⟩ => vmemTy i
  | _, _ => ⟨S2x4096x1024, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 144 → Bool
  | ⟨i, _⟩ => dmaSemScopedAt i

abbrev sig : RefSig :=
  ofTc nBuf bufTy 0 144 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1_0 : Ref sig .tc := ⟨.hbm, 32, rfl⟩
abbrev main_v1_1 : Ref sig .tc := ⟨.hbm, 33, rfl⟩
abbrev main_v2 : Ref sig .tc := ⟨.hbm, 34, rfl⟩
abbrev main_v3_0 : Ref sig .tc := ⟨.hbm, 35, rfl⟩
abbrev main_v3_1 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8_0 : Ref sig .tc := ⟨.hbm, 41, rfl⟩
abbrev main_v8_1 : Ref sig .tc := ⟨.hbm, 42, rfl⟩
abbrev main_v9 : Ref sig .tc := ⟨.hbm, 43, rfl⟩
abbrev main_v10 : Ref sig .tc := ⟨.hbm, 44, rfl⟩
abbrev main_v11_0 : Ref sig .tc := ⟨.hbm, 45, rfl⟩
abbrev main_v11_1 : Ref sig .tc := ⟨.hbm, 46, rfl⟩
abbrev main_v12 : Ref sig .tc := ⟨.hbm, 47, rfl⟩
abbrev main_v13 : Ref sig .tc := ⟨.hbm, 48, rfl⟩
abbrev main_v14_0 : Ref sig .tc := ⟨.hbm, 49, rfl⟩
abbrev main_v14_1 : Ref sig .tc := ⟨.hbm, 50, rfl⟩
abbrev main_v15 : Ref sig .tc := ⟨.hbm, 51, rfl⟩
abbrev main_v16 : Ref sig .tc := ⟨.hbm, 52, rfl⟩
abbrev main_v17_0 : Ref sig .tc := ⟨.hbm, 53, rfl⟩
abbrev main_v17_1 : Ref sig .tc := ⟨.hbm, 54, rfl⟩
abbrev main_v18 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg4_1 : Ref sig .tc := ⟨.vmem, 20, rfl⟩
abbrev cc1_stg5_0 : Ref sig .tc := ⟨.vmem, 21, rfl⟩
abbrev cc1_stg5_1 : Ref sig .tc := ⟨.vmem, 22, rfl⟩
abbrev cc1_stg6_0 : Ref sig .tc := ⟨.vmem, 23, rfl⟩
abbrev cc1_stg7_0 : Ref sig .tc := ⟨.vmem, 24, rfl⟩
abbrev cc1_stg8_0 : Ref sig .tc := ⟨.vmem, 25, rfl⟩
abbrev cc1_stg9_0 : Ref sig .tc := ⟨.vmem, 26, rfl⟩
abbrev cc1_stg10_0 : Ref sig .tc := ⟨.vmem, 27, rfl⟩
abbrev cc1_stg11_0 : Ref sig .tc := ⟨.vmem, 28, rfl⟩
abbrev cc1_stg12_0 : Ref sig .tc := ⟨.vmem, 29, rfl⟩
abbrev cc1_stg13_0 : Ref sig .tc := ⟨.vmem, 30, rfl⟩
abbrev cc1_stg14_0 : Ref sig .tc := ⟨.vmem, 31, rfl⟩
abbrev cc1_stg14_1 : Ref sig .tc := ⟨.vmem, 32, rfl⟩
abbrev cc2_stg0_0 : Ref sig .tc := ⟨.vmem, 33, rfl⟩
abbrev cc2_stg0_1 : Ref sig .tc := ⟨.vmem, 34, rfl⟩
abbrev cc2_stg1_0 : Ref sig .tc := ⟨.vmem, 35, rfl⟩
abbrev cc2_stg2_0 : Ref sig .tc := ⟨.vmem, 36, rfl⟩
abbrev cc2_stg3_0 : Ref sig .tc := ⟨.vmem, 37, rfl⟩
abbrev cc2_stg4_0 : Ref sig .tc := ⟨.vmem, 38, rfl⟩
abbrev cc2_stg5_0 : Ref sig .tc := ⟨.vmem, 39, rfl⟩
abbrev cc2_stg5_1 : Ref sig .tc := ⟨.vmem, 40, rfl⟩
abbrev cc2_stg6_0 : Ref sig .tc := ⟨.vmem, 41, rfl⟩
abbrev cc2_stg6_1 : Ref sig .tc := ⟨.vmem, 42, rfl⟩
abbrev cc2_stg7_0 : Ref sig .tc := ⟨.vmem, 43, rfl⟩
abbrev cc2_stg7_1 : Ref sig .tc := ⟨.vmem, 44, rfl⟩
abbrev cc2_stg8_0 : Ref sig .tc := ⟨.vmem, 45, rfl⟩
abbrev cc2_stg8_1 : Ref sig .tc := ⟨.vmem, 46, rfl⟩
abbrev cc3_stg0_0 : Ref sig .tc := ⟨.vmem, 47, rfl⟩
abbrev cc3_stg0_1 : Ref sig .tc := ⟨.vmem, 48, rfl⟩
abbrev cc3_stg1_0 : Ref sig .tc := ⟨.vmem, 49, rfl⟩
abbrev cc3_stg2_0 : Ref sig .tc := ⟨.vmem, 50, rfl⟩
abbrev cc3_stg3_0 : Ref sig .tc := ⟨.vmem, 51, rfl⟩
abbrev cc3_stg4_0 : Ref sig .tc := ⟨.vmem, 52, rfl⟩
abbrev cc3_stg4_1 : Ref sig .tc := ⟨.vmem, 53, rfl⟩
abbrev cc3_stg5_0 : Ref sig .tc := ⟨.vmem, 54, rfl⟩
abbrev cc3_stg5_1 : Ref sig .tc := ⟨.vmem, 55, rfl⟩
abbrev cc3_stg6_0 : Ref sig .tc := ⟨.vmem, 56, rfl⟩
abbrev cc3_stg7_0 : Ref sig .tc := ⟨.vmem, 57, rfl⟩
abbrev cc3_stg8_0 : Ref sig .tc := ⟨.vmem, 58, rfl⟩
abbrev cc3_stg9_0 : Ref sig .tc := ⟨.vmem, 59, rfl⟩
abbrev cc3_stg10_0 : Ref sig .tc := ⟨.vmem, 60, rfl⟩
abbrev cc3_stg11_0 : Ref sig .tc := ⟨.vmem, 61, rfl⟩
abbrev cc3_stg12_0 : Ref sig .tc := ⟨.vmem, 62, rfl⟩
abbrev cc3_stg13_0 : Ref sig .tc := ⟨.vmem, 63, rfl⟩
abbrev cc3_stg14_0 : Ref sig .tc := ⟨.vmem, 64, rfl⟩
abbrev cc3_stg14_1 : Ref sig .tc := ⟨.vmem, 65, rfl⟩
abbrev cc4_stg0_0 : Ref sig .tc := ⟨.vmem, 66, rfl⟩
abbrev cc4_stg0_1 : Ref sig .tc := ⟨.vmem, 67, rfl⟩
abbrev cc4_stg1_0 : Ref sig .tc := ⟨.vmem, 68, rfl⟩
abbrev cc4_stg2_0 : Ref sig .tc := ⟨.vmem, 69, rfl⟩
abbrev cc4_stg3_0 : Ref sig .tc := ⟨.vmem, 70, rfl⟩
abbrev cc4_stg4_0 : Ref sig .tc := ⟨.vmem, 71, rfl⟩
abbrev cc4_stg5_0 : Ref sig .tc := ⟨.vmem, 72, rfl⟩
abbrev cc4_stg5_1 : Ref sig .tc := ⟨.vmem, 73, rfl⟩
abbrev cc4_stg6_0 : Ref sig .tc := ⟨.vmem, 74, rfl⟩
abbrev cc4_stg6_1 : Ref sig .tc := ⟨.vmem, 75, rfl⟩
abbrev cc5_stg0_0 : Ref sig .tc := ⟨.vmem, 76, rfl⟩
abbrev cc5_stg1_0 : Ref sig .tc := ⟨.vmem, 77, rfl⟩
abbrev cc5_scratch0 : Ref sig .tc := ⟨.vmem, 78, rfl⟩
abbrev cc5_scratch1 : Ref sig .tc := ⟨.vmem, 79, rfl⟩
abbrev cc5_scratch2 : Ref sig .tc := ⟨.vmem, 80, rfl⟩
abbrev cc5_scratch3 : Ref sig .tc := ⟨.vmem, 81, rfl⟩
abbrev cc6_stg0_0 : Ref sig .tc := ⟨.vmem, 82, rfl⟩
abbrev cc6_stg0_1 : Ref sig .tc := ⟨.vmem, 83, rfl⟩
abbrev cc6_stg1_0 : Ref sig .tc := ⟨.vmem, 84, rfl⟩
abbrev cc6_stg2_0 : Ref sig .tc := ⟨.vmem, 85, rfl⟩
abbrev cc6_stg3_0 : Ref sig .tc := ⟨.vmem, 86, rfl⟩
abbrev cc6_stg4_0 : Ref sig .tc := ⟨.vmem, 87, rfl⟩
abbrev cc6_stg4_1 : Ref sig .tc := ⟨.vmem, 88, rfl⟩
abbrev cc6_stg5_0 : Ref sig .tc := ⟨.vmem, 89, rfl⟩
abbrev cc6_stg5_1 : Ref sig .tc := ⟨.vmem, 90, rfl⟩
abbrev cc6_stg6_0 : Ref sig .tc := ⟨.vmem, 91, rfl⟩
abbrev cc6_stg7_0 : Ref sig .tc := ⟨.vmem, 92, rfl⟩
abbrev cc6_stg8_0 : Ref sig .tc := ⟨.vmem, 93, rfl⟩
abbrev cc6_stg9_0 : Ref sig .tc := ⟨.vmem, 94, rfl⟩
abbrev cc6_stg10_0 : Ref sig .tc := ⟨.vmem, 95, rfl⟩
abbrev cc6_stg11_0 : Ref sig .tc := ⟨.vmem, 96, rfl⟩
abbrev cc6_stg12_0 : Ref sig .tc := ⟨.vmem, 97, rfl⟩
abbrev cc6_stg13_0 : Ref sig .tc := ⟨.vmem, 98, rfl⟩
abbrev cc6_stg14_0 : Ref sig .tc := ⟨.vmem, 99, rfl⟩
abbrev cc6_stg14_1 : Ref sig .tc := ⟨.vmem, 100, rfl⟩
abbrev cc7_stg0_0 : Ref sig .tc := ⟨.vmem, 101, rfl⟩
abbrev cc7_stg0_1 : Ref sig .tc := ⟨.vmem, 102, rfl⟩
abbrev cc7_stg1_0 : Ref sig .tc := ⟨.vmem, 103, rfl⟩
abbrev cc7_stg2_0 : Ref sig .tc := ⟨.vmem, 104, rfl⟩
abbrev cc7_stg3_0 : Ref sig .tc := ⟨.vmem, 105, rfl⟩
abbrev cc7_stg4_0 : Ref sig .tc := ⟨.vmem, 106, rfl⟩
abbrev cc7_stg5_0 : Ref sig .tc := ⟨.vmem, 107, rfl⟩
abbrev cc7_stg5_1 : Ref sig .tc := ⟨.vmem, 108, rfl⟩
abbrev cc7_stg6_0 : Ref sig .tc := ⟨.vmem, 109, rfl⟩
abbrev cc7_stg6_1 : Ref sig .tc := ⟨.vmem, 110, rfl⟩
abbrev cc8_stg0_0 : Ref sig .tc := ⟨.vmem, 111, rfl⟩
abbrev cc8_stg1_0 : Ref sig .tc := ⟨.vmem, 112, rfl⟩
abbrev cc8_scratch0 : Ref sig .tc := ⟨.vmem, 113, rfl⟩
abbrev cc8_scratch1 : Ref sig .tc := ⟨.vmem, 114, rfl⟩
abbrev cc8_scratch2 : Ref sig .tc := ⟨.vmem, 115, rfl⟩
abbrev cc8_scratch3 : Ref sig .tc := ⟨.vmem, 116, rfl⟩
abbrev cc9_stg0_0 : Ref sig .tc := ⟨.vmem, 117, rfl⟩
abbrev cc9_stg0_1 : Ref sig .tc := ⟨.vmem, 118, rfl⟩
abbrev cc9_stg1_0 : Ref sig .tc := ⟨.vmem, 119, rfl⟩
abbrev cc9_stg2_0 : Ref sig .tc := ⟨.vmem, 120, rfl⟩
abbrev cc9_stg3_0 : Ref sig .tc := ⟨.vmem, 121, rfl⟩
abbrev cc9_stg4_0 : Ref sig .tc := ⟨.vmem, 122, rfl⟩
abbrev cc9_stg4_1 : Ref sig .tc := ⟨.vmem, 123, rfl⟩
abbrev cc9_stg5_0 : Ref sig .tc := ⟨.vmem, 124, rfl⟩
abbrev cc9_stg5_1 : Ref sig .tc := ⟨.vmem, 125, rfl⟩
abbrev cc9_stg6_0 : Ref sig .tc := ⟨.vmem, 126, rfl⟩
abbrev cc9_stg7_0 : Ref sig .tc := ⟨.vmem, 127, rfl⟩
abbrev cc9_stg8_0 : Ref sig .tc := ⟨.vmem, 128, rfl⟩
abbrev cc9_stg9_0 : Ref sig .tc := ⟨.vmem, 129, rfl⟩
abbrev cc9_stg10_0 : Ref sig .tc := ⟨.vmem, 130, rfl⟩
abbrev cc9_stg11_0 : Ref sig .tc := ⟨.vmem, 131, rfl⟩
abbrev cc9_stg12_0 : Ref sig .tc := ⟨.vmem, 132, rfl⟩
abbrev cc9_stg13_0 : Ref sig .tc := ⟨.vmem, 133, rfl⟩
abbrev cc9_stg14_0 : Ref sig .tc := ⟨.vmem, 134, rfl⟩
abbrev cc9_stg14_1 : Ref sig .tc := ⟨.vmem, 135, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc1_sem0_0 : DmaSem sig := 14
abbrev cc1_sem0_1 : DmaSem sig := 15
abbrev cc1_sem1_0 : DmaSem sig := 16
abbrev cc1_sem2_0 : DmaSem sig := 17
abbrev cc1_sem3_0 : DmaSem sig := 18
abbrev cc1_sem4_0 : DmaSem sig := 19
abbrev cc1_sem4_1 : DmaSem sig := 20
abbrev cc1_sem5_0 : DmaSem sig := 21
abbrev cc1_sem5_1 : DmaSem sig := 22
abbrev cc1_sem6_0 : DmaSem sig := 23
abbrev cc1_sem7_0 : DmaSem sig := 24
abbrev cc1_sem8_0 : DmaSem sig := 25
abbrev cc1_sem9_0 : DmaSem sig := 26
abbrev cc1_sem10_0 : DmaSem sig := 27
abbrev cc1_sem11_0 : DmaSem sig := 28
abbrev cc1_sem12_0 : DmaSem sig := 29
abbrev cc1_sem13_0 : DmaSem sig := 30
abbrev cc1_sem14_0 : DmaSem sig := 31
abbrev cc1_sem14_1 : DmaSem sig := 32
abbrev cc2_sem0_0 : DmaSem sig := 33
abbrev cc2_sem0_1 : DmaSem sig := 34
abbrev cc2_sem1_0 : DmaSem sig := 35
abbrev cc2_sem2_0 : DmaSem sig := 36
abbrev cc2_sem3_0 : DmaSem sig := 37
abbrev cc2_sem4_0 : DmaSem sig := 38
abbrev cc2_sem5_0 : DmaSem sig := 39
abbrev cc2_sem5_1 : DmaSem sig := 40
abbrev cc2_sem6_0 : DmaSem sig := 41
abbrev cc2_sem6_1 : DmaSem sig := 42
abbrev cc2_sem7_0 : DmaSem sig := 43
abbrev cc2_sem7_1 : DmaSem sig := 44
abbrev cc2_sem8_0 : DmaSem sig := 45
abbrev cc2_sem8_1 : DmaSem sig := 46
abbrev cc3_sem0_0 : DmaSem sig := 47
abbrev cc3_sem0_1 : DmaSem sig := 48
abbrev cc3_sem1_0 : DmaSem sig := 49
abbrev cc3_sem2_0 : DmaSem sig := 50
abbrev cc3_sem3_0 : DmaSem sig := 51
abbrev cc3_sem4_0 : DmaSem sig := 52
abbrev cc3_sem4_1 : DmaSem sig := 53
abbrev cc3_sem5_0 : DmaSem sig := 54
abbrev cc3_sem5_1 : DmaSem sig := 55
abbrev cc3_sem6_0 : DmaSem sig := 56
abbrev cc3_sem7_0 : DmaSem sig := 57
abbrev cc3_sem8_0 : DmaSem sig := 58
abbrev cc3_sem9_0 : DmaSem sig := 59
abbrev cc3_sem10_0 : DmaSem sig := 60
abbrev cc3_sem11_0 : DmaSem sig := 61
abbrev cc3_sem12_0 : DmaSem sig := 62
abbrev cc3_sem13_0 : DmaSem sig := 63
abbrev cc3_sem14_0 : DmaSem sig := 64
abbrev cc3_sem14_1 : DmaSem sig := 65
abbrev cc4_sem0_0 : DmaSem sig := 66
abbrev cc4_sem0_1 : DmaSem sig := 67
abbrev cc4_sem1_0 : DmaSem sig := 68
abbrev cc4_sem2_0 : DmaSem sig := 69
abbrev cc4_sem3_0 : DmaSem sig := 70
abbrev cc4_sem4_0 : DmaSem sig := 71
abbrev cc4_sem5_0 : DmaSem sig := 72
abbrev cc4_sem5_1 : DmaSem sig := 73
abbrev cc4_sem6_0 : DmaSem sig := 74
abbrev cc4_sem6_1 : DmaSem sig := 75
abbrev cc5_sem0_0 : DmaSem sig := 76
abbrev cc5_sem1_0 : DmaSem sig := 77
abbrev cc6_sem0_0 : DmaSem sig := 86
abbrev cc6_sem0_1 : DmaSem sig := 87
abbrev cc6_sem1_0 : DmaSem sig := 88
abbrev cc6_sem2_0 : DmaSem sig := 89
abbrev cc6_sem3_0 : DmaSem sig := 90
abbrev cc6_sem4_0 : DmaSem sig := 91
abbrev cc6_sem4_1 : DmaSem sig := 92
abbrev cc6_sem5_0 : DmaSem sig := 93
abbrev cc6_sem5_1 : DmaSem sig := 94
abbrev cc6_sem6_0 : DmaSem sig := 95
abbrev cc6_sem7_0 : DmaSem sig := 96
abbrev cc6_sem8_0 : DmaSem sig := 97
abbrev cc6_sem9_0 : DmaSem sig := 98
abbrev cc6_sem10_0 : DmaSem sig := 99
abbrev cc6_sem11_0 : DmaSem sig := 100
abbrev cc6_sem12_0 : DmaSem sig := 101
abbrev cc6_sem13_0 : DmaSem sig := 102
abbrev cc6_sem14_0 : DmaSem sig := 103
abbrev cc6_sem14_1 : DmaSem sig := 104
abbrev cc7_sem0_0 : DmaSem sig := 105
abbrev cc7_sem0_1 : DmaSem sig := 106
abbrev cc7_sem1_0 : DmaSem sig := 107
abbrev cc7_sem2_0 : DmaSem sig := 108
abbrev cc7_sem3_0 : DmaSem sig := 109
abbrev cc7_sem4_0 : DmaSem sig := 110
abbrev cc7_sem5_0 : DmaSem sig := 111
abbrev cc7_sem5_1 : DmaSem sig := 112
abbrev cc7_sem6_0 : DmaSem sig := 113
abbrev cc7_sem6_1 : DmaSem sig := 114
abbrev cc8_sem0_0 : DmaSem sig := 115
abbrev cc8_sem1_0 : DmaSem sig := 116
abbrev cc9_sem0_0 : DmaSem sig := 125
abbrev cc9_sem0_1 : DmaSem sig := 126
abbrev cc9_sem1_0 : DmaSem sig := 127
abbrev cc9_sem2_0 : DmaSem sig := 128
abbrev cc9_sem3_0 : DmaSem sig := 129
abbrev cc9_sem4_0 : DmaSem sig := 130
abbrev cc9_sem4_1 : DmaSem sig := 131
abbrev cc9_sem5_0 : DmaSem sig := 132
abbrev cc9_sem5_1 : DmaSem sig := 133
abbrev cc9_sem6_0 : DmaSem sig := 134
abbrev cc9_sem7_0 : DmaSem sig := 135
abbrev cc9_sem8_0 : DmaSem sig := 136
abbrev cc9_sem9_0 : DmaSem sig := 137
abbrev cc9_sem10_0 : DmaSem sig := 138
abbrev cc9_sem11_0 : DmaSem sig := 139
abbrev cc9_sem12_0 : DmaSem sig := 140
abbrev cc9_sem13_0 : DmaSem sig := 141
abbrev cc9_sem14_0 : DmaSem sig := 142
abbrev cc9_sem14_1 : DmaSem sig := 143

abbrev nD : Nat := 1
abbrev τ : Topo := Topo.v7x

variable {F : FTy → Type} [FloatOps F]

abbrev grid0 : Pipeline.Grid := ⟨2, ![2, 8], ![false, false]⟩

def k0_cond1 (i : grid0.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_26 : BitVec 32 := 0#32
  let v40 : BitVec 1 := Scalar.cmpi .ne v39 c0_i32_26
  v40

def k0_cond2 (i : grid0.Coords) : BitVec 1 :=
  let arg1 : BitVec 32 := BitVec.ofNat 32 (i 1).val
  let c0_i32_27 : BitVec 32 := 0#32
  let v41 : BitVec 1 := Scalar.cmpi .ne arg1 c0_i32_27
  let v42 : BitVec 32 := Scalar.extui v41
  let c0_i32_28 : BitVec 32 := 0#32
  let v43 : BitVec 1 := Scalar.cmpi .ne v42 c0_i32_28
  v43

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S2x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1x512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev grid1 : Pipeline.Grid := ⟨2, ![2, 16], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S2x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S2x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S1x1024x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x256x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x256x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 1 → Memref sig .tc .vmem S1x1024x1024 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S2x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S2x1024 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S2x1024 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S1x1024x4096 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S2x4096 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S1x4096x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S2x1024 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 2 → Memref sig .tc .vmem S1x256x1024 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true, true]

abbrev grid2 : Pipeline.Grid := ⟨2, ![2, 8], ![false, false]⟩

def k2_cond1 (i : grid2.Coords) : BitVec 1 :=
  let arg1 : BitVec 32 := BitVec.ofNat 32 (i 1).val
  let c0_i32 : BitVec 32 := 0#32
  let v38 : BitVec 1 := Scalar.cmpi .eq arg1 c0_i32
  let v39 : BitVec 32 := Scalar.extui v38
  let c0_i32_25 : BitVec 32 := 0#32
  let v40 : BitVec 1 := Scalar.cmpi .ne v39 c0_i32_25
  v40

def k2_cond2 (i : grid2.Coords) : BitVec 1 :=
  let arg1 : BitVec 32 := BitVec.ofNat 32 (i 1).val
  let c0_i32_26 : BitVec 32 := 0#32
  let v41 : BitVec 1 := Scalar.cmpi .ne arg1 c0_i32_26
  let v42 : BitVec 32 := Scalar.extui v41
  let c0_i32_27 : BitVec 32 := 0#32
  let v43 : BitVec 1 := Scalar.cmpi .ne v42 c0_i32_27
  v43

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_4 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg1.toNat, c0_i32.toNat]

def cc2_transform_7 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_8 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x512x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S2x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S2x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 1 → Memref sig .tc .vmem S1x1024x1024 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1024x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![false, true]

abbrev stage2_6 : Fin 2 → Memref sig .tc .vmem S1x512x256 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![false, true]

abbrev stage2_7 : Fin 2 → Memref sig .tc .vmem S1x256x1024 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true, false]

abbrev stage2_8 : Fin 2 → Memref sig .tc .vmem S1x256x1024 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true, false]

abbrev grid3 : Pipeline.Grid := ⟨2, ![2, 16], ![false, false]⟩

def cc3_transform_0 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_4 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_5 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc3_transform_6 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_7 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_11 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc3_transform_13 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc3_transform_14 (i : grid3.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage3_0 : Fin 2 → Memref sig .tc .vmem S1x256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, true]

abbrev stage3_1 : Fin 1 → Memref sig .tc .vmem S2x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, false]

abbrev stage3_2 : Fin 1 → Memref sig .tc .vmem S2x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false, false]

abbrev stage3_3 : Fin 1 → Memref sig .tc .vmem S1x1024x1024 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false, false]

abbrev stage3_4 : Fin 2 → Memref sig .tc .vmem S1x256x1024 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, false]

abbrev stage3_5 : Fin 2 → Memref sig .tc .vmem S1x256x1024 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true, false]

abbrev stage3_6 : Fin 1 → Memref sig .tc .vmem S1x1024x1024 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false, false]

abbrev stage3_7 : Fin 1 → Memref sig .tc .vmem S2x1024 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false, false]

abbrev stage3_8 : Fin 1 → Memref sig .tc .vmem S2x1024 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false, false]

abbrev stage3_9 : Fin 1 → Memref sig .tc .vmem S2x1024 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false, false]

abbrev stage3_10 : Fin 1 → Memref sig .tc .vmem S1x1024x4096 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false, false]

abbrev stage3_11 : Fin 1 → Memref sig .tc .vmem S2x4096 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false, false]

abbrev stage3_12 : Fin 1 → Memref sig .tc .vmem S1x4096x1024 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false, false]

abbrev stage3_13 : Fin 1 → Memref sig .tc .vmem S2x1024 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false, false]

abbrev stage3_14 : Fin 2 → Memref sig .tc .vmem S1x256x1024 .f32 := fun | 0 => Memref.whole cc3_stg14_0 | 1 => Memref.whole cc3_stg14_1 | ⟨_ + 2, h⟩ => absurd h (Nat.not_lt.2 (Nat.le_add_left _ _))
abbrev sem3_14 : Fin 2 → DmaSem sig := fun | 0 => cc3_sem14_0 | 1 => cc3_sem14_1 | ⟨_ + 2, h⟩ => absurd h (Nat.not_lt.2 (Nat.le_add_left _ _))
abbrev reads3_14 : Fin grid3.rank → Bool := ![true, true]

abbrev grid4 : Pipeline.Grid := ⟨1, ![32], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_4 (i : grid4.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S256x1024 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S2x1024 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S2x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x1024x1024 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x1024x1024 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S256x1024 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 2 → Memref sig .tc .vmem S256x1024 .f32 := fun | 0 => Memref.whole cc4_stg6_0 | 1 => Memref.whole cc4_stg6_1 | ⟨_ + 2, h⟩ => absurd h (Nat.not_lt.2 (Nat.le_add_left _ _))
abbrev sem4_6 : Fin 2 → DmaSem sig := fun | 0 => cc4_sem6_0 | 1 => cc4_sem6_1 | ⟨_ + 2, h⟩ => absurd h (Nat.not_lt.2 (Nat.le_add_left _ _))
abbrev reads4_6 : Fin grid4.rank → Bool := ![true]

abbrev grid5 : Pipeline.Grid := ⟨1, ![16], ![false]⟩

def k5_cond2 (i : grid5.Coords) : BitVec 1 :=
  let arg0 : BitVec 32 := BitVec.ofNat 32 (i 0).val
  let c15_i32 : BitVec 32 := 15#32
  let v4 : BitVec 1 := Scalar.cmpi .slt arg0 c15_i32
  let v5 : BitVec 32 := Scalar.extui v4
  let c0_i32_1 : BitVec 32 := 0#32
  let v6 : BitVec 1 := Scalar.cmpi .ne v5 c0_i32_1
  v6

def k5_off1 (i : grid5.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c0_i32_64 : BitVec 32 := 0#32
  ![v64.toNat, 0]
def k5_off2 (i : grid5.Coords) : Fin 4 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c0_i32_65 : BitVec 32 := 0#32
  let c0_i32_66 : BitVec 32 := 0#32
  let c0_i32_67 : BitVec 32 := 0#32
  ![v64.toNat, 0, 0, 0]
def k5_off3 (i : grid5.Coords) : Fin 4 → Nat :=
  let c0_i32_63 : BitVec 32 := 0#32
  let c0_i32_68 : BitVec 32 := 0#32
  let arg0 : BitVec 32 := BitVec.ofNat 32 (i 0).val
  let c1_i32_61 : BitVec 32 := 1#32
  let v63 : BitVec 32 := Scalar.addi arg0 c1_i32_61
  let c0_i32_69 : BitVec 32 := 0#32
  ![0, 0, v63.toNat, 0]
def k5_off4 (i : grid5.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c1_i32_71 : BitVec 32 := 1#32
  ![v64.toNat, 1]
def k5_off5 (i : grid5.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c2_i32_77 : BitVec 32 := 2#32
  ![v64.toNat, 2]
def k5_off6 (i : grid5.Coords) : Fin 5 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c0_i32_78 : BitVec 32 := 0#32
  let c0_i32_79 : BitVec 32 := 0#32
  let c0_i32_80 : BitVec 32 := 0#32
  let c0_i32_81 : BitVec 32 := 0#32
  ![v64.toNat, 0, 0, 0, 0]
def k5_off7 (i : grid5.Coords) : Fin 4 → Nat :=
  let c0_i32_82 : BitVec 32 := 0#32
  let c0_i32_83 : BitVec 32 := 0#32
  let arg0 : BitVec 32 := BitVec.ofNat 32 (i 0).val
  let c1_i32_61 : BitVec 32 := 1#32
  let v63 : BitVec 32 := Scalar.addi arg0 c1_i32_61
  let c0_i32_84 : BitVec 32 := 0#32
  ![0, 0, v63.toNat, 0]
def k5_off8 (i : grid5.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c3_i32_85 : BitVec 32 := 3#32
  ![v64.toNat, 3]
def k5_off9 (i : grid5.Coords) : Fin 2 → Nat :=
  let arg0 : BitVec 32 := BitVec.ofNat 32 (i 0).val
  let c2_i32 : BitVec 32 := 2#32
  let v0 : BitVec 32 := Scalar.remsi arg0 c2_i32
  let c0_i32_3 : BitVec 32 := 0#32
  ![v0.toNat, 0]
def k5_off10 (i : grid5.Coords) : Fin 4 → Nat :=
  let arg0 : BitVec 32 := BitVec.ofNat 32 (i 0).val
  let c2_i32 : BitVec 32 := 2#32
  let v0 : BitVec 32 := Scalar.remsi arg0 c2_i32
  let c0_i32_4 : BitVec 32 := 0#32
  let c0_i32_5 : BitVec 32 := 0#32
  let c0_i32_6 : BitVec 32 := 0#32
  ![v0.toNat, 0, 0, 0]
def k5_off11 (i : grid5.Coords) : Fin 4 → Nat :=
  let c0_i32_2 : BitVec 32 := 0#32
  let c0_i32_7 : BitVec 32 := 0#32
  let arg0 : BitVec 32 := BitVec.ofNat 32 (i 0).val
  let c0_i32_8 : BitVec 32 := 0#32
  ![0, 0, arg0.toNat, 0]
def k5_off12 (i : grid5.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k5_off13 (i : grid5.Coords) : Fin 2 → Nat :=
  let arg0 : BitVec 32 := BitVec.ofNat 32 (i 0).val
  let c2_i32 : BitVec 32 := 2#32
  let v0 : BitVec 32 := Scalar.remsi arg0 c2_i32
  let c2_i32_15 : BitVec 32 := 2#32
  ![v0.toNat, 2]
def k5_off14 (i : grid5.Coords) : Fin 5 → Nat :=
  let arg0 : BitVec 32 := BitVec.ofNat 32 (i 0).val
  let c2_i32 : BitVec 32 := 2#32
  let v0 : BitVec 32 := Scalar.remsi arg0 c2_i32
  let c0_i32_16 : BitVec 32 := 0#32
  let c0_i32_17 : BitVec 32 := 0#32
  let c0_i32_18 : BitVec 32 := 0#32
  let c0_i32_19 : BitVec 32 := 0#32
  ![v0.toNat, 0, 0, 0, 0]
def k5_off15 (i : grid5.Coords) : Fin 4 → Nat :=
  let c0_i32_20 : BitVec 32 := 0#32
  let c0_i32_21 : BitVec 32 := 0#32
  let arg0 : BitVec 32 := BitVec.ofNat 32 (i 0).val
  let c0_i32_22 : BitVec 32 := 0#32
  ![0, 0, arg0.toNat, 0]
def k5_off16 (i : grid5.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k5_off17 (i : grid5.Coords) : Fin 4 → Nat :=
  let arg0 : BitVec 32 := BitVec.ofNat 32 (i 0).val
  let c2_i32 : BitVec 32 := 2#32
  let v0 : BitVec 32 := Scalar.remsi arg0 c2_i32
  let v29 : Index := Scalar.indexCast v0
  let c0 : Index := 0#32
  let c0_30 : Index := 0#32
  let c0_31 : Index := 0#32
  ![v29.toNat, 0, 0, 0]
def k5_off18 (i : grid5.Coords) : Fin 5 → Nat :=
  let arg0 : BitVec 32 := BitVec.ofNat 32 (i 0).val
  let c2_i32 : BitVec 32 := 2#32
  let v0 : BitVec 32 := Scalar.remsi arg0 c2_i32
  let v35 : Index := Scalar.indexCast v0
  let c0_35 : Index := 0#32
  let c0_36 : Index := 0#32
  let c0_37 : Index := 0#32
  let c0_38 : Index := 0#32
  ![v35.toNat, 0, 0, 0, 0]
def k5_off19 (i : grid5.Coords) : Fin 5 → Nat :=
  let arg0 : BitVec 32 := BitVec.ofNat 32 (i 0).val
  let c2_i32 : BitVec 32 := 2#32
  let v0 : BitVec 32 := Scalar.remsi arg0 c2_i32
  let v49 : Index := Scalar.indexCast v0
  let c1 : Index := 1#32
  let c0_48 : Index := 0#32
  let c0_49 : Index := 0#32
  let c0_50 : Index := 0#32
  ![v49.toNat, 1, 0, 0, 0]
def k5_cond3 (i : grid5.Coords) : BitVec 1 :=
  let arg0 : BitVec 32 := BitVec.ofNat 32 (i 0).val
  let c0_i32_44 : BitVec 32 := 0#32
  let v43 : BitVec 1 := Scalar.cmpi .eq arg0 c0_i32_44
  let v44 : BitVec 32 := Scalar.extui v43
  let c0_i32_45 : BitVec 32 := 0#32
  let v45 : BitVec 1 := Scalar.cmpi .ne v44 c0_i32_45
  v45

def k5_cond4 (i : grid5.Coords) : BitVec 1 :=
  let arg0 : BitVec 32 := BitVec.ofNat 32 (i 0).val
  let c0_i32_46 : BitVec 32 := 0#32
  let v46 : BitVec 1 := Scalar.cmpi .ne arg0 c0_i32_46
  let v47 : BitVec 32 := Scalar.extui v46
  let c0_i32_47 : BitVec 32 := 0#32
  let v48 : BitVec 1 := Scalar.cmpi .ne v47 c0_i32_47
  v48

def k5_cond5 (i : grid5.Coords) : BitVec 1 :=
  let arg0 : BitVec 32 := BitVec.ofNat 32 (i 0).val
  let c0_i32_57 : BitVec 32 := 0#32
  let v57 : BitVec 1 := Scalar.cmpi .eq arg0 c0_i32_57
  let v58 : BitVec 32 := Scalar.extui v57
  let c0_i32_58 : BitVec 32 := 0#32
  let v59 : BitVec 1 := Scalar.cmpi .ne v58 c0_i32_58
  v59

def k5_cond6 (i : grid5.Coords) : BitVec 1 :=
  let arg0 : BitVec 32 := BitVec.ofNat 32 (i 0).val
  let c0_i32_59 : BitVec 32 := 0#32
  let v60 : BitVec 1 := Scalar.cmpi .ne arg0 c0_i32_59
  let v61 : BitVec 32 := Scalar.extui v60
  let c0_i32_60 : BitVec 32 := 0#32
  let v62 : BitVec 1 := Scalar.cmpi .ne v61 c0_i32_60
  v62

def cc5_transform_4 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc5_transform_5 (i : grid5.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage5_0 : Fin 1 → Memref sig .tc .vmem S2x256x1024 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![false]

abbrev stage5_1 : Fin 1 → Memref sig .tc .vmem S2x256x1024 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev grid6 : Pipeline.Grid := ⟨2, ![2, 16], ![false, false]⟩

def cc6_transform_0 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_4 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_5 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc6_transform_6 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_7 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_10 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_11 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_12 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc6_transform_13 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc6_transform_14 (i : grid6.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage6_0 : Fin 2 → Memref sig .tc .vmem S1x256x1024 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true, true]

abbrev stage6_1 : Fin 1 → Memref sig .tc .vmem S2x1024 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, false]

abbrev stage6_2 : Fin 1 → Memref sig .tc .vmem S2x1024 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false, false]

abbrev stage6_3 : Fin 1 → Memref sig .tc .vmem S1x1024x1024 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false, false]

abbrev stage6_4 : Fin 2 → Memref sig .tc .vmem S1x256x1024 .f32 := fun | 0 => Memref.whole cc6_stg4_0 | 1 => Memref.whole cc6_stg4_1 | ⟨_ + 2, h⟩ => absurd h (Nat.not_lt.2 (Nat.le_add_left _ _))
abbrev sem6_4 : Fin 2 → DmaSem sig := fun | 0 => cc6_sem4_0 | 1 => cc6_sem4_1 | ⟨_ + 2, h⟩ => absurd h (Nat.not_lt.2 (Nat.le_add_left _ _))
abbrev reads6_4 : Fin grid6.rank → Bool := ![true, false]

abbrev stage6_5 : Fin 2 → Memref sig .tc .vmem S1x256x1024 .f32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true, false]

abbrev stage6_6 : Fin 1 → Memref sig .tc .vmem S1x1024x1024 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false, false]

abbrev stage6_7 : Fin 1 → Memref sig .tc .vmem S2x1024 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false, false]

abbrev stage6_8 : Fin 1 → Memref sig .tc .vmem S2x1024 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false, false]

abbrev stage6_9 : Fin 1 → Memref sig .tc .vmem S2x1024 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false, false]

abbrev stage6_10 : Fin 1 → Memref sig .tc .vmem S1x1024x4096 .f32 := fun | 0 => Memref.whole cc6_stg10_0 | ⟨_ + 1, h⟩ => absurd h (Nat.not_lt.2 (Nat.le_add_left _ _))
abbrev sem6_10 : Fin 1 → DmaSem sig := fun | 0 => cc6_sem10_0 | ⟨_ + 1, h⟩ => absurd h (Nat.not_lt.2 (Nat.le_add_left _ _))
abbrev reads6_10 : Fin grid6.rank → Bool := ![false, false]

abbrev stage6_11 : Fin 1 → Memref sig .tc .vmem S2x4096 .f32 := fun | 0 => Memref.whole cc6_stg11_0 | ⟨_ + 1, h⟩ => absurd h (Nat.not_lt.2 (Nat.le_add_left _ _))
abbrev sem6_11 : Fin 1 → DmaSem sig := fun | 0 => cc6_sem11_0 | ⟨_ + 1, h⟩ => absurd h (Nat.not_lt.2 (Nat.le_add_left _ _))
abbrev reads6_11 : Fin grid6.rank → Bool := ![false, false]

abbrev stage6_12 : Fin 1 → Memref sig .tc .vmem S1x4096x1024 .f32 := fun | 0 => Memref.whole cc6_stg12_0 | ⟨_ + 1, h⟩ => absurd h (Nat.not_lt.2 (Nat.le_add_left _ _))
abbrev sem6_12 : Fin 1 → DmaSem sig := fun | 0 => cc6_sem12_0 | ⟨_ + 1, h⟩ => absurd h (Nat.not_lt.2 (Nat.le_add_left _ _))
abbrev reads6_12 : Fin grid6.rank → Bool := ![false, false]

abbrev stage6_13 : Fin 1 → Memref sig .tc .vmem S2x1024 .f32 := fun | 0 => Memref.whole cc6_stg13_0 | ⟨_ + 1, h⟩ => absurd h (Nat.not_lt.2 (Nat.le_add_left _ _))
abbrev sem6_13 : Fin 1 → DmaSem sig := fun | 0 => cc6_sem13_0 | ⟨_ + 1, h⟩ => absurd h (Nat.not_lt.2 (Nat.le_add_left _ _))
abbrev reads6_13 : Fin grid6.rank → Bool := ![false, false]

abbrev stage6_14 : Fin 2 → Memref sig .tc .vmem S1x256x1024 .f32 := fun | 0 => Memref.whole cc6_stg14_0 | 1 => Memref.whole cc6_stg14_1 | ⟨_ + 2, h⟩ => absurd h (Nat.not_lt.2 (Nat.le_add_left _ _))
abbrev sem6_14 : Fin 2 → DmaSem sig := fun | 0 => cc6_sem14_0 | 1 => cc6_sem14_1 | ⟨_ + 2, h⟩ => absurd h (Nat.not_lt.2 (Nat.le_add_left _ _))
abbrev reads6_14 : Fin grid6.rank → Bool := ![true, true]

abbrev grid7 : Pipeline.Grid := ⟨1, ![32], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc7_transform_4 (i : grid7.Coords) : Fin 3 → Nat :=
  let arg0 : BitVec 32 := BitVec.ofNat 32 (i 0).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_6 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S256x1024 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S2x1024 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S2x1024 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 1 → Memref sig .tc .vmem S1x1024x1024 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 1 → Memref sig .tc .vmem S1x1024x1024 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 2 → Memref sig .tc .vmem S256x1024 .f32 := fun | 0 => Memref.whole cc7_stg5_0 | 1 => Memref.whole cc7_stg5_1 | ⟨_ + 2, h⟩ => absurd h (Nat.not_lt.2 (Nat.le_add_left _ _))
abbrev sem7_5 : Fin 2 → DmaSem sig := fun | 0 => cc7_sem5_0 | 1 => cc7_sem5_1 | ⟨_ + 2, h⟩ => absurd h (Nat.not_lt.2 (Nat.le_add_left _ _))
abbrev reads7_5 : Fin grid7.rank → Bool := ![true]

abbrev stage7_6 : Fin 2 → Memref sig .tc .vmem S256x1024 .f32 := fun | 0 => Memref.whole cc7_stg6_0 | 1 => Memref.whole cc7_stg6_1 | ⟨_ + 2, h⟩ => absurd h (Nat.not_lt.2 (Nat.le_add_left _ _))
abbrev sem7_6 : Fin 2 → DmaSem sig := fun | 0 => cc7_sem6_0 | 1 => cc7_sem6_1 | ⟨_ + 2, h⟩ => absurd h (Nat.not_lt.2 (Nat.le_add_left _ _))
abbrev reads7_6 : Fin grid7.rank → Bool := ![true]

abbrev grid8 : Pipeline.Grid := ⟨1, ![16], ![false]⟩

def k8_cond2 (i : grid8.Coords) : BitVec 1 :=
  let arg0 : BitVec 32 := BitVec.ofNat 32 (i 0).val
  let c15_i32 : BitVec 32 := 15#32
  let v4 : BitVec 1 := Scalar.cmpi .slt arg0 c15_i32
  let v5 : BitVec 32 := Scalar.extui v4
  let c0_i32_1 : BitVec 32 := 0#32
  let v6 : BitVec 1 := Scalar.cmpi .ne v5 c0_i32_1
  v6

def k8_off1 (i : grid8.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c0_i32_64 : BitVec 32 := 0#32
  ![v64.toNat, 0]
def k8_off2 (i : grid8.Coords) : Fin 4 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c0_i32_65 : BitVec 32 := 0#32
  let c0_i32_66 : BitVec 32 := 0#32
  let c0_i32_67 : BitVec 32 := 0#32
  ![v64.toNat, 0, 0, 0]
def k8_off3 (i : grid8.Coords) : Fin 4 → Nat :=
  let c1_i32_63 : BitVec 32 := 1#32
  let c0_i32_68 : BitVec 32 := 0#32
  let arg0 : BitVec 32 := BitVec.ofNat 32 (i 0).val
  let c1_i32_61 : BitVec 32 := 1#32
  let v63 : BitVec 32 := Scalar.addi arg0 c1_i32_61
  let c0_i32_69 : BitVec 32 := 0#32
  ![1, 0, v63.toNat, 0]
def k8_off4 (i : grid8.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c1_i32_71 : BitVec 32 := 1#32
  ![v64.toNat, 1]
def k8_off5 (i : grid8.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c2_i32_77 : BitVec 32 := 2#32
  ![v64.toNat, 2]
def k8_off6 (i : grid8.Coords) : Fin 5 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c0_i32_78 : BitVec 32 := 0#32
  let c0_i32_79 : BitVec 32 := 0#32
  let c0_i32_80 : BitVec 32 := 0#32
  let c0_i32_81 : BitVec 32 := 0#32
  ![v64.toNat, 0, 0, 0, 0]
def k8_off7 (i : grid8.Coords) : Fin 4 → Nat :=
  let c0_i32_82 : BitVec 32 := 0#32
  let c0_i32_83 : BitVec 32 := 0#32
  let arg0 : BitVec 32 := BitVec.ofNat 32 (i 0).val
  let c1_i32_61 : BitVec 32 := 1#32
  let v63 : BitVec 32 := Scalar.addi arg0 c1_i32_61
  let c0_i32_84 : BitVec 32 := 0#32
  ![0, 0, v63.toNat, 0]
def k8_off8 (i : grid8.Coords) : Fin 2 → Nat :=
  let c1_i32_62 : BitVec 32 := 1#32
  let arg0 : BitVec 32 := BitVec.ofNat 32 (i 0).val
  let c2_i32 : BitVec 32 := 2#32
  let v0 : BitVec 32 := Scalar.remsi arg0 c2_i32
  let v64 : BitVec 32 := Scalar.subi c1_i32_62 v0
  let c3_i32_85 : BitVec 32 := 3#32
  ![v64.toNat, 3]
def k8_off9 (i : grid8.Coords) : Fin 2 → Nat :=
  let arg0 : BitVec 32 := BitVec.ofNat 32 (i 0).val
  let c2_i32 : BitVec 32 := 2#32
  let v0 : BitVec 32 := Scalar.remsi arg0 c2_i32
  let c0_i32_2 : BitVec 32 := 0#32
  ![v0.toNat, 0]
def k8_off10 (i : grid8.Coords) : Fin 4 → Nat :=
  let arg0 : BitVec 32 := BitVec.ofNat 32 (i 0).val
  let c2_i32 : BitVec 32 := 2#32
  let v0 : BitVec 32 := Scalar.remsi arg0 c2_i32
  let c0_i32_3 : BitVec 32 := 0#32
  let c0_i32_4 : BitVec 32 := 0#32
  let c0_i32_5 : BitVec 32 := 0#32
  ![v0.toNat, 0, 0, 0]
def k8_off11 (i : grid8.Coords) : Fin 4 → Nat :=
  let c1_i32 : BitVec 32 := 1#32
  let c0_i32_6 : BitVec 32 := 0#32
  let arg0 : BitVec 32 := BitVec.ofNat 32 (i 0).val
  let c0_i32_7 : BitVec 32 := 0#32
  ![1, 0, arg0.toNat, 0]
def k8_off12 (i : grid8.Coords) : Fin 2 → Nat :=
  let arg0 : BitVec 32 := BitVec.ofNat 32 (i 0).val
  let c2_i32 : BitVec 32 := 2#32
  let v0 : BitVec 32 := Scalar.remsi arg0 c2_i32
  let c1_i32_9 : BitVec 32 := 1#32
  ![v0.toNat, 1]
def k8_off13 (i : grid8.Coords) : Fin 2 → Nat :=
  let arg0 : BitVec 32 := BitVec.ofNat 32 (i 0).val
  let c2_i32 : BitVec 32 := 2#32
  let v0 : BitVec 32 := Scalar.remsi arg0 c2_i32
  let c2_i32_15 : BitVec 32 := 2#32
  ![v0.toNat, 2]
def k8_off14 (i : grid8.Coords) : Fin 5 → Nat :=
  let arg0 : BitVec 32 := BitVec.ofNat 32 (i 0).val
  let c2_i32 : BitVec 32 := 2#32
  let v0 : BitVec 32 := Scalar.remsi arg0 c2_i32
  let c0_i32_16 : BitVec 32 := 0#32
  let c0_i32_17 : BitVec 32 := 0#32
  let c0_i32_18 : BitVec 32 := 0#32
  let c0_i32_19 : BitVec 32 := 0#32
  ![v0.toNat, 0, 0, 0, 0]
def k8_off15 (i : grid8.Coords) : Fin 4 → Nat :=
  let c0_i32_20 : BitVec 32 := 0#32
  let c0_i32_21 : BitVec 32 := 0#32
  let arg0 : BitVec 32 := BitVec.ofNat 32 (i 0).val
  let c0_i32_22 : BitVec 32 := 0#32
  ![0, 0, arg0.toNat, 0]
def k8_off16 (i : grid8.Coords) : Fin 2 → Nat :=
  let arg0 : BitVec 32 := BitVec.ofNat 32 (i 0).val
  let c2_i32 : BitVec 32 := 2#32
  let v0 : BitVec 32 := Scalar.remsi arg0 c2_i32
  let c3_i32 : BitVec 32 := 3#32
  ![v0.toNat, 3]
def k8_off17 (i : grid8.Coords) : Fin 4 → Nat :=
  let arg0 : BitVec 32 := BitVec.ofNat 32 (i 0).val
  let c2_i32 : BitVec 32 := 2#32
  let v0 : BitVec 32 := Scalar.remsi arg0 c2_i32
  let v29 : Index := Scalar.indexCast v0
  let c0 : Index := 0#32
  let c0_30 : Index := 0#32
  let c0_31 : Index := 0#32
  ![v29.toNat, 0, 0, 0]
def k8_off18 (i : grid8.Coords) : Fin 5 → Nat :=
  let arg0 : BitVec 32 := BitVec.ofNat 32 (i 0).val
  let c2_i32 : BitVec 32 := 2#32
  let v0 : BitVec 32 := Scalar.remsi arg0 c2_i32
  let v35 : Index := Scalar.indexCast v0
  let c0_35 : Index := 0#32
  let c0_36 : Index := 0#32
  let c0_37 : Index := 0#32
  let c0_38 : Index := 0#32
  ![v35.toNat, 0, 0, 0, 0]
def k8_off19 (i : grid8.Coords) : Fin 5 → Nat :=
  let arg0 : BitVec 32 := BitVec.ofNat 32 (i 0).val
  let c2_i32 : BitVec 32 := 2#32
  let v0 : BitVec 32 := Scalar.remsi arg0 c2_i32
  let v49 : Index := Scalar.indexCast v0
  let c1 : Index := 1#32
  let c0_48 : Index := 0#32
  let c0_49 : Index := 0#32
  let c0_50 : Index := 0#32
  ![v49.toNat, 1, 0, 0, 0]
def k8_cond3 (i : grid8.Coords) : BitVec 1 :=
  let arg0 : BitVec 32 := BitVec.ofNat 32 (i 0).val
  let c0_i32_44 : BitVec 32 := 0#32
  let v43 : BitVec 1 := Scalar.cmpi .eq arg0 c0_i32_44
  let v44 : BitVec 32 := Scalar.extui v43
  let c0_i32_45 : BitVec 32 := 0#32
  let v45 : BitVec 1 := Scalar.cmpi .ne v44 c0_i32_45
  v45

def k8_cond4 (i : grid8.Coords) : BitVec 1 :=
  let arg0 : BitVec 32 := BitVec.ofNat 32 (i 0).val
  let c0_i32_46 : BitVec 32 := 0#32
  let v46 : BitVec 1 := Scalar.cmpi .ne arg0 c0_i32_46
  let v47 : BitVec 32 := Scalar.extui v46
  let c0_i32_47 : BitVec 32 := 0#32
  let v48 : BitVec 1 := Scalar.cmpi .ne v47 c0_i32_47
  v48

def k8_cond5 (i : grid8.Coords) : BitVec 1 :=
  let arg0 : BitVec 32 := BitVec.ofNat 32 (i 0).val
  let c0_i32_57 : BitVec 32 := 0#32
  let v57 : BitVec 1 := Scalar.cmpi .eq arg0 c0_i32_57
  let v58 : BitVec 32 := Scalar.extui v57
  let c0_i32_58 : BitVec 32 := 0#32
  let v59 : BitVec 1 := Scalar.cmpi .ne v58 c0_i32_58
  v59

def k8_cond6 (i : grid8.Coords) : BitVec 1 :=
  let arg0 : BitVec 32 := BitVec.ofNat 32 (i 0).val
  let c0_i32_59 : BitVec 32 := 0#32
  let v60 : BitVec 1 := Scalar.cmpi .ne arg0 c0_i32_59
  let v61 : BitVec 32 := Scalar.extui v60
  let c0_i32_60 : BitVec 32 := 0#32
  let v62 : BitVec 1 := Scalar.cmpi .ne v61 c0_i32_60
  v62

def cc8_transform_4 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc8_transform_5 (i : grid8.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage8_0 : Fin 1 → Memref sig .tc .vmem S2x256x1024 .f32 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![false]

abbrev stage8_1 : Fin 1 → Memref sig .tc .vmem S2x256x1024 .f32 := fun | 0 => Memref.whole cc8_stg1_0 | ⟨_ + 1, h⟩ => absurd h (Nat.not_lt.2 (Nat.le_add_left _ _))
abbrev sem8_1 : Fin 1 → DmaSem sig := fun | 0 => cc8_sem1_0 | ⟨_ + 1, h⟩ => absurd h (Nat.not_lt.2 (Nat.le_add_left _ _))
abbrev reads8_1 : Fin grid8.rank → Bool := ![false]

abbrev grid9 : Pipeline.Grid := ⟨2, ![2, 16], ![false, false]⟩

def cc9_transform_0 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc9_transform_4 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_5 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc9_transform_6 (i : grid9.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc9_transform_7 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_8 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_9 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_10 (i : grid9.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc9_transform_11 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_12 (i : grid9.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  let c0_i32_1 : BitVec 32 := 0#32
  ![c1_i32.toNat, c0_i32.toNat, c0_i32_0.toNat]

def cc9_transform_13 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc9_transform_14 (i : grid9.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage9_0 : Fin 2 → Memref sig .tc .vmem S1x256x1024 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, true]

abbrev stage9_1 : Fin 1 → Memref sig .tc .vmem S2x1024 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, false]

abbrev stage9_2 : Fin 1 → Memref sig .tc .vmem S2x1024 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false, false]

abbrev stage9_3 : Fin 1 → Memref sig .tc .vmem S1x1024x1024 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false, false]

abbrev stage9_4 : Fin 2 → Memref sig .tc .vmem S1x256x1024 .f32 := fun | 0 => Memref.whole cc9_stg4_0 | 1 => Memref.whole cc9_stg4_1 | ⟨_ + 2, h⟩ => absurd h (Nat.not_lt.2 (Nat.le_add_left _ _))
abbrev sem9_4 : Fin 2 → DmaSem sig := fun | 0 => cc9_sem4_0 | 1 => cc9_sem4_1 | ⟨_ + 2, h⟩ => absurd h (Nat.not_lt.2 (Nat.le_add_left _ _))
abbrev reads9_4 : Fin grid9.rank → Bool := ![true, false]

abbrev stage9_5 : Fin 2 → Memref sig .tc .vmem S1x256x1024 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true, false]

abbrev stage9_6 : Fin 1 → Memref sig .tc .vmem S1x1024x1024 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false, false]

abbrev stage9_7 : Fin 1 → Memref sig .tc .vmem S2x1024 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false, false]

abbrev stage9_8 : Fin 1 → Memref sig .tc .vmem S2x1024 .f32 := fun | 0 => Memref.whole cc9_stg8_0 | ⟨_ + 1, h⟩ => absurd h (Nat.not_lt.2 (Nat.le_add_left _ _))
abbrev sem9_8 : Fin 1 → DmaSem sig := fun | 0 => cc9_sem8_0 | ⟨_ + 1, h⟩ => absurd h (Nat.not_lt.2 (Nat.le_add_left _ _))
abbrev reads9_8 : Fin grid9.rank → Bool := ![false, false]

abbrev stage9_9 : Fin 1 → Memref sig .tc .vmem S2x1024 .f32 := fun | 0 => Memref.whole cc9_stg9_0 | ⟨_ + 1, h⟩ => absurd h (Nat.not_lt.2 (Nat.le_add_left _ _))
abbrev sem9_9 : Fin 1 → DmaSem sig := fun | 0 => cc9_sem9_0 | ⟨_ + 1, h⟩ => absurd h (Nat.not_lt.2 (Nat.le_add_left _ _))
abbrev reads9_9 : Fin grid9.rank → Bool := ![false, false]

abbrev stage9_10 : Fin 1 → Memref sig .tc .vmem S1x1024x4096 .f32 := fun | 0 => Memref.whole cc9_stg10_0 | ⟨_ + 1, h⟩ => absurd h (Nat.not_lt.2 (Nat.le_add_left _ _))
abbrev sem9_10 : Fin 1 → DmaSem sig := fun | 0 => cc9_sem10_0 | ⟨_ + 1, h⟩ => absurd h (Nat.not_lt.2 (Nat.le_add_left _ _))
abbrev reads9_10 : Fin grid9.rank → Bool := ![false, false]

abbrev stage9_11 : Fin 1 → Memref sig .tc .vmem S2x4096 .f32 := fun | 0 => Memref.whole cc9_stg11_0 | ⟨_ + 1, h⟩ => absurd h (Nat.not_lt.2 (Nat.le_add_left _ _))
abbrev sem9_11 : Fin 1 → DmaSem sig := fun | 0 => cc9_sem11_0 | ⟨_ + 1, h⟩ => absurd h (Nat.not_lt.2 (Nat.le_add_left _ _))
abbrev reads9_11 : Fin grid9.rank → Bool := ![false, false]

abbrev stage9_12 : Fin 1 → Memref sig .tc .vmem S1x4096x1024 .f32 := fun | 0 => Memref.whole cc9_stg12_0 | ⟨_ + 1, h⟩ => absurd h (Nat.not_lt.2 (Nat.le_add_left _ _))
abbrev sem9_12 : Fin 1 → DmaSem sig := fun | 0 => cc9_sem12_0 | ⟨_ + 1, h⟩ => absurd h (Nat.not_lt.2 (Nat.le_add_left _ _))
abbrev reads9_12 : Fin grid9.rank → Bool := ![false, false]

abbrev stage9_13 : Fin 1 → Memref sig .tc .vmem S2x1024 .f32 := fun | 0 => Memref.whole cc9_stg13_0 | ⟨_ + 1, h⟩ => absurd h (Nat.not_lt.2 (Nat.le_add_left _ _))
abbrev sem9_13 : Fin 1 → DmaSem sig := fun | 0 => cc9_sem13_0 | ⟨_ + 1, h⟩ => absurd h (Nat.not_lt.2 (Nat.le_add_left _ _))
abbrev reads9_13 : Fin grid9.rank → Bool := ![false, false]

abbrev stage9_14 : Fin 2 → Memref sig .tc .vmem S1x256x1024 .f32 := fun | 0 => Memref.whole cc9_stg14_0 | 1 => Memref.whole cc9_stg14_1 | ⟨_ + 2, h⟩ => absurd h (Nat.not_lt.2 (Nat.le_add_left _ _))
abbrev sem9_14 : Fin 2 → DmaSem sig := fun | 0 => cc9_sem14_0 | 1 => cc9_sem14_1 | ⟨_ + 2, h⟩ => absurd h (Nat.not_lt.2 (Nat.le_add_left _ _))
abbrev reads9_14 : Fin grid9.rank → Bool := ![true, true]
-- ==== ReferenceIdeal.lean ====
abbrev S2x4096x1024 : Shape := ⟨3, ![2, 4096, 1024]⟩
abbrev S2x1024 : Shape := ⟨2, ![2, 1024]⟩
abbrev S2x1024x1024 : Shape := ⟨3, ![2, 1024, 1024]⟩
abbrev S2x4096x256 : Shape := ⟨3, ![2, 4096, 256]⟩
abbrev S2x1024x4096 : Shape := ⟨3, ![2, 1024, 4096]⟩
abbrev S2x4096 : Shape := ⟨2, ![2, 4096]⟩
abbrev S2x1024x1024x16 : Shape := ⟨4, ![2, 1024, 1024, 16]⟩
abbrev S1x1024 : Shape := ⟨2, ![1, 1024]⟩
abbrev S1024 : Shape := ⟨1, ![1024]⟩
abbrev S_ : Shape := ⟨0, ![]⟩
abbrev S2x4096x1 : Shape := ⟨3, ![2, 4096, 1]⟩
abbrev S1x1x1024 : Shape := ⟨3, ![1, 1, 1024]⟩
abbrev S1x1024x1024 : Shape := ⟨3, ![1, 1024, 1024]⟩
abbrev S1024x1024 : Shape := ⟨2, ![1024, 1024]⟩
abbrev S1x4096x256 : Shape := ⟨3, ![1, 4096, 256]⟩
abbrev S4096x256 : Shape := ⟨2, ![4096, 256]⟩
abbrev S256x2x1024 : Shape := ⟨3, ![256, 2, 1024]⟩
abbrev S2x256x1024 : Shape := ⟨3, ![2, 256, 1024]⟩
abbrev S2x4096x8x128 : Shape := ⟨4, ![2, 4096, 8, 128]⟩
abbrev S2x8x4096x128 : Shape := ⟨4, ![2, 8, 4096, 128]⟩
abbrev S2x256x8x128 : Shape := ⟨4, ![2, 256, 8, 128]⟩
abbrev S2x8x256x128 : Shape := ⟨4, ![2, 8, 256, 128]⟩
abbrev S2x8x4096x256 : Shape := ⟨4, ![2, 8, 4096, 256]⟩
abbrev S2x8x4096 : Shape := ⟨3, ![2, 8, 4096]⟩
abbrev S2x8x4096x1 : Shape := ⟨4, ![2, 8, 4096, 1]⟩
abbrev S1x1024x4096 : Shape := ⟨3, ![1, 1024, 4096]⟩
abbrev S1024x4096 : Shape := ⟨2, ![1024, 4096]⟩
abbrev S2x4096x4096 : Shape := ⟨3, ![2, 4096, 4096]⟩
abbrev S1x4096 : Shape := ⟨2, ![1, 4096]⟩
abbrev S4096 : Shape := ⟨1, ![4096]⟩
abbrev S1x1x4096 : Shape := ⟨3, ![1, 1, 4096]⟩
abbrev S1x4096x1024 : Shape := ⟨3, ![1, 4096, 1024]⟩
abbrev S4096x1024 : Shape := ⟨2, ![4096, 1024]⟩
abbrev S2x256x16x1024 : Shape := ⟨4, ![2, 256, 16, 1024]⟩
abbrev S1x1024x1024x16 : Shape := ⟨4, ![1, 1024, 1024, 16]⟩
abbrev S1024x1024x16 : Shape := ⟨3, ![1024, 1024, 16]⟩

abbrev nBuf : Space → Nat
  | .hbm => 611
  | .vmem => 0
  | .smem => 0
  | _ => 0

abbrev hbmTy0_0 (i : Nat) : BufTy := match i % 128 with
  | 0 => ⟨S2x4096x1024, .f32⟩
  | 1 => ⟨S2x1024, .f32⟩
  | 2 => ⟨S2x1024, .f32⟩
  | 3 => ⟨S2x1024x1024, .f32⟩
  | 4 => ⟨S2x1024x1024, .f32⟩
  | 5 => ⟨S2x1024x1024, .f32⟩
  | 6 => ⟨S2x4096x256, .f32⟩
  | 7 => ⟨S2x4096x256, .f32⟩
  | 8 => ⟨S2x1024x1024, .f32⟩
  | 9 => ⟨S2x1024, .f32⟩
  | 10 => ⟨S2x1024, .f32⟩
  | 11 => ⟨S2x1024, .f32⟩
  | 12 => ⟨S2x1024x4096, .f32⟩
  | 13 => ⟨S2x4096, .f32⟩
  | 14 => ⟨S2x4096x1024, .f32⟩
  | 15 => ⟨S2x1024, .f32⟩
  | 16 => ⟨S2x1024, .f32⟩
  | 17 => ⟨S2x1024, .f32⟩
  | 18 => ⟨S2x1024x1024, .f32⟩
  | 19 => ⟨S2x1024x1024, .f32⟩
  | 20 => ⟨S2x1024x1024, .f32⟩
  | 21 => ⟨S2x1024x1024x16, .f32⟩
  | 22 => ⟨S2x1024x1024x16, .f32⟩
  | 23 => ⟨S2x1024x1024, .f32⟩
  | 24 => ⟨S2x1024, .f32⟩
  | 25 => ⟨S2x1024, .f32⟩
  | 26 => ⟨S2x1024, .f32⟩
  | 27 => ⟨S2x1024x4096, .f32⟩
  | 28 => ⟨S2x4096, .f32⟩
  | 29 => ⟨S2x4096x1024, .f32⟩
  | 30 => ⟨S2x1024, .f32⟩
  | 31 => ⟨S1x1024, .f32⟩
  | 32 => ⟨S1024, .f32⟩
  | 33 => ⟨S1x1024, .f32⟩
  | 34 => ⟨S1024, .f32⟩
  | 35 => ⟨S_, .f32⟩
  | 36 => ⟨S2x4096, .f32⟩
  | 37 => ⟨S2x4096x1, .f32⟩
  | 38 => ⟨S_, .f32⟩
  | 39 => ⟨S2x4096x1, .f32⟩
  | 40 => ⟨S2x4096x1, .f32⟩
  | 41 => ⟨S2x4096x1024, .f32⟩
  | 42 => ⟨S2x4096x1024, .f32⟩
  | 43 => ⟨S2x4096x1024, .f32⟩
  | 44 => ⟨S_, .f32⟩
  | 45 => ⟨S2x4096, .f32⟩
  | 46 => ⟨S2x4096x1, .f32⟩
  | 47 => ⟨S_, .f32⟩
  | 48 => ⟨S2x4096x1, .f32⟩
  | 49 => ⟨S2x4096x1, .f32⟩
  | 50 => ⟨S2x4096x1024, .f32⟩
  | 51 => ⟨S2x4096x1024, .f32⟩
  | 52 => ⟨S_, .f32⟩
  | 53 => ⟨S2x4096x1, .f32⟩
  | 54 => ⟨S2x4096x1, .f32⟩
  | 55 => ⟨S2x4096x1, .f32⟩
  | 56 => ⟨S2x4096x1024, .f32⟩
  | 57 => ⟨S2x4096x1024, .f32⟩
  | 58 => ⟨S1x1x1024, .f32⟩
  | 59 => ⟨S2x4096x1024, .f32⟩
  | 60 => ⟨S2x4096x1024, .f32⟩
  | 61 => ⟨S1x1x1024, .f32⟩
  | 62 => ⟨S2x4096x1024, .f32⟩
  | 63 => ⟨S2x4096x1024, .f32⟩
  | 64 => ⟨S1x1024x1024, .f32⟩
  | 65 => ⟨S1024x1024, .f32⟩
  | 66 => ⟨S2x4096x1024, .f32⟩
  | 67 => ⟨S1x1024x1024, .f32⟩
  | 68 => ⟨S1024x1024, .f32⟩
  | 69 => ⟨S2x4096x1024, .f32⟩
  | 70 => ⟨S1x4096x256, .f32⟩
  | 71 => ⟨S4096x256, .f32⟩
  | 72 => ⟨S256x2x1024, .f32⟩
  | 73 => ⟨S2x256x1024, .f32⟩
  | 74 => ⟨S1x1024x1024, .f32⟩
  | 75 => ⟨S1024x1024, .f32⟩
  | 76 => ⟨S2x4096x1024, .f32⟩
  | 77 => ⟨S1x4096x256, .f32⟩
  | 78 => ⟨S4096x256, .f32⟩
  | 79 => ⟨S256x2x1024, .f32⟩
  | 80 => ⟨S2x256x1024, .f32⟩
  | 81 => ⟨S2x4096x8x128, .f32⟩
  | 82 => ⟨S2x8x4096x128, .f32⟩
  | 83 => ⟨S2x256x8x128, .f32⟩
  | 84 => ⟨S2x8x256x128, .f32⟩
  | 85 => ⟨S2x256x8x128, .f32⟩
  | 86 => ⟨S2x8x256x128, .f32⟩
  | 87 => ⟨S2x8x4096x256, .f32⟩
  | 88 => ⟨S_, .f32⟩
  | 89 => ⟨S2x8x4096x256, .f32⟩
  | 90 => ⟨S2x8x4096x256, .f32⟩
  | 91 => ⟨S_, .f32⟩
  | 92 => ⟨S2x8x4096, .f32⟩
  | 93 => ⟨S_, .f32⟩
  | 94 => ⟨S2x8x4096, .f32⟩
  | 95 => ⟨S2x8x4096, .f32⟩
  | 96 => ⟨S2x8x4096x1, .f32⟩
  | 97 => ⟨S2x8x4096x256, .f32⟩
  | 98 => ⟨S2x8x4096x256, .f32⟩
  | 99 => ⟨S2x8x4096x256, .f32⟩
  | 100 => ⟨S_, .f32⟩
  | 101 => ⟨S2x8x4096, .f32⟩
  | 102 => ⟨S2x8x4096x1, .f32⟩
  | 103 => ⟨S2x8x4096x256, .f32⟩
  | 104 => ⟨S2x8x4096x256, .f32⟩
  | 105 => ⟨S2x8x4096x128, .f32⟩
  | 106 => ⟨S2x4096x8x128, .f32⟩
  | 107 => ⟨S2x4096x1024, .f32⟩
  | 108 => ⟨S1x1024x1024, .f32⟩
  | 109 => ⟨S1024x1024, .f32⟩
  | 110 => ⟨S2x4096x1024, .f32⟩
  | 111 => ⟨S2x4096x1024, .f32⟩
  | 112 => ⟨S1x1024, .f32⟩
  | 113 => ⟨S1024, .f32⟩
  | 114 => ⟨S1x1x1024, .f32⟩
  | 115 => ⟨S2x4096x1024, .f32⟩
  | 116 => ⟨S2x4096x1024, .f32⟩
  | 117 => ⟨S1x1024, .f32⟩
  | 118 => ⟨S1024, .f32⟩
  | 119 => ⟨S1x1024, .f32⟩
  | 120 => ⟨S1024, .f32⟩
  | 121 => ⟨S_, .f32⟩
  | 122 => ⟨S2x4096, .f32⟩
  | 123 => ⟨S2x4096x1, .f32⟩
  | 124 => ⟨S_, .f32⟩
  | 125 => ⟨S2x4096x1, .f32⟩
  | 126 => ⟨S2x4096x1, .f32⟩
  | 127 => ⟨S2x4096x1024, .f32⟩
  | _ => ⟨S2x4096x1024, .f32⟩

abbrev hbmTy0_1 (i : Nat) : BufTy := match i % 128 with
  | 0 => ⟨S2x4096x1024, .f32⟩
  | 1 => ⟨S2x4096x1024, .f32⟩
  | 2 => ⟨S_, .f32⟩
  | 3 => ⟨S2x4096, .f32⟩
  | 4 => ⟨S2x4096x1, .f32⟩
  | 5 => ⟨S_, .f32⟩
  | 6 => ⟨S2x4096x1, .f32⟩
  | 7 => ⟨S2x4096x1, .f32⟩
  | 8 => ⟨S2x4096x1024, .f32⟩
  | 9 => ⟨S2x4096x1024, .f32⟩
  | 10 => ⟨S_, .f32⟩
  | 11 => ⟨S2x4096x1, .f32⟩
  | 12 => ⟨S2x4096x1, .f32⟩
  | 13 => ⟨S2x4096x1, .f32⟩
  | 14 => ⟨S2x4096x1024, .f32⟩
  | 15 => ⟨S2x4096x1024, .f32⟩
  | 16 => ⟨S1x1x1024, .f32⟩
  | 17 => ⟨S2x4096x1024, .f32⟩
  | 18 => ⟨S2x4096x1024, .f32⟩
  | 19 => ⟨S1x1x1024, .f32⟩
  | 20 => ⟨S2x4096x1024, .f32⟩
  | 21 => ⟨S2x4096x1024, .f32⟩
  | 22 => ⟨S1x1024x4096, .f32⟩
  | 23 => ⟨S1024x4096, .f32⟩
  | 24 => ⟨S2x4096x4096, .f32⟩
  | 25 => ⟨S1x4096, .f32⟩
  | 26 => ⟨S4096, .f32⟩
  | 27 => ⟨S1x1x4096, .f32⟩
  | 28 => ⟨S2x4096x4096, .f32⟩
  | 29 => ⟨S2x4096x4096, .f32⟩
  | 30 => ⟨S_, .f32⟩
  | 31 => ⟨S2x4096x4096, .f32⟩
  | 32 => ⟨S2x4096x4096, .f32⟩
  | 33 => ⟨S2x4096x4096, .f32⟩
  | 34 => ⟨S_, .f32⟩
  | 35 => ⟨S2x4096x4096, .f32⟩
  | 36 => ⟨S2x4096x4096, .f32⟩
  | 37 => ⟨S2x4096x4096, .f32⟩
  | 38 => ⟨S2x4096x4096, .f32⟩
  | 39 => ⟨S1x4096x1024, .f32⟩
  | 40 => ⟨S4096x1024, .f32⟩
  | 41 => ⟨S2x4096x1024, .f32⟩
  | 42 => ⟨S2x4096x1024, .f32⟩
  | 43 => ⟨S1x1024, .f32⟩
  | 44 => ⟨S1024, .f32⟩
  | 45 => ⟨S1x1x1024, .f32⟩
  | 46 => ⟨S2x4096x1024, .f32⟩
  | 47 => ⟨S2x4096x1024, .f32⟩
  | 48 => ⟨S1x1024, .f32⟩
  | 49 => ⟨S1024, .f32⟩
  | 50 => ⟨S1x1024, .f32⟩
  | 51 => ⟨S1024, .f32⟩
  | 52 => ⟨S_, .f32⟩
  | 53 => ⟨S2x4096, .f32⟩
  | 54 => ⟨S2x4096x1, .f32⟩
  | 55 => ⟨S_, .f32⟩
  | 56 => ⟨S2x4096x1, .f32⟩
  | 57 => ⟨S2x4096x1, .f32⟩
  | 58 => ⟨S2x4096x1024, .f32⟩
  | 59 => ⟨S2x4096x1024, .f32⟩
  | 60 => ⟨S2x4096x1024, .f32⟩
  | 61 => ⟨S_, .f32⟩
  | 62 => ⟨S2x4096, .f32⟩
  | 63 => ⟨S2x4096x1, .f32⟩
  | 64 => ⟨S_, .f32⟩
  | 65 => ⟨S2x4096x1, .f32⟩
  | 66 => ⟨S2x4096x1, .f32⟩
  | 67 => ⟨S2x4096x1024, .f32⟩
  | 68 => ⟨S2x4096x1024, .f32⟩
  | 69 => ⟨S_, .f32⟩
  | 70 => ⟨S2x4096x1, .f32⟩
  | 71 => ⟨S2x4096x1, .f32⟩
  | 72 => ⟨S2x4096x1, .f32⟩
  | 73 => ⟨S2x4096x1024, .f32⟩
  | 74 => ⟨S2x4096x1024, .f32⟩
  | 75 => ⟨S1x1x1024, .f32⟩
  | 76 => ⟨S2x4096x1024, .f32⟩
  | 77 => ⟨S2x4096x1024, .f32⟩
  | 78 => ⟨S1x1x1024, .f32⟩
  | 79 => ⟨S2x4096x1024, .f32⟩
  | 80 => ⟨S2x4096x1024, .f32⟩
  | 81 => ⟨S1x1024x1024, .f32⟩
  | 82 => ⟨S1024x1024, .f32⟩
  | 83 => ⟨S2x4096x1024, .f32⟩
  | 84 => ⟨S1x1024x1024, .f32⟩
  | 85 => ⟨S1024x1024, .f32⟩
  | 86 => ⟨S2x4096x1024, .f32⟩
  | 87 => ⟨S1x4096x256, .f32⟩
  | 88 => ⟨S4096x256, .f32⟩
  | 89 => ⟨S256x2x1024, .f32⟩
  | 90 => ⟨S2x256x1024, .f32⟩
  | 91 => ⟨S1x1024x1024, .f32⟩
  | 92 => ⟨S1024x1024, .f32⟩
  | 93 => ⟨S2x4096x1024, .f32⟩
  | 94 => ⟨S1x4096x256, .f32⟩
  | 95 => ⟨S4096x256, .f32⟩
  | 96 => ⟨S256x2x1024, .f32⟩
  | 97 => ⟨S2x256x1024, .f32⟩
  | 98 => ⟨S2x4096x8x128, .f32⟩
  | 99 => ⟨S2x8x4096x128, .f32⟩
  | 100 => ⟨S2x256x8x128, .f32⟩
  | 101 => ⟨S2x8x256x128, .f32⟩
  | 102 => ⟨S2x256x8x128, .f32⟩
  | 103 => ⟨S2x8x256x128, .f32⟩
  | 104 => ⟨S2x8x4096x256, .f32⟩
  | 105 => ⟨S_, .f32⟩
  | 106 => ⟨S2x8x4096x256, .f32⟩
  | 107 => ⟨S2x8x4096x256, .f32⟩
  | 108 => ⟨S_, .f32⟩
  | 109 => ⟨S2x8x4096, .f32⟩
  | 110 => ⟨S_, .f32⟩
  | 111 => ⟨S2x8x4096, .f32⟩
  | 112 => ⟨S2x8x4096, .f32⟩
  | 113 => ⟨S2x8x4096x1, .f32⟩
  | 114 => ⟨S2x8x4096x256, .f32⟩
  | 115 => ⟨S2x8x4096x256, .f32⟩
  | 116 => ⟨S2x8x4096x256, .f32⟩
  | 117 => ⟨S_, .f32⟩
  | 118 => ⟨S2x8x4096, .f32⟩
  | 119 => ⟨S2x8x4096x1, .f32⟩
  | 120 => ⟨S2x8x4096x256, .f32⟩
  | 121 => ⟨S2x8x4096x256, .f32⟩
  | 122 => ⟨S2x8x4096x128, .f32⟩
  | 123 => ⟨S2x4096x8x128, .f32⟩
  | 124 => ⟨S2x4096x1024, .f32⟩
  | 125 => ⟨S1x1024x1024, .f32⟩
  | 126 => ⟨S1024x1024, .f32⟩
  | 127 => ⟨S2x4096x1024, .f32⟩
  | _ => ⟨S2x4096x1024, .f32⟩

abbrev hbmTy0_2 (i : Nat) : BufTy := match i % 128 with
  | 0 => ⟨S2x4096x1024, .f32⟩
  | 1 => ⟨S1x1024, .f32⟩
  | 2 => ⟨S1024, .f32⟩
  | 3 => ⟨S1x1x1024, .f32⟩
  | 4 => ⟨S2x4096x1024, .f32⟩
  | 5 => ⟨S2x4096x1024, .f32⟩
  | 6 => ⟨S1x1024, .f32⟩
  | 7 => ⟨S1024, .f32⟩
  | 8 => ⟨S1x1024, .f32⟩
  | 9 => ⟨S1024, .f32⟩
  | 10 => ⟨S_, .f32⟩
  | 11 => ⟨S2x4096, .f32⟩
  | 12 => ⟨S2x4096x1, .f32⟩
  | 13 => ⟨S_, .f32⟩
  | 14 => ⟨S2x4096x1, .f32⟩
  | 15 => ⟨S2x4096x1, .f32⟩
  | 16 => ⟨S2x4096x1024, .f32⟩
  | 17 => ⟨S2x4096x1024, .f32⟩
  | 18 => ⟨S2x4096x1024, .f32⟩
  | 19 => ⟨S_, .f32⟩
  | 20 => ⟨S2x4096, .f32⟩
  | 21 => ⟨S2x4096x1, .f32⟩
  | 22 => ⟨S_, .f32⟩
  | 23 => ⟨S2x4096x1, .f32⟩
  | 24 => ⟨S2x4096x1, .f32⟩
  | 25 => ⟨S2x4096x1024, .f32⟩
  | 26 => ⟨S2x4096x1024, .f32⟩
  | 27 => ⟨S_, .f32⟩
  | 28 => ⟨S2x4096x1, .f32⟩
  | 29 => ⟨S2x4096x1, .f32⟩
  | 30 => ⟨S2x4096x1, .f32⟩
  | 31 => ⟨S2x4096x1024, .f32⟩
  | 32 => ⟨S2x4096x1024, .f32⟩
  | 33 => ⟨S1x1x1024, .f32⟩
  | 34 => ⟨S2x4096x1024, .f32⟩
  | 35 => ⟨S2x4096x1024, .f32⟩
  | 36 => ⟨S1x1x1024, .f32⟩
  | 37 => ⟨S2x4096x1024, .f32⟩
  | 38 => ⟨S2x4096x1024, .f32⟩
  | 39 => ⟨S1x1024x4096, .f32⟩
  | 40 => ⟨S1024x4096, .f32⟩
  | 41 => ⟨S2x4096x4096, .f32⟩
  | 42 => ⟨S1x4096, .f32⟩
  | 43 => ⟨S4096, .f32⟩
  | 44 => ⟨S1x1x4096, .f32⟩
  | 45 => ⟨S2x4096x4096, .f32⟩
  | 46 => ⟨S2x4096x4096, .f32⟩
  | 47 => ⟨S_, .f32⟩
  | 48 => ⟨S2x4096x4096, .f32⟩
  | 49 => ⟨S2x4096x4096, .f32⟩
  | 50 => ⟨S2x4096x4096, .f32⟩
  | 51 => ⟨S_, .f32⟩
  | 52 => ⟨S2x4096x4096, .f32⟩
  | 53 => ⟨S2x4096x4096, .f32⟩
  | 54 => ⟨S2x4096x4096, .f32⟩
  | 55 => ⟨S2x4096x4096, .f32⟩
  | 56 => ⟨S1x4096x1024, .f32⟩
  | 57 => ⟨S4096x1024, .f32⟩
  | 58 => ⟨S2x4096x1024, .f32⟩
  | 59 => ⟨S2x4096x1024, .f32⟩
  | 60 => ⟨S1x1024, .f32⟩
  | 61 => ⟨S1024, .f32⟩
  | 62 => ⟨S1x1x1024, .f32⟩
  | 63 => ⟨S2x4096x1024, .f32⟩
  | 64 => ⟨S2x4096x1024, .f32⟩
  | 65 => ⟨S1x1024, .f32⟩
  | 66 => ⟨S1024, .f32⟩
  | 67 => ⟨S1x1024, .f32⟩
  | 68 => ⟨S1024, .f32⟩
  | 69 => ⟨S_, .f32⟩
  | 70 => ⟨S2x4096, .f32⟩
  | 71 => ⟨S2x4096x1, .f32⟩
  | 72 => ⟨S_, .f32⟩
  | 73 => ⟨S2x4096x1, .f32⟩
  | 74 => ⟨S2x4096x1, .f32⟩
  | 75 => ⟨S2x4096x1024, .f32⟩
  | 76 => ⟨S2x4096x1024, .f32⟩
  | 77 => ⟨S2x4096x1024, .f32⟩
  | 78 => ⟨S_, .f32⟩
  | 79 => ⟨S2x4096, .f32⟩
  | 80 => ⟨S2x4096x1, .f32⟩
  | 81 => ⟨S_, .f32⟩
  | 82 => ⟨S2x4096x1, .f32⟩
  | 83 => ⟨S2x4096x1, .f32⟩
  | 84 => ⟨S2x4096x1024, .f32⟩
  | 85 => ⟨S2x4096x1024, .f32⟩
  | 86 => ⟨S_, .f32⟩
  | 87 => ⟨S2x4096x1, .f32⟩
  | 88 => ⟨S2x4096x1, .f32⟩
  | 89 => ⟨S2x4096x1, .f32⟩
  | 90 => ⟨S2x4096x1024, .f32⟩
  | 91 => ⟨S2x4096x1024, .f32⟩
  | 92 => ⟨S1x1x1024, .f32⟩
  | 93 => ⟨S2x4096x1024, .f32⟩
  | 94 => ⟨S2x4096x1024, .f32⟩
  | 95 => ⟨S1x1x1024, .f32⟩
  | 96 => ⟨S2x4096x1024, .f32⟩
  | 97 => ⟨S2x4096x1024, .f32⟩
  | 98 => ⟨S1x1024x1024, .f32⟩
  | 99 => ⟨S1024x1024, .f32⟩
  | 100 => ⟨S2x4096x1024, .f32⟩
  | 101 => ⟨S1x1024x1024, .f32⟩
  | 102 => ⟨S1024x1024, .f32⟩
  | 103 => ⟨S2x4096x1024, .f32⟩
  | 104 => ⟨S1x1024x1024, .f32⟩
  | 105 => ⟨S1024x1024, .f32⟩
  | 106 => ⟨S2x4096x1024, .f32⟩
  | 107 => ⟨S2x256x16x1024, .f32⟩
  | 108 => ⟨S1x1024x1024x16, .f32⟩
  | 109 => ⟨S1024x1024x16, .f32⟩
  | 110 => ⟨S2x256x1024, .f32⟩
  | 111 => ⟨S2x256x16x1024, .f32⟩
  | 112 => ⟨S1x1024x1024x16, .f32⟩
  | 113 => ⟨S1024x1024x16, .f32⟩
  | 114 => ⟨S2x256x1024, .f32⟩
  | 115 => ⟨S2x4096x8x128, .f32⟩
  | 116 => ⟨S2x8x4096x128, .f32⟩
  | 117 => ⟨S2x256x8x128, .f32⟩
  | 118 => ⟨S2x8x256x128, .f32⟩
  | 119 => ⟨S2x256x8x128, .f32⟩
  | 120 => ⟨S2x8x256x128, .f32⟩
  | 121 => ⟨S2x8x4096x256, .f32⟩
  | 122 => ⟨S_, .f32⟩
  | 123 => ⟨S2x8x4096x256, .f32⟩
  | 124 => ⟨S2x8x4096x256, .f32⟩
  | 125 => ⟨S_, .f32⟩
  | 126 => ⟨S2x8x4096, .f32⟩
  | 127 => ⟨S_, .f32⟩
  | _ => ⟨S2x4096x1024, .f32⟩

abbrev hbmTy0_3 (i : Nat) : BufTy := match i % 128 with
  | 0 => ⟨S2x8x4096, .f32⟩
  | 1 => ⟨S2x8x4096, .f32⟩
  | 2 => ⟨S2x8x4096x1, .f32⟩
  | 3 => ⟨S2x8x4096x256, .f32⟩
  | 4 => ⟨S2x8x4096x256, .f32⟩
  | 5 => ⟨S2x8x4096x256, .f32⟩
  | 6 => ⟨S_, .f32⟩
  | 7 => ⟨S2x8x4096, .f32⟩
  | 8 => ⟨S2x8x4096x1, .f32⟩
  | 9 => ⟨S2x8x4096x256, .f32⟩
  | 10 => ⟨S2x8x4096x256, .f32⟩
  | 11 => ⟨S2x8x4096x128, .f32⟩
  | 12 => ⟨S2x4096x8x128, .f32⟩
  | 13 => ⟨S2x4096x1024, .f32⟩
  | 14 => ⟨S1x1024x1024, .f32⟩
  | 15 => ⟨S1024x1024, .f32⟩
  | 16 => ⟨S2x4096x1024, .f32⟩
  | 17 => ⟨S2x4096x1024, .f32⟩
  | 18 => ⟨S1x1024, .f32⟩
  | 19 => ⟨S1024, .f32⟩
  | 20 => ⟨S1x1x1024, .f32⟩
  | 21 => ⟨S2x4096x1024, .f32⟩
  | 22 => ⟨S2x4096x1024, .f32⟩
  | 23 => ⟨S1x1024, .f32⟩
  | 24 => ⟨S1024, .f32⟩
  | 25 => ⟨S1x1024, .f32⟩
  | 26 => ⟨S1024, .f32⟩
  | 27 => ⟨S_, .f32⟩
  | 28 => ⟨S2x4096, .f32⟩
  | 29 => ⟨S2x4096x1, .f32⟩
  | 30 => ⟨S_, .f32⟩
  | 31 => ⟨S2x4096x1, .f32⟩
  | 32 => ⟨S2x4096x1, .f32⟩
  | 33 => ⟨S2x4096x1024, .f32⟩
  | 34 => ⟨S2x4096x1024, .f32⟩
  | 35 => ⟨S2x4096x1024, .f32⟩
  | 36 => ⟨S_, .f32⟩
  | 37 => ⟨S2x4096, .f32⟩
  | 38 => ⟨S2x4096x1, .f32⟩
  | 39 => ⟨S_, .f32⟩
  | 40 => ⟨S2x4096x1, .f32⟩
  | 41 => ⟨S2x4096x1, .f32⟩
  | 42 => ⟨S2x4096x1024, .f32⟩
  | 43 => ⟨S2x4096x1024, .f32⟩
  | 44 => ⟨S_, .f32⟩
  | 45 => ⟨S2x4096x1, .f32⟩
  | 46 => ⟨S2x4096x1, .f32⟩
  | 47 => ⟨S2x4096x1, .f32⟩
  | 48 => ⟨S2x4096x1024, .f32⟩
  | 49 => ⟨S2x4096x1024, .f32⟩
  | 50 => ⟨S1x1x1024, .f32⟩
  | 51 => ⟨S2x4096x1024, .f32⟩
  | 52 => ⟨S2x4096x1024, .f32⟩
  | 53 => ⟨S1x1x1024, .f32⟩
  | 54 => ⟨S2x4096x1024, .f32⟩
  | 55 => ⟨S2x4096x1024, .f32⟩
  | 56 => ⟨S1x1024x4096, .f32⟩
  | 57 => ⟨S1024x4096, .f32⟩
  | 58 => ⟨S2x4096x4096, .f32⟩
  | 59 => ⟨S1x4096, .f32⟩
  | 60 => ⟨S4096, .f32⟩
  | 61 => ⟨S1x1x4096, .f32⟩
  | 62 => ⟨S2x4096x4096, .f32⟩
  | 63 => ⟨S2x4096x4096, .f32⟩
  | 64 => ⟨S_, .f32⟩
  | 65 => ⟨S2x4096x4096, .f32⟩
  | 66 => ⟨S2x4096x4096, .f32⟩
  | 67 => ⟨S2x4096x4096, .f32⟩
  | 68 => ⟨S_, .f32⟩
  | 69 => ⟨S2x4096x4096, .f32⟩
  | 70 => ⟨S2x4096x4096, .f32⟩
  | 71 => ⟨S2x4096x4096, .f32⟩
  | 72 => ⟨S2x4096x4096, .f32⟩
  | 73 => ⟨S1x4096x1024, .f32⟩
  | 74 => ⟨S4096x1024, .f32⟩
  | 75 => ⟨S2x4096x1024, .f32⟩
  | 76 => ⟨S2x4096x1024, .f32⟩
  | 77 => ⟨S1x1024, .f32⟩
  | 78 => ⟨S1024, .f32⟩
  | 79 => ⟨S1x1x1024, .f32⟩
  | 80 => ⟨S2x4096x1024, .f32⟩
  | 81 => ⟨S2x4096x1024, .f32⟩
  | 82 => ⟨S1x1024, .f32⟩
  | 83 => ⟨S1024, .f32⟩
  | 84 => ⟨S1x1024, .f32⟩
  | 85 => ⟨S1024, .f32⟩
  | 86 => ⟨S_, .f32⟩
  | 87 => ⟨S2x4096, .f32⟩
  | 88 => ⟨S2x4096x1, .f32⟩
  | 89 => ⟨S_, .f32⟩
  | 90 => ⟨S2x4096x1, .f32⟩
  | 91 => ⟨S2x4096x1, .f32⟩
  | 92 => ⟨S2x4096x1024, .f32⟩
  | 93 => ⟨S2x4096x1024, .f32⟩
  | 94 => ⟨S2x4096x1024, .f32⟩
  | 95 => ⟨S_, .f32⟩
  | 96 => ⟨S2x4096, .f32⟩
  | 97 => ⟨S2x4096x1, .f32⟩
  | 98 => ⟨S_, .f32⟩
  | 99 => ⟨S2x4096x1, .f32⟩
  | 100 => ⟨S2x4096x1, .f32⟩
  | 101 => ⟨S2x4096x1024, .f32⟩
  | 102 => ⟨S2x4096x1024, .f32⟩
  | 103 => ⟨S_, .f32⟩
  | 104 => ⟨S2x4096x1, .f32⟩
  | 105 => ⟨S2x4096x1, .f32⟩
  | 106 => ⟨S2x4096x1, .f32⟩
  | 107 => ⟨S2x4096x1024, .f32⟩
  | 108 => ⟨S2x4096x1024, .f32⟩
  | 109 => ⟨S1x1x1024, .f32⟩
  | 110 => ⟨S2x4096x1024, .f32⟩
  | 111 => ⟨S2x4096x1024, .f32⟩
  | 112 => ⟨S1x1x1024, .f32⟩
  | 113 => ⟨S2x4096x1024, .f32⟩
  | 114 => ⟨S2x4096x1024, .f32⟩
  | 115 => ⟨S1x1024x1024, .f32⟩
  | 116 => ⟨S1024x1024, .f32⟩
  | 117 => ⟨S2x4096x1024, .f32⟩
  | 118 => ⟨S1x1024x1024, .f32⟩
  | 119 => ⟨S1024x1024, .f32⟩
  | 120 => ⟨S2x4096x1024, .f32⟩
  | 121 => ⟨S1x1024x1024, .f32⟩
  | 122 => ⟨S1024x1024, .f32⟩
  | 123 => ⟨S2x4096x1024, .f32⟩
  | 124 => ⟨S2x256x16x1024, .f32⟩
  | 125 => ⟨S1x1024x1024x16, .f32⟩
  | 126 => ⟨S1024x1024x16, .f32⟩
  | 127 => ⟨S2x256x1024, .f32⟩
  | _ => ⟨S2x4096x1024, .f32⟩

abbrev hbmTy0_4 (i : Nat) : BufTy := match i % 128 with
  | 0 => ⟨S2x256x16x1024, .f32⟩
  | 1 => ⟨S1x1024x1024x16, .f32⟩
  | 2 => ⟨S1024x1024x16, .f32⟩
  | 3 => ⟨S2x256x1024, .f32⟩
  | 4 => ⟨S2x4096x8x128, .f32⟩
  | 5 => ⟨S2x8x4096x128, .f32⟩
  | 6 => ⟨S2x256x8x128, .f32⟩
  | 7 => ⟨S2x8x256x128, .f32⟩
  | 8 => ⟨S2x256x8x128, .f32⟩
  | 9 => ⟨S2x8x256x128, .f32⟩
  | 10 => ⟨S2x8x4096x256, .f32⟩
  | 11 => ⟨S_, .f32⟩
  | 12 => ⟨S2x8x4096x256, .f32⟩
  | 13 => ⟨S2x8x4096x256, .f32⟩
  | 14 => ⟨S_, .f32⟩
  | 15 => ⟨S2x8x4096, .f32⟩
  | 16 => ⟨S_, .f32⟩
  | 17 => ⟨S2x8x4096, .f32⟩
  | 18 => ⟨S2x8x4096, .f32⟩
  | 19 => ⟨S2x8x4096x1, .f32⟩
  | 20 => ⟨S2x8x4096x256, .f32⟩
  | 21 => ⟨S2x8x4096x256, .f32⟩
  | 22 => ⟨S2x8x4096x256, .f32⟩
  | 23 => ⟨S_, .f32⟩
  | 24 => ⟨S2x8x4096, .f32⟩
  | 25 => ⟨S2x8x4096x1, .f32⟩
  | 26 => ⟨S2x8x4096x256, .f32⟩
  | 27 => ⟨S2x8x4096x256, .f32⟩
  | 28 => ⟨S2x8x4096x128, .f32⟩
  | 29 => ⟨S2x4096x8x128, .f32⟩
  | 30 => ⟨S2x4096x1024, .f32⟩
  | 31 => ⟨S1x1024x1024, .f32⟩
  | 32 => ⟨S1024x1024, .f32⟩
  | 33 => ⟨S2x4096x1024, .f32⟩
  | 34 => ⟨S2x4096x1024, .f32⟩
  | 35 => ⟨S1x1024, .f32⟩
  | 36 => ⟨S1024, .f32⟩
  | 37 => ⟨S1x1x1024, .f32⟩
  | 38 => ⟨S2x4096x1024, .f32⟩
  | 39 => ⟨S2x4096x1024, .f32⟩
  | 40 => ⟨S1x1024, .f32⟩
  | 41 => ⟨S1024, .f32⟩
  | 42 => ⟨S1x1024, .f32⟩
  | 43 => ⟨S1024, .f32⟩
  | 44 => ⟨S_, .f32⟩
  | 45 => ⟨S2x4096, .f32⟩
  | 46 => ⟨S2x4096x1, .f32⟩
  | 47 => ⟨S_, .f32⟩
  | 48 => ⟨S2x4096x1, .f32⟩
  | 49 => ⟨S2x4096x1, .f32⟩
  | 50 => ⟨S2x4096x1024, .f32⟩
  | 51 => ⟨S2x4096x1024, .f32⟩
  | 52 => ⟨S2x4096x1024, .f32⟩
  | 53 => ⟨S_, .f32⟩
  | 54 => ⟨S2x4096, .f32⟩
  | 55 => ⟨S2x4096x1, .f32⟩
  | 56 => ⟨S_, .f32⟩
  | 57 => ⟨S2x4096x1, .f32⟩
  | 58 => ⟨S2x4096x1, .f32⟩
  | 59 => ⟨S2x4096x1024, .f32⟩
  | 60 => ⟨S2x4096x1024, .f32⟩
  | 61 => ⟨S_, .f32⟩
  | 62 => ⟨S2x4096x1, .f32⟩
  | 63 => ⟨S2x4096x1, .f32⟩
  | 64 => ⟨S2x4096x1, .f32⟩
  | 65 => ⟨S2x4096x1024, .f32⟩
  | 66 => ⟨S2x4096x1024, .f32⟩
  | 67 => ⟨S1x1x1024, .f32⟩
  | 68 => ⟨S2x4096x1024, .f32⟩
  | 69 => ⟨S2x4096x1024, .f32⟩
  | 70 => ⟨S1x1x1024, .f32⟩
  | 71 => ⟨S2x4096x1024, .f32⟩
  | 72 => ⟨S2x4096x1024, .f32⟩
  | 73 => ⟨S1x1024x4096, .f32⟩
  | 74 => ⟨S1024x4096, .f32⟩
  | 75 => ⟨S2x4096x4096, .f32⟩
  | 76 => ⟨S1x4096, .f32⟩
  | 77 => ⟨S4096, .f32⟩
  | 78 => ⟨S1x1x4096, .f32⟩
  | 79 => ⟨S2x4096x4096, .f32⟩
  | 80 => ⟨S2x4096x4096, .f32⟩
  | 81 => ⟨S_, .f32⟩
  | 82 => ⟨S2x4096x4096, .f32⟩
  | 83 => ⟨S2x4096x4096, .f32⟩
  | 84 => ⟨S2x4096x4096, .f32⟩
  | 85 => ⟨S_, .f32⟩
  | 86 => ⟨S2x4096x4096, .f32⟩
  | 87 => ⟨S2x4096x4096, .f32⟩
  | 88 => ⟨S2x4096x4096, .f32⟩
  | 89 => ⟨S2x4096x4096, .f32⟩
  | 90 => ⟨S1x4096x1024, .f32⟩
  | 91 => ⟨S4096x1024, .f32⟩
  | 92 => ⟨S2x4096x1024, .f32⟩
  | 93 => ⟨S2x4096x1024, .f32⟩
  | 94 => ⟨S1x1024, .f32⟩
  | 95 => ⟨S1024, .f32⟩
  | 96 => ⟨S1x1x1024, .f32⟩
  | 97 => ⟨S2x4096x1024, .f32⟩
  | 98 => ⟨S2x4096x1024, .f32⟩
  | _ => ⟨S2x4096x1024, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_cst : Ref sig .tc := ⟨.hbm, 35, rfl⟩
abbrev main_v4 : Ref sig .tc := ⟨.hbm, 36, rfl⟩
abbrev main_v5 : Ref sig .tc := ⟨.hbm, 37, rfl⟩
abbrev main_cst_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst_1 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_v13 : Ref sig .tc := ⟨.hbm, 48, rfl⟩
abbrev main_v14 : Ref sig .tc := ⟨.hbm, 49, rfl⟩
abbrev main_v15 : Ref sig .tc := ⟨.hbm, 50, rfl⟩
abbrev main_v16 : Ref sig .tc := ⟨.hbm, 51, rfl⟩
abbrev main_cst_3 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_4 : Ref sig .tc := ⟨.hbm, 88, rfl⟩
abbrev main_v52 : Ref sig .tc := ⟨.hbm, 89, rfl⟩
abbrev main_v53 : Ref sig .tc := ⟨.hbm, 90, rfl⟩
abbrev main_cst_5 : Ref sig .tc := ⟨.hbm, 91, rfl⟩
abbrev main_v54 : Ref sig .tc := ⟨.hbm, 92, rfl⟩
abbrev main_cst_6 : Ref sig .tc := ⟨.hbm, 93, rfl⟩
abbrev main_v55 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_cst_7 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_v76 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_v80 : Ref sig .tc := ⟨.hbm, 120, rfl⟩
abbrev main_cst_8 : Ref sig .tc := ⟨.hbm, 121, rfl⟩
abbrev main_v81 : Ref sig .tc := ⟨.hbm, 122, rfl⟩
abbrev main_v82 : Ref sig .tc := ⟨.hbm, 123, rfl⟩
abbrev main_cst_9 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_cst_10 : Ref sig .tc := ⟨.hbm, 130, rfl⟩
abbrev main_v88 : Ref sig .tc := ⟨.hbm, 131, rfl⟩
abbrev main_v89 : Ref sig .tc := ⟨.hbm, 132, rfl⟩
abbrev main_cst_11 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_cst_12 : Ref sig .tc := ⟨.hbm, 138, rfl⟩
abbrev main_v94 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_cst_13 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_cst_14 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_cst_15 : Ref sig .tc := ⟨.hbm, 180, rfl⟩
abbrev main_v133 : Ref sig .tc := ⟨.hbm, 181, rfl⟩
abbrev main_v134 : Ref sig .tc := ⟨.hbm, 182, rfl⟩
abbrev main_cst_16 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_cst_17 : Ref sig .tc := ⟨.hbm, 189, rfl⟩
abbrev main_v140 : Ref sig .tc := ⟨.hbm, 190, rfl⟩
abbrev main_v141 : Ref sig .tc := ⟨.hbm, 191, rfl⟩
abbrev main_cst_18 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_cst_19 : Ref sig .tc := ⟨.hbm, 197, rfl⟩
abbrev main_v146 : Ref sig .tc := ⟨.hbm, 198, rfl⟩
abbrev main_v147 : Ref sig .tc := ⟨.hbm, 199, rfl⟩
abbrev main_v148 : Ref sig .tc := ⟨.hbm, 200, rfl⟩
abbrev main_v149 : Ref sig .tc := ⟨.hbm, 201, rfl⟩
abbrev main_v150 : Ref sig .tc := ⟨.hbm, 202, rfl⟩
abbrev main_v151 : Ref sig .tc := ⟨.hbm, 203, rfl⟩
abbrev main_v152 : Ref sig .tc := ⟨.hbm, 204, rfl⟩
abbrev main_v153 : Ref sig .tc := ⟨.hbm, 205, rfl⟩
abbrev main_v154 : Ref sig .tc := ⟨.hbm, 206, rfl⟩
abbrev main_v155 : Ref sig .tc := ⟨.hbm, 207, rfl⟩
abbrev main_v156 : Ref sig .tc := ⟨.hbm, 208, rfl⟩
abbrev main_v157 : Ref sig .tc := ⟨.hbm, 209, rfl⟩
abbrev main_v158 : Ref sig .tc := ⟨.hbm, 210, rfl⟩
abbrev main_v159 : Ref sig .tc := ⟨.hbm, 211, rfl⟩
abbrev main_v160 : Ref sig .tc := ⟨.hbm, 212, rfl⟩
abbrev main_v161 : Ref sig .tc := ⟨.hbm, 213, rfl⟩
abbrev main_v162 : Ref sig .tc := ⟨.hbm, 214, rfl⟩
abbrev main_v163 : Ref sig .tc := ⟨.hbm, 215, rfl⟩
abbrev main_v164 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_v170 : Ref sig .tc := ⟨.hbm, 222, rfl⟩
abbrev main_v171 : Ref sig .tc := ⟨.hbm, 223, rfl⟩
abbrev main_v172 : Ref sig .tc := ⟨.hbm, 224, rfl⟩
abbrev main_v173 : Ref sig .tc := ⟨.hbm, 225, rfl⟩
abbrev main_v174 : Ref sig .tc := ⟨.hbm, 226, rfl⟩
abbrev main_v175 : Ref sig .tc := ⟨.hbm, 227, rfl⟩
abbrev main_v176 : Ref sig .tc := ⟨.hbm, 228, rfl⟩
abbrev main_v177 : Ref sig .tc := ⟨.hbm, 229, rfl⟩
abbrev main_v178 : Ref sig .tc := ⟨.hbm, 230, rfl⟩
abbrev main_v179 : Ref sig .tc := ⟨.hbm, 231, rfl⟩
abbrev main_v180 : Ref sig .tc := ⟨.hbm, 232, rfl⟩
abbrev main_cst_20 : Ref sig .tc := ⟨.hbm, 233, rfl⟩
abbrev main_v181 : Ref sig .tc := ⟨.hbm, 234, rfl⟩
abbrev main_v182 : Ref sig .tc := ⟨.hbm, 235, rfl⟩
abbrev main_cst_21 : Ref sig .tc := ⟨.hbm, 236, rfl⟩
abbrev main_v183 : Ref sig .tc := ⟨.hbm, 237, rfl⟩
abbrev main_cst_22 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_23 : Ref sig .tc := ⟨.hbm, 245, rfl⟩
abbrev main_v190 : Ref sig .tc := ⟨.hbm, 246, rfl⟩
abbrev main_v191 : Ref sig .tc := ⟨.hbm, 247, rfl⟩
abbrev main_v192 : Ref sig .tc := ⟨.hbm, 248, rfl⟩
abbrev main_v193 : Ref sig .tc := ⟨.hbm, 249, rfl⟩
abbrev main_v194 : Ref sig .tc := ⟨.hbm, 250, rfl⟩
abbrev main_v195 : Ref sig .tc := ⟨.hbm, 251, rfl⟩
abbrev main_v196 : Ref sig .tc := ⟨.hbm, 252, rfl⟩
abbrev main_v197 : Ref sig .tc := ⟨.hbm, 253, rfl⟩
abbrev main_v198 : Ref sig .tc := ⟨.hbm, 254, rfl⟩
abbrev main_v199 : Ref sig .tc := ⟨.hbm, 255, rfl⟩
abbrev main_v200 : Ref sig .tc := ⟨.hbm, 256, rfl⟩
abbrev main_v201 : Ref sig .tc := ⟨.hbm, 257, rfl⟩
abbrev main_v202 : Ref sig .tc := ⟨.hbm, 258, rfl⟩
abbrev main_v203 : Ref sig .tc := ⟨.hbm, 259, rfl⟩
abbrev main_v204 : Ref sig .tc := ⟨.hbm, 260, rfl⟩
abbrev main_v205 : Ref sig .tc := ⟨.hbm, 261, rfl⟩
abbrev main_v206 : Ref sig .tc := ⟨.hbm, 262, rfl⟩
abbrev main_v207 : Ref sig .tc := ⟨.hbm, 263, rfl⟩
abbrev main_v208 : Ref sig .tc := ⟨.hbm, 264, rfl⟩
abbrev main_v209 : Ref sig .tc := ⟨.hbm, 265, rfl⟩
abbrev main_cst_24 : Ref sig .tc := ⟨.hbm, 266, rfl⟩
abbrev main_v210 : Ref sig .tc := ⟨.hbm, 267, rfl⟩
abbrev main_v211 : Ref sig .tc := ⟨.hbm, 268, rfl⟩
abbrev main_cst_25 : Ref sig .tc := ⟨.hbm, 269, rfl⟩
abbrev main_v212 : Ref sig .tc := ⟨.hbm, 270, rfl⟩
abbrev main_v213 : Ref sig .tc := ⟨.hbm, 271, rfl⟩
abbrev main_v214 : Ref sig .tc := ⟨.hbm, 272, rfl⟩
abbrev main_v215 : Ref sig .tc := ⟨.hbm, 273, rfl⟩
abbrev main_v216 : Ref sig .tc := ⟨.hbm, 274, rfl⟩
abbrev main_cst_26 : Ref sig .tc := ⟨.hbm, 275, rfl⟩
abbrev main_v217 : Ref sig .tc := ⟨.hbm, 276, rfl⟩
abbrev main_v218 : Ref sig .tc := ⟨.hbm, 277, rfl⟩
abbrev main_cst_27 : Ref sig .tc := ⟨.hbm, 278, rfl⟩
abbrev main_v219 : Ref sig .tc := ⟨.hbm, 279, rfl⟩
abbrev main_v220 : Ref sig .tc := ⟨.hbm, 280, rfl⟩
abbrev main_v221 : Ref sig .tc := ⟨.hbm, 281, rfl⟩
abbrev main_v222 : Ref sig .tc := ⟨.hbm, 282, rfl⟩
abbrev main_cst_28 : Ref sig .tc := ⟨.hbm, 283, rfl⟩
abbrev main_v223 : Ref sig .tc := ⟨.hbm, 284, rfl⟩
abbrev main_v224 : Ref sig .tc := ⟨.hbm, 285, rfl⟩
abbrev main_v225 : Ref sig .tc := ⟨.hbm, 286, rfl⟩
abbrev main_v226 : Ref sig .tc := ⟨.hbm, 287, rfl⟩
abbrev main_v227 : Ref sig .tc := ⟨.hbm, 288, rfl⟩
abbrev main_v228 : Ref sig .tc := ⟨.hbm, 289, rfl⟩
abbrev main_v229 : Ref sig .tc := ⟨.hbm, 290, rfl⟩
abbrev main_v230 : Ref sig .tc := ⟨.hbm, 291, rfl⟩
abbrev main_v231 : Ref sig .tc := ⟨.hbm, 292, rfl⟩
abbrev main_v232 : Ref sig .tc := ⟨.hbm, 293, rfl⟩
abbrev main_v233 : Ref sig .tc := ⟨.hbm, 294, rfl⟩
abbrev main_v234 : Ref sig .tc := ⟨.hbm, 295, rfl⟩
abbrev main_v235 : Ref sig .tc := ⟨.hbm, 296, rfl⟩
abbrev main_v236 : Ref sig .tc := ⟨.hbm, 297, rfl⟩
abbrev main_v237 : Ref sig .tc := ⟨.hbm, 298, rfl⟩
abbrev main_v238 : Ref sig .tc := ⟨.hbm, 299, rfl⟩
abbrev main_v239 : Ref sig .tc := ⟨.hbm, 300, rfl⟩
abbrev main_v240 : Ref sig .tc := ⟨.hbm, 301, rfl⟩
abbrev main_v241 : Ref sig .tc := ⟨.hbm, 302, rfl⟩
abbrev main_cst_29 : Ref sig .tc := ⟨.hbm, 303, rfl⟩
abbrev main_v242 : Ref sig .tc := ⟨.hbm, 304, rfl⟩
abbrev main_v243 : Ref sig .tc := ⟨.hbm, 305, rfl⟩
abbrev main_v244 : Ref sig .tc := ⟨.hbm, 306, rfl⟩
abbrev main_cst_30 : Ref sig .tc := ⟨.hbm, 307, rfl⟩
abbrev main_v245 : Ref sig .tc := ⟨.hbm, 308, rfl⟩
abbrev main_v246 : Ref sig .tc := ⟨.hbm, 309, rfl⟩
abbrev main_v247 : Ref sig .tc := ⟨.hbm, 310, rfl⟩
abbrev main_v248 : Ref sig .tc := ⟨.hbm, 311, rfl⟩
abbrev main_v249 : Ref sig .tc := ⟨.hbm, 312, rfl⟩
abbrev main_v250 : Ref sig .tc := ⟨.hbm, 313, rfl⟩
abbrev main_v251 : Ref sig .tc := ⟨.hbm, 314, rfl⟩
abbrev main_v252 : Ref sig .tc := ⟨.hbm, 315, rfl⟩
abbrev main_v253 : Ref sig .tc := ⟨.hbm, 316, rfl⟩
abbrev main_v254 : Ref sig .tc := ⟨.hbm, 317, rfl⟩
abbrev main_v255 : Ref sig .tc := ⟨.hbm, 318, rfl⟩
abbrev main_v256 : Ref sig .tc := ⟨.hbm, 319, rfl⟩
abbrev main_v257 : Ref sig .tc := ⟨.hbm, 320, rfl⟩
abbrev main_v258 : Ref sig .tc := ⟨.hbm, 321, rfl⟩
abbrev main_v259 : Ref sig .tc := ⟨.hbm, 322, rfl⟩
abbrev main_v260 : Ref sig .tc := ⟨.hbm, 323, rfl⟩
abbrev main_v261 : Ref sig .tc := ⟨.hbm, 324, rfl⟩
abbrev main_cst_31 : Ref sig .tc := ⟨.hbm, 325, rfl⟩
abbrev main_v262 : Ref sig .tc := ⟨.hbm, 326, rfl⟩
abbrev main_v263 : Ref sig .tc := ⟨.hbm, 327, rfl⟩
abbrev main_cst_32 : Ref sig .tc := ⟨.hbm, 328, rfl⟩
abbrev main_v264 : Ref sig .tc := ⟨.hbm, 329, rfl⟩
abbrev main_v265 : Ref sig .tc := ⟨.hbm, 330, rfl⟩
abbrev main_v266 : Ref sig .tc := ⟨.hbm, 331, rfl⟩
abbrev main_v267 : Ref sig .tc := ⟨.hbm, 332, rfl⟩
abbrev main_v268 : Ref sig .tc := ⟨.hbm, 333, rfl⟩
abbrev main_cst_33 : Ref sig .tc := ⟨.hbm, 334, rfl⟩
abbrev main_v269 : Ref sig .tc := ⟨.hbm, 335, rfl⟩
abbrev main_v270 : Ref sig .tc := ⟨.hbm, 336, rfl⟩
abbrev main_cst_34 : Ref sig .tc := ⟨.hbm, 337, rfl⟩
abbrev main_v271 : Ref sig .tc := ⟨.hbm, 338, rfl⟩
abbrev main_v272 : Ref sig .tc := ⟨.hbm, 339, rfl⟩
abbrev main_v273 : Ref sig .tc := ⟨.hbm, 340, rfl⟩
abbrev main_v274 : Ref sig .tc := ⟨.hbm, 341, rfl⟩
abbrev main_cst_35 : Ref sig .tc := ⟨.hbm, 342, rfl⟩
abbrev main_v275 : Ref sig .tc := ⟨.hbm, 343, rfl⟩
abbrev main_v276 : Ref sig .tc := ⟨.hbm, 344, rfl⟩
abbrev main_v277 : Ref sig .tc := ⟨.hbm, 345, rfl⟩
abbrev main_v278 : Ref sig .tc := ⟨.hbm, 346, rfl⟩
abbrev main_v279 : Ref sig .tc := ⟨.hbm, 347, rfl⟩
abbrev main_v280 : Ref sig .tc := ⟨.hbm, 348, rfl⟩
abbrev main_v281 : Ref sig .tc := ⟨.hbm, 349, rfl⟩
abbrev main_v282 : Ref sig .tc := ⟨.hbm, 350, rfl⟩
abbrev main_v283 : Ref sig .tc := ⟨.hbm, 351, rfl⟩
abbrev main_v284 : Ref sig .tc := ⟨.hbm, 352, rfl⟩
abbrev main_v285 : Ref sig .tc := ⟨.hbm, 353, rfl⟩
abbrev main_v286 : Ref sig .tc := ⟨.hbm, 354, rfl⟩
abbrev main_v287 : Ref sig .tc := ⟨.hbm, 355, rfl⟩
abbrev main_v288 : Ref sig .tc := ⟨.hbm, 356, rfl⟩
abbrev main_v289 : Ref sig .tc := ⟨.hbm, 357, rfl⟩
abbrev main_v290 : Ref sig .tc := ⟨.hbm, 358, rfl⟩
abbrev main_v291 : Ref sig .tc := ⟨.hbm, 359, rfl⟩
abbrev main_v292 : Ref sig .tc := ⟨.hbm, 360, rfl⟩
abbrev main_v293 : Ref sig .tc := ⟨.hbm, 361, rfl⟩
abbrev main_v294 : Ref sig .tc := ⟨.hbm, 362, rfl⟩
abbrev main_v295 : Ref sig .tc := ⟨.hbm, 363, rfl⟩
abbrev main_v296 : Ref sig .tc := ⟨.hbm, 364, rfl⟩
abbrev main_v297 : Ref sig .tc := ⟨.hbm, 365, rfl⟩
abbrev main_v298 : Ref sig .tc := ⟨.hbm, 366, rfl⟩
abbrev main_v299 : Ref sig .tc := ⟨.hbm, 367, rfl⟩
abbrev main_v300 : Ref sig .tc := ⟨.hbm, 368, rfl⟩
abbrev main_v301 : Ref sig .tc := ⟨.hbm, 369, rfl⟩
abbrev main_v302 : Ref sig .tc := ⟨.hbm, 370, rfl⟩
abbrev main_v303 : Ref sig .tc := ⟨.hbm, 371, rfl⟩
abbrev main_v304 : Ref sig .tc := ⟨.hbm, 372, rfl⟩
abbrev main_v305 : Ref sig .tc := ⟨.hbm, 373, rfl⟩
abbrev main_v306 : Ref sig .tc := ⟨.hbm, 374, rfl⟩
abbrev main_v307 : Ref sig .tc := ⟨.hbm, 375, rfl⟩
abbrev main_v308 : Ref sig .tc := ⟨.hbm, 376, rfl⟩
abbrev main_v309 : Ref sig .tc := ⟨.hbm, 377, rfl⟩
abbrev main_cst_36 : Ref sig .tc := ⟨.hbm, 378, rfl⟩
abbrev main_v310 : Ref sig .tc := ⟨.hbm, 379, rfl⟩
abbrev main_v311 : Ref sig .tc := ⟨.hbm, 380, rfl⟩
abbrev main_cst_37 : Ref sig .tc := ⟨.hbm, 381, rfl⟩
abbrev main_v312 : Ref sig .tc := ⟨.hbm, 382, rfl⟩
abbrev main_cst_38 : Ref sig .tc := ⟨.hbm, 383, rfl⟩
abbrev main_v313 : Ref sig .tc := ⟨.hbm, 384, rfl⟩
abbrev main_v314 : Ref sig .tc := ⟨.hbm, 385, rfl⟩
abbrev main_v315 : Ref sig .tc := ⟨.hbm, 386, rfl⟩
abbrev main_v316 : Ref sig .tc := ⟨.hbm, 387, rfl⟩
abbrev main_v317 : Ref sig .tc := ⟨.hbm, 388, rfl⟩
abbrev main_v318 : Ref sig .tc := ⟨.hbm, 389, rfl⟩
abbrev main_cst_39 : Ref sig .tc := ⟨.hbm, 390, rfl⟩
abbrev main_v319 : Ref sig .tc := ⟨.hbm, 391, rfl⟩
abbrev main_v320 : Ref sig .tc := ⟨.hbm, 392, rfl⟩
abbrev main_v321 : Ref sig .tc := ⟨.hbm, 393, rfl⟩
abbrev main_v322 : Ref sig .tc := ⟨.hbm, 394, rfl⟩
abbrev main_v323 : Ref sig .tc := ⟨.hbm, 395, rfl⟩
abbrev main_v324 : Ref sig .tc := ⟨.hbm, 396, rfl⟩
abbrev main_v325 : Ref sig .tc := ⟨.hbm, 397, rfl⟩
abbrev main_v326 : Ref sig .tc := ⟨.hbm, 398, rfl⟩
abbrev main_v327 : Ref sig .tc := ⟨.hbm, 399, rfl⟩
abbrev main_v328 : Ref sig .tc := ⟨.hbm, 400, rfl⟩
abbrev main_v329 : Ref sig .tc := ⟨.hbm, 401, rfl⟩
abbrev main_v330 : Ref sig .tc := ⟨.hbm, 402, rfl⟩
abbrev main_v331 : Ref sig .tc := ⟨.hbm, 403, rfl⟩
abbrev main_v332 : Ref sig .tc := ⟨.hbm, 404, rfl⟩
abbrev main_v333 : Ref sig .tc := ⟨.hbm, 405, rfl⟩
abbrev main_v334 : Ref sig .tc := ⟨.hbm, 406, rfl⟩
abbrev main_v335 : Ref sig .tc := ⟨.hbm, 407, rfl⟩
abbrev main_v336 : Ref sig .tc := ⟨.hbm, 408, rfl⟩
abbrev main_v337 : Ref sig .tc := ⟨.hbm, 409, rfl⟩
abbrev main_v338 : Ref sig .tc := ⟨.hbm, 410, rfl⟩
abbrev main_cst_40 : Ref sig .tc := ⟨.hbm, 411, rfl⟩
abbrev main_v339 : Ref sig .tc := ⟨.hbm, 412, rfl⟩
abbrev main_v340 : Ref sig .tc := ⟨.hbm, 413, rfl⟩
abbrev main_cst_41 : Ref sig .tc := ⟨.hbm, 414, rfl⟩
abbrev main_v341 : Ref sig .tc := ⟨.hbm, 415, rfl⟩
abbrev main_v342 : Ref sig .tc := ⟨.hbm, 416, rfl⟩
abbrev main_v343 : Ref sig .tc := ⟨.hbm, 417, rfl⟩
abbrev main_v344 : Ref sig .tc := ⟨.hbm, 418, rfl⟩
abbrev main_v345 : Ref sig .tc := ⟨.hbm, 419, rfl⟩
abbrev main_cst_42 : Ref sig .tc := ⟨.hbm, 420, rfl⟩
abbrev main_v346 : Ref sig .tc := ⟨.hbm, 421, rfl⟩
abbrev main_v347 : Ref sig .tc := ⟨.hbm, 422, rfl⟩
abbrev main_cst_43 : Ref sig .tc := ⟨.hbm, 423, rfl⟩
abbrev main_v348 : Ref sig .tc := ⟨.hbm, 424, rfl⟩
abbrev main_v349 : Ref sig .tc := ⟨.hbm, 425, rfl⟩
abbrev main_v350 : Ref sig .tc := ⟨.hbm, 426, rfl⟩
abbrev main_v351 : Ref sig .tc := ⟨.hbm, 427, rfl⟩
abbrev main_cst_44 : Ref sig .tc := ⟨.hbm, 428, rfl⟩
abbrev main_v352 : Ref sig .tc := ⟨.hbm, 429, rfl⟩
abbrev main_v353 : Ref sig .tc := ⟨.hbm, 430, rfl⟩
abbrev main_v354 : Ref sig .tc := ⟨.hbm, 431, rfl⟩
abbrev main_v355 : Ref sig .tc := ⟨.hbm, 432, rfl⟩
abbrev main_v356 : Ref sig .tc := ⟨.hbm, 433, rfl⟩
abbrev main_v357 : Ref sig .tc := ⟨.hbm, 434, rfl⟩
abbrev main_v358 : Ref sig .tc := ⟨.hbm, 435, rfl⟩
abbrev main_v359 : Ref sig .tc := ⟨.hbm, 436, rfl⟩
abbrev main_v360 : Ref sig .tc := ⟨.hbm, 437, rfl⟩
abbrev main_v361 : Ref sig .tc := ⟨.hbm, 438, rfl⟩
abbrev main_v362 : Ref sig .tc := ⟨.hbm, 439, rfl⟩
abbrev main_v363 : Ref sig .tc := ⟨.hbm, 440, rfl⟩
abbrev main_v364 : Ref sig .tc := ⟨.hbm, 441, rfl⟩
abbrev main_v365 : Ref sig .tc := ⟨.hbm, 442, rfl⟩
abbrev main_v366 : Ref sig .tc := ⟨.hbm, 443, rfl⟩
abbrev main_v367 : Ref sig .tc := ⟨.hbm, 444, rfl⟩
abbrev main_v368 : Ref sig .tc := ⟨.hbm, 445, rfl⟩
abbrev main_v369 : Ref sig .tc := ⟨.hbm, 446, rfl⟩
abbrev main_v370 : Ref sig .tc := ⟨.hbm, 447, rfl⟩
abbrev main_cst_45 : Ref sig .tc := ⟨.hbm, 448, rfl⟩
abbrev main_v371 : Ref sig .tc := ⟨.hbm, 449, rfl⟩
abbrev main_v372 : Ref sig .tc := ⟨.hbm, 450, rfl⟩
abbrev main_v373 : Ref sig .tc := ⟨.hbm, 451, rfl⟩
abbrev main_cst_46 : Ref sig .tc := ⟨.hbm, 452, rfl⟩
abbrev main_v374 : Ref sig .tc := ⟨.hbm, 453, rfl⟩
abbrev main_v375 : Ref sig .tc := ⟨.hbm, 454, rfl⟩
abbrev main_v376 : Ref sig .tc := ⟨.hbm, 455, rfl⟩
abbrev main_v377 : Ref sig .tc := ⟨.hbm, 456, rfl⟩
abbrev main_v378 : Ref sig .tc := ⟨.hbm, 457, rfl⟩
abbrev main_v379 : Ref sig .tc := ⟨.hbm, 458, rfl⟩
abbrev main_v380 : Ref sig .tc := ⟨.hbm, 459, rfl⟩
abbrev main_v381 : Ref sig .tc := ⟨.hbm, 460, rfl⟩
abbrev main_v382 : Ref sig .tc := ⟨.hbm, 461, rfl⟩
abbrev main_v383 : Ref sig .tc := ⟨.hbm, 462, rfl⟩
abbrev main_v384 : Ref sig .tc := ⟨.hbm, 463, rfl⟩
abbrev main_v385 : Ref sig .tc := ⟨.hbm, 464, rfl⟩
abbrev main_v386 : Ref sig .tc := ⟨.hbm, 465, rfl⟩
abbrev main_v387 : Ref sig .tc := ⟨.hbm, 466, rfl⟩
abbrev main_v388 : Ref sig .tc := ⟨.hbm, 467, rfl⟩
abbrev main_v389 : Ref sig .tc := ⟨.hbm, 468, rfl⟩
abbrev main_v390 : Ref sig .tc := ⟨.hbm, 469, rfl⟩
abbrev main_cst_47 : Ref sig .tc := ⟨.hbm, 470, rfl⟩
abbrev main_v391 : Ref sig .tc := ⟨.hbm, 471, rfl⟩
abbrev main_v392 : Ref sig .tc := ⟨.hbm, 472, rfl⟩
abbrev main_cst_48 : Ref sig .tc := ⟨.hbm, 473, rfl⟩
abbrev main_v393 : Ref sig .tc := ⟨.hbm, 474, rfl⟩
abbrev main_v394 : Ref sig .tc := ⟨.hbm, 475, rfl⟩
abbrev main_v395 : Ref sig .tc := ⟨.hbm, 476, rfl⟩
abbrev main_v396 : Ref sig .tc := ⟨.hbm, 477, rfl⟩
abbrev main_v397 : Ref sig .tc := ⟨.hbm, 478, rfl⟩
abbrev main_cst_49 : Ref sig .tc := ⟨.hbm, 479, rfl⟩
abbrev main_v398 : Ref sig .tc := ⟨.hbm, 480, rfl⟩
abbrev main_v399 : Ref sig .tc := ⟨.hbm, 481, rfl⟩
abbrev main_cst_50 : Ref sig .tc := ⟨.hbm, 482, rfl⟩
abbrev main_v400 : Ref sig .tc := ⟨.hbm, 483, rfl⟩
abbrev main_v401 : Ref sig .tc := ⟨.hbm, 484, rfl⟩
abbrev main_v402 : Ref sig .tc := ⟨.hbm, 485, rfl⟩
abbrev main_v403 : Ref sig .tc := ⟨.hbm, 486, rfl⟩
abbrev main_cst_51 : Ref sig .tc := ⟨.hbm, 487, rfl⟩
abbrev main_v404 : Ref sig .tc := ⟨.hbm, 488, rfl⟩
abbrev main_v405 : Ref sig .tc := ⟨.hbm, 489, rfl⟩
abbrev main_v406 : Ref sig .tc := ⟨.hbm, 490, rfl⟩
abbrev main_v407 : Ref sig .tc := ⟨.hbm, 491, rfl⟩
abbrev main_v408 : Ref sig .tc := ⟨.hbm, 492, rfl⟩
abbrev main_v409 : Ref sig .tc := ⟨.hbm, 493, rfl⟩
abbrev main_v410 : Ref sig .tc := ⟨.hbm, 494, rfl⟩
abbrev main_v411 : Ref sig .tc := ⟨.hbm, 495, rfl⟩
abbrev main_v412 : Ref sig .tc := ⟨.hbm, 496, rfl⟩
abbrev main_v413 : Ref sig .tc := ⟨.hbm, 497, rfl⟩
abbrev main_v414 : Ref sig .tc := ⟨.hbm, 498, rfl⟩
abbrev main_v415 : Ref sig .tc := ⟨.hbm, 499, rfl⟩
abbrev main_v416 : Ref sig .tc := ⟨.hbm, 500, rfl⟩
abbrev main_v417 : Ref sig .tc := ⟨.hbm, 501, rfl⟩
abbrev main_v418 : Ref sig .tc := ⟨.hbm, 502, rfl⟩
abbrev main_v419 : Ref sig .tc := ⟨.hbm, 503, rfl⟩
abbrev main_v420 : Ref sig .tc := ⟨.hbm, 504, rfl⟩
abbrev main_v421 : Ref sig .tc := ⟨.hbm, 505, rfl⟩
abbrev main_v422 : Ref sig .tc := ⟨.hbm, 506, rfl⟩
abbrev main_v423 : Ref sig .tc := ⟨.hbm, 507, rfl⟩
abbrev main_v424 : Ref sig .tc := ⟨.hbm, 508, rfl⟩
abbrev main_v425 : Ref sig .tc := ⟨.hbm, 509, rfl⟩
abbrev main_v426 : Ref sig .tc := ⟨.hbm, 510, rfl⟩
abbrev main_v427 : Ref sig .tc := ⟨.hbm, 511, rfl⟩
abbrev main_v428 : Ref sig .tc := ⟨.hbm, 512, rfl⟩
abbrev main_v429 : Ref sig .tc := ⟨.hbm, 513, rfl⟩
abbrev main_v430 : Ref sig .tc := ⟨.hbm, 514, rfl⟩
abbrev main_v431 : Ref sig .tc := ⟨.hbm, 515, rfl⟩
abbrev main_v432 : Ref sig .tc := ⟨.hbm, 516, rfl⟩
abbrev main_v433 : Ref sig .tc := ⟨.hbm, 517, rfl⟩
abbrev main_v434 : Ref sig .tc := ⟨.hbm, 518, rfl⟩
abbrev main_v435 : Ref sig .tc := ⟨.hbm, 519, rfl⟩
abbrev main_v436 : Ref sig .tc := ⟨.hbm, 520, rfl⟩
abbrev main_v437 : Ref sig .tc := ⟨.hbm, 521, rfl⟩
abbrev main_v438 : Ref sig .tc := ⟨.hbm, 522, rfl⟩
abbrev main_cst_52 : Ref sig .tc := ⟨.hbm, 523, rfl⟩
abbrev main_v439 : Ref sig .tc := ⟨.hbm, 524, rfl⟩
abbrev main_v440 : Ref sig .tc := ⟨.hbm, 525, rfl⟩
abbrev main_cst_53 : Ref sig .tc := ⟨.hbm, 526, rfl⟩
abbrev main_v441 : Ref sig .tc := ⟨.hbm, 527, rfl⟩
abbrev main_cst_54 : Ref sig .tc := ⟨.hbm, 528, rfl⟩
abbrev main_v442 : Ref sig .tc := ⟨.hbm, 529, rfl⟩
abbrev main_v443 : Ref sig .tc := ⟨.hbm, 530, rfl⟩
abbrev main_v444 : Ref sig .tc := ⟨.hbm, 531, rfl⟩
abbrev main_v445 : Ref sig .tc := ⟨.hbm, 532, rfl⟩
abbrev main_v446 : Ref sig .tc := ⟨.hbm, 533, rfl⟩
abbrev main_v447 : Ref sig .tc := ⟨.hbm, 534, rfl⟩
abbrev main_cst_55 : Ref sig .tc := ⟨.hbm, 535, rfl⟩
abbrev main_v448 : Ref sig .tc := ⟨.hbm, 536, rfl⟩
abbrev main_v449 : Ref sig .tc := ⟨.hbm, 537, rfl⟩
abbrev main_v450 : Ref sig .tc := ⟨.hbm, 538, rfl⟩
abbrev main_v451 : Ref sig .tc := ⟨.hbm, 539, rfl⟩
abbrev main_v452 : Ref sig .tc := ⟨.hbm, 540, rfl⟩
abbrev main_v453 : Ref sig .tc := ⟨.hbm, 541, rfl⟩
abbrev main_v454 : Ref sig .tc := ⟨.hbm, 542, rfl⟩
abbrev main_v455 : Ref sig .tc := ⟨.hbm, 543, rfl⟩
abbrev main_v456 : Ref sig .tc := ⟨.hbm, 544, rfl⟩
abbrev main_v457 : Ref sig .tc := ⟨.hbm, 545, rfl⟩
abbrev main_v458 : Ref sig .tc := ⟨.hbm, 546, rfl⟩
abbrev main_v459 : Ref sig .tc := ⟨.hbm, 547, rfl⟩
abbrev main_v460 : Ref sig .tc := ⟨.hbm, 548, rfl⟩
abbrev main_v461 : Ref sig .tc := ⟨.hbm, 549, rfl⟩
abbrev main_v462 : Ref sig .tc := ⟨.hbm, 550, rfl⟩
abbrev main_v463 : Ref sig .tc := ⟨.hbm, 551, rfl⟩
abbrev main_v464 : Ref sig .tc := ⟨.hbm, 552, rfl⟩
abbrev main_v465 : Ref sig .tc := ⟨.hbm, 553, rfl⟩
abbrev main_v466 : Ref sig .tc := ⟨.hbm, 554, rfl⟩
abbrev main_v467 : Ref sig .tc := ⟨.hbm, 555, rfl⟩
abbrev main_cst_56 : Ref sig .tc := ⟨.hbm, 556, rfl⟩
abbrev main_v468 : Ref sig .tc := ⟨.hbm, 557, rfl⟩
abbrev main_v469 : Ref sig .tc := ⟨.hbm, 558, rfl⟩
abbrev main_cst_57 : Ref sig .tc := ⟨.hbm, 559, rfl⟩
abbrev main_v470 : Ref sig .tc := ⟨.hbm, 560, rfl⟩
abbrev main_v471 : Ref sig .tc := ⟨.hbm, 561, rfl⟩
abbrev main_v472 : Ref sig .tc := ⟨.hbm, 562, rfl⟩
abbrev main_v473 : Ref sig .tc := ⟨.hbm, 563, rfl⟩
abbrev main_v474 : Ref sig .tc := ⟨.hbm, 564, rfl⟩
abbrev main_cst_58 : Ref sig .tc := ⟨.hbm, 565, rfl⟩
abbrev main_v475 : Ref sig .tc := ⟨.hbm, 566, rfl⟩
abbrev main_v476 : Ref sig .tc := ⟨.hbm, 567, rfl⟩
abbrev main_cst_59 : Ref sig .tc := ⟨.hbm, 568, rfl⟩
abbrev main_v477 : Ref sig .tc := ⟨.hbm, 569, rfl⟩
abbrev main_v478 : Ref sig .tc := ⟨.hbm, 570, rfl⟩
abbrev main_v479 : Ref sig .tc := ⟨.hbm, 571, rfl⟩
abbrev main_v480 : Ref sig .tc := ⟨.hbm, 572, rfl⟩
abbrev main_cst_60 : Ref sig .tc := ⟨.hbm, 573, rfl⟩
abbrev main_v481 : Ref sig .tc := ⟨.hbm, 574, rfl⟩
abbrev main_v482 : Ref sig .tc := ⟨.hbm, 575, rfl⟩
abbrev main_v483 : Ref sig .tc := ⟨.hbm, 576, rfl⟩
abbrev main_v484 : Ref sig .tc := ⟨.hbm, 577, rfl⟩
abbrev main_v485 : Ref sig .tc := ⟨.hbm, 578, rfl⟩
abbrev main_v486 : Ref sig .tc := ⟨.hbm, 579, rfl⟩
abbrev main_v487 : Ref sig .tc := ⟨.hbm, 580, rfl⟩
abbrev main_v488 : Ref sig .tc := ⟨.hbm, 581, rfl⟩
abbrev main_v489 : Ref sig .tc := ⟨.hbm, 582, rfl⟩
abbrev main_v490 : Ref sig .tc := ⟨.hbm, 583, rfl⟩
abbrev main_v491 : Ref sig .tc := ⟨.hbm, 584, rfl⟩
abbrev main_v492 : Ref sig .tc := ⟨.hbm, 585, rfl⟩
abbrev main_v493 : Ref sig .tc := ⟨.hbm, 586, rfl⟩
abbrev main_v494 : Ref sig .tc := ⟨.hbm, 587, rfl⟩
abbrev main_v495 : Ref sig .tc := ⟨.hbm, 588, rfl⟩
abbrev main_v496 : Ref sig .tc := ⟨.hbm, 589, rfl⟩
abbrev main_v497 : Ref sig .tc := ⟨.hbm, 590, rfl⟩
abbrev main_v498 : Ref sig .tc := ⟨.hbm, 591, rfl⟩
abbrev main_v499 : Ref sig .tc := ⟨.hbm, 592, rfl⟩
abbrev main_cst_61 : Ref sig .tc := ⟨.hbm, 593, rfl⟩
abbrev main_v500 : Ref sig .tc := ⟨.hbm, 594, rfl⟩
abbrev main_v501 : Ref sig .tc := ⟨.hbm, 595, rfl⟩
abbrev main_v502 : Ref sig .tc := ⟨.hbm, 596, rfl⟩
abbrev main_cst_62 : Ref sig .tc := ⟨.hbm, 597, rfl⟩
abbrev main_v503 : Ref sig .tc := ⟨.hbm, 598, rfl⟩
abbrev main_v504 : Ref sig .tc := ⟨.hbm, 599, rfl⟩
abbrev main_v505 : Ref sig .tc := ⟨.hbm, 600, rfl⟩
abbrev main_v506 : Ref sig .tc := ⟨.hbm, 601, rfl⟩
abbrev main_v507 : Ref sig .tc := ⟨.hbm, 602, rfl⟩
abbrev main_v508 : Ref sig .tc := ⟨.hbm, 603, rfl⟩
abbrev main_v509 : Ref sig .tc := ⟨.hbm, 604, rfl⟩
abbrev main_v510 : Ref sig .tc := ⟨.hbm, 605, rfl⟩
abbrev main_v511 : Ref sig .tc := ⟨.hbm, 606, rfl⟩
abbrev main_v512 : Ref sig .tc := ⟨.hbm, 607, rfl⟩
abbrev main_v513 : Ref sig .tc := ⟨.hbm, 608, rfl⟩
abbrev main_v514 : Ref sig .tc := ⟨.hbm, 609, rfl⟩
abbrev main_v515 : Ref sig .tc := ⟨.hbm, 610, rfl⟩

abbrev nD : Nat := 1
abbrev τ : Topo := Topo.v7x

variable {F : FTy → Type} [FloatOps F]
-- ==== Proof.Whole.LnKv.lean ====
/-
  The body of the two key/value projections of the linear layers (regions 0 and 2), once for both.

  The two bodies are the same but for the row `li` of the two normalization tables they read, so one function `lnkv` of
  the row is stated, both bodies are shown to be it, and its run is proved once: at the first tile of a batch the two
  output blocks become the tile's products `kFirst`; at a later tile the products are added to what the blocks held
  (`kNext`).
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp
public import Idealize.ShloMosaic.Lib.Exec
public import Idealize.ShloMosaic.Lib.Pipeline.Kit
public import Idealize.ShloMosaic.Lib.Pipeline.Value

@[expose] public section

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

/-! ## Reading back what one store over a whole block left -/

/-- A memref whose only store covers it holds what was stored. -/
theorem owns_of_store {S : Shape} {e : EltTy} {c : Dev nD} (arg : Memref sig .tc .vmem S e) {off : Fin S.rank → ℕ}
    (h : off = fun _ => 0) (inb : ∀ a, off a + S.size a ≤ S.size a) (f : BufTy.Contents (Elt F) arg.view.ty) (v w : S.Idx → Elt F e) (hv : v = w) :
    iprop(arg.view.loc (c : Thread nD τ) ↦[arg.view.set]{fullShare} arg.view.writes (Elt F) f [(⟨Rect.unit off S.size inb, v⟩ : View.Piece (Elt F) S e)])
      ⊢ (iprop(∃ f, ⌜arg.view.read (Elt F) f = w⌝ ∗ arg.view.loc (c : Thread nD τ) ↦[arg.view.set]{fullShare} f) : sProp 𝕄) := by
  subst hv
  iintro H
  iexists _
  isplitr
  swap
  · iexact H
  ipureintro
  rw [View.read_writes_eq_canon _ _ _ (fun y => ⟨_, List.mem_singleton_self _, View.mem_set_unit_zero h inb y⟩), View.canon_unit_zero h]

/-- A whole memref holding what reads as `x` is owned at `x`. -/
theorem owns_of_unread {S : Shape} {e : EltTy} {c : Dev nD} {arg : Memref sig .tc .vmem S e} (h : arg.IsWhole) (x : S.Idx → Elt F e) :
    iprop(arg.view.loc (c : Thread nD τ) ↦[arg.view.set]{fullShare} h.unread x) ⊢ (iprop(∃ f, ⌜arg.view.read (Elt F) f = x⌝ ∗ arg.view.loc (c : Thread nD τ) ↦[arg.view.set]{fullShare} f) : sProp 𝕄) := by
  iintro H
  iexists _
  isplitr
  · ipureintro; exact h.read_unread x
  iexact H

/-- A load of all of a whole memref holding what reads as `x` reads `x`. -/
theorem readAt_whole {S : Shape} {e : EltTy} {arg : Memref sig .tc .vmem S e} (h : arg.IsWhole) {off : Fin S.rank → ℕ}
    (hoff : off = fun _ => 0) (inb : ∀ a, off a + S.size a ≤ S.size a) (x : S.Idx → Elt F e) :
    View.readAt (Elt F) arg.view (Rect.unit off S.size inb).toLoadRect (h.unread x) = x := by
  rw [View.readAt_eq_ld, h.read_unread, View.ld_unit_zero hoff]

/-- A load of a rectangle of a whole memref holding what reads as `x` reads that rectangle of `x`. -/
theorem readAt_rect {S : Shape} {e : EltTy} {arg : Memref sig .tc .vmem S e} (h : arg.IsWhole) (r : Rect S) (x : S.Idx → Elt F e) :
    View.readAt (Elt F) arg.view r.toLoadRect (h.unread x) = View.ld x r := by
  rw [View.readAt_eq_ld, h.read_unread]

/-- The zero offset of rank three. -/
theorem off3 : (![0, 0, 0] : Fin 3 → ℕ) = fun _ => 0 := by decide +kernel

/-! ## The body at row `li` of the normalization tables -/

/-- The rectangle of row `li` in a table of two rows. -/
abbrev rowRect (li : ℕ) (inb : ∀ a, (![li, 0] : Fin S2x1024.rank → ℕ) a + S1x1024.size a ≤ S2x1024.size a) : Rect S2x1024 :=
  Rect.unit (s := S2x1024) ![li, 0] S1x1024.size inb

/-- The keys' block after the first tile: the products of the tile's projection with the tile's normalized rows. -/
def kFirst (x : Vec F S1x512x1024 .f32) (g b : Vec F S1x1024 .f32) (wk : Vec F S1x1024x1024 .f32) (pk : Vec F S1x512x256 .f32) : Vec F S1x256x1024 .f32 :=
  k0_pay3 (k0_pay8 x g b wk) (k0_pay10 pk) (constant S256x1024 .f32 0x00000000#32)

/-- The values' block after the first tile. -/
def vFirst (x : Vec F S1x512x1024 .f32) (g b : Vec F S1x1024 .f32) (wv : Vec F S1x1024x1024 .f32) (pv : Vec F S1x512x256 .f32) : Vec F S1x256x1024 .f32 :=
  k0_pay4 (k0_pay9 x g b wv) pv

/-- The keys' block after a later tile: the tile's products added to what the block held. -/
def kNext (x : Vec F S1x512x1024 .f32) (g b : Vec F S1x1024 .f32) (wk : Vec F S1x1024x1024 .f32) (pk : Vec F S1x512x256 .f32) (o : Vec F S1x256x1024 .f32) : Vec F S1x256x1024 .f32 :=
  k0_pay5 (k0_pay8 x g b wk) (k0_pay10 pk) (constant S256x1024 .f32 0x00000000#32) o

/-- The values' block after a later tile. -/
def vNext (x : Vec F S1x512x1024 .f32) (g b : Vec F S1x1024 .f32) (wv : Vec F S1x1024x1024 .f32) (pv : Vec F S1x512x256 .f32) (o : Vec F S1x256x1024 .f32) : Vec F S1x256x1024 .f32 :=
  k0_pay6 (k0_pay9 x g b wv) pv o

section
variable (li : ℕ) (inb : ∀ a, (![li, 0] : Fin S2x1024.rank → ℕ) a + S1x1024.size a ≤ S2x1024.size a)
variable (i : grid0.Coords) (arg2 : Memref sig .tc .vmem S1x512x1024 .f32) (harg2 : arg2.IsWhole) (arg3 : Memref sig .tc .vmem S2x1024 .f32) (harg3 : arg3.IsWhole) (arg4 : Memref sig .tc .vmem S2x1024 .f32) (harg4 : arg4.IsWhole) (arg5 : Memref sig .tc .vmem S1x1024x1024 .f32) (harg5 : arg5.IsWhole) (arg6 : Memref sig .tc .vmem S1x1024x1024 .f32) (harg6 : arg6.IsWhole) (arg7 : Memref sig .tc .vmem S1x512x256 .f32) (harg7 : arg7.IsWhole) (arg8 : Memref sig .tc .vmem S1x512x256 .f32) (harg8 : arg8.IsWhole) (arg9 : Memref sig .tc .vmem S1x256x1024 .f32) (harg9 : arg9.IsWhole) (arg10 : Memref sig .tc .vmem S1x256x1024 .f32) (harg10 : arg10.IsWhole)

/-- The loads of the body, and the two projected tiles. -/
def lnkvLoads : Prog (TpuEff nD τ sig (Elt F) Λ₀ .tc) (Σ' (arg1 : BitVec 32) (v28 : FVec F S512x1024 .f32) (v31 : FVec F S512x1024 .f32) (v33 : FVec F S512x256 .f32), FVec F S256x1024 .f32) := do
  let v0 : Vec F S1x512x1024 .f32 ← Prog.lift (.load arg2 (Rect.unit (s := S1x512x1024) ![0, 0, 0] S1x512x1024.size inb_S1x512x1024_S1x512x1024_0_0_0).toLoadRect (View.loadsAt_vmem h_S1x512x1024))
  let v2 : Vec F S1x1024 .f32 ← Prog.lift (.load arg3 (rowRect li inb).toLoadRect (View.loadsAt_vmem h_S1x1024))
  let v3 : Vec F S1x1024 .f32 ← Prog.lift (.load arg4 (rowRect li inb).toLoadRect (View.loadsAt_vmem h_S1x1024))
  let v26 : Vec F S1x1024x1024 .f32 ← Prog.lift (.load arg5 (Rect.unit (s := S1x1024x1024) ![0, 0, 0] S1x1024x1024.size inb_S1x1024x1024_S1x1024x1024_0_0_0).toLoadRect (View.loadsAt_vmem h_S1x1024x1024))
  let v29 : Vec F S1x1024x1024 .f32 ← Prog.lift (.load arg6 (Rect.unit (s := S1x1024x1024) ![0, 0, 0] S1x1024x1024.size inb_S1x1024x1024_S1x1024x1024_0_0_0).toLoadRect (View.loadsAt_vmem h_S1x1024x1024))
  let v32 : Vec F S1x512x256 .f32 ← Prog.lift (.load arg7 (Rect.unit (s := S1x512x256) ![0, 0, 0] S1x512x256.size inb_S1x512x256_S1x512x256_0_0_0).toLoadRect (View.loadsAt_vmem h_S1x512x256))
  pure ⟨BitVec.ofNat 32 (i 1).val, k0_pay8 v0 v2 v3 v26, k0_pay9 v0 v2 v3 v29, k0_pay10 v32, constant S256x1024 .f32 0x00000000#32⟩

/-- The body: the loads, then the two output blocks stored (first tile) or added into (later tiles). -/
def lnkv : Prog (TpuEff nD τ sig (Elt F) Λ₀ .tc) PUnit := do
  let ⟨_, v28, v31, v33, cst⟩ ← lnkvLoads (F := F) li inb i arg2 arg3 arg4 arg5 arg6 arg7
  let v35 : Vec F S1x512x256 .f32 ← Prog.lift (.load arg8 (Rect.unit (s := S1x512x256) ![0, 0, 0] S1x512x256.size inb_S1x512x256_S1x512x256_0_0_0).toLoadRect (View.loadsAt_vmem h_S1x512x256))
  if k0_h1 : k0_cond1 i = 1#1 then do
    let _ : Vec F S1x256x1024 .f32 ← Prog.lift (.load arg9 (Rect.unit (s := S1x256x1024) ![0, 0, 0] S1x256x1024.size inb_S1x256x1024_S1x256x1024_0_0_0).toLoadRect (View.loadsAt_vmem h_S1x256x1024))
    Prog.lift (.store arg9 (Rect.unit (s := S1x256x1024) ![0, 0, 0] S1x256x1024.size inb_S1x256x1024_S1x256x1024_0_0_0) (k0_pay3 v28 v33 cst) Finset.univ (View.stores_vmem_bits_univ h_S1x256x1024 rfl) (.inl rfl))
    let _ : Vec F S1x256x1024 .f32 ← Prog.lift (.load arg10 (Rect.unit (s := S1x256x1024) ![0, 0, 0] S1x256x1024.size inb_S1x256x1024_S1x256x1024_0_0_0).toLoadRect (View.loadsAt_vmem h_S1x256x1024))
    Prog.lift (.store arg10 (Rect.unit (s := S1x256x1024) ![0, 0, 0] S1x256x1024.size inb_S1x256x1024_S1x256x1024_0_0_0) (k0_pay4 v31 v35) Finset.univ (View.stores_vmem_bits_univ h_S1x256x1024 rfl) (.inl rfl))
    pure ⟨⟩
  else do
    pure ⟨⟩
  if k0_h2 : k0_cond2 i = 1#1 then do
    let v44 : Vec F S1x256x1024 .f32 ← Prog.lift (.load arg9 (Rect.unit (s := S1x256x1024) ![0, 0, 0] S1x256x1024.size inb_S1x256x1024_S1x256x1024_0_0_0).toLoadRect (View.loadsAt_vmem h_S1x256x1024))
    let _ : Vec F S1x256x1024 .f32 ← Prog.lift (.load arg9 (Rect.unit (s := S1x256x1024) ![0, 0, 0] S1x256x1024.size inb_S1x256x1024_S1x256x1024_0_0_0).toLoadRect (View.loadsAt_vmem h_S1x256x1024))
    Prog.lift (.store arg9 (Rect.unit (s := S1x256x1024) ![0, 0, 0] S1x256x1024.size inb_S1x256x1024_S1x256x1024_0_0_0) (k0_pay5 v28 v33 cst v44) Finset.univ (View.stores_vmem_bits_univ h_S1x256x1024 rfl) (.inl rfl))
    let v50 : Vec F S1x256x1024 .f32 ← Prog.lift (.load arg10 (Rect.unit (s := S1x256x1024) ![0, 0, 0] S1x256x1024.size inb_S1x256x1024_S1x256x1024_0_0_0).toLoadRect (View.loadsAt_vmem h_S1x256x1024))
    let _ : Vec F S1x256x1024 .f32 ← Prog.lift (.load arg10 (Rect.unit (s := S1x256x1024) ![0, 0, 0] S1x256x1024.size inb_S1x256x1024_S1x256x1024_0_0_0).toLoadRect (View.loadsAt_vmem h_S1x256x1024))
    Prog.lift (.store arg10 (Rect.unit (s := S1x256x1024) ![0, 0, 0] S1x256x1024.size inb_S1x256x1024_S1x256x1024_0_0_0) (k0_pay6 v31 v35 v50) Finset.univ (View.stores_vmem_bits_univ h_S1x256x1024 rfl) (.inl rfl))
    pure ⟨⟩
  else do
    pure ⟨⟩
  pure ⟨⟩

set_option maxRecDepth 65536 in
/-- Region 0's body is `lnkv` at row 0. -/
theorem cc0_eq : cc0_ln_kv_proj (F := F) i arg2 harg2 arg3 harg3 arg4 harg4 arg5 harg5 arg6 harg6 arg7 harg7 arg8 harg8 arg9 harg9 arg10 harg10
    = lnkv 0 inb_S2x1024_S1x1024_0_0 i arg2 arg3 arg4 arg5 arg6 arg7 arg8 arg9 arg10 := by
  rw [cc0_ln_kv_proj_eq_skeleton]; unfold cc0_ln_kv_proj_skel; rw [k0_part1_eq_skeleton]; rfl

set_option maxRecDepth 65536 in
/-- Region 2's body is `lnkv` at row 1. -/
theorem cc2_eq : cc2_ln_kv_proj (F := F) i arg2 harg2 arg3 harg3 arg4 harg4 arg5 harg5 arg6 harg6 arg7 harg7 arg8 harg8 arg9 harg9 arg10 harg10
    = lnkv 1 inb_S2x1024_S1x1024_1_0 i arg2 arg3 arg4 arg5 arg6 arg7 arg8 arg9 arg10 := by
  rw [cc2_ln_kv_proj_eq_skeleton]; unfold cc2_ln_kv_proj_skel; rw [k2_part1_eq_skeleton]; rfl

/-! ## The run -/

variable (𝒱₀ : Variants) (c : Dev nD)
variable (x0 : Vec F S1x512x1024 .f32) (x1 : Vec F S2x1024 .f32) (x2 : Vec F S2x1024 .f32) (x3 : Vec F S1x1024x1024 .f32) (x4 : Vec F S1x1024x1024 .f32) (x5 : Vec F S1x512x256 .f32) (x6 : Vec F S1x512x256 .f32) (xo7 xo8 : Vec F S1x256x1024 .f32)

/-- The nine blocks, at the given contents of the two outputs. -/
def nine (P7 P8 : sProp 𝕄) : sProp 𝕄 :=
  iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ P7 ∗ P8)

set_option maxHeartbeats 1000000 in
include harg2 harg3 harg4 harg5 harg6 harg7 harg8 in
/-- The run at the first tile: the output blocks, whatever they held, end as the tile's products. -/
theorem lnkv_first (hc0 : k0_cond1 i = 1#1) (hc1 : ¬k0_cond2 i = 1#1) (E : Set ℕ) (K : PUnit → sProp 𝕄) :
    iprop(nine (Ix := Ix) (U := U) (Lvl := Lvl) arg2 arg3 arg4 arg5 arg6 arg7 arg8 c x0 x1 x2 x3 x4 x5 x6 iprop(∃ d, owns (c : Thread nD τ) arg9 fullShare d) iprop(∃ d, owns (c : Thread nD τ) arg10 fullShare d)
        ∗ (nine (Ix := Ix) (U := U) (Lvl := Lvl) arg2 arg3 arg4 arg5 arg6 arg7 arg8 c x0 x1 x2 x3 x4 x5 x6
            (owns (c : Thread nD τ) arg9 fullShare (kFirst x0 (View.ld x1 (rowRect li inb)) (View.ld x2 (rowRect li inb)) x3 x5))
            (owns (c : Thread nD τ) arg10 fullShare (vFirst x0 (View.ld x1 (rowRect li inb)) (View.ld x2 (rowRect li inb)) x4 x6)) -∗ K ⟨⟩))
      ⊢ wp frame (wpE (defs₀ (F := F)) 𝒱₀ c none) E (lnkv li inb i arg2 arg3 arg4 arg5 arg6 arg7 arg8 arg9 arg10) K := by
  unfold lnkv lnkvLoads nine
  iintro ⟨⟨H0, H1, H2, H3, H4, H5, H6, ⟨%d7, H7⟩, ⟨%d8, H8⟩⟩, Hk⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, -, H7⟩
  icases H8 with ⟨%f8, -, H8⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6
  sl_exec (disch := first | sl_exact hc0 | sl_exact hc1)
  sl_step
  iapply Hk
  isplitl [H0]; · iapply owns_of_unread; iexact H0
  isplitl [H1]; · iapply owns_of_unread; iexact H1
  isplitl [H2]; · iapply owns_of_unread; iexact H2
  isplitl [H3]; · iapply owns_of_unread; iexact H3
  isplitl [H4]; · iapply owns_of_unread; iexact H4
  isplitl [H5]; · iapply owns_of_unread; iexact H5
  isplitl [H6]; · iapply owns_of_unread; iexact H6
  isplitl [H7]
  · iapply (owns_of_store _ off3 _ _ _ _ ?_) $$ [H7]
    swap; · iexact H7
    rw [readAt_whole harg2 off3, readAt_whole harg5 off3, readAt_whole harg7 off3, readAt_rect harg3, readAt_rect harg4]; rfl
  iapply (owns_of_store _ off3 _ _ _ _ ?_) $$ [H8]
  swap; · iexact H8
  rw [readAt_whole harg2 off3, readAt_whole harg6 off3, readAt_whole harg8 off3, readAt_rect harg3, readAt_rect harg4]; rfl

set_option maxHeartbeats 1000000 in
include harg2 harg3 harg4 harg5 harg6 harg7 harg8 harg9 harg10 in
/-- The run at a later tile: the tile's products are added to the output blocks. -/
theorem lnkv_next (hc0 : ¬k0_cond1 i = 1#1) (hc1 : k0_cond2 i = 1#1) (E : Set ℕ) (K : PUnit → sProp 𝕄) :
    iprop(nine (Ix := Ix) (U := U) (Lvl := Lvl) arg2 arg3 arg4 arg5 arg6 arg7 arg8 c x0 x1 x2 x3 x4 x5 x6 (owns (c : Thread nD τ) arg9 fullShare xo7) (owns (c : Thread nD τ) arg10 fullShare xo8)
        ∗ (nine (Ix := Ix) (U := U) (Lvl := Lvl) arg2 arg3 arg4 arg5 arg6 arg7 arg8 c x0 x1 x2 x3 x4 x5 x6
            (owns (c : Thread nD τ) arg9 fullShare (kNext x0 (View.ld x1 (rowRect li inb)) (View.ld x2 (rowRect li inb)) x3 x5 xo7))
            (owns (c : Thread nD τ) arg10 fullShare (vNext x0 (View.ld x1 (rowRect li inb)) (View.ld x2 (rowRect li inb)) x4 x6 xo8)) -∗ K ⟨⟩))
      ⊢ wp frame (wpE (defs₀ (F := F)) 𝒱₀ c none) E (lnkv li inb i arg2 arg3 arg4 arg5 arg6 arg7 arg8 arg9 arg10) K := by
  unfold lnkv lnkvLoads nine
  iintro ⟨⟨H0, H1, H2, H3, H4, H5, H6, H7, H8⟩, Hk⟩
  unfold owns
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8
  sl_exec (disch := first | sl_exact hc0 | sl_exact hc1)
  sl_step
  iapply Hk
  isplitl [H0]; · iapply owns_of_unread; iexact H0
  isplitl [H1]; · iapply owns_of_unread; iexact H1
  isplitl [H2]; · iapply owns_of_unread; iexact H2
  isplitl [H3]; · iapply owns_of_unread; iexact H3
  isplitl [H4]; · iapply owns_of_unread; iexact H4
  isplitl [H5]; · iapply owns_of_unread; iexact H5
  isplitl [H6]; · iapply owns_of_unread; iexact H6
  isplitl [H7]
  · iapply (owns_of_store _ off3 _ _ _ _ ?_) $$ [H7]
    swap; · iexact H7
    rw [readAt_whole harg2 off3, readAt_whole harg5 off3, readAt_whole harg7 off3, readAt_whole harg9 off3, readAt_rect harg3, readAt_rect harg4]; rfl
  iapply (owns_of_store _ off3 _ _ _ _ ?_) $$ [H8]
  swap; · iexact H8
  rw [readAt_whole harg2 off3, readAt_whole harg6 off3, readAt_whole harg8 off3, readAt_whole harg10 off3, readAt_rect harg3, readAt_rect harg4]; rfl
end

end Cert.KernelIdeal.Whole

end
-- ==== Proof.Whole.K0.lean ====
/-
  Region 0 (the first linear layer's projected keys and values): what its two output blocks hold after each grid point,
  the pipeline's proof data, and the body's obligation at every point.
-/
module

public import proofs.«01_k».proof.Proof.Whole.LnKv
public import Idealize.ShloMosaic.Lib.Pipeline.TableIdle

@[expose] public section

noncomputable section

namespace Cert.KernelIdeal.Whole.K0

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row of the normalization tables this layer reads. -/
abbrev row : Rect S2x1024 := rowRect 0 inb_S2x1024_S1x1024_0_0

/-- The two blocks after a batch's first tile `t`. -/
def first (c : Dev nD) (t : Fin cfg0.N) : Vec F S1x256x1024 .f32 × Vec F S1x256x1024 .f32 :=
  (kFirst (iblk V c 0 t) (View.ld (iblk V c 1 t) row) (View.ld (iblk V c 2 t) row) (iblk V c 3 t) (iblk V c 5 t),
   vFirst (iblk V c 0 t) (View.ld (iblk V c 1 t) row) (View.ld (iblk V c 2 t) row) (iblk V c 4 t) (iblk V c 6 t))

/-- The two blocks after a later tile `t` of a batch, from what they held before it. -/
def next (c : Dev nD) (t : Fin cfg0.N) (o : Vec F S1x256x1024 .f32 × Vec F S1x256x1024 .f32) : Vec F S1x256x1024 .f32 × Vec F S1x256x1024 .f32 :=
  (kNext (iblk V c 0 t) (View.ld (iblk V c 1 t) row) (View.ld (iblk V c 2 t) row) (iblk V c 3 t) (iblk V c 5 t) o.1,
   vNext (iblk V c 0 t) (View.ld (iblk V c 1 t) row) (View.ld (iblk V c 2 t) row) (iblk V c 4 t) (iblk V c 6 t) o.2)

/-- The two blocks after point `n`: reset at the first tile of a batch, added into at the others. -/
def acc (c : Dev nD) : (n : ℕ) → n < cfg0.N → Vec F S1x256x1024 .f32 × Vec F S1x256x1024 .f32
  | 0, hn => first V c ⟨0, hn⟩
  | n + 1, hn => if (n + 1) % 8 = 0 then first V c ⟨n + 1, hn⟩ else next V c ⟨n + 1, hn⟩ (acc c n (Nat.lt_of_succ_lt hn))

theorem acc_first (c : Dev nD) (t : Fin cfg0.N) (h : t.val % 8 = 0) : acc V c t.val t.isLt = first V c t := by
  obtain ⟨n, hn⟩ := t
  cases n with
  | zero => rfl
  | succ n => exact if_pos h

theorem acc_next (c : Dev nD) (t : Fin cfg0.N) (h : ¬t.val % 8 = 0) :
    acc V c t.val t.isLt = next V c t (acc V c (t.val - 1) (Nat.lt_of_le_of_lt (Nat.sub_le _ _) t.isLt)) := by
  obtain ⟨n, hn⟩ := t
  cases n with
  | zero => exact absurd (Nat.zero_mod _) h
  | succ n => exact if_neg h

/-! ## The conditions of the body, and where the outputs keep their contents -/

theorem cond1_iff (t : Fin cfg0.N) : k0_cond1 (grid0.coords t) = 1#1 ↔ t.val % 8 = 0 := by
  have ht : t.val < 16 := Nat.lt_of_lt_of_eq t.isLt N_0
  have e1 : (grid0.coords t 1).val = t.val / 1 % 8 := Pipeline.Grid.coords_val t 1 (by decide) rfl
  simp only [k0_cond1, e1]
  word_cmp

theorem cond2_iff (t : Fin cfg0.N) : k0_cond2 (grid0.coords t) = 1#1 ↔ 1 ≤ t.val % 8 := by
  have ht : t.val < 16 := Nat.lt_of_lt_of_eq t.isLt N_0
  have e1 : (grid0.coords t 1).val = t.val / 1 % 8 := Pipeline.Grid.coords_val t 1 (by decide) rfl
  simp only [k0_cond2, e1]
  word_cmp

/-- No window is idle at any point. -/
theorem live : ∀ (w : Fin cfg0.W) (t : Fin cfg0.N), cfg0.idle w (grid0.coords t) = false := by decide +kernel

/-- An output's buffer is fresh exactly at a batch's first tile. -/
def freshTab : ℕ → Bool
  | 0 => true
  | n + 1 => (n + 1) % 8 = 0

theorem fresh7 (t : Fin cfg0.N) : cfg0.fresh 7 t.val = freshTab t.val :=
  Pipeline.Cfg.fresh_tab cfg0 7 freshTab rfl (by decide +kernel) t.val (Nat.le_of_lt t.isLt)
theorem fresh8 (t : Fin cfg0.N) : cfg0.fresh 8 t.val = freshTab t.val :=
  Pipeline.Cfg.fresh_tab cfg0 8 freshTab rfl (by decide +kernel) t.val (Nat.le_of_lt t.isLt)
theorem freshTab_false (n : ℕ) (h : ¬n % 8 = 0) : freshTab n = false := by
  cases n with
  | zero => exact absurd (Nat.zero_mod _) h
  | succ n => exact decide_eq_false h

/-! ## The pipeline's proof data -/

/-- The region's invariant: the scoped rest and the generator register. -/
def ΦK (c : Dev nD) : sProp 𝕄 :=
  iprop(Pipeline.scopedRest (Ix := Ix) (Name := ℕ) (U := U) (Lvl := Lvl) (Val := Elt F) spec0 c ∗ ∃ r, prngReg c r)

/-- The arrays as the region finds them; after the body each input's buffer at its block and the outputs' at `acc`. -/
def dat (c : Dev nD) : Dat τ (Elt F) Ix ℕ U Lvl cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (acc V c t.val t.isLt).1
    | ⟨8, _⟩ => (acc V c t.val t.isLt).2
  Φ _ := ΦK (F := F) (Ix := Ix) (U := U) (Lvl := Lvl) c
  q _ := fullShare
  owed _ := D c

variable (ι : Ix)

local notation "𝕕" => dat (Ix := Ix) (U := U) (Lvl := Lvl) V D

theorem A_eq (c : Dev nD) (w : Fin cfg0.W) : (𝕕 c).A w = V c (Pipeline.arrRef spec0 w) := by
  dsimp only [dat]

/-- Each input's buffer holds its block at every point, fetched there or not. -/
theorem before0 (c : Dev nD) (t : Fin cfg0.N) (d) : (𝕕 c).before 0 t d = iblk V c 0 t :=
  ((𝕕 c).before_in_eq_fetched 0 rfl (fun _ => rfl) (fun _ _ _ => rfl) (fun _ => rfl) t d).trans rfl
theorem before1 (c : Dev nD) (t : Fin cfg0.N) (d) : (𝕕 c).before 1 t d = iblk V c 1 t :=
  ((𝕕 c).before_in_eq_fetched 1 rfl (fun _ => rfl) (fun _ _ _ => rfl) (fun _ => rfl) t d).trans rfl
theorem before2 (c : Dev nD) (t : Fin cfg0.N) (d) : (𝕕 c).before 2 t d = iblk V c 2 t :=
  ((𝕕 c).before_in_eq_fetched 2 rfl (fun _ => rfl) (fun _ _ _ => rfl) (fun _ => rfl) t d).trans rfl
theorem before3 (c : Dev nD) (t : Fin cfg0.N) (d) : (𝕕 c).before 3 t d = iblk V c 3 t :=
  ((𝕕 c).before_in_eq_fetched 3 rfl (fun _ => rfl) (fun _ _ _ => rfl) (fun _ => rfl) t d).trans rfl
theorem before4 (c : Dev nD) (t : Fin cfg0.N) (d) : (𝕕 c).before 4 t d = iblk V c 4 t :=
  ((𝕕 c).before_in_eq_fetched 4 rfl (fun _ => rfl) (fun _ _ _ => rfl) (fun _ => rfl) t d).trans rfl
theorem before5 (c : Dev nD) (t : Fin cfg0.N) (d) : (𝕕 c).before 5 t d = iblk V c 5 t :=
  ((𝕕 c).before_in_eq_fetched 5 rfl (fun _ => rfl) (fun _ _ _ => rfl) (fun _ => rfl) t d).trans rfl
theorem before6 (c : Dev nD) (t : Fin cfg0.N) (d) : (𝕕 c).before 6 t d = iblk V c 6 t :=
  ((𝕕 c).before_in_eq_fetched 6 rfl (fun _ => rfl) (fun _ _ _ => rfl) (fun _ => rfl) t d).trans rfl
/-- After a batch's first tile an output's buffer holds what the point before left. -/
theorem before7 (c : Dev nD) (t : Fin cfg0.N) (h : ¬t.val % 8 = 0) (d) :
    (𝕕 c).before 7 t d = (acc V c (t.val - 1) (Nat.lt_of_le_of_lt (Nat.sub_le _ _) t.isLt)).1 := by
  rw [Dat.before_out_traj _ 7 rfl (fun _ _ => rfl) (fun t _ hi _ => absurd ((live 7 t).symm.trans hi) Bool.false_ne_true) t.val t rfl d,
    if_neg (by rw [fresh7, freshTab_false _ h]; exact Bool.false_ne_true)]
  dsimp only [dat]
theorem before8 (c : Dev nD) (t : Fin cfg0.N) (h : ¬t.val % 8 = 0) (d) :
    (𝕕 c).before 8 t d = (acc V c (t.val - 1) (Nat.lt_of_le_of_lt (Nat.sub_le _ _) t.isLt)).2 := by
  rw [Dat.before_out_traj _ 8 rfl (fun _ _ => rfl) (fun t _ hi _ => absurd ((live 8 t).symm.trans hi) Bool.false_ne_true) t.val t rfl d,
    if_neg (by rw [fresh8, freshTab_false _ h]; exact Bool.false_ne_true)]
  dsimp only [dat]

/-- What the body leaves in an output's buffer. -/
theorem leaves7 (c : Dev nD) (t : Fin cfg0.N) :
    (𝕕 c).leavesExact 7 t = owns (c : Thread nD τ) (win0_7.stage (cfg0.slots t 7)) fullShare (acc V c t.val t.isLt).1 := by
  unfold Dat.leavesExact; rw [live 7 t]; rfl
theorem leaves8 (c : Dev nD) (t : Fin cfg0.N) :
    (𝕕 c).leavesExact 8 t = owns (c : Thread nD τ) (win0_8.stage (cfg0.slots t 8)) fullShare (acc V c t.val t.isLt).2 := by
  unfold Dat.leavesExact; rw [live 8 t]; rfl

/-! ## The body's obligation -/

/-- What the body is called with at point `t`, the windows one by one. -/
def bodyPre (c : Dev nD) (t : Fin cfg0.N) : sProp 𝕄 :=
  iprop((𝕕 c).Φ t.castSucc ∗ (𝕕 c).owesAt ι t.castSucc
    ∗ (∃ d, owns (c : Thread nD τ) (win0_0.stage (cfg0.slots t 0)) fullShare ((𝕕 c).before 0 t d))
    ∗ (∃ d, owns (c : Thread nD τ) (win0_1.stage (cfg0.slots t 1)) fullShare ((𝕕 c).before 1 t d))
    ∗ (∃ d, owns (c : Thread nD τ) (win0_2.stage (cfg0.slots t 2)) fullShare ((𝕕 c).before 2 t d))
    ∗ (∃ d, owns (c : Thread nD τ) (win0_3.stage (cfg0.slots t 3)) fullShare ((𝕕 c).before 3 t d))
    ∗ (∃ d, owns (c : Thread nD τ) (win0_4.stage (cfg0.slots t 4)) fullShare ((𝕕 c).before 4 t d))
    ∗ (∃ d, owns (c : Thread nD τ) (win0_5.stage (cfg0.slots t 5)) fullShare ((𝕕 c).before 5 t d))
    ∗ (∃ d, owns (c : Thread nD τ) (win0_6.stage (cfg0.slots t 6)) fullShare ((𝕕 c).before 6 t d))
    ∗ (∃ d, owns (c : Thread nD τ) (win0_7.stage (cfg0.slots t 7)) fullShare ((𝕕 c).before 7 t d))
    ∗ (∃ d, owns (c : Thread nD τ) (win0_8.stage (cfg0.slots t 8)) fullShare ((𝕕 c).before 8 t d)))

/-- What it returns. -/
def bodyPost (c : Dev nD) (t : Fin cfg0.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t
    ∗ (𝕕 c).leavesExact 5 t
    ∗ (𝕕 c).leavesExact 6 t
    ∗ (𝕕 c).leavesExact 7 t
    ∗ (𝕕 c).leavesExact 8 t)

/-- The windows' blocks at point `t`, the outputs' given. -/
abbrev blocks (c : Dev nD) (t : Fin cfg0.N) (P7 P8 : sProp 𝕄) : sProp 𝕄 :=
  nine (Ix := Ix) (U := U) (Lvl := Lvl) (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) (win0_6.stage (cfg0.slots t 6)) c
    (iblk V c 0 t) (iblk V c 1 t) (iblk V c 2 t) (iblk V c 3 t) (iblk V c 4 t) (iblk V c 5 t) (iblk V c 6 t) P7 P8

/-- The body's triple from its run at the point, in either case. -/
theorem sound_of (c : Dev nD) (t : Fin cfg0.N) (P7 P8 : sProp 𝕄)
    (h7 : iprop(∃ d, owns (c : Thread nD τ) (win0_7.stage (cfg0.slots t 7)) fullShare ((𝕕 c).before 7 t d)) ⊢ P7)
    (h8 : iprop(∃ d, owns (c : Thread nD τ) (win0_8.stage (cfg0.slots t 8)) fullShare ((𝕕 c).before 8 t d)) ⊢ P8)
    (hrun : ∀ K : PUnit → sProp 𝕄, iprop(blocks (U := U) (Lvl := Lvl) V c t P7 P8
        ∗ (blocks (U := U) (Lvl := Lvl) V c t (owns (c : Thread nD τ) (win0_7.stage (cfg0.slots t 7)) fullShare (acc V c t.val t.isLt).1)
            (owns (c : Thread nD τ) (win0_8.stage (cfg0.slots t 8)) fullShare (acc V c t.val t.isLt).2) -∗ K ⟨⟩))
      ⊢ wp frame (wpE (defs₀ (F := F)) 𝒱₀ c none) Set.univ (bodyAt0 t) K) :
    bodyPre (U := U) (Lvl := Lvl) V D ι c t ⊢ wp frame (wpE (defs₀ (F := F)) 𝒱₀ c none) Set.univ (bodyAt0 t) (fun _ => bodyPost (U := U) (Lvl := Lvl) V D ι c t) := by
  unfold bodyPre bodyPost
  simp only [before0, before1, before2, before3, before4, before5, before6]
  rw [show (𝕕 c).Φ t.succ = (𝕕 c).Φ t.castSucc from rfl, show (𝕕 c).owesAt ι t.succ = (𝕕 c).owesAt ι t.castSucc from rfl]
  rw [leaves7, leaves8]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  iapply (hrun _)
  unfold blocks nine
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply h7; iexact H7
    iapply h8; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg0.N) :
    bodyPre (U := U) (Lvl := Lvl) V D ι c t ⊢ wp frame (wpE (defs₀ (F := F)) 𝒱₀ c none) Set.univ (bodyAt0 t) (fun _ => bodyPost (U := U) (Lvl := Lvl) V D ι c t) := by
  by_cases h : t.val % 8 = 0
  · refine sound_of 𝒱₀ V D ι c t iprop(∃ d, owns (c : Thread nD τ) (win0_7.stage (cfg0.slots t 7)) fullShare d) iprop(∃ d, owns (c : Thread nD τ) (win0_8.stage (cfg0.slots t 8)) fullShare d) ?_ ?_ fun K => ?_
    · iintro ⟨%d, H⟩; iexists _; iexact H
    · iintro ⟨%d, H⟩; iexists _; iexact H
    · unfold bodyAt0
      rw [acc_first V c t h, cc0_eq]
      exact lnkv_first 0 inb_S2x1024_S1x1024_0_0 (grid0.coords t) _ (hstage0_0 _) _ (hstage0_1 _) _ (hstage0_2 _) _ (hstage0_3 _) _ (hstage0_4 _) _ (hstage0_5 _) _ (hstage0_6 _) _ _ 𝒱₀ c _ _ _ _ _ _ _
        ((cond1_iff t).mpr h) (fun h' => by have := (cond2_iff t).mp h'; omega) Set.univ K
  · refine sound_of 𝒱₀ V D ι c t (owns (c : Thread nD τ) (win0_7.stage (cfg0.slots t 7)) fullShare (acc V c (t.val - 1) (Nat.lt_of_le_of_lt (Nat.sub_le _ _) t.isLt)).1) (owns (c : Thread nD τ) (win0_8.stage (cfg0.slots t 8)) fullShare (acc V c (t.val - 1) (Nat.lt_of_le_of_lt (Nat.sub_le _ _) t.isLt)).2) ?_ ?_ fun K => ?_
    · simp only [before7 V D c t h]; iintro ⟨%d, H⟩; iexact H
    · simp only [before8 V D c t h]; iintro ⟨%d, H⟩; iexact H
    · unfold bodyAt0
      rw [acc_next V c t h, cc0_eq]
      exact lnkv_next 0 inb_S2x1024_S1x1024_0_0 (grid0.coords t) _ (hstage0_0 _) _ (hstage0_1 _) _ (hstage0_2 _) _ (hstage0_3 _) _ (hstage0_4 _) _ (hstage0_5 _) _ (hstage0_6 _) _ (hstage0_7 _) _ (hstage0_8 _) 𝒱₀ c _ _ _ _ _ _ _ _ _
        (fun h' => h ((cond1_iff t).mp h')) ((cond2_iff t).mpr (by omega)) Set.univ K

/-- The body table's row at point `t`'s slots is the body at the point. -/
theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (𝕕 c) (defs₀ (F := F)) 𝒱₀ ι Set.univ := fun t => by
  rw [bigSep_W0, bigSep_W0, defs₀_row]
  exact triple_restated (sound_body (U := U) (Lvl := Lvl) 𝒱₀ V D ι c t) rfl .rfl fun _ => .rfl

end Cert.KernelIdeal.Whole.K0

end
-- ==== Proof.Whole.K2.lean ====
/-
  Region 2 (the second linear layer's projected keys and values): what its two output blocks hold after each grid point,
  the pipeline's proof data, and the body's obligation at every point.
-/
module

public import proofs.«01_k».proof.Proof.Whole.LnKv
public import Idealize.ShloMosaic.Lib.Pipeline.TableIdle

@[expose] public section

noncomputable section

namespace Cert.KernelIdeal.Whole.K2

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable {Ix : Type} [DecidableEq Ix] {U : Type} [URA U] {Lvl : Type} [Preorder Lvl]

local notation "𝕄" => MT nD τ sig Ix (Elt F) ℕ U Lvl

variable (𝒱₀ : Variants) (V : (c : Dev nD) → (b : Ref sig .tc) → Buf (Elt F) ((c : Thread nD τ).loc b)) (D : Dev nD → CellTallies nD τ sig Ix)

/-- Window `w`'s block at point `t`, read off its array as the region finds it (`V`). -/
def iblk (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- The row of the normalization tables this layer reads. -/
abbrev row : Rect S2x1024 := rowRect 1 inb_S2x1024_S1x1024_1_0

/-- The two blocks after a batch's first tile `t`. -/
def first (c : Dev nD) (t : Fin cfg2.N) : Vec F S1x256x1024 .f32 × Vec F S1x256x1024 .f32 :=
  (kFirst (iblk V c 0 t) (View.ld (iblk V c 1 t) row) (View.ld (iblk V c 2 t) row) (iblk V c 3 t) (iblk V c 5 t),
   vFirst (iblk V c 0 t) (View.ld (iblk V c 1 t) row) (View.ld (iblk V c 2 t) row) (iblk V c 4 t) (iblk V c 6 t))

/-- The two blocks after a later tile `t` of a batch, from what they held before it. -/
def next (c : Dev nD) (t : Fin cfg2.N) (o : Vec F S1x256x1024 .f32 × Vec F S1x256x1024 .f32) : Vec F S1x256x1024 .f32 × Vec F S1x256x1024 .f32 :=
  (kNext (iblk V c 0 t) (View.ld (iblk V c 1 t) row) (View.ld (iblk V c 2 t) row) (iblk V c 3 t) (iblk V c 5 t) o.1,
   vNext (iblk V c 0 t) (View.ld (iblk V c 1 t) row) (View.ld (iblk V c 2 t) row) (iblk V c 4 t) (iblk V c 6 t) o.2)

/-- The two blocks after point `n`: reset at the first tile of a batch, added into at the others. -/
def acc (c : Dev nD) : (n : ℕ) → n < cfg2.N → Vec F S1x256x1024 .f32 × Vec F S1x256x1024 .f32
  | 0, hn => first V c ⟨0, hn⟩
  | n + 1, hn => if (n + 1) % 8 = 0 then first V c ⟨n + 1, hn⟩ else next V c ⟨n + 1, hn⟩ (acc c n (Nat.lt_of_succ_lt hn))

theorem acc_first (c : Dev nD) (t : Fin cfg2.N) (h : t.val % 8 = 0) : acc V c t.val t.isLt = first V c t := by
  obtain ⟨n, hn⟩ := t
  cases n with
  | zero => rfl
  | succ n => exact if_pos h

theorem acc_next (c : Dev nD) (t : Fin cfg2.N) (h : ¬t.val % 8 = 0) :
    acc V c t.val t.isLt = next V c t (acc V c (t.val - 1) (Nat.lt_of_le_of_lt (Nat.sub_le _ _) t.isLt)) := by
  obtain ⟨n, hn⟩ := t
  cases n with
  | zero => exact absurd (Nat.zero_mod _) h
  | succ n => exact if_neg h

/-! ## The conditions of the body, and where the outputs keep their contents -/

theorem cond1_iff (t : Fin cfg2.N) : k0_cond1 (grid2.coords t) = 1#1 ↔ t.val % 8 = 0 := by
  have ht : t.val < 16 := Nat.lt_of_lt_of_eq t.isLt N_2
  have e1 : (grid2.coords t 1).val = t.val / 1 % 8 := Pipeline.Grid.coords_val t 1 (by decide) rfl
  simp only [k0_cond1, e1]
  word_cmp

theorem cond2_iff (t : Fin cfg2.N) : k0_cond2 (grid2.coords t) = 1#1 ↔ 1 ≤ t.val % 8 := by
  have ht : t.val < 16 := Nat.lt_of_lt_of_eq t.isLt N_2
  have e1 : (grid2.coords t 1).val = t.val / 1 % 8 := Pipeline.Grid.coords_val t 1 (by decide) rfl
  simp only [k0_cond2, e1]
  word_cmp

/-- No window is idle at any point. -/
theorem live : ∀ (w : Fin cfg2.W) (t : Fin cfg2.N), cfg2.idle w (grid2.coords t) = false := by decide +kernel

/-- An output's buffer is fresh exactly at a batch's first tile. -/
def freshTab : ℕ → Bool
  | 0 => true
  | n + 1 => (n + 1) % 8 = 0

theorem fresh7 (t : Fin cfg2.N) : cfg2.fresh 7 t.val = freshTab t.val :=
  Pipeline.Cfg.fresh_tab cfg2 7 freshTab rfl (by decide +kernel) t.val (Nat.le_of_lt t.isLt)
theorem fresh8 (t : Fin cfg2.N) : cfg2.fresh 8 t.val = freshTab t.val :=
  Pipeline.Cfg.fresh_tab cfg2 8 freshTab rfl (by decide +kernel) t.val (Nat.le_of_lt t.isLt)
theorem freshTab_false (n : ℕ) (h : ¬n % 8 = 0) : freshTab n = false := by
  cases n with
  | zero => exact absurd (Nat.zero_mod _) h
  | succ n => exact decide_eq_false h

/-! ## The pipeline's proof data -/

/-- The region's invariant: the scoped rest and the generator register. -/
def ΦK (c : Dev nD) : sProp 𝕄 :=
  iprop(Pipeline.scopedRest (Ix := Ix) (Name := ℕ) (U := U) (Lvl := Lvl) (Val := Elt F) spec2 c ∗ ∃ r, prngReg c r)

/-- The arrays as the region finds them; after the body each input's buffer at its block and the outputs' at `acc`. -/
def dat (c : Dev nD) : Dat τ (Elt F) Ix ℕ U Lvl cfg2 c where
  A w := V c (Pipeline.arrRef spec2 w)
  after w t := match w with
    | ⟨0, _⟩ => iblk V c 0 t
    | ⟨1, _⟩ => iblk V c 1 t
    | ⟨2, _⟩ => iblk V c 2 t
    | ⟨3, _⟩ => iblk V c 3 t
    | ⟨4, _⟩ => iblk V c 4 t
    | ⟨5, _⟩ => iblk V c 5 t
    | ⟨6, _⟩ => iblk V c 6 t
    | ⟨7, _⟩ => (acc V c t.val t.isLt).1
    | ⟨8, _⟩ => (acc V c t.val t.isLt).2
  Φ _ := ΦK (F := F) (Ix := Ix) (U := U) (Lvl := Lvl) c
  q _ := fullShare
  owed _ := D c

variable (ι : Ix)

local notation "𝕕" => dat (Ix := Ix) (U := U) (Lvl := Lvl) V D

theorem A_eq (c : Dev nD) (w : Fin cfg2.W) : (𝕕 c).A w = V c (Pipeline.arrRef spec2 w) := by
  dsimp only [dat]

/-- Each input's buffer holds its block at every point, fetched there or not. -/
theorem before0 (c : Dev nD) (t : Fin cfg2.N) (d) : (𝕕 c).before 0 t d = iblk V c 0 t :=
  ((𝕕 c).before_in_eq_fetched 0 rfl (fun _ => rfl) (fun _ _ _ => rfl) (fun _ => rfl) t d).trans rfl
theorem before1 (c : Dev nD) (t : Fin cfg2.N) (d) : (𝕕 c).before 1 t d = iblk V c 1 t :=
  ((𝕕 c).before_in_eq_fetched 1 rfl (fun _ => rfl) (fun _ _ _ => rfl) (fun _ => rfl) t d).trans rfl
theorem before2 (c : Dev nD) (t : Fin cfg2.N) (d) : (𝕕 c).before 2 t d = iblk V c 2 t :=
  ((𝕕 c).before_in_eq_fetched 2 rfl (fun _ => rfl) (fun _ _ _ => rfl) (fun _ => rfl) t d).trans rfl
theorem before3 (c : Dev nD) (t : Fin cfg2.N) (d) : (𝕕 c).before 3 t d = iblk V c 3 t :=
  ((𝕕 c).before_in_eq_fetched 3 rfl (fun _ => rfl) (fun _ _ _ => rfl) (fun _ => rfl) t d).trans rfl
theorem before4 (c : Dev nD) (t : Fin cfg2.N) (d) : (𝕕 c).before 4 t d = iblk V c 4 t :=
  ((𝕕 c).before_in_eq_fetched 4 rfl (fun _ => rfl) (fun _ _ _ => rfl) (fun _ => rfl) t d).trans rfl
theorem before5 (c : Dev nD) (t : Fin cfg2.N) (d) : (𝕕 c).before 5 t d = iblk V c 5 t :=
  ((𝕕 c).before_in_eq_fetched 5 rfl (fun _ => rfl) (fun _ _ _ => rfl) (fun _ => rfl) t d).trans rfl
theorem before6 (c : Dev nD) (t : Fin cfg2.N) (d) : (𝕕 c).before 6 t d = iblk V c 6 t :=
  ((𝕕 c).before_in_eq_fetched 6 rfl (fun _ => rfl) (fun _ _ _ => rfl) (fun _ => rfl) t d).trans rfl
/-- After a batch's first tile an output's buffer holds what the point before left. -/
theorem before7 (c : Dev nD) (t : Fin cfg2.N) (h : ¬t.val % 8 = 0) (d) :
    (𝕕 c).before 7 t d = (acc V c (t.val - 1) (Nat.lt_of_le_of_lt (Nat.sub_le _ _) t.isLt)).1 := by
  rw [Dat.before_out_traj _ 7 rfl (fun _ _ => rfl) (fun t _ hi _ => absurd ((live 7 t).symm.trans hi) Bool.false_ne_true) t.val t rfl d,
    if_neg (by rw [fresh7, freshTab_false _ h]; exact Bool.false_ne_true)]
  dsimp only [dat]
theorem before8 (c : Dev nD) (t : Fin cfg2.N) (h : ¬t.val % 8 = 0) (d) :
    (𝕕 c).before 8 t d = (acc V c (t.val - 1) (Nat.lt_of_le_of_lt (Nat.sub_le _ _) t.isLt)).2 := by
  rw [Dat.before_out_traj _ 8 rfl (fun _ _ => rfl) (fun t _ hi _ => absurd ((live 8 t).symm.trans hi) Bool.false_ne_true) t.val t rfl d,
    if_neg (by rw [fresh8, freshTab_false _ h]; exact Bool.false_ne_true)]
  dsimp only [dat]

/-- What the body leaves in an output's buffer. -/
theorem leaves7 (c : Dev nD) (t : Fin cfg2.N) :
    (𝕕 c).leavesExact 7 t = owns (c : Thread nD τ) (win2_7.stage (cfg2.slots t 7)) fullShare (acc V c t.val t.isLt).1 := by
  unfold Dat.leavesExact; rw [live 7 t]; rfl
theorem leaves8 (c : Dev nD) (t : Fin cfg2.N) :
    (𝕕 c).leavesExact 8 t = owns (c : Thread nD τ) (win2_8.stage (cfg2.slots t 8)) fullShare (acc V c t.val t.isLt).2 := by
  unfold Dat.leavesExact; rw [live 8 t]; rfl

/-! ## The body's obligation -/

/-- What the body is called with at point `t`, the windows one by one. -/
def bodyPre (c : Dev nD) (t : Fin cfg2.N) : sProp 𝕄 :=
  iprop((𝕕 c).Φ t.castSucc ∗ (𝕕 c).owesAt ι t.castSucc
    ∗ (∃ d, owns (c : Thread nD τ) (win2_0.stage (cfg2.slots t 0)) fullShare ((𝕕 c).before 0 t d))
    ∗ (∃ d, owns (c : Thread nD τ) (win2_1.stage (cfg2.slots t 1)) fullShare ((𝕕 c).before 1 t d))
    ∗ (∃ d, owns (c : Thread nD τ) (win2_2.stage (cfg2.slots t 2)) fullShare ((𝕕 c).before 2 t d))
    ∗ (∃ d, owns (c : Thread nD τ) (win2_3.stage (cfg2.slots t 3)) fullShare ((𝕕 c).before 3 t d))
    ∗ (∃ d, owns (c : Thread nD τ) (win2_4.stage (cfg2.slots t 4)) fullShare ((𝕕 c).before 4 t d))
    ∗ (∃ d, owns (c : Thread nD τ) (win2_5.stage (cfg2.slots t 5)) fullShare ((𝕕 c).before 5 t d))
    ∗ (∃ d, owns (c : Thread nD τ) (win2_6.stage (cfg2.slots t 6)) fullShare ((𝕕 c).before 6 t d))
    ∗ (∃ d, owns (c : Thread nD τ) (win2_7.stage (cfg2.slots t 7)) fullShare ((𝕕 c).before 7 t d))
    ∗ (∃ d, owns (c : Thread nD τ) (win2_8.stage (cfg2.slots t 8)) fullShare ((𝕕 c).before 8 t d)))

/-- What it returns. -/
def bodyPost (c : Dev nD) (t : Fin cfg2.N) : sProp 𝕄 :=
  iprop((𝕕 c).Φ t.succ ∗ (𝕕 c).owesAt ι t.succ
    ∗ (𝕕 c).leavesExact 0 t
    ∗ (𝕕 c).leavesExact 1 t
    ∗ (𝕕 c).leavesExact 2 t
    ∗ (𝕕 c).leavesExact 3 t
    ∗ (𝕕 c).leavesExact 4 t
    ∗ (𝕕 c).leavesExact 5 t
    ∗ (𝕕 c).leavesExact 6 t
    ∗ (𝕕 c).leavesExact 7 t
    ∗ (𝕕 c).leavesExact 8 t)

/-- The windows' blocks at point `t`, the outputs' given. -/
abbrev blocks (c : Dev nD) (t : Fin cfg2.N) (P7 P8 : sProp 𝕄) : sProp 𝕄 :=
  nine (Ix := Ix) (U := U) (Lvl := Lvl) (win2_0.stage (cfg2.slots t 0)) (win2_1.stage (cfg2.slots t 1)) (win2_2.stage (cfg2.slots t 2)) (win2_3.stage (cfg2.slots t 3)) (win2_4.stage (cfg2.slots t 4)) (win2_5.stage (cfg2.slots t 5)) (win2_6.stage (cfg2.slots t 6)) c
    (iblk V c 0 t) (iblk V c 1 t) (iblk V c 2 t) (iblk V c 3 t) (iblk V c 4 t) (iblk V c 5 t) (iblk V c 6 t) P7 P8

/-- The body's triple from its run at the point, in either case. -/
theorem sound_of (c : Dev nD) (t : Fin cfg2.N) (P7 P8 : sProp 𝕄)
    (h7 : iprop(∃ d, owns (c : Thread nD τ) (win2_7.stage (cfg2.slots t 7)) fullShare ((𝕕 c).before 7 t d)) ⊢ P7)
    (h8 : iprop(∃ d, owns (c : Thread nD τ) (win2_8.stage (cfg2.slots t 8)) fullShare ((𝕕 c).before 8 t d)) ⊢ P8)
    (hrun : ∀ K : PUnit → sProp 𝕄, iprop(blocks (U := U) (Lvl := Lvl) V c t P7 P8
        ∗ (blocks (U := U) (Lvl := Lvl) V c t (owns (c : Thread nD τ) (win2_7.stage (cfg2.slots t 7)) fullShare (acc V c t.val t.isLt).1)
            (owns (c : Thread nD τ) (win2_8.stage (cfg2.slots t 8)) fullShare (acc V c t.val t.isLt).2) -∗ K ⟨⟩))
      ⊢ wp frame (wpE (defs₀ (F := F)) 𝒱₀ c none) Set.univ (bodyAt2 t) K) :
    bodyPre (U := U) (Lvl := Lvl) V D ι c t ⊢ wp frame (wpE (defs₀ (F := F)) 𝒱₀ c none) Set.univ (bodyAt2 t) (fun _ => bodyPost (U := U) (Lvl := Lvl) V D ι c t) := by
  unfold bodyPre bodyPost
  simp only [before0, before1, before2, before3, before4, before5, before6]
  rw [show (𝕕 c).Φ t.succ = (𝕕 c).Φ t.castSucc from rfl, show (𝕕 c).owesAt ι t.succ = (𝕕 c).owesAt ι t.castSucc from rfl]
  rw [leaves7, leaves8]
  iintro ⟨HΦ, Ho, ⟨%d0, H0⟩, ⟨%d1, H1⟩, ⟨%d2, H2⟩, ⟨%d3, H3⟩, ⟨%d4, H4⟩, ⟨%d5, H5⟩, ⟨%d6, H6⟩, H7, H8⟩
  iapply (hrun _)
  unfold blocks nine
  isplitl [H0 H1 H2 H3 H4 H5 H6 H7 H8]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iapply h7; iexact H7
    iapply h8; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body at any point. -/
theorem sound_body (c : Dev nD) (t : Fin cfg2.N) :
    bodyPre (U := U) (Lvl := Lvl) V D ι c t ⊢ wp frame (wpE (defs₀ (F := F)) 𝒱₀ c none) Set.univ (bodyAt2 t) (fun _ => bodyPost (U := U) (Lvl := Lvl) V D ι c t) := by
  by_cases h : t.val % 8 = 0
  · refine sound_of 𝒱₀ V D ι c t iprop(∃ d, owns (c : Thread nD τ) (win2_7.stage (cfg2.slots t 7)) fullShare d) iprop(∃ d, owns (c : Thread nD τ) (win2_8.stage (cfg2.slots t 8)) fullShare d) ?_ ?_ fun K => ?_
    · iintro ⟨%d, H⟩; iexists _; iexact H
    · iintro ⟨%d, H⟩; iexists _; iexact H
    · unfold bodyAt2
      rw [acc_first V c t h, cc2_eq]
      exact lnkv_first 1 inb_S2x1024_S1x1024_1_0 (grid2.coords t) _ (hstage2_0 _) _ (hstage2_1 _) _ (hstage2_2 _) _ (hstage2_3 _) _ (hstage2_4 _) _ (hstage2_5 _) _ (hstage2_6 _) _ _ 𝒱₀ c _ _ _ _ _ _ _
        ((cond1_iff t).mpr h) (fun h' => by have := (cond2_iff t).mp h'; omega) Set.univ K
  · refine sound_of 𝒱₀ V D ι c t (owns (c : Thread nD τ) (win2_7.stage (cfg2.slots t 7)) fullShare (acc V c (t.val - 1) (Nat.lt_of_le_of_lt (Nat.sub_le _ _) t.isLt)).1) (owns (c : Thread nD τ) (win2_8.stage (cfg2.slots t 8)) fullShare (acc V c (t.val - 1) (Nat.lt_of_le_of_lt (Nat.sub_le _ _) t.isLt)).2) ?_ ?_ fun K => ?_
    · simp only [before7 V D c t h]; iintro ⟨%d, H⟩; iexact H
    · simp only [before8 V D c t h]; iintro ⟨%d, H⟩; iexact H
    · unfold bodyAt2
      rw [acc_next V c t h, cc2_eq]
      exact lnkv_next 1 inb_S2x1024_S1x1024_1_0 (grid2.coords t) _ (hstage2_0 _) _ (hstage2_1 _) _ (hstage2_2 _) _ (hstage2_3 _) _ (hstage2_4 _) _ (hstage2_5 _) _ (hstage2_6 _) _ (hstage2_7 _) _ (hstage2_8 _) 𝒱₀ c _ _ _ _ _ _ _ _ _
        (fun h' => h ((cond1_iff t).mp h')) ((cond2_iff t).mpr (by omega)) Set.univ K

/-- The body table's row at point `t`'s slots is the body at the point. -/
theorem defs₀_row (t : Fin cfg2.N) : defs₀ (F := F) .tc cfg2.body (cfg2.bodyArgs t (cfg2.slots t)) = bodyAt2 t := by
  unfold defs₀; rw [Defs.onTc_tc]

theorem body_obligation (c : Dev nD) : BodyObligation (𝕕 c) (defs₀ (F := F)) 𝒱₀ ι Set.univ := fun t => by
  rw [bigSep_W2, bigSep_W2, defs₀_row]
  exact triple_restated (sound_body (U := U) (Lvl := Lvl) 𝒱₀ V D ι c t) rfl .rfl fun _ => .rfl

end Cert.KernelIdeal.Whole.K2

end
-- ==== Proof.Whole.ConvBody.lean ====
/-
  The body of the two strided convolutions of the keys and values (regions 5 and 8), once for both: the body as one
  function `conv` of the row `li` of the stacked weights, and the ring of two slots through which each of its four
  operands is streamed, one block ahead, on two semaphores.
-/
module

public import proofs.«01_k».proof.Proof.Whole.LnKv

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The body at row `li` -/

theorem inb_row0 (li : Fin 2) : ∀ a, (![li.val, 0, 0, 0] : Fin 4 → ℕ) a + S1x1024x1x1024.size a ≤ S2x1024x16x1024.size a := by
  have := li.isLt; intro a; fin_cases a <;> simp <;> omega

/-- The offsets of the weights' next block, in row `li`. -/
def offNext (li : Fin 2) (i : grid5.Coords) : Fin 4 → ℕ := ![li.val, k5_off3 i 1, k5_off3 i 2, k5_off3 i 3]

theorem offNext_inb (li : Fin 2) (i : grid5.Coords) (h : k5_cond2 i = 1#1) : ∀ a, offNext li i a + S1x1024x1x1024.size a ≤ S2x1024x16x1024.size a
  | 0 => by have := li.isLt; show li.val + 1 ≤ 2; omega
  | 1 => k5_off3_inb i h 1
  | 2 => k5_off3_inb i h 2
  | 3 => k5_off3_inb i h 3

/-- The offsets of the weights' present block, in row `li`. -/
def offHere (li : Fin 2) (i : grid5.Coords) : Fin 4 → ℕ := ![li.val, k5_off11 i 1, k5_off11 i 2, k5_off11 i 3]

theorem offHere_inb (li : Fin 2) (i : grid5.Coords) : ∀ a, offHere li i a + S1x1024x1x1024.size a ≤ S2x1024x16x1024.size a
  | 0 => by have := li.isLt; show li.val + 1 ≤ 2; omega
  | 1 => k5_off11_inb i 1
  | 2 => k5_off11_inb i 2
  | 3 => k5_off11_inb i 3

/-- The body's first three initial transfers. -/
def convPart1 (li : Fin 2) (i : grid5.Coords) (arg1 : Memref sig .tc .hbm S2x1024x16x1024 .f32) (harg1 : arg1.IsWhole) (arg2 : Memref sig .tc .hbm S2x1024x16x1024 .f32) (harg2 : arg2.IsWhole) (arg3 : Memref sig .tc .hbm S2x256x16x1024 .f32) (harg3 : arg3.IsWhole) (arg4 : Memref sig .tc .hbm S2x256x16x1024 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S2x1024x1x1024 .f32) (harg7 : arg7.IsWhole) (arg8 : Memref sig .tc .vmem S2x1024x1x1024 .f32) (harg8 : arg8.IsWhole) (arg9 : Memref sig .tc .vmem S2x2x256x1x1024 .f32) (harg9 : arg9.IsWhole) (arg10 : Memref sig .tc .vmem S2x2x256x1x1024 .f32) (harg10 : arg10.IsWhole) (arg11 : DmaSems sig S2x4) :
    Prog (TpuEff nD τ sig (Elt F) Λ₀ .tc) (PUnit) := do
  let v63 : DmaSems sig S1x1 := arg11.slice (Rect.unit (s := S2x4) ![0, 0] S1x1.size inb_S2x4_S1x1_0_0)
  let v64 : DmaSems sig S_ := v63.squeeze S_ squeezes_S1x1_S_
  let v65 : Memref sig .tc .vmem S1x1024x1x1024 .f32 := arg7.slice (Rect.unit (s := S2x1024x1x1024) ![0, 0, 0, 0] S1x1024x1x1024.size inb_S2x1024x1x1024_S1x1024x1x1024_0_0_0_0) (fun _ => rfl)
  let v66 : Memref sig .tc .vmem S1024x1x1024 .f32 := v65.squeeze S1024x1x1024 squeezes_S1x1024x1x1024_S1024x1x1024
  let v67 : Memref sig .tc .hbm S1x1024x1x1024 .f32 := arg1.slice (Rect.unit (s := S2x1024x16x1024) ![li.val, 0, 0, 0] S1x1024x1x1024.size (inb_row0 li)) (fun _ => rfl)
  let v68 : Memref sig .tc .hbm S1024x1x1024 .f32 := v67.squeeze S1024x1x1024 squeezes_S1x1024x1x1024_S1024x1x1024
  Prog.lift (.enqueueDma v68 (.here v66) (.dma v64.sem) ((View.wordExact_bits rfl).reshape _ _) ((View.wordExact_bits rfl).reshape _ _) ⟨Or.inl rfl, trivial⟩)
  let v69 : DmaSems sig S1x1 := arg11.slice (Rect.unit (s := S2x4) ![0, 1] S1x1.size inb_S2x4_S1x1_0_1)
  let v70 : DmaSems sig S_ := v69.squeeze S_ squeezes_S1x1_S_
  let v71 : Memref sig .tc .vmem S1x1024x1x1024 .f32 := arg8.slice (Rect.unit (s := S2x1024x1x1024) ![0, 0, 0, 0] S1x1024x1x1024.size inb_S2x1024x1x1024_S1x1024x1x1024_0_0_0_0) (fun _ => rfl)
  let v72 : Memref sig .tc .vmem S1024x1x1024 .f32 := v71.squeeze S1024x1x1024 squeezes_S1x1024x1x1024_S1024x1x1024
  let v73 : Memref sig .tc .hbm S1x1024x1x1024 .f32 := arg2.slice (Rect.unit (s := S2x1024x16x1024) ![li.val, 0, 0, 0] S1x1024x1x1024.size (inb_row0 li)) (fun _ => rfl)
  let v74 : Memref sig .tc .hbm S1024x1x1024 .f32 := v73.squeeze S1024x1x1024 squeezes_S1x1024x1x1024_S1024x1x1024
  Prog.lift (.enqueueDma v74 (.here v72) (.dma v70.sem) ((View.wordExact_bits rfl).reshape _ _) ((View.wordExact_bits rfl).reshape _ _) ⟨Or.inl rfl, trivial⟩)
  let v75 : DmaSems sig S1x1 := arg11.slice (Rect.unit (s := S2x4) ![0, 2] S1x1.size inb_S2x4_S1x1_0_2)
  let v76 : DmaSems sig S_ := v75.squeeze S_ squeezes_S1x1_S_
  let v77 : Memref sig .tc .vmem S1x2x256x1x1024 .f32 := arg9.slice (Rect.unit (s := S2x2x256x1x1024) ![0, 0, 0, 0, 0] S1x2x256x1x1024.size inb_S2x2x256x1x1024_S1x2x256x1x1024_0_0_0_0_0) (fun _ => rfl)
  let v78 : Memref sig .tc .vmem S2x256x1x1024 .f32 := v77.squeeze S2x256x1x1024 squeezes_S1x2x256x1x1024_S2x256x1x1024
  let v79 : Memref sig .tc .hbm S2x256x1x1024 .f32 := arg3.slice (Rect.unit (s := S2x256x16x1024) ![0, 0, 0, 0] S2x256x1x1024.size inb_S2x256x16x1024_S2x256x1x1024_0_0_0_0) (fun _ => rfl)
  Prog.lift (.enqueueDma v79 (.here v78) (.dma v76.sem) (View.wordExact_bits rfl) ((View.wordExact_bits rfl).reshape _ _) ⟨Or.inl rfl, trivial⟩)
  pure ⟨⟩

/-- The body's next four transfers, into the other slot. -/
def convPart2 (li : Fin 2) (i : grid5.Coords) (arg1 : Memref sig .tc .hbm S2x1024x16x1024 .f32) (harg1 : arg1.IsWhole) (arg2 : Memref sig .tc .hbm S2x1024x16x1024 .f32) (harg2 : arg2.IsWhole) (arg3 : Memref sig .tc .hbm S2x256x16x1024 .f32) (harg3 : arg3.IsWhole) (arg4 : Memref sig .tc .hbm S2x256x16x1024 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S2x1024x1x1024 .f32) (harg7 : arg7.IsWhole) (arg8 : Memref sig .tc .vmem S2x1024x1x1024 .f32) (harg8 : arg8.IsWhole) (arg9 : Memref sig .tc .vmem S2x2x256x1x1024 .f32) (harg9 : arg9.IsWhole) (arg10 : Memref sig .tc .vmem S2x2x256x1x1024 .f32) (harg10 : arg10.IsWhole) (arg11 : DmaSems sig S2x4) (arg0 : BitVec 32) (v0 : BitVec 32) (h2 : k5_cond2 i = 1#1) :
    Prog (TpuEff nD τ sig (Elt F) Λ₀ .tc) (PUnit) := do
  let v65 : DmaSems sig S1x1 := arg11.slice (Rect.unit (s := S2x4) (k5_off1 i) S1x1.size (k5_off1_inb i h2))
  let v66 : DmaSems sig S_ := v65.squeeze S_ squeezes_S1x1_S_
  let v67 : Memref sig .tc .vmem S1x1024x1x1024 .f32 := arg7.slice (Rect.unit (s := S2x1024x1x1024) (k5_off2 i) S1x1024x1x1024.size (k5_off2_inb i h2)) (fun _ => rfl)
  let v68 : Memref sig .tc .vmem S1024x1x1024 .f32 := v67.squeeze S1024x1x1024 squeezes_S1x1024x1x1024_S1024x1x1024
  let v69 : Memref sig .tc .hbm S1x1024x1x1024 .f32 := arg1.slice (Rect.unit (s := S2x1024x16x1024) (offNext li i) S1x1024x1x1024.size (offNext_inb li i h2)) (fun _ => rfl)
  let v70 : Memref sig .tc .hbm S1024x1x1024 .f32 := v69.squeeze S1024x1x1024 squeezes_S1x1024x1x1024_S1024x1x1024
  Prog.lift (.enqueueDma v70 (.here v68) (.dma v66.sem) ((View.wordExact_bits rfl).reshape _ _) ((View.wordExact_bits rfl).reshape _ _) ⟨Or.inl rfl, trivial⟩)
  let v71 : DmaSems sig S1x1 := arg11.slice (Rect.unit (s := S2x4) (k5_off4 i) S1x1.size (k5_off4_inb i h2))
  let v72 : DmaSems sig S_ := v71.squeeze S_ squeezes_S1x1_S_
  let v73 : Memref sig .tc .vmem S1x1024x1x1024 .f32 := arg8.slice (Rect.unit (s := S2x1024x1x1024) (k5_off2 i) S1x1024x1x1024.size (k5_off2_inb i h2)) (fun _ => rfl)
  let v74 : Memref sig .tc .vmem S1024x1x1024 .f32 := v73.squeeze S1024x1x1024 squeezes_S1x1024x1x1024_S1024x1x1024
  let v75 : Memref sig .tc .hbm S1x1024x1x1024 .f32 := arg2.slice (Rect.unit (s := S2x1024x16x1024) (offNext li i) S1x1024x1x1024.size (offNext_inb li i h2)) (fun _ => rfl)
  let v76 : Memref sig .tc .hbm S1024x1x1024 .f32 := v75.squeeze S1024x1x1024 squeezes_S1x1024x1x1024_S1024x1x1024
  Prog.lift (.enqueueDma v76 (.here v74) (.dma v72.sem) ((View.wordExact_bits rfl).reshape _ _) ((View.wordExact_bits rfl).reshape _ _) ⟨Or.inl rfl, trivial⟩)
  let v77 : DmaSems sig S1x1 := arg11.slice (Rect.unit (s := S2x4) (k5_off5 i) S1x1.size (k5_off5_inb i h2))
  let v78 : DmaSems sig S_ := v77.squeeze S_ squeezes_S1x1_S_
  let v79 : Memref sig .tc .vmem S1x2x256x1x1024 .f32 := arg9.slice (Rect.unit (s := S2x2x256x1x1024) (k5_off6 i) S1x2x256x1x1024.size (k5_off6_inb i h2)) (fun _ => rfl)
  let v80 : Memref sig .tc .vmem S2x256x1x1024 .f32 := v79.squeeze S2x256x1x1024 squeezes_S1x2x256x1x1024_S2x256x1x1024
  let v81 : Memref sig .tc .hbm S2x256x1x1024 .f32 := arg3.slice (Rect.unit (s := S2x256x16x1024) (k5_off7 i) S2x256x1x1024.size (k5_off7_inb i h2)) (fun _ => rfl)
  Prog.lift (.enqueueDma v81 (.here v80) (.dma v78.sem) (View.wordExact_bits rfl) ((View.wordExact_bits rfl).reshape _ _) ⟨Or.inl rfl, trivial⟩)
  let v82 : DmaSems sig S1x1 := arg11.slice (Rect.unit (s := S2x4) (k5_off8 i) S1x1.size (k5_off8_inb i h2))
  let v83 : DmaSems sig S_ := v82.squeeze S_ squeezes_S1x1_S_
  let v84 : Memref sig .tc .vmem S1x2x256x1x1024 .f32 := arg10.slice (Rect.unit (s := S2x2x256x1x1024) (k5_off6 i) S1x2x256x1x1024.size (k5_off6_inb i h2)) (fun _ => rfl)
  let v85 : Memref sig .tc .vmem S2x256x1x1024 .f32 := v84.squeeze S2x256x1x1024 squeezes_S1x2x256x1x1024_S2x256x1x1024
  let v86 : Memref sig .tc .hbm S2x256x1x1024 .f32 := arg4.slice (Rect.unit (s := S2x256x16x1024) (k5_off7 i) S2x256x1x1024.size (k5_off7_inb i h2)) (fun _ => rfl)
  Prog.lift (.enqueueDma v86 (.here v85) (.dma v83.sem) (View.wordExact_bits rfl) ((View.wordExact_bits rfl).reshape _ _) ⟨Or.inl rfl, trivial⟩)
  pure ⟨⟩

/-- The transfers' part of the body: the initial and next transfers, and the first three waits. -/
def convPart3 (li : Fin 2) (i : grid5.Coords) (arg1 : Memref sig .tc .hbm S2x1024x16x1024 .f32) (harg1 : arg1.IsWhole) (arg2 : Memref sig .tc .hbm S2x1024x16x1024 .f32) (harg2 : arg2.IsWhole) (arg3 : Memref sig .tc .hbm S2x256x16x1024 .f32) (harg3 : arg3.IsWhole) (arg4 : Memref sig .tc .hbm S2x256x16x1024 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S2x1024x1x1024 .f32) (harg7 : arg7.IsWhole) (arg8 : Memref sig .tc .vmem S2x1024x1x1024 .f32) (harg8 : arg8.IsWhole) (arg9 : Memref sig .tc .vmem S2x2x256x1x1024 .f32) (harg9 : arg9.IsWhole) (arg10 : Memref sig .tc .vmem S2x2x256x1x1024 .f32) (harg10 : arg10.IsWhole) (arg11 : DmaSems sig S2x4) :
    Prog (TpuEff nD τ sig (Elt F) Λ₀ .tc) (Σ' (arg0 : BitVec 32), BitVec 32) := do
  let arg0 : BitVec 32 := BitVec.ofNat 32 (i 0).val
  let v0 : BitVec 32 := Scalar.remsi arg0 2#32
  let v1 : BitVec 1 := Scalar.cmpi .eq arg0 0#32
  let v2 : BitVec 32 := Scalar.extui v1
  let v3 : BitVec 1 := Scalar.cmpi .ne v2 0#32
  if h1 : v3 = 1#1 then do
    convPart1 li i arg1 harg1 arg2 harg2 arg3 harg3 arg4 harg4 arg5 harg5 arg6 harg6 arg7 harg7 arg8 harg8 arg9 harg9 arg10 harg10 arg11
    let v82 : Memref sig .tc .vmem S1x2x256x1x1024 .f32 := arg10.slice (Rect.unit (s := S2x2x256x1x1024) ![0, 0, 0, 0, 0] S1x2x256x1x1024.size inb_S2x2x256x1x1024_S1x2x256x1x1024_0_0_0_0_0) (fun _ => rfl)
    let v83 : Memref sig .tc .vmem S2x256x1x1024 .f32 := v82.squeeze S2x256x1x1024 squeezes_S1x2x256x1x1024_S2x256x1x1024
    let v84 : Memref sig .tc .hbm S2x256x1x1024 .f32 := arg4.slice (Rect.unit (s := S2x256x16x1024) ![0, 0, 0, 0] S2x256x1x1024.size inb_S2x256x16x1024_S2x256x1x1024_0_0_0_0) (fun _ => rfl)
    let v80 : DmaSems sig S1x1 := arg11.slice (Rect.unit (s := S2x4) ![0, 3] S1x1.size inb_S2x4_S1x1_0_3)
    let v81 : DmaSems sig S_ := v80.squeeze S_ squeezes_S1x1_S_
    Prog.lift (.enqueueDma v84 (.here v83) (.dma v81.sem) (View.wordExact_bits rfl) ((View.wordExact_bits rfl).reshape _ _) ⟨Or.inl rfl, trivial⟩)
    pure ⟨⟩
  else do
    pure ⟨⟩
  if h2 : k5_cond2 i = 1#1 then do
    convPart2 li i arg1 harg1 arg2 harg2 arg3 harg3 arg4 harg4 arg5 harg5 arg6 harg6 arg7 harg7 arg8 harg8 arg9 harg9 arg10 harg10 arg11 arg0 v0 h2
    pure ⟨⟩
  else do
    pure ⟨⟩
  let v7 : DmaSems sig S1x1 := arg11.slice (Rect.unit (s := S2x4) (k5_off9 i) S1x1.size (k5_off9_inb i))
  let v8 : DmaSems sig S_ := v7.squeeze S_ squeezes_S1x1_S_
  let v9 : Memref sig .tc .vmem S1x1024x1x1024 .f32 := arg7.slice (Rect.unit (s := S2x1024x1x1024) (k5_off10 i) S1x1024x1x1024.size (k5_off10_inb i)) (fun _ => rfl)
  let v10 : Memref sig .tc .vmem S1024x1x1024 .f32 := v9.squeeze S1024x1x1024 squeezes_S1x1024x1x1024_S1024x1x1024
  let v11 : Memref sig .tc .hbm S1x1024x1x1024 .f32 := arg1.slice (Rect.unit (s := S2x1024x16x1024) (offHere li i) S1x1024x1x1024.size (offHere_inb li i)) (fun _ => rfl)
  let v12 : Memref sig .tc .hbm S1024x1x1024 .f32 := v11.squeeze S1024x1x1024 squeezes_S1x1024x1x1024_S1024x1x1024
  Prog.lift (.waitDma2 v8.sem v12 v10 ((View.wordExact_bits rfl).reshape _ _) ((View.wordExact_bits rfl).reshape _ _))
  let v13 : DmaSems sig S1x1 := arg11.slice (Rect.unit (s := S2x4) (k5_off12 i) S1x1.size (k5_off12_inb i))
  let v14 : DmaSems sig S_ := v13.squeeze S_ squeezes_S1x1_S_
  let v15 : Memref sig .tc .vmem S1x1024x1x1024 .f32 := arg8.slice (Rect.unit (s := S2x1024x1x1024) (k5_off10 i) S1x1024x1x1024.size (k5_off10_inb i)) (fun _ => rfl)
  let v16 : Memref sig .tc .vmem S1024x1x1024 .f32 := v15.squeeze S1024x1x1024 squeezes_S1x1024x1x1024_S1024x1x1024
  let v17 : Memref sig .tc .hbm S1x1024x1x1024 .f32 := arg2.slice (Rect.unit (s := S2x1024x16x1024) (offHere li i) S1x1024x1x1024.size (offHere_inb li i)) (fun _ => rfl)
  let v18 : Memref sig .tc .hbm S1024x1x1024 .f32 := v17.squeeze S1024x1x1024 squeezes_S1x1024x1x1024_S1024x1x1024
  Prog.lift (.waitDma2 v14.sem v18 v16 ((View.wordExact_bits rfl).reshape _ _) ((View.wordExact_bits rfl).reshape _ _))
  let v19 : DmaSems sig S1x1 := arg11.slice (Rect.unit (s := S2x4) (k5_off13 i) S1x1.size (k5_off13_inb i))
  let v20 : DmaSems sig S_ := v19.squeeze S_ squeezes_S1x1_S_
  let v21 : Memref sig .tc .vmem S1x2x256x1x1024 .f32 := arg9.slice (Rect.unit (s := S2x2x256x1x1024) (k5_off14 i) S1x2x256x1x1024.size (k5_off14_inb i)) (fun _ => rfl)
  let v22 : Memref sig .tc .vmem S2x256x1x1024 .f32 := v21.squeeze S2x256x1x1024 squeezes_S1x2x256x1x1024_S2x256x1x1024
  let v23 : Memref sig .tc .hbm S2x256x1x1024 .f32 := arg3.slice (Rect.unit (s := S2x256x16x1024) (k5_off15 i) S2x256x1x1024.size (k5_off15_inb i)) (fun _ => rfl)
  Prog.lift (.waitDma2 v20.sem v23 v22 (View.wordExact_bits rfl) ((View.wordExact_bits rfl).reshape _ _))
  pure ⟨arg0, v0⟩

/-- The last wait, the loads, and the first batch row's products. -/
def convPart4 (li : Fin 2) (i : grid5.Coords) (arg1 : Memref sig .tc .hbm S2x1024x16x1024 .f32) (harg1 : arg1.IsWhole) (arg2 : Memref sig .tc .hbm S2x1024x16x1024 .f32) (harg2 : arg2.IsWhole) (arg3 : Memref sig .tc .hbm S2x256x16x1024 .f32) (harg3 : arg3.IsWhole) (arg4 : Memref sig .tc .hbm S2x256x16x1024 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S2x1024x1x1024 .f32) (harg7 : arg7.IsWhole) (arg8 : Memref sig .tc .vmem S2x1024x1x1024 .f32) (harg8 : arg8.IsWhole) (arg9 : Memref sig .tc .vmem S2x2x256x1x1024 .f32) (harg9 : arg9.IsWhole) (arg10 : Memref sig .tc .vmem S2x2x256x1x1024 .f32) (harg10 : arg10.IsWhole) (arg11 : DmaSems sig S2x4) (arg0 : BitVec 32) (v0 : BitVec 32) :
    Prog (TpuEff nD τ sig (Elt F) Λ₀ .tc) (Σ' (v31 : FVec F S1024x1024 .f32) (v34 : FVec F S1024x1024 .f32), FVec F S256x1024 .f32) := do
  let v26 : Memref sig .tc .vmem S1x2x256x1x1024 .f32 := arg10.slice (Rect.unit (s := S2x2x256x1x1024) (k5_off14 i) S1x2x256x1x1024.size (k5_off14_inb i)) (fun _ => rfl)
  let v27 : Memref sig .tc .vmem S2x256x1x1024 .f32 := v26.squeeze S2x256x1x1024 squeezes_S1x2x256x1x1024_S2x256x1x1024
  let v28 : Memref sig .tc .hbm S2x256x1x1024 .f32 := arg4.slice (Rect.unit (s := S2x256x16x1024) (k5_off15 i) S2x256x1x1024.size (k5_off15_inb i)) (fun _ => rfl)
  let v24 : DmaSems sig S1x1 := arg11.slice (Rect.unit (s := S2x4) (k5_off16 i) S1x1.size (k5_off16_inb i))
  let v25 : DmaSems sig S_ := v24.squeeze S_ squeezes_S1x1_S_
  Prog.lift (.waitDma2 v25.sem v28 v27 (View.wordExact_bits rfl) ((View.wordExact_bits rfl).reshape _ _))
  let v30 : Vec F S1x1024x1x1024 .f32 ← Prog.lift (.load arg7 (Rect.unit (s := S2x1024x1x1024) (k5_off17 i) S1x1024x1x1024.size (k5_off17_inb i)).toLoadRect (View.loadsAt_vmem h_S1x1024x1x1024))
  let v33 : Vec F S1x1024x1x1024 .f32 ← Prog.lift (.load arg8 (Rect.unit (s := S2x1024x1x1024) (k5_off17 i) S1x1024x1x1024.size (k5_off17_inb i)).toLoadRect (View.loadsAt_vmem h_S1x1024x1x1024))
  let v36 : Vec F S1x1x256x1x1024 .f32 ← Prog.lift (.load arg9 (Rect.unit (s := S2x2x256x1x1024) (k5_off18 i) S1x1x256x1x1024.size (k5_off18_inb i)).toLoadRect (View.loadsAt_vmem h_S1x1x256x1x1024))
  let v40 : Vec F S1x1x256x1x1024 .f32 ← Prog.lift (.load arg10 (Rect.unit (s := S2x2x256x1x1024) (k5_off18 i) S1x1x256x1x1024.size (k5_off18_inb i)).toLoadRect (View.loadsAt_vmem h_S1x1x256x1x1024))
  if h3 : k5_cond3 i = 1#1 then do
    let v63 : Vec F S1x256x1024 .f32 ← Prog.lift (.load arg5 (Rect.unit (s := S2x256x1024) ![0, 0, 0] S1x256x1024.size inb_S2x256x1024_S1x256x1024_0_0_0).toLoadRect (View.loadsAt_vmem h_S1x256x1024))
    Prog.lift (.store arg5 (Rect.unit (s := S2x256x1024) ![0, 0, 0] S1x256x1024.size inb_S2x256x1024_S1x256x1024_0_0_0) (k5_pay11 v30 v36) Finset.univ (View.stores_vmem_bits_univ h_S1x256x1024 rfl) (.inl rfl))
    let v66 : Vec F S1x256x1024 .f32 ← Prog.lift (.load arg6 (Rect.unit (s := S2x256x1024) ![0, 0, 0] S1x256x1024.size inb_S2x256x1024_S1x256x1024_0_0_0).toLoadRect (View.loadsAt_vmem h_S1x256x1024))
    Prog.lift (.store arg6 (Rect.unit (s := S2x256x1024) ![0, 0, 0] S1x256x1024.size inb_S2x256x1024_S1x256x1024_0_0_0) (k5_pay12 v33 v40) Finset.univ (View.stores_vmem_bits_univ h_S1x256x1024 rfl) (.inl rfl))
    pure ⟨⟩
  else do
    pure ⟨⟩
  if h4 : k5_cond4 i = 1#1 then do
    let v63 : Vec F S1x256x1024 .f32 ← Prog.lift (.load arg5 (Rect.unit (s := S2x256x1024) ![0, 0, 0] S1x256x1024.size inb_S2x256x1024_S1x256x1024_0_0_0).toLoadRect (View.loadsAt_vmem h_S1x256x1024))
    let v66 : Vec F S1x256x1024 .f32 ← Prog.lift (.load arg5 (Rect.unit (s := S2x256x1024) ![0, 0, 0] S1x256x1024.size inb_S2x256x1024_S1x256x1024_0_0_0).toLoadRect (View.loadsAt_vmem h_S1x256x1024))
    Prog.lift (.store arg5 (Rect.unit (s := S2x256x1024) ![0, 0, 0] S1x256x1024.size inb_S2x256x1024_S1x256x1024_0_0_0) (k5_pay13 v30 v36 v63) Finset.univ (View.stores_vmem_bits_univ h_S1x256x1024 rfl) (.inl rfl))
    let v69 : Vec F S1x256x1024 .f32 ← Prog.lift (.load arg6 (Rect.unit (s := S2x256x1024) ![0, 0, 0] S1x256x1024.size inb_S2x256x1024_S1x256x1024_0_0_0).toLoadRect (View.loadsAt_vmem h_S1x256x1024))
    let v72 : Vec F S1x256x1024 .f32 ← Prog.lift (.load arg6 (Rect.unit (s := S2x256x1024) ![0, 0, 0] S1x256x1024.size inb_S2x256x1024_S1x256x1024_0_0_0).toLoadRect (View.loadsAt_vmem h_S1x256x1024))
    Prog.lift (.store arg6 (Rect.unit (s := S2x256x1024) ![0, 0, 0] S1x256x1024.size inb_S2x256x1024_S1x256x1024_0_0_0) (k5_pay14 v33 v40 v69) Finset.univ (View.stores_vmem_bits_univ h_S1x256x1024 rfl) (.inl rfl))
    pure ⟨⟩
  else do
    pure ⟨⟩
  let v50 : Vec F S1x1x256x1x1024 .f32 ← Prog.lift (.load arg9 (Rect.unit (s := S2x2x256x1x1024) (k5_off19 i) S1x1x256x1x1024.size (k5_off19_inb i)).toLoadRect (View.loadsAt_vmem h_S1x1x256x1x1024))
  pure ⟨k5_pay7 v30, k5_pay8 v33, k5_pay15 v50⟩

/-- The body at row `li` of the stacked weights. -/
def conv (li : Fin 2) (i : grid5.Coords) (arg1 : Memref sig .tc .hbm S2x1024x16x1024 .f32) (harg1 : arg1.IsWhole) (arg2 : Memref sig .tc .hbm S2x1024x16x1024 .f32) (harg2 : arg2.IsWhole) (arg3 : Memref sig .tc .hbm S2x256x16x1024 .f32) (harg3 : arg3.IsWhole) (arg4 : Memref sig .tc .hbm S2x256x16x1024 .f32) (harg4 : arg4.IsWhole) (arg5 : Memref sig .tc .vmem S2x256x1024 .f32) (harg5 : arg5.IsWhole) (arg6 : Memref sig .tc .vmem S2x256x1024 .f32) (harg6 : arg6.IsWhole) (arg7 : Memref sig .tc .vmem S2x1024x1x1024 .f32) (harg7 : arg7.IsWhole) (arg8 : Memref sig .tc .vmem S2x1024x1x1024 .f32) (harg8 : arg8.IsWhole) (arg9 : Memref sig .tc .vmem S2x2x256x1x1024 .f32) (harg9 : arg9.IsWhole) (arg10 : Memref sig .tc .vmem S2x2x256x1x1024 .f32) (harg10 : arg10.IsWhole) (arg11 : DmaSems sig S2x4) :
    Prog (TpuEff nD τ sig (Elt F) Λ₀ .tc) PUnit := do
  let ⟨arg0, v0⟩ : Σ' (arg0 : BitVec 32), BitVec 32 ← convPart3 li i arg1 harg1 arg2 harg2 arg3 harg3 arg4 harg4 arg5 harg5 arg6 harg6 arg7 harg7 arg8 harg8 arg9 harg9 arg10 harg10 arg11
  let ⟨v31, v34, v51⟩ : Σ' (v31 : FVec F S1024x1024 .f32) (v34 : FVec F S1024x1024 .f32), FVec F S256x1024 .f32 ← convPart4 li i arg1 harg1 arg2 harg2 arg3 harg3 arg4 harg4 arg5 harg5 arg6 harg6 arg7 harg7 arg8 harg8 arg9 harg9 arg10 harg10 arg11 arg0 v0
  let v54 : Vec F S1x1x256x1x1024 .f32 ← Prog.lift (.load arg10 (Rect.unit (s := S2x2x256x1x1024) (k5_off19 i) S1x1x256x1x1024.size (k5_off19_inb i)).toLoadRect (View.loadsAt_vmem h_S1x1x256x1x1024))
  if h5 : k5_cond5 i = 1#1 then do
    let v63 : Vec F S1x256x1024 .f32 ← Prog.lift (.load arg5 (Rect.unit (s := S2x256x1024) ![1, 0, 0] S1x256x1024.size inb_S2x256x1024_S1x256x1024_1_0_0).toLoadRect (View.loadsAt_vmem h_S1x256x1024))
    Prog.lift (.store arg5 (Rect.unit (s := S2x256x1024) ![1, 0, 0] S1x256x1024.size inb_S2x256x1024_S1x256x1024_1_0_0) (k5_pay3 v31 v51) Finset.univ (View.stores_vmem_bits_univ h_S1x256x1024 rfl) (.inl rfl))
    let v66 : Vec F S1x256x1024 .f32 ← Prog.lift (.load arg6 (Rect.unit (s := S2x256x1024) ![1, 0, 0] S1x256x1024.size inb_S2x256x1024_S1x256x1024_1_0_0).toLoadRect (View.loadsAt_vmem h_S1x256x1024))
    Prog.lift (.store arg6 (Rect.unit (s := S2x256x1024) ![1, 0, 0] S1x256x1024.size inb_S2x256x1024_S1x256x1024_1_0_0) (k5_pay4 v34 v54) Finset.univ (View.stores_vmem_bits_univ h_S1x256x1024 rfl) (.inl rfl))
    pure ⟨⟩
  else do
    pure ⟨⟩
  if h6 : k5_cond6 i = 1#1 then do
    let v63 : Vec F S1x256x1024 .f32 ← Prog.lift (.load arg5 (Rect.unit (s := S2x256x1024) ![1, 0, 0] S1x256x1024.size inb_S2x256x1024_S1x256x1024_1_0_0).toLoadRect (View.loadsAt_vmem h_S1x256x1024))
    let v66 : Vec F S1x256x1024 .f32 ← Prog.lift (.load arg5 (Rect.unit (s := S2x256x1024) ![1, 0, 0] S1x256x1024.size inb_S2x256x1024_S1x256x1024_1_0_0).toLoadRect (View.loadsAt_vmem h_S1x256x1024))
    Prog.lift (.store arg5 (Rect.unit (s := S2x256x1024) ![1, 0, 0] S1x256x1024.size inb_S2x256x1024_S1x256x1024_1_0_0) (k5_pay5 v31 v51 v63) Finset.univ (View.stores_vmem_bits_univ h_S1x256x1024 rfl) (.inl rfl))
    let v69 : Vec F S1x256x1024 .f32 ← Prog.lift (.load arg6 (Rect.unit (s := S2x256x1024) ![1, 0, 0] S1x256x1024.size inb_S2x256x1024_S1x256x1024_1_0_0).toLoadRect (View.loadsAt_vmem h_S1x256x1024))
    let v72 : Vec F S1x256x1024 .f32 ← Prog.lift (.load arg6 (Rect.unit (s := S2x256x1024) ![1, 0, 0] S1x256x1024.size inb_S2x256x1024_S1x256x1024_1_0_0).toLoadRect (View.loadsAt_vmem h_S1x256x1024))
    Prog.lift (.store arg6 (Rect.unit (s := S2x256x1024) ![1, 0, 0] S1x256x1024.size inb_S2x256x1024_S1x256x1024_1_0_0) (k5_pay6 v34 v54 v69) Finset.univ (View.stores_vmem_bits_univ h_S1x256x1024 rfl) (.inl rfl))
    pure ⟨⟩
  else do
    pure ⟨⟩
  pure ⟨⟩

set_option maxRecDepth 65536 in
set_option maxHeartbeats 1000000 in
/-- Region 5's body is the body at row 0. -/
theorem cc5_eq : cc5_conv_kv_proj (F := F) = conv 0 := by
  rw [cc5_conv_kv_proj_eq_skeleton]; unfold cc5_conv_kv_proj_skel
  rw [k5_part3_eq_skeleton, k5_part4_eq_skeleton]; unfold k5_part3_skel
  rw [k5_part1_eq_skeleton, k5_part2_eq_skeleton]; rfl

set_option maxRecDepth 65536 in
set_option maxHeartbeats 1000000 in
/-- Region 8's body is the body at row 1. -/
theorem cc8_eq : cc8_conv_kv_proj (F := F) = conv 1 := by
  rw [cc8_conv_kv_proj_eq_skeleton]; unfold cc8_conv_kv_proj_skel
  rw [k8_part3_eq_skeleton, k8_part4_eq_skeleton]; unfold k8_part3_skel
  rw [k8_part1_eq_skeleton, k8_part2_eq_skeleton]; rfl

end Cert.KernelIdeal.Whole

end
-- ==== Proof.Whole.ConvRing.lean ====
/-
  The ring of two slots through which each operand of the convolutions' body is streamed: slots, blocks and semaphores
  of the two shapes of operand (the stacked weights, and the normalized rows regrouped), the ring's pieces, what goes
  into a ring and comes out of it, and the names the body's own slices take at each grid point.
-/
module

public import proofs.«01_k».proof.Proof.Whole.ConvBody

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-! ## Slots, blocks, semaphores -/

theorem inb_slotW (s : Fin 2) : ∀ a, (![s.val, 0, 0, 0] : Fin 4 → ℕ) a + S1x1024x1x1024.size a ≤ S2x1024x1x1024.size a := by
  have := s.isLt; intro a; fin_cases a <;> simp <;> omega
theorem inb_srcW (li : Fin 2) (b : Fin 16) : ∀ a, (![li.val, 0, 1 * b.val, 0] : Fin 4 → ℕ) a + S1x1024x1x1024.size a ≤ S2x1024x16x1024.size a := by
  have := b.isLt; have := li.isLt; intro a; fin_cases a <;> simp <;> omega
theorem inb_slotX (s : Fin 2) : ∀ a, (![s.val, 0, 0, 0, 0] : Fin 5 → ℕ) a + S1x2x256x1x1024.size a ≤ S2x2x256x1x1024.size a := by
  have := s.isLt; intro a; fin_cases a <;> simp <;> omega
theorem inb_srcX (b : Fin 16) : ∀ a, (![0, 0, 1 * b.val, 0] : Fin 4 → ℕ) a + S2x256x1x1024.size a ≤ S2x256x16x1024.size a := by
  have := b.isLt; intro a; fin_cases a <;> simp <;> omega
theorem inb_cell (r : ℕ) (s : Fin 2) : ∀ a, (![s.val, r % 4] : Fin 2 → ℕ) a + S1x1.size a ≤ S2x4.size a := by
  have := s.isLt; have := Nat.mod_lt r (by decide : 0 < 4); intro a; fin_cases a <;> simp <;> omega

/-- Slot `s` of a weights' scratch. -/
def slotW (M : Memref sig .tc .vmem S2x1024x1x1024 .f32) (s : Fin 2) : Memref sig .tc .vmem S1024x1x1024 .f32 :=
  (M.slice (Rect.unit (s := S2x1024x1x1024) ![s.val, 0, 0, 0] S1x1024x1x1024.size (inb_slotW s)) (fun _ => rfl)).squeeze S1024x1x1024 squeezes_S1x1024x1x1024_S1024x1x1024
/-- Block `b` of row `li` of the stacked weights. -/
def srcW (li : Fin 2) (N : Memref sig .tc .hbm S2x1024x16x1024 .f32) (b : Fin 16) : Memref sig .tc .hbm S1024x1x1024 .f32 :=
  (N.slice (Rect.unit (s := S2x1024x16x1024) ![li.val, 0, 1 * b.val, 0] S1x1024x1x1024.size (inb_srcW li b)) (fun _ => rfl)).squeeze S1024x1x1024 squeezes_S1x1024x1x1024_S1024x1x1024
/-- Slot `s` of a rows' scratch. -/
def slotX (M : Memref sig .tc .vmem S2x2x256x1x1024 .f32) (s : Fin 2) : Memref sig .tc .vmem S2x256x1x1024 .f32 :=
  (M.slice (Rect.unit (s := S2x2x256x1x1024) ![s.val, 0, 0, 0, 0] S1x2x256x1x1024.size (inb_slotX s)) (fun _ => rfl)).squeeze S2x256x1x1024 squeezes_S1x2x256x1x1024_S2x256x1x1024
/-- Block `b` of the regrouped rows. -/
def srcX (N : Memref sig .tc .hbm S2x256x16x1024 .f32) (b : Fin 16) : Memref sig .tc .hbm S2x256x1x1024 .f32 :=
  N.slice (Rect.unit (s := S2x256x16x1024) ![0, 0, 1 * b.val, 0] S2x256x1x1024.size (inb_srcX b)) (fun _ => rfl)
/-- Semaphore `s` of ring `r`. -/
def cellA (A : DmaSems sig S2x4) (r : ℕ) (s : Fin 2) : DmaSems sig S_ :=
  (A.slice (Rect.unit (s := S2x4) ![s.val, r % 4] S1x1.size (inb_cell r s))).squeeze S_ squeezes_S1x1_S_
abbrev cellR (A : DmaSems sig S2x4) (r : ℕ) (s : Fin 2) : SemLoc sig := SemLoc.dma (cellA A r s).sem

/-! ## One ring's pieces, for any slots and blocks -/

/-- Memref `M`'s contents on core `c`. -/
abbrev HbBuf (c : Dev nD) {sp : Space} {S : Shape} {e : EltTy} (M : Memref sig .tc sp S e) : Type := Buf (Elt F) (M.view.loc (c : Thread nD τ))

section Pieces

variable {Bs So : Shape} (c : Dev nD) (R : Memref sig .tc .vmem Bs .f32) (B : Memref sig .tc .hbm Bs .f32) (x : SemLoc sig)

/-- Half of the full share per slot: whichever blocks two transfers in flight stream, each borrows from its own half. -/
abbrev half (s : Fin 2) : PosShare TreeShare := if s.val = 0 then fullShare.left else fullShare.right
/-- A slot held at `f`. -/
abbrev slotP (f : HbBuf (F := F) c R) : sProp 𝕄 := R.view.loc (c : Thread nD τ) ↦[R.view.set]{fullShare} f
/-- A semaphore at zero. -/
abbrev cellP : sProp 𝕄 := semVal ((c : Thread nD τ), x) 0
/-- A block's elements of slot `s`'s share of the operand. -/
abbrev srcP (W : HbBuf (F := F) c B) (s : Fin 2) : sProp 𝕄 := B.view.loc (c : Thread nD τ) ↦[B.view.set]{half s} W
/-- What a slot holds once the block landed in it. -/
abbrev landed (W : HbBuf (F := F) c B) (f : HbBuf (F := F) c R) : HbBuf (F := F) c R :=
  R.view.writes (Elt F) f [⟨Rect.whole Bs, ReadAs.same.apply (B.view.read (Elt F) W)⟩]
/-- The block in flight into the slot. -/
abbrev flightP (W : HbBuf (F := F) c B) (s : Fin 2) (f : HbBuf (F := F) c R) : sProp 𝕄 :=
  Transfers.Flight countersEmb (c : Thread nD τ) x default (R.view.amount x) iprop(slotP c R (landed c R B W f) ∗ srcP c B W s)
/-- Slot `s`'s share of a whole operand. -/
abbrev wholeP (N : Memref sig .tc .hbm So .f32) (W : HbBuf (F := F) c N) (s : Fin 2) : sProp 𝕄 :=
  N.view.loc (c : Thread nD τ) ↦[Finset.univ]{half s} W

end Pieces

/-- The part of slot `s`'s share of the weights outside block `b`. -/
def restW (li : Fin 2) (N : Memref sig .tc .hbm S2x1024x16x1024 .f32) (c : Dev nD) (W : HbBuf (F := F) c N) (s : Fin 2) (b : Fin 16) : sProp 𝕄 :=
  N.view.loc (c : Thread nD τ) ↦[Finset.univ \ (srcW li N b).view.set]{half s} W
/-- The part of slot `s`'s share of the rows outside block `b`. -/
def restX (N : Memref sig .tc .hbm S2x256x16x1024 .f32) (c : Dev nD) (W : HbBuf (F := F) c N) (s : Fin 2) (b : Fin 16) : sProp 𝕄 :=
  N.view.loc (c : Thread nD τ) ↦[Finset.univ \ (srcX N b).view.set]{half s} W

theorem splitW (li : Fin 2) (N : Memref sig .tc .hbm S2x1024x16x1024 .f32) (c : Dev nD) (W : HbBuf (F := F) c N) (s : Fin 2) (b : Fin 16) :
    (wholeP c N W s : sProp 𝕄) ⊣⊢ iprop(srcP c (srcW li N b) W s ∗ restW li N c W s b) := by
  unfold restW; exact pointsTo_split_subset (Finset.subset_univ _)
theorem splitX (N : Memref sig .tc .hbm S2x256x16x1024 .f32) (c : Dev nD) (W : HbBuf (F := F) c N) (s : Fin 2) (b : Fin 16) :
    (wholeP c N W s : sProp 𝕄) ⊣⊢ iprop(srcP c (srcX N b) W s ∗ restX N c W s b) := by
  unfold restX; exact pointsTo_split_subset (Finset.subset_univ _)

/-- An operand whole at the full share is its two halves. -/
theorem whole_split {So : Shape} (c : Dev nD) (N : Memref sig .tc .hbm So .f32) (W : HbBuf (F := F) c N) :
    (N.view.loc (c : Thread nD τ) ↦{fullShare} W : sProp 𝕄) ⊣⊢ iprop(wholeP c N W 0 ∗ wholeP c N W 1) :=
  pointsTo_share (PosShare.mem_left_op_right fullShare)

/-! ## The rings -/

/-- No block is held apart from its operand. -/
abbrev noHome (b : Fin 16) : sProp 𝕄 := iprop(emp)

section Rings
variable (c : Dev nD) (A : DmaSems sig S2x4) (r : ℕ)

section W
variable (li : Fin 2) (M : Memref sig .tc .vmem S2x1024x1x1024 .f32) (N : Memref sig .tc .hbm S2x1024x16x1024 .f32) (W : HbBuf (F := F) c N)
abbrev cellF (s : Fin 2) : sProp 𝕄 := cellP (F := F) c (cellR A r s)
abbrev holdW (s : Fin 2) (f : HbBuf (F := F) c (slotW M s)) : sProp 𝕄 := iprop(slotP c (slotW M s) f ∗ wholeP c N W s)
abbrev flyW (s : Fin 2) (b : Fin 16) (f : HbBuf (F := F) c (slotW M s)) : sProp 𝕄 :=
  iprop(flightP c (slotW M s) (srcW li N b) (cellR A r s) W s f ∗ restW li N c W s b)
abbrev landW (s : Fin 2) (b : Fin 16) (f : HbBuf (F := F) c (slotW M s)) : HbBuf (F := F) c (slotW M s) := landed c (slotW M s) (srcW li N b) W f
/-- The weights' ring before step `k`. -/
def ringW (k : ℕ) : sProp 𝕄 :=
  if k = 0 then Ring.At₀ (cellF (F := F) c A r) (holdW c M N W) noHome
  else Ring.AtK 1 (cellF (F := F) c A r) (holdW c M N W) noHome (flyW c A r li M N W) (landW c li M N W) k
end W

section X
variable (M : Memref sig .tc .vmem S2x2x256x1x1024 .f32) (N : Memref sig .tc .hbm S2x256x16x1024 .f32) (W : HbBuf (F := F) c N)
abbrev holdX (s : Fin 2) (f : HbBuf (F := F) c (slotX M s)) : sProp 𝕄 := iprop(slotP c (slotX M s) f ∗ wholeP c N W s)
abbrev flyX (s : Fin 2) (b : Fin 16) (f : HbBuf (F := F) c (slotX M s)) : sProp 𝕄 :=
  iprop(flightP c (slotX M s) (srcX N b) (cellR A r s) W s f ∗ restX N c W s b)
abbrev landX (s : Fin 2) (b : Fin 16) (f : HbBuf (F := F) c (slotX M s)) : HbBuf (F := F) c (slotX M s) := landed c (slotX M s) (srcX N b) W f
/-- The rows' ring before step `k`. -/
def ringX (k : ℕ) : sProp 𝕄 :=
  if k = 0 then Ring.At₀ (cellF (F := F) c A r) (holdX c M N W) noHome
  else Ring.AtK 1 (cellF (F := F) c A r) (holdX c M N W) noHome (flyX c A r M N W) (landX c M N W) k
end X
end Rings

/-! ## The slots of a scratch, disjoint and covering it -/

/-- The elements of slot `s`, in the scratch's own indices. -/
def setW (M : Memref sig .tc .vmem S2x1024x1x1024 .f32) (s : Fin 2) : Finset M.view.ty.Idx := (slotW M s).view.set
theorem setW_eq (M : Memref sig .tc .vmem S2x1024x1x1024 .f32) (s : Fin 2) :
    setW M s = (Rect.unit (s := S2x1024x1x1024) ![s.val, 0, 0, 0] S1x1024x1x1024.size (inb_slotW s)).set.map M.view.emb := by
  show (slotW M s).view.set = _
  simp only [slotW, Memref.view_squeeze, View.set_reshape]; exact View.set_slice _ _

theorem disjW (M : Memref sig .tc .vmem S2x1024x1x1024 .f32) (s s' : Fin 2) (h : s ≠ s') : Disjoint (setW M s) (setW M s') := by
  rw [setW_eq, setW_eq, Finset.disjoint_map]
  exact Ring.lead_disjoint (s := S2x1024x1x1024) (0 : Fin 4) 1 (fun s : Fin 2 => (![s.val, 0, 0, 0] : Fin 4 → Nat)) S1x1024x1x1024.size inb_slotW (fun s => by simp) rfl s s' h
theorem coverW (M : Memref sig .tc .vmem S2x1024x1x1024 .f32) (hM : M.IsWhole) : Finset.univ.biUnion (setW M) = Finset.univ := by
  have h := Ring.lead_cover (s := S2x1024x1x1024) (0 : Fin 4) 1 (fun s : Fin 2 => (![s.val, 0, 0, 0] : Fin 4 → Nat)) S1x1024x1x1024.size inb_slotW (fun s => by simp)
    (fun s a ha => by fin_cases a <;> first | exact absurd rfl ha | rfl) rfl (fun a ha => by fin_cases a <;> first | exact absurd rfl ha | rfl) rfl
  ext y
  simp only [Finset.mem_biUnion, Finset.mem_univ, true_and, iff_true]
  obtain ⟨x, -, rfl⟩ := Finset.mem_map.mp (hM.set_eq_univ ▸ Finset.mem_univ y : y ∈ M.view.set)
  obtain ⟨s, -, hs⟩ := Finset.mem_biUnion.mp (h ▸ Finset.mem_univ x : x ∈ _)
  exact ⟨s, setW_eq M s ▸ Finset.mem_map_of_mem _ hs⟩

/-- The elements of slot `s`, in the scratch's own indices. -/
def setX (M : Memref sig .tc .vmem S2x2x256x1x1024 .f32) (s : Fin 2) : Finset M.view.ty.Idx := (slotX M s).view.set
theorem setX_eq (M : Memref sig .tc .vmem S2x2x256x1x1024 .f32) (s : Fin 2) :
    setX M s = (Rect.unit (s := S2x2x256x1x1024) ![s.val, 0, 0, 0, 0] S1x2x256x1x1024.size (inb_slotX s)).set.map M.view.emb := by
  show (slotX M s).view.set = _
  simp only [slotX, Memref.view_squeeze, View.set_reshape]; exact View.set_slice _ _

theorem disjX (M : Memref sig .tc .vmem S2x2x256x1x1024 .f32) (s s' : Fin 2) (h : s ≠ s') : Disjoint (setX M s) (setX M s') := by
  rw [setX_eq, setX_eq, Finset.disjoint_map]
  exact Ring.lead_disjoint (s := S2x2x256x1x1024) (0 : Fin 5) 1 (fun s : Fin 2 => (![s.val, 0, 0, 0, 0] : Fin 5 → Nat)) S1x2x256x1x1024.size inb_slotX (fun s => by simp) rfl s s' h
theorem coverX (M : Memref sig .tc .vmem S2x2x256x1x1024 .f32) (hM : M.IsWhole) : Finset.univ.biUnion (setX M) = Finset.univ := by
  have h := Ring.lead_cover (s := S2x2x256x1x1024) (0 : Fin 5) 1 (fun s : Fin 2 => (![s.val, 0, 0, 0, 0] : Fin 5 → Nat)) S1x2x256x1x1024.size inb_slotX (fun s => by simp)
    (fun s a ha => by fin_cases a <;> first | exact absurd rfl ha | rfl) rfl (fun a ha => by fin_cases a <;> first | exact absurd rfl ha | rfl) rfl
  ext y
  simp only [Finset.mem_biUnion, Finset.mem_univ, true_and, iff_true]
  obtain ⟨x, -, rfl⟩ := Finset.mem_map.mp (hM.set_eq_univ ▸ Finset.mem_univ y : y ∈ M.view.set)
  obtain ⟨s, -, hs⟩ := Finset.mem_biUnion.mp (h ▸ Finset.mem_univ x : x ∈ _)
  exact ⟨s, setX_eq M s ▸ Finset.mem_map_of_mem _ hs⟩

/-! ## Into a ring, and out of it -/

section InOut
variable {Bs So Ss : Shape} (c : Dev nD) (M : Memref sig .tc .vmem Ss .f32) (N : Memref sig .tc .hbm So .f32) (W : HbBuf (F := F) c N)
    (A : DmaSems sig S2x4) (r : ℕ)

/-- What a ring is made of: the scratch at some contents, the two semaphores at zero, the operand whole. -/
abbrev parts : sProp 𝕄 :=
  iprop((∃ f : HbBuf (F := F) c M, M.view.loc (c : Thread nD τ) ↦{fullShare} f) ∗ (cellF (F := F) c A r 0 ∗ cellF (F := F) c A r 1) ∗ (N.view.loc (c : Thread nD τ) ↦{fullShare} W))

end InOut

set_option maxHeartbeats 1000000 in
theorem ringW_in (c : Dev nD) (A : DmaSems sig S2x4) (r : ℕ) (li : Fin 2) (M : Memref sig .tc .vmem S2x1024x1x1024 .f32) (hM : M.IsWhole) (N : Memref sig .tc .hbm S2x1024x16x1024 .f32) (W : HbBuf (F := F) c N) :
    parts c M N W A r ⊢ ringW c A r li M N W 0 := by
  unfold ringW; rw [if_pos rfl]; unfold Ring.At₀
  rw [Ring.bigSep_fin2]
  simp only [Ring.free]
  iintro ⟨HS, ⟨H0, H1⟩, HW⟩
  iapply Ring.with_homes₀
  ihave HS' := (Ring.slots2_split (U := Pipeline.UD sig nD τ) (ℓ := M.view.loc (c : Thread nD τ)) (q := fullShare) (setW M) (disjW M) (coverW M hM)
    (slotP (F := F) c (slotW M 0)) (slotP (F := F) c (slotW M 1)) (fun _ => rfl) (fun _ => rfl)) $$ HS
  icases HS' with ⟨⟨%d0, HS0⟩, ⟨%d1, HS1⟩⟩
  ihave HW' := (whole_split (F := F) c N W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1

set_option maxHeartbeats 1000000 in
theorem ringW_out (c : Dev nD) (A : DmaSems sig S2x4) (r : ℕ) (li : Fin 2) (M : Memref sig .tc .vmem S2x1024x1x1024 .f32) (hM : M.IsWhole) (N : Memref sig .tc .hbm S2x1024x16x1024 .f32) (W : HbBuf (F := F) c N) :
    ringW c A r li M N W 16 ⊢ parts c M N W A r := by
  unfold ringW; rw [if_neg (by decide)]
  iintro H
  ihave H' := (Ring.free2_of_AtK_last _ _ _ _ _) $$ H
  simp only [Ring.free]
  icases H' with ⟨-, ⟨H0, ⟨%f0, HS0, HW0⟩⟩, ⟨H1, ⟨%f1, HS1, HW1⟩⟩⟩
  isplitl [HS0 HS1]
  · iapply (Ring.slots2_join (U := Pipeline.UD sig nD τ) (ℓ := M.view.loc (c : Thread nD τ)) (q := fullShare) (setW M) (disjW M) (coverW M hM)
      (slotP (F := F) c (slotW M 0)) (slotP (F := F) c (slotW M 1)) (fun _ => rfl) (fun _ => rfl))
    isplitl [HS0]; · iexists f0; iexact HS0
    iexists f1; iexact HS1
  isplitl [H0 H1]
  · isplitl [H0]; · iexact H0
    iexact H1
  · iapply (whole_split (F := F) c N W).2; isplitl [HW0]; · iexact HW0
    iexact HW1

set_option maxHeartbeats 1000000 in
theorem ringX_in (c : Dev nD) (A : DmaSems sig S2x4) (r : ℕ) (M : Memref sig .tc .vmem S2x2x256x1x1024 .f32) (hM : M.IsWhole) (N : Memref sig .tc .hbm S2x256x16x1024 .f32) (W : HbBuf (F := F) c N) :
    parts c M N W A r ⊢ ringX c A r M N W 0 := by
  unfold ringX; rw [if_pos rfl]; unfold Ring.At₀
  rw [Ring.bigSep_fin2]
  simp only [Ring.free]
  iintro ⟨HS, ⟨H0, H1⟩, HW⟩
  iapply Ring.with_homes₀
  ihave HS' := (Ring.slots2_split (U := Pipeline.UD sig nD τ) (ℓ := M.view.loc (c : Thread nD τ)) (q := fullShare) (setX M) (disjX M) (coverX M hM)
    (slotP (F := F) c (slotX M 0)) (slotP (F := F) c (slotX M 1)) (fun _ => rfl) (fun _ => rfl)) $$ HS
  icases HS' with ⟨⟨%d0, HS0⟩, ⟨%d1, HS1⟩⟩
  ihave HW' := (whole_split (F := F) c N W).1 $$ HW
  icases HW' with ⟨HW0, HW1⟩
  isplitl [H0 HS0 HW0]
  · isplitl [H0]; · iexact H0
    iexists d0; isplitl [HS0]; · iexact HS0
    iexact HW0
  · isplitl [H1]; · iexact H1
    iexists d1; isplitl [HS1]; · iexact HS1
    iexact HW1

set_option maxHeartbeats 1000000 in
theorem ringX_out (c : Dev nD) (A : DmaSems sig S2x4) (r : ℕ) (M : Memref sig .tc .vmem S2x2x256x1x1024 .f32) (hM : M.IsWhole) (N : Memref sig .tc .hbm S2x256x16x1024 .f32) (W : HbBuf (F := F) c N) :
    ringX c A r M N W 16 ⊢ parts c M N W A r := by
  unfold ringX; rw [if_neg (by decide)]
  iintro H
  ihave H' := (Ring.free2_of_AtK_last _ _ _ _ _) $$ H
  simp only [Ring.free]
  icases H' with ⟨-, ⟨H0, ⟨%f0, HS0, HW0⟩⟩, ⟨H1, ⟨%f1, HS1, HW1⟩⟩⟩
  isplitl [HS0 HS1]
  · iapply (Ring.slots2_join (U := Pipeline.UD sig nD τ) (ℓ := M.view.loc (c : Thread nD τ)) (q := fullShare) (setX M) (disjX M) (coverX M hM)
      (slotP (F := F) c (slotX M 0)) (slotP (F := F) c (slotX M 1)) (fun _ => rfl) (fun _ => rfl))
    isplitl [HS0]; · iexists f0; iexact HS0
    iexists f1; iexact HS1
  isplitl [H0 H1]
  · isplitl [H0]; · iexact H0
    iexact H1
  · iapply (whole_split (F := F) c N W).2; isplitl [HW0]; · iexact HW0
    iexact HW1

/-! ## The body's conditions, in the grid point -/

/-- The condition of the initial transfers. -/
abbrev atFirst (i : grid5.Coords) : Prop := (Scalar.cmpi .ne (Scalar.extui (Scalar.cmpi .eq (BitVec.ofNat 32 (i 0).val) 0#32)) 0#32) = 1#1

theorem atFirst_iff : ∀ t : Fin grid5.N, atFirst (grid5.coords t) ↔ t.val = 0 := by decide +kernel
theorem cond2_iff : ∀ t : Fin grid5.N, k5_cond2 (grid5.coords t) = 1#1 ↔ t.val < 15 := by decide +kernel
theorem cond3_iff : ∀ t : Fin grid5.N, k5_cond3 (grid5.coords t) = 1#1 ↔ t.val = 0 := by decide +kernel
theorem cond4_iff : ∀ t : Fin grid5.N, k5_cond4 (grid5.coords t) = 1#1 ↔ 1 ≤ t.val := by decide +kernel
theorem cond5_iff : ∀ t : Fin grid5.N, k5_cond5 (grid5.coords t) = 1#1 ↔ t.val = 0 := by decide +kernel
theorem cond6_iff : ∀ t : Fin grid5.N, k5_cond6 (grid5.coords t) = 1#1 ↔ 1 ≤ t.val := by decide +kernel

/-! ## The names of the body's slices at point `t` -/

section Names
variable (t : Fin grid5.N)

theorem at0 (h : atFirst (grid5.coords t)) : Ring.sl 2 t.val = 0 ∧ Ring.bk 16 t.val = 0 := by
  rw [(atFirst_iff t).mp h]; exact ⟨rfl, rfl⟩

theorem slotW_first (M : Memref sig .tc .vmem S2x1024x1x1024 .f32) (h : atFirst (grid5.coords t)) :
    (M.slice (Rect.unit (s := S2x1024x1x1024) ![0, 0, 0, 0] S1x1024x1x1024.size inb_S2x1024x1x1024_S1x1024x1x1024_0_0_0_0) (fun _ => rfl)).squeeze S1024x1x1024 squeezes_S1x1024x1x1024_S1024x1x1024 = slotW M (Ring.sl 2 t.val) := by
  rw [(at0 t h).1]; rfl
theorem slotX_first (M : Memref sig .tc .vmem S2x2x256x1x1024 .f32) (h : atFirst (grid5.coords t)) :
    (M.slice (Rect.unit (s := S2x2x256x1x1024) ![0, 0, 0, 0, 0] S1x2x256x1x1024.size inb_S2x2x256x1x1024_S1x2x256x1x1024_0_0_0_0_0) (fun _ => rfl)).squeeze S2x256x1x1024 squeezes_S1x2x256x1x1024_S2x256x1x1024 = slotX M (Ring.sl 2 t.val) := by
  rw [(at0 t h).1]; rfl
theorem srcW_first (li : Fin 2) (N : Memref sig .tc .hbm S2x1024x16x1024 .f32) (h : atFirst (grid5.coords t)) :
    (N.slice (Rect.unit (s := S2x1024x16x1024) ![li.val, 0, 0, 0] S1x1024x1x1024.size (inb_row0 li)) (fun _ => rfl)).squeeze S1024x1x1024 squeezes_S1x1024x1x1024_S1024x1x1024 = srcW li N (Ring.bk 16 t.val) := by
  rw [(at0 t h).2]; rfl
theorem srcX_first (N : Memref sig .tc .hbm S2x256x16x1024 .f32) (h : atFirst (grid5.coords t)) :
    N.slice (Rect.unit (s := S2x256x16x1024) ![0, 0, 0, 0] S2x256x1x1024.size inb_S2x256x16x1024_S2x256x1x1024_0_0_0_0) (fun _ => rfl) = srcX N (Ring.bk 16 t.val) := by
  rw [(at0 t h).2]; rfl
theorem cell0_first (A : DmaSems sig S2x4) (h : atFirst (grid5.coords t)) :
    (A.slice (Rect.unit (s := S2x4) ![0, 0] S1x1.size inb_S2x4_S1x1_0_0)).squeeze S_ squeezes_S1x1_S_ = cellA A 0 (Ring.sl 2 t.val) := by
  rw [(at0 t h).1]; rfl
theorem cell1_first (A : DmaSems sig S2x4) (h : atFirst (grid5.coords t)) :
    (A.slice (Rect.unit (s := S2x4) ![0, 1] S1x1.size inb_S2x4_S1x1_0_1)).squeeze S_ squeezes_S1x1_S_ = cellA A 1 (Ring.sl 2 t.val) := by
  rw [(at0 t h).1]; rfl
theorem cell2_first (A : DmaSems sig S2x4) (h : atFirst (grid5.coords t)) :
    (A.slice (Rect.unit (s := S2x4) ![0, 2] S1x1.size inb_S2x4_S1x1_0_2)).squeeze S_ squeezes_S1x1_S_ = cellA A 2 (Ring.sl 2 t.val) := by
  rw [(at0 t h).1]; rfl
theorem cell3_first (A : DmaSems sig S2x4) (h : atFirst (grid5.coords t)) :
    (A.slice (Rect.unit (s := S2x4) ![0, 3] S1x1.size inb_S2x4_S1x1_0_3)).squeeze S_ squeezes_S1x1_S_ = cellA A 3 (Ring.sl 2 t.val) := by
  rw [(at0 t h).1]; rfl

theorem off_slotW_next : ∀ t : Fin grid5.N, k5_off2 (grid5.coords t) = ![(Ring.sl 2 (t.val + 1)).val, 0, 0, 0] := by decide +kernel
theorem off_slotX_next : ∀ t : Fin grid5.N, k5_off6 (grid5.coords t) = ![(Ring.sl 2 (t.val + 1)).val, 0, 0, 0, 0] := by decide +kernel
theorem off_slotW_here : ∀ t : Fin grid5.N, k5_off10 (grid5.coords t) = ![(Ring.sl 2 t.val).val, 0, 0, 0] := by decide +kernel
theorem off_slotX_here : ∀ t : Fin grid5.N, k5_off14 (grid5.coords t) = ![(Ring.sl 2 t.val).val, 0, 0, 0, 0] := by decide +kernel
theorem off_srcX_next : ∀ t : Fin grid5.N, k5_cond2 (grid5.coords t) = 1#1 → k5_off7 (grid5.coords t) = ![0, 0, 1 * (Ring.bk 16 (t.val + 1)).val, 0] := by decide +kernel
theorem off_srcW_next0 : ∀ t : Fin grid5.N, k5_cond2 (grid5.coords t) = 1#1 → offNext 0 (grid5.coords t) = ![(0 : Fin 2).val, 0, 1 * (Ring.bk 16 (t.val + 1)).val, 0] := by decide +kernel
theorem off_srcW_next1 : ∀ t : Fin grid5.N, k5_cond2 (grid5.coords t) = 1#1 → offNext 1 (grid5.coords t) = ![(1 : Fin 2).val, 0, 1 * (Ring.bk 16 (t.val + 1)).val, 0] := by decide +kernel
theorem off_srcW_next (li : Fin 2) (h : k5_cond2 (grid5.coords t) = 1#1) : offNext li (grid5.coords t) = ![li.val, 0, 1 * (Ring.bk 16 (t.val + 1)).val, 0] := by
  fin_cases li
  · exact off_srcW_next0 t h
  · exact off_srcW_next1 t h

@[sl_canon] theorem slotW_next (M : Memref sig .tc .vmem S2x1024x1x1024 .f32) (h : k5_cond2 (grid5.coords t) = 1#1) :
    (M.slice (Rect.unit (s := S2x1024x1x1024) (k5_off2 (grid5.coords t)) S1x1024x1x1024.size (k5_off2_inb (grid5.coords t) h)) (fun _ => rfl)).squeeze S1024x1x1024 squeezes_S1x1024x1x1024_S1024x1x1024 = slotW M (Ring.sl 2 (t.val + 1)) :=
  congrArg (fun M : Memref sig .tc .vmem S1x1024x1x1024 .f32 => M.squeeze S1024x1x1024 squeezes_S1x1024x1x1024_S1024x1x1024) (Memref.slice_unit_congr _ (off_slotW_next t) _ _ (fun _ => rfl) (fun _ => rfl))
@[sl_canon] theorem slotX_next (M : Memref sig .tc .vmem S2x2x256x1x1024 .f32) (h : k5_cond2 (grid5.coords t) = 1#1) :
    (M.slice (Rect.unit (s := S2x2x256x1x1024) (k5_off6 (grid5.coords t)) S1x2x256x1x1024.size (k5_off6_inb (grid5.coords t) h)) (fun _ => rfl)).squeeze S2x256x1x1024 squeezes_S1x2x256x1x1024_S2x256x1x1024 = slotX M (Ring.sl 2 (t.val + 1)) :=
  congrArg (fun M : Memref sig .tc .vmem S1x2x256x1x1024 .f32 => M.squeeze S2x256x1x1024 squeezes_S1x2x256x1x1024_S2x256x1x1024) (Memref.slice_unit_congr _ (off_slotX_next t) _ _ (fun _ => rfl) (fun _ => rfl))
@[sl_canon] theorem slotW_here (M : Memref sig .tc .vmem S2x1024x1x1024 .f32) :
    (M.slice (Rect.unit (s := S2x1024x1x1024) (k5_off10 (grid5.coords t)) S1x1024x1x1024.size (k5_off10_inb (grid5.coords t))) (fun _ => rfl)).squeeze S1024x1x1024 squeezes_S1x1024x1x1024_S1024x1x1024 = slotW M (Ring.sl 2 t.val) :=
  congrArg (fun M : Memref sig .tc .vmem S1x1024x1x1024 .f32 => M.squeeze S1024x1x1024 squeezes_S1x1024x1x1024_S1024x1x1024) (Memref.slice_unit_congr _ (off_slotW_here t) _ _ (fun _ => rfl) (fun _ => rfl))
@[sl_canon] theorem slotX_here (M : Memref sig .tc .vmem S2x2x256x1x1024 .f32) :
    (M.slice (Rect.unit (s := S2x2x256x1x1024) (k5_off14 (grid5.coords t)) S1x2x256x1x1024.size (k5_off14_inb (grid5.coords t))) (fun _ => rfl)).squeeze S2x256x1x1024 squeezes_S1x2x256x1x1024_S2x256x1x1024 = slotX M (Ring.sl 2 t.val) :=
  congrArg (fun M : Memref sig .tc .vmem S1x2x256x1x1024 .f32 => M.squeeze S2x256x1x1024 squeezes_S1x2x256x1x1024_S2x256x1x1024) (Memref.slice_unit_congr _ (off_slotX_here t) _ _ (fun _ => rfl) (fun _ => rfl))
@[sl_canon] theorem srcW_next (li : Fin 2) (N : Memref sig .tc .hbm S2x1024x16x1024 .f32) (h : k5_cond2 (grid5.coords t) = 1#1) :
    (N.slice (Rect.unit (s := S2x1024x16x1024) (offNext li (grid5.coords t)) S1x1024x1x1024.size (offNext_inb li (grid5.coords t) h)) (fun _ => rfl)).squeeze S1024x1x1024 squeezes_S1x1024x1x1024_S1024x1x1024 = srcW li N (Ring.bk 16 (t.val + 1)) :=
  congrArg (fun M : Memref sig .tc .hbm S1x1024x1x1024 .f32 => M.squeeze S1024x1x1024 squeezes_S1x1024x1x1024_S1024x1x1024) (Memref.slice_unit_congr _ (off_srcW_next t li h) _ _ (fun _ => rfl) (fun _ => rfl))
@[sl_canon] theorem srcX_next (N : Memref sig .tc .hbm S2x256x16x1024 .f32) (h : k5_cond2 (grid5.coords t) = 1#1) :
    N.slice (Rect.unit (s := S2x256x16x1024) (k5_off7 (grid5.coords t)) S2x256x1x1024.size (k5_off7_inb (grid5.coords t) h)) (fun _ => rfl) = srcX N (Ring.bk 16 (t.val + 1)) :=
  Memref.slice_unit_congr _ (off_srcX_next t h) _ _ (fun _ => rfl) (fun _ => rfl)

theorem off_cell0_next : ∀ t : Fin grid5.N, k5_off1 (grid5.coords t) = ![(Ring.sl 2 (t.val + 1)).val, 0 % 4] := by decide +kernel
theorem off_cell0_here : ∀ t : Fin grid5.N, k5_off9 (grid5.coords t) = ![(Ring.sl 2 t.val).val, 0 % 4] := by decide +kernel
@[sl_canon] theorem cell0_next (A : DmaSems sig S2x4) (h : k5_cond2 (grid5.coords t) = 1#1) :
    (A.slice (Rect.unit (s := S2x4) (k5_off1 (grid5.coords t)) S1x1.size (k5_off1_inb (grid5.coords t) h))).squeeze S_ squeezes_S1x1_S_ = cellA A 0 (Ring.sl 2 (t.val + 1)) :=
  congrArg (fun A : DmaSems sig S1x1 => A.squeeze S_ squeezes_S1x1_S_) (SemArray.slice_unit_congr _ (off_cell0_next t) _ _)
@[sl_canon] theorem cell0_here (A : DmaSems sig S2x4) :
    (A.slice (Rect.unit (s := S2x4) (k5_off9 (grid5.coords t)) S1x1.size (k5_off9_inb (grid5.coords t)))).squeeze S_ squeezes_S1x1_S_ = cellA A 0 (Ring.sl 2 t.val) :=
  congrArg (fun A : DmaSems sig S1x1 => A.squeeze S_ squeezes_S1x1_S_) (SemArray.slice_unit_congr _ (off_cell0_here t) _ _)

theorem off_cell1_next : ∀ t : Fin grid5.N, k5_off4 (grid5.coords t) = ![(Ring.sl 2 (t.val + 1)).val, 1 % 4] := by decide +kernel
theorem off_cell1_here : ∀ t : Fin grid5.N, k5_off12 (grid5.coords t) = ![(Ring.sl 2 t.val).val, 1 % 4] := by decide +kernel
@[sl_canon] theorem cell1_next (A : DmaSems sig S2x4) (h : k5_cond2 (grid5.coords t) = 1#1) :
    (A.slice (Rect.unit (s := S2x4) (k5_off4 (grid5.coords t)) S1x1.size (k5_off4_inb (grid5.coords t) h))).squeeze S_ squeezes_S1x1_S_ = cellA A 1 (Ring.sl 2 (t.val + 1)) :=
  congrArg (fun A : DmaSems sig S1x1 => A.squeeze S_ squeezes_S1x1_S_) (SemArray.slice_unit_congr _ (off_cell1_next t) _ _)
@[sl_canon] theorem cell1_here (A : DmaSems sig S2x4) :
    (A.slice (Rect.unit (s := S2x4) (k5_off12 (grid5.coords t)) S1x1.size (k5_off12_inb (grid5.coords t)))).squeeze S_ squeezes_S1x1_S_ = cellA A 1 (Ring.sl 2 t.val) :=
  congrArg (fun A : DmaSems sig S1x1 => A.squeeze S_ squeezes_S1x1_S_) (SemArray.slice_unit_congr _ (off_cell1_here t) _ _)

theorem off_cell2_next : ∀ t : Fin grid5.N, k5_off5 (grid5.coords t) = ![(Ring.sl 2 (t.val + 1)).val, 2 % 4] := by decide +kernel
theorem off_cell2_here : ∀ t : Fin grid5.N, k5_off13 (grid5.coords t) = ![(Ring.sl 2 t.val).val, 2 % 4] := by decide +kernel
@[sl_canon] theorem cell2_next (A : DmaSems sig S2x4) (h : k5_cond2 (grid5.coords t) = 1#1) :
    (A.slice (Rect.unit (s := S2x4) (k5_off5 (grid5.coords t)) S1x1.size (k5_off5_inb (grid5.coords t) h))).squeeze S_ squeezes_S1x1_S_ = cellA A 2 (Ring.sl 2 (t.val + 1)) :=
  congrArg (fun A : DmaSems sig S1x1 => A.squeeze S_ squeezes_S1x1_S_) (SemArray.slice_unit_congr _ (off_cell2_next t) _ _)
@[sl_canon] theorem cell2_here (A : DmaSems sig S2x4) :
    (A.slice (Rect.unit (s := S2x4) (k5_off13 (grid5.coords t)) S1x1.size (k5_off13_inb (grid5.coords t)))).squeeze S_ squeezes_S1x1_S_ = cellA A 2 (Ring.sl 2 t.val) :=
  congrArg (fun A : DmaSems sig S1x1 => A.squeeze S_ squeezes_S1x1_S_) (SemArray.slice_unit_congr _ (off_cell2_here t) _ _)

theorem off_cell3_next : ∀ t : Fin grid5.N, k5_off8 (grid5.coords t) = ![(Ring.sl 2 (t.val + 1)).val, 3 % 4] := by decide +kernel
theorem off_cell3_here : ∀ t : Fin grid5.N, k5_off16 (grid5.coords t) = ![(Ring.sl 2 t.val).val, 3 % 4] := by decide +kernel
@[sl_canon] theorem cell3_next (A : DmaSems sig S2x4) (h : k5_cond2 (grid5.coords t) = 1#1) :
    (A.slice (Rect.unit (s := S2x4) (k5_off8 (grid5.coords t)) S1x1.size (k5_off8_inb (grid5.coords t) h))).squeeze S_ squeezes_S1x1_S_ = cellA A 3 (Ring.sl 2 (t.val + 1)) :=
  congrArg (fun A : DmaSems sig S1x1 => A.squeeze S_ squeezes_S1x1_S_) (SemArray.slice_unit_congr _ (off_cell3_next t) _ _)
@[sl_canon] theorem cell3_here (A : DmaSems sig S2x4) :
    (A.slice (Rect.unit (s := S2x4) (k5_off16 (grid5.coords t)) S1x1.size (k5_off16_inb (grid5.coords t)))).squeeze S_ squeezes_S1x1_S_ = cellA A 3 (Ring.sl 2 t.val) :=
  congrArg (fun A : DmaSems sig S1x1 => A.squeeze S_ squeezes_S1x1_S_) (SemArray.slice_unit_congr _ (off_cell3_here t) _ _)

theorem off_loadW : ∀ t : Fin grid5.N, k5_off17 (grid5.coords t) = ![(Ring.sl 2 t.val).val, 0, 0, 0] := by decide +kernel
theorem off_loadX0 : ∀ t : Fin grid5.N, k5_off18 (grid5.coords t) = ![(Ring.sl 2 t.val).val, 0, 0, 0, 0] := by decide +kernel
theorem off_loadX1 : ∀ t : Fin grid5.N, k5_off19 (grid5.coords t) = ![(Ring.sl 2 t.val).val, 1, 0, 0, 0] := by decide +kernel
instance (priority := high) closedOff_loadW : ClosedOff (k5_off17 (grid5.coords t)) := ⟨![(Ring.sl 2 t.val).val, 0, 0, 0], off_loadW t⟩
instance (priority := high) closedOff_loadX0 : ClosedOff (k5_off18 (grid5.coords t)) := ⟨![(Ring.sl 2 t.val).val, 0, 0, 0, 0], off_loadX0 t⟩
instance (priority := high) closedOff_loadX1 : ClosedOff (k5_off19 (grid5.coords t)) := ⟨![(Ring.sl 2 t.val).val, 1, 0, 0, 0], off_loadX1 t⟩
end Names

end Cert.KernelIdeal.Whole

end
-- ==== Proof.Whole.ConvRun.lean ====
/-
  The run of the convolutions' body in its three cases: the first point of the grid, the middle points, the last point.
-/
module

public import proofs.«01_k».proof.Proof.Whole.ConvRing
public import Idealize.ShloMosaic.Lib.Pointwise.Index

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- Block `b` of row `li` of the stacked weights, as loaded. -/
def wBlk (c : Dev nD) (li : Fin 2) (N : Memref sig .tc .hbm S2x1024x16x1024 .f32) (W : HbBuf (F := F) c N) (b : Fin 16) : Vec F S1x1024x1x1024 .f32 :=
  View.ld (N.view.read (Elt F) W) (Rect.unit (s := S2x1024x16x1024) ![li.val, 0, 1 * b.val, 0] S1x1024x1x1024.size (inb_srcW li b))

/-- Batch `bb`'s rows of block `b` of the regrouped rows, as loaded. -/
def xBlk (c : Dev nD) (N : Memref sig .tc .hbm S2x256x16x1024 .f32) (W : HbBuf (F := F) c N) (b : Fin 16) (bb : Fin 2) : Vec F S1x1x256x1x1024 .f32 :=
  fun i => N.view.read (Elt F) W (Idealize.ShloMosaic.ix4 (n0 := 2) (n1 := 256) (n2 := 16) (n3 := 1024) bb (i 2) b (i 4))

/-- A load from a scratch whose slot holds a landed block reads the block, where the load's index lies in the slot. -/
theorem load_landed {Ss Bs : Shape} (M : Memref sig .tc .vmem Ss .f32) (rs : Rect Ss) (hsq : rs.shape.Squeezes Bs) (hu : ∀ a, rs.stride a = 1)
    (f : BufTy.Contents (Elt F) M.view.ty) (w : Bs.Idx → Elt F .f32) (r : Rect Ss) (i : r.shape.Idx) (j : Bs.Idx)
    (h : r.emb i = rs.emb (Shape.reshapeEquiv hsq.numel_eq j)) :
    View.readAt (Elt F) M.view r.toLoadRect (((M.slice rs hu).squeeze Bs hsq).view.writes (Elt F) f [⟨Rect.whole Bs, w⟩]) i = w j := by
  refine Eq.trans ?_ (congrFun (View.read_writes_whole ((M.slice rs hu).squeeze Bs hsq).view f w) j)
  show M.view.read (Elt F) _ (r.emb i) = M.view.read (Elt F) _ (rs.emb (Shape.reshapeEquiv hsq.numel_eq j))
  rw [h]

/-- The load of a weights' slot reads the landed block of the stack. -/
theorem load_wBlk (c : Dev nD) (t : Fin grid5.N) (li : Fin 2) (N : Memref sig .tc .hbm S2x1024x16x1024 .f32) (W : HbBuf (F := F) c N)
    (M : Memref sig .tc .vmem S2x1024x1x1024 .f32) (s : Fin 2) (hs : s = Ring.sl 2 t.val) (b : Fin 16) (f : HbBuf (F := F) c (slotW M s)) :
    View.readAt (Elt F) M.view (Rect.unit (s := S2x1024x1x1024) (k5_off17 (grid5.coords t)) S1x1024x1x1024.size (k5_off17_inb (grid5.coords t))).toLoadRect
      ((slotW M s).view.writes (Elt F) f [⟨Rect.whole S1024x1x1024, ReadAs.same.apply (View.read (Elt F) (srcW li N b).view W)⟩]) = wBlk c li N W b := by
  subst hs
  funext i
  let j : S1024x1x1024.Idx := Shape.reshapeEquiv squeezes_S1x1024x1x1024_S1024x1x1024.numel_eq.symm i
  have hj : Shape.reshapeEquiv squeezes_S1x1024x1x1024_S1024x1x1024.numel_eq j = i := by
    rw [Shape.reshapeEquiv_reshapeEquiv, Shape.reshapeEquiv_self]
  refine (load_landed M _ squeezes_S1x1024x1x1024_S1024x1x1024 (fun _ => rfl) f _ _ i j ?_).trans ?_
  · rw [hj]
    funext a
    refine Fin.ext ?_
    show k5_off17 (grid5.coords t) a + 1 * (i a).val = (![(Ring.sl 2 t.val).val, 0, 0, 0] : Fin 4 → ℕ) a + 1 * (i a).val
    exact congrArg (· + 1 * (i a).val) (congrFun (off_loadW t) a)
  · show N.view.read (Elt F) W ((Rect.unit (s := S2x1024x16x1024) ![li.val, 0, 1 * b.val, 0] S1x1024x1x1024.size (inb_srcW li b)).emb (Shape.reshapeEquiv squeezes_S1x1024x1x1024_S1024x1x1024.numel_eq j)) = _
    rw [hj]; rfl

/-- The load of one batch's rows of a rows' slot reads them in the landed block. -/
theorem load_xBlk (c : Dev nD) (t : Fin grid5.N) (N : Memref sig .tc .hbm S2x256x16x1024 .f32) (W : HbBuf (F := F) c N)
    (M : Memref sig .tc .vmem S2x2x256x1x1024 .f32) (s : Fin 2) (b : Fin 16) (bb : Fin 2) (f : HbBuf (F := F) c (slotX M s))
    (off : Fin 5 → ℕ) (inb : ∀ a, off a + S1x1x256x1x1024.size a ≤ S2x2x256x1x1024.size a) (hoff : off = ![s.val, bb.val, 0, 0, 0]) :
    View.readAt (Elt F) M.view (Rect.unit (s := S2x2x256x1x1024) off S1x1x256x1x1024.size inb).toLoadRect
      ((slotX M s).view.writes (Elt F) f [⟨Rect.whole S2x256x1x1024, ReadAs.same.apply (View.read (Elt F) (srcX N b).view W)⟩]) = xBlk c N W b bb := by
  subst hoff
  funext i
  let j : S2x256x1x1024.Idx := Idealize.ShloMosaic.ix4 (n0 := 2) (n1 := 256) (n2 := 1) (n3 := 1024) bb (i 2) (i 3) (i 4)
  refine (load_landed M _ squeezes_S1x2x256x1x1024_S2x256x1x1024 (fun _ => rfl) f _ _ i j ?_).trans ?_
  · rw [Shape.reshapeEquiv_cons_one]
    have h0 : (i 0).val = 0 := Nat.lt_one_iff.mp (i 0).isLt
    have h1 : (i 1).val = 0 := Nat.lt_one_iff.mp (i 1).isLt
    funext a
    refine Fin.ext ?_
    match a with
    | ⟨0, _⟩ => show s.val + 1 * (i 0).val = s.val + 1 * 0; rw [h0]
    | ⟨1, _⟩ => show bb.val + 1 * (i 1).val = 0 + 1 * bb.val; omega
    | ⟨2, _⟩ => rfl
    | ⟨3, _⟩ => rfl
    | ⟨4, _⟩ => rfl
  · show N.view.read (Elt F) W _ = N.view.read (Elt F) W _
    congr 1
    have h3 : (i 3).val = 0 := Nat.lt_one_iff.mp (i 3).isLt
    funext a
    refine Fin.ext ?_
    match a with
    | ⟨0, _⟩ => show 0 + 1 * bb.val = bb.val; omega
    | ⟨1, _⟩ => show 0 + 1 * (i 2).val = (i 2).val; omega
    | ⟨2, _⟩ => show 1 * b.val + 1 * (i 3).val = b.val; omega
    | ⟨3, _⟩ => show 0 + 1 * (i 4).val = (i 4).val; omega

/-! ## A ring's pieces opened for a transfer, and closed after one -/

section Open
variable (c : Dev nD) (A : DmaSems sig S2x4) (r : ℕ) (s : Fin 2) (b b' : Fin 16)

section W
variable (li : Fin 2) (M : Memref sig .tc .vmem S2x1024x1x1024 .f32) (N : Memref sig .tc .hbm S2x1024x16x1024 .f32) (W : HbBuf (F := F) c N)

/-- A slot at rest, with its share of the operand cut at block `b`. -/
abbrev restWOpen : sProp 𝕄 :=
  iprop(cellF (F := F) c A r s ∗ ∃ f : HbBuf (F := F) c (slotW M s), slotP c (slotW M s) f ∗ srcP c (srcW li N b) W s ∗ restW li N c W s b)

theorem freeW_open : Ring.free (cellF (F := F) c A r) (holdW c M N W) s ⊢ restWOpen c A r s b li M N W := by
  unfold Ring.free
  iintro ⟨Hc, ⟨%f, Hs, Hw⟩⟩
  isplitl [Hc]; · iexact Hc
  iexists f; isplitl [Hs]; · iexact Hs
  iapply (splitW li N c W s b).1; iexact Hw

theorem keptW_open : Ring.kept (cellF (F := F) c A r) (holdW c M N W) (landW c li M N W) s b' ⊢ restWOpen c A r s b li M N W := by
  unfold Ring.kept
  iintro ⟨Hc, ⟨%f, Hs, Hw⟩⟩
  isplitl [Hc]; · iexact Hc
  iexists _; isplitl [Hs]; · iexact Hs
  iapply (splitW li N c W s b).1; iexact Hw

theorem keptW_close (f : HbBuf (F := F) c (slotW M s)) :
    iprop(cellF (F := F) c A r s ∗ slotP c (slotW M s) (landW c li M N W s b f) ∗ srcP c (srcW li N b) W s ∗ restW li N c W s b)
      ⊢ Ring.kept (cellF (F := F) c A r) (holdW c M N W) (landW c li M N W) s b := by
  unfold Ring.kept
  iintro ⟨Hc, Hs, Hw, Hr⟩
  isplitl [Hc]; · iexact Hc
  iexists f; isplitl [Hs]; · iexact Hs
  iapply (splitW li N c W s b).2; isplitl [Hw]; · iexact Hw
  iexact Hr

end W

section X
variable (M : Memref sig .tc .vmem S2x2x256x1x1024 .f32) (N : Memref sig .tc .hbm S2x256x16x1024 .f32) (W : HbBuf (F := F) c N)

/-- A slot at rest, with its share of the operand cut at block `b`. -/
abbrev restXOpen : sProp 𝕄 :=
  iprop(cellF (F := F) c A r s ∗ ∃ f : HbBuf (F := F) c (slotX M s), slotP c (slotX M s) f ∗ srcP c (srcX N b) W s ∗ restX N c W s b)

theorem freeX_open : Ring.free (cellF (F := F) c A r) (holdX c M N W) s ⊢ restXOpen c A r s b M N W := by
  unfold Ring.free
  iintro ⟨Hc, ⟨%f, Hs, Hw⟩⟩
  isplitl [Hc]; · iexact Hc
  iexists f; isplitl [Hs]; · iexact Hs
  iapply (splitX N c W s b).1; iexact Hw

theorem keptX_open : Ring.kept (cellF (F := F) c A r) (holdX c M N W) (landX c M N W) s b' ⊢ restXOpen c A r s b M N W := by
  unfold Ring.kept
  iintro ⟨Hc, ⟨%f, Hs, Hw⟩⟩
  isplitl [Hc]; · iexact Hc
  iexists _; isplitl [Hs]; · iexact Hs
  iapply (splitX N c W s b).1; iexact Hw

theorem keptX_close (f : HbBuf (F := F) c (slotX M s)) :
    iprop(cellF (F := F) c A r s ∗ slotP c (slotX M s) (landX c M N W s b f) ∗ srcP c (srcX N b) W s ∗ restX N c W s b)
      ⊢ Ring.kept (cellF (F := F) c A r) (holdX c M N W) (landX c M N W) s b := by
  unfold Ring.kept
  iintro ⟨Hc, Hs, Hw, Hr⟩
  isplitl [Hc]; · iexact Hc
  iexists f; isplitl [Hs]; · iexact Hs
  iapply (splitX N c W s b).2; isplitl [Hw]; · iexact Hw
  iexact Hr

end X
end Open

/-! ## What the body leaves in its two output blocks -/

/-- Half `bb` of an output block. -/
abbrev halfRect (bb : ℕ) (inb : ∀ a, (![bb, 0, 0] : Fin 3 → ℕ) a + S1x256x1024.size a ≤ S2x256x1024.size a) : Rect S2x256x1024 :=
  Rect.unit (s := S2x256x1024) ![bb, 0, 0] S1x256x1024.size inb

/-- A block of two halves. -/
def stack2 (a b : Vec F S1x256x1024 .f32) : Vec F S2x256x1024 .f32 :=
  fun i => if (i 0).val = 0 then a (Idealize.ShloMosaic.ix3 (n0 := 1) (n1 := 256) (n2 := 1024) 0 (i 1) (i 2)) else b (Idealize.ShloMosaic.ix3 (n0 := 1) (n1 := 256) (n2 := 1024) 0 (i 1) (i 2))

/-- A block stored half by half reads as the two halves. -/
theorem read_halves (arg : Memref sig .tc .vmem S2x256x1024 .f32) (f : BufTy.Contents (Elt F) arg.view.ty) (a b : Vec F S1x256x1024 .f32) :
    arg.view.read (Elt F) (arg.view.writes (Elt F) f
      [⟨halfRect 1 inb_S2x256x1024_S1x256x1024_1_0_0, b⟩, ⟨halfRect 0 inb_S2x256x1024_S1x256x1024_0_0_0, a⟩]) = stack2 a b := by
  funext i
  by_cases h : (i 0).val = 0
  · have hi : i = (halfRect 0 inb_S2x256x1024_S1x256x1024_0_0_0).emb (Idealize.ShloMosaic.ix3 (n0 := 1) (n1 := 256) (n2 := 1024) 0 (i 1) (i 2)) := by
      funext d; refine Fin.ext ?_
      match d with
      | ⟨0, _⟩ => exact h
      | ⟨1, _⟩ => show (i 1).val = 0 + 1 * (i 1).val; omega
      | ⟨2, _⟩ => show (i 2).val = 0 + 1 * (i 2).val; omega
    have hn : i ∉ (Finset.univ : Finset (halfRect 1 inb_S2x256x1024_S1x256x1024_1_0_0).shape.Idx).map (halfRect 1 inb_S2x256x1024_S1x256x1024_1_0_0).emb := by
      intro hm
      obtain ⟨x, -, hx⟩ := Finset.mem_map.mp hm
      have : 1 + 1 * (x 0).val = (i 0).val := congrArg (fun y : S2x256x1024.Idx => (y 0).val) hx
      omega
    unfold stack2; rw [if_pos h]
    refine (View.read_slice_write_of_not_mem _ _ _ _ hn).trans ?_
    have := View.read_writes_cons_emb arg.view f (halfRect 0 inb_S2x256x1024_S1x256x1024_0_0_0) a [] (Idealize.ShloMosaic.ix3 (n0 := 1) (n1 := 256) (n2 := 1024) 0 (i 1) (i 2))
    rwa [← hi] at this
  · have h1 : (i 0).val = 1 := by have : (i 0).val < 2 := (i 0).isLt; omega
    have hi : i = (halfRect 1 inb_S2x256x1024_S1x256x1024_1_0_0).emb (Idealize.ShloMosaic.ix3 (n0 := 1) (n1 := 256) (n2 := 1024) 0 (i 1) (i 2)) := by
      funext d; refine Fin.ext ?_
      match d with
      | ⟨0, _⟩ => exact h1
      | ⟨1, _⟩ => show (i 1).val = 0 + 1 * (i 1).val; omega
      | ⟨2, _⟩ => show (i 2).val = 0 + 1 * (i 2).val; omega
    unfold stack2; rw [if_neg h]
    have := View.read_writes_cons_emb arg.view f (halfRect 1 inb_S2x256x1024_S1x256x1024_1_0_0) b [⟨halfRect 0 inb_S2x256x1024_S1x256x1024_0_0_0, a⟩] (Idealize.ShloMosaic.ix3 (n0 := 1) (n1 := 256) (n2 := 1024) 0 (i 1) (i 2))
    rwa [← hi] at this

/-- The first block's halves after the first point, from the point's weights and rows. -/
def kStart (w : Vec F S1x1024x1x1024 .f32) (x0 x1 : Vec F S1x1x256x1x1024 .f32) : Vec F S2x256x1024 .f32 :=
  stack2 (k5_pay11 w x0) (k5_pay3 (k5_pay7 w) (k5_pay15 x1))
/-- The second block's halves after the first point. -/
def vStart (w : Vec F S1x1024x1x1024 .f32) (x0 x1 : Vec F S1x1x256x1x1024 .f32) : Vec F S2x256x1024 .f32 :=
  stack2 (k5_pay12 w x0) (k5_pay4 (k5_pay8 w) x1)
/-- The first block's halves after a later point: the point's products added to what they were. -/
def kMore (w : Vec F S1x1024x1x1024 .f32) (x0 x1 : Vec F S1x1x256x1x1024 .f32) (o : Vec F S2x256x1024 .f32) : Vec F S2x256x1024 .f32 :=
  stack2 (k5_pay13 w x0 (View.ld o (halfRect 0 inb_S2x256x1024_S1x256x1024_0_0_0))) (k5_pay5 (k5_pay7 w) (k5_pay15 x1) (View.ld o (halfRect 1 inb_S2x256x1024_S1x256x1024_1_0_0)))
/-- The second block's halves after a later point. -/
def vMore (w : Vec F S1x1024x1x1024 .f32) (x0 x1 : Vec F S1x1x256x1x1024 .f32) (o : Vec F S2x256x1024 .f32) : Vec F S2x256x1024 .f32 :=
  stack2 (k5_pay14 w x0 (View.ld o (halfRect 0 inb_S2x256x1024_S1x256x1024_0_0_0))) (k5_pay6 (k5_pay8 w) x1 (View.ld o (halfRect 1 inb_S2x256x1024_S1x256x1024_1_0_0)))

section Run
variable (c : Dev nD) (t : Fin grid5.N) (li : Fin 2)
  (N1 : Memref sig .tc .hbm S2x1024x16x1024 .f32) (hN1 : N1.IsWhole) (N2 : Memref sig .tc .hbm S2x1024x16x1024 .f32) (hN2 : N2.IsWhole)
  (N3 : Memref sig .tc .hbm S2x256x16x1024 .f32) (hN3 : N3.IsWhole) (N4 : Memref sig .tc .hbm S2x256x16x1024 .f32) (hN4 : N4.IsWhole)
  (arg5 : Memref sig .tc .vmem S2x256x1024 .f32) (harg5 : arg5.IsWhole) (arg6 : Memref sig .tc .vmem S2x256x1024 .f32) (harg6 : arg6.IsWhole)
  (M1 : Memref sig .tc .vmem S2x1024x1x1024 .f32) (hM1 : M1.IsWhole) (M2 : Memref sig .tc .vmem S2x1024x1x1024 .f32) (hM2 : M2.IsWhole)
  (M3 : Memref sig .tc .vmem S2x2x256x1x1024 .f32) (hM3 : M3.IsWhole) (M4 : Memref sig .tc .vmem S2x2x256x1x1024 .f32) (hM4 : M4.IsWhole)
  (A : DmaSems sig S2x4)
  (W1 : HbBuf (F := F) c N1) (W2 : HbBuf (F := F) c N2) (W3 : HbBuf (F := F) c N3) (W4 : HbBuf (F := F) c N4)
  (x5 : Vec F S2x256x1024 .f32) (x6 : Vec F S2x256x1024 .f32)

/-- The four blocks in flight into slot `s`. -/
abbrev flying (s : Fin 2) (b : Fin 16) : sProp 𝕄 :=
  iprop(Ring.inflight (flyW c A 0 li M1 N1 W1) s b ∗ Ring.inflight (flyW c A 1 li M2 N2 W2) s b
    ∗ Ring.inflight (flyX c A 2 M3 N3 W3) s b ∗ Ring.inflight (flyX c A 3 M4 N4 W4) s b)
/-- The four slots `s` holding what landed from block `b`. -/
abbrev resting (s : Fin 2) (b : Fin 16) : sProp 𝕄 :=
  iprop(Ring.kept (cellF (F := F) c A 0) (holdW c M1 N1 W1) (landW c li M1 N1 W1) s b ∗ Ring.kept (cellF (F := F) c A 1) (holdW c M2 N2 W2) (landW c li M2 N2 W2) s b
    ∗ Ring.kept (cellF (F := F) c A 2) (holdX c M3 N3 W3) (landX c M3 N3 W3) s b ∗ Ring.kept (cellF (F := F) c A 3) (holdX c M4 N4 W4) (landX c M4 N4 W4) s b)
/-- The four slots `s` not used yet. -/
abbrev idle (s : Fin 2) : sProp 𝕄 :=
  iprop(Ring.free (cellF (F := F) c A 0) (holdW c M1 N1 W1) s ∗ Ring.free (cellF (F := F) c A 1) (holdW c M2 N2 W2) s
    ∗ Ring.free (cellF (F := F) c A 2) (holdX c M3 N3 W3) s ∗ Ring.free (cellF (F := F) c A 3) (holdX c M4 N4 W4) s)

set_option maxHeartbeats 4000000 in
/-- The first point: the blocks of this point and the next are sent for, and the outputs become the products of this point. -/
theorem run_first (hc0 : atFirst (grid5.coords t)) (hc1 : k5_cond2 (grid5.coords t) = 1#1) (hc2 : k5_cond3 (grid5.coords t) = 1#1) (hc3 : ¬k5_cond4 (grid5.coords t) = 1#1) (hc4 : k5_cond5 (grid5.coords t) = 1#1) (hc5 : ¬k5_cond6 (grid5.coords t) = 1#1)
    (W : Waits sig Unit) (K : PUnit → sProp 𝕄) :
    iprop(owns (c : Thread nD τ) arg5 fullShare x5 ∗ owns (c : Thread nD τ) arg6 fullShare x6
        ∗ idle c N1 N2 N3 N4 M1 M2 M3 M4 A W1 W2 W3 W4 (Ring.sl 2 t.val) ∗ idle c N1 N2 N3 N4 M1 M2 M3 M4 A W1 W2 W3 W4 (Ring.sl 2 (t.val + 1)) ∗ owes (c : Thread nD τ) 0 W
        ∗ (iprop(owns (c : Thread nD τ) arg5 fullShare (kStart (wBlk c li N1 W1 (Ring.bk 16 t.val)) (xBlk c N3 W3 (Ring.bk 16 t.val) 0) (xBlk c N3 W3 (Ring.bk 16 t.val) 1))
            ∗ owns (c : Thread nD τ) arg6 fullShare (vStart (wBlk c li N2 W2 (Ring.bk 16 t.val)) (xBlk c N4 W4 (Ring.bk 16 t.val) 0) (xBlk c N4 W4 (Ring.bk 16 t.val) 1))
            ∗ flying c li N1 N2 N3 N4 M1 M2 M3 M4 A W1 W2 W3 W4 (Ring.sl 2 (t.val + 1)) (Ring.bk 16 (t.val + 1)) ∗ resting c li N1 N2 N3 N4 M1 M2 M3 M4 A W1 W2 W3 W4 (Ring.sl 2 t.val) (Ring.bk 16 t.val) ∗ ∃ W', owes (c : Thread nD τ) 0 W') -∗ K ⟨⟩))
      ⊢ wp frame (wpE (defs₀ (F := F)) Variants.none c none) Set.univ (conv li (grid5.coords t) N1 hN1 N2 hN2 N3 hN3 N4 hN4 arg5 harg5 arg6 harg6 M1 hM1 M2 hM2 M3 hM3 M4 hM4 A) K := by
  haveI : Fact (atFirst (grid5.coords t)) := ⟨hc0⟩
  haveI : Fact (k5_cond2 (grid5.coords t) = 1#1) := ⟨hc1⟩
  haveI : Fact (k5_cond3 (grid5.coords t) = 1#1) := ⟨hc2⟩
  haveI : Fact (¬k5_cond4 (grid5.coords t) = 1#1) := ⟨hc3⟩
  haveI : Fact (k5_cond5 (grid5.coords t) = 1#1) := ⟨hc4⟩
  haveI : Fact (¬k5_cond6 (grid5.coords t) = 1#1) := ⟨hc5⟩
  unfold conv convPart3 convPart1 convPart2 convPart4
  have hcanon0 := slotW_first t M1 hc0
  have hcanon1 := slotW_first t M2 hc0
  have hcanon2 := slotX_first t M3 hc0
  have hcanon3 := slotX_first t M4 hc0
  have hcanon4 := srcW_first t li N1 hc0
  have hcanon5 := srcW_first t li N2 hc0
  have hcanon6 := srcX_first t N3 hc0
  have hcanon7 := srcX_first t N4 hc0
  have hcanon8 := cell0_first t A hc0
  have hcanon9 := cell1_first t A hc0
  have hcanon10 := cell2_first t A hc0
  have hcanon11 := cell3_first t A hc0
  unfold owns flying resting idle Ring.inflight
  iintro ⟨⟨%f0, %hf0, H0⟩, ⟨%f1, %hf1, H1⟩, ⟨I0, I1, I2, I3⟩, ⟨J0, J1, J2, J3⟩, HW, Hk⟩
  obtain rfl := harg5.eq_unread hf0
  obtain rfl := harg6.eq_unread hf1
  ihave HoP0 := (freeW_open c A 0 (Ring.sl 2 t.val) (Ring.bk 16 t.val) li M1 N1 W1) $$ I0
  icases HoP0 with ⟨Pc0, ⟨%Pf0, Ps0, Ph0, Pr0⟩⟩
  ihave HoP1 := (freeW_open c A 1 (Ring.sl 2 t.val) (Ring.bk 16 t.val) li M2 N2 W2) $$ I1
  icases HoP1 with ⟨Pc1, ⟨%Pf1, Ps1, Ph1, Pr1⟩⟩
  ihave HoP2 := (freeX_open c A 2 (Ring.sl 2 t.val) (Ring.bk 16 t.val) M3 N3 W3) $$ I2
  icases HoP2 with ⟨Pc2, ⟨%Pf2, Ps2, Ph2, Pr2⟩⟩
  ihave HoP3 := (freeX_open c A 3 (Ring.sl 2 t.val) (Ring.bk 16 t.val) M4 N4 W4) $$ I3
  icases HoP3 with ⟨Pc3, ⟨%Pf3, Ps3, Ph3, Pr3⟩⟩
  ihave HoQ0 := (freeW_open c A 0 (Ring.sl 2 (t.val + 1)) (Ring.bk 16 (t.val + 1)) li M1 N1 W1) $$ J0
  icases HoQ0 with ⟨Qc0, ⟨%Qf0, Qs0, Qh0, Qr0⟩⟩
  ihave HoQ1 := (freeW_open c A 1 (Ring.sl 2 (t.val + 1)) (Ring.bk 16 (t.val + 1)) li M2 N2 W2) $$ J1
  icases HoQ1 with ⟨Qc1, ⟨%Qf1, Qs1, Qh1, Qr1⟩⟩
  ihave HoQ2 := (freeX_open c A 2 (Ring.sl 2 (t.val + 1)) (Ring.bk 16 (t.val + 1)) M3 N3 W3) $$ J2
  icases HoQ2 with ⟨Qc2, ⟨%Qf2, Qs2, Qh2, Qr2⟩⟩
  ihave HoQ3 := (freeX_open c A 3 (Ring.sl 2 (t.val + 1)) (Ring.bk 16 (t.val + 1)) M4 N4 W4) $$ J3
  icases HoQ3 with ⟨Qc3, ⟨%Qf3, Qs3, Qh3, Qr3⟩⟩
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro
    refine (read_halves arg5 _ _ _).trans ?_
    exact congr (congrArg stack2 (congr (congrArg k5_pay11 (load_wBlk c t li N1 W1 M1 _ rfl _ _)) (load_xBlk c t N3 W3 M3 _ _ 0 _ _ _ (off_loadX0 t))))
      (congr (congrArg k5_pay3 (congrArg k5_pay7 (load_wBlk c t li N1 W1 M1 _ rfl _ _))) (congrArg k5_pay15 (load_xBlk c t N3 W3 M3 _ _ 1 _ _ _ (off_loadX1 t))))
  isplitl [H1]
  · iexists _; isplitr; swap; · iexact H1
    ipureintro
    refine (read_halves arg6 _ _ _).trans ?_
    exact congr (congrArg stack2 (congr (congrArg k5_pay12 (load_wBlk c t li N2 W2 M2 _ rfl _ _)) (load_xBlk c t N4 W4 M4 _ _ 0 _ _ _ (off_loadX0 t))))
      (congr (congrArg k5_pay4 (congrArg k5_pay8 (load_wBlk c t li N2 W2 M2 _ rfl _ _))) (load_xBlk c t N4 W4 M4 _ _ 1 _ _ _ (off_loadX1 t)))
  isplitl [Qc0 Qr0 Qc1 Qr1 Qc2 Qr2 Qc3 Qr3]
  · isplitl [Qc0 Qr0]
    · iexists _; isplitl [Qc0]; · iexact Qc0
      iexact Qr0
    isplitl [Qc1 Qr1]
    · iexists _; isplitl [Qc1]; · iexact Qc1
      iexact Qr1
    isplitl [Qc2 Qr2]
    · iexists _; isplitl [Qc2]; · iexact Qc2
      iexact Qr2
    iexists _; isplitl [Qc3]; · iexact Qc3
    iexact Qr3
  isplitl [Pc0 Ps0 Ph0 Pr0 Pc1 Ps1 Ph1 Pr1 Pc2 Ps2 Ph2 Pr2 Pc3 Ps3 Ph3 Pr3]
  · isplitl [Pc0 Ps0 Ph0 Pr0]
    · iapply (keptW_close c A 0 (Ring.sl 2 t.val) (Ring.bk 16 t.val) li M1 N1 W1 _); isplitl [Pc0]; · iexact Pc0
      isplitl [Ps0]; · iexact Ps0
      isplitl [Ph0]; · iexact Ph0
      iexact Pr0
    isplitl [Pc1 Ps1 Ph1 Pr1]
    · iapply (keptW_close c A 1 (Ring.sl 2 t.val) (Ring.bk 16 t.val) li M2 N2 W2 _); isplitl [Pc1]; · iexact Pc1
      isplitl [Ps1]; · iexact Ps1
      isplitl [Ph1]; · iexact Ph1
      iexact Pr1
    isplitl [Pc2 Ps2 Ph2 Pr2]
    · iapply (keptX_close c A 2 (Ring.sl 2 t.val) (Ring.bk 16 t.val) M3 N3 W3 _); isplitl [Pc2]; · iexact Pc2
      isplitl [Ps2]; · iexact Ps2
      isplitl [Ph2]; · iexact Ph2
      iexact Pr2
    iapply (keptX_close c A 3 (Ring.sl 2 t.val) (Ring.bk 16 t.val) M4 N4 W4 _); isplitl [Pc3]; · iexact Pc3
    isplitl [Ps3]; · iexact Ps3
    isplitl [Ph3]; · iexact Ph3
    iexact Pr3
  iexists _; iexact HW

set_option maxHeartbeats 4000000 in
/-- A middle point: the next blocks are sent for, and the products of this point are added to the outputs. -/
theorem run_mid (hc0 : ¬atFirst (grid5.coords t)) (hc1 : k5_cond2 (grid5.coords t) = 1#1) (hc2 : ¬k5_cond3 (grid5.coords t) = 1#1) (hc3 : k5_cond4 (grid5.coords t) = 1#1) (hc4 : ¬k5_cond5 (grid5.coords t) = 1#1) (hc5 : k5_cond6 (grid5.coords t) = 1#1)
    (W : Waits sig Unit) (K : PUnit → sProp 𝕄) :
    iprop(owns (c : Thread nD τ) arg5 fullShare x5 ∗ owns (c : Thread nD τ) arg6 fullShare x6
        ∗ flying c li N1 N2 N3 N4 M1 M2 M3 M4 A W1 W2 W3 W4 (Ring.sl 2 t.val) (Ring.bk 16 t.val) ∗ resting c li N1 N2 N3 N4 M1 M2 M3 M4 A W1 W2 W3 W4 (Ring.sl 2 (t.val + 1)) (Ring.bk 16 (t.val - 1)) ∗ owes (c : Thread nD τ) 0 W
        ∗ (iprop(owns (c : Thread nD τ) arg5 fullShare (kMore (wBlk c li N1 W1 (Ring.bk 16 t.val)) (xBlk c N3 W3 (Ring.bk 16 t.val) 0) (xBlk c N3 W3 (Ring.bk 16 t.val) 1) x5)
            ∗ owns (c : Thread nD τ) arg6 fullShare (vMore (wBlk c li N2 W2 (Ring.bk 16 t.val)) (xBlk c N4 W4 (Ring.bk 16 t.val) 0) (xBlk c N4 W4 (Ring.bk 16 t.val) 1) x6)
            ∗ flying c li N1 N2 N3 N4 M1 M2 M3 M4 A W1 W2 W3 W4 (Ring.sl 2 (t.val + 1)) (Ring.bk 16 (t.val + 1)) ∗ resting c li N1 N2 N3 N4 M1 M2 M3 M4 A W1 W2 W3 W4 (Ring.sl 2 t.val) (Ring.bk 16 t.val) ∗ ∃ W', owes (c : Thread nD τ) 0 W') -∗ K ⟨⟩))
      ⊢ wp frame (wpE (defs₀ (F := F)) Variants.none c none) Set.univ (conv li (grid5.coords t) N1 hN1 N2 hN2 N3 hN3 N4 hN4 arg5 harg5 arg6 harg6 M1 hM1 M2 hM2 M3 hM3 M4 hM4 A) K := by
  haveI : Fact (¬atFirst (grid5.coords t)) := ⟨hc0⟩
  haveI : Fact (k5_cond2 (grid5.coords t) = 1#1) := ⟨hc1⟩
  haveI : Fact (¬k5_cond3 (grid5.coords t) = 1#1) := ⟨hc2⟩
  haveI : Fact (k5_cond4 (grid5.coords t) = 1#1) := ⟨hc3⟩
  haveI : Fact (¬k5_cond5 (grid5.coords t) = 1#1) := ⟨hc4⟩
  haveI : Fact (k5_cond6 (grid5.coords t) = 1#1) := ⟨hc5⟩
  unfold conv convPart3 convPart2 convPart4
  unfold owns flying resting Ring.inflight
  iintro ⟨⟨%f0, %hf0, H0⟩, ⟨%f1, %hf1, H1⟩, ⟨⟨%g0, Gf0, Gr0⟩, ⟨%g1, Gf1, Gr1⟩, ⟨%g2, Gf2, Gr2⟩, ⟨%g3, Gf3, Gr3⟩⟩, ⟨J0, J1, J2, J3⟩, HW, Hk⟩
  obtain rfl := harg5.eq_unread hf0
  obtain rfl := harg6.eq_unread hf1
  ihave HoQ0 := (keptW_open c A 0 (Ring.sl 2 (t.val + 1)) (Ring.bk 16 (t.val + 1)) (Ring.bk 16 (t.val - 1)) li M1 N1 W1) $$ J0
  icases HoQ0 with ⟨Qc0, ⟨%Qf0, Qs0, Qh0, Qr0⟩⟩
  ihave HoQ1 := (keptW_open c A 1 (Ring.sl 2 (t.val + 1)) (Ring.bk 16 (t.val + 1)) (Ring.bk 16 (t.val - 1)) li M2 N2 W2) $$ J1
  icases HoQ1 with ⟨Qc1, ⟨%Qf1, Qs1, Qh1, Qr1⟩⟩
  ihave HoQ2 := (keptX_open c A 2 (Ring.sl 2 (t.val + 1)) (Ring.bk 16 (t.val + 1)) (Ring.bk 16 (t.val - 1)) M3 N3 W3) $$ J2
  icases HoQ2 with ⟨Qc2, ⟨%Qf2, Qs2, Qh2, Qr2⟩⟩
  ihave HoQ3 := (keptX_open c A 3 (Ring.sl 2 (t.val + 1)) (Ring.bk 16 (t.val + 1)) (Ring.bk 16 (t.val - 1)) M4 N4 W4) $$ J3
  icases HoQ3 with ⟨Qc3, ⟨%Qf3, Qs3, Qh3, Qr3⟩⟩
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro
    refine (read_halves arg5 _ _ _).trans ?_
    exact congr (congrArg stack2 (congr (congr (congrArg k5_pay13 (load_wBlk c t li N1 W1 M1 _ rfl _ _)) (load_xBlk c t N3 W3 M3 _ _ 0 _ _ _ (off_loadX0 t))) (readAt_rect harg5 _ _)))
      (congr (congr (congrArg k5_pay5 (congrArg k5_pay7 (load_wBlk c t li N1 W1 M1 _ rfl _ _))) (congrArg k5_pay15 (load_xBlk c t N3 W3 M3 _ _ 1 _ _ _ (off_loadX1 t)))) (readAt_rect harg5 _ _))
  isplitl [H1]
  · iexists _; isplitr; swap; · iexact H1
    ipureintro
    refine (read_halves arg6 _ _ _).trans ?_
    exact congr (congrArg stack2 (congr (congr (congrArg k5_pay14 (load_wBlk c t li N2 W2 M2 _ rfl _ _)) (load_xBlk c t N4 W4 M4 _ _ 0 _ _ _ (off_loadX0 t))) (readAt_rect harg6 _ _)))
      (congr (congr (congrArg k5_pay6 (congrArg k5_pay8 (load_wBlk c t li N2 W2 M2 _ rfl _ _))) (load_xBlk c t N4 W4 M4 _ _ 1 _ _ _ (off_loadX1 t))) (readAt_rect harg6 _ _))
  isplitl [Qc0 Qr0 Qc1 Qr1 Qc2 Qr2 Qc3 Qr3]
  · isplitl [Qc0 Qr0]
    · iexists _; isplitl [Qc0]; · iexact Qc0
      iexact Qr0
    isplitl [Qc1 Qr1]
    · iexists _; isplitl [Qc1]; · iexact Qc1
      iexact Qr1
    isplitl [Qc2 Qr2]
    · iexists _; isplitl [Qc2]; · iexact Qc2
      iexact Qr2
    iexists _; isplitl [Qc3]; · iexact Qc3
    iexact Qr3
  isplitl [Gf0 Gf0_dst Gf0_src Gr0 Gf1 Gf1_dst Gf1_src Gr1 Gf2 Gf2_dst Gf2_src Gr2 Gf3 Gf3_dst Gf3_src Gr3]
  · isplitl [Gf0 Gf0_dst Gf0_src Gr0]
    · iapply (keptW_close c A 0 (Ring.sl 2 t.val) (Ring.bk 16 t.val) li M1 N1 W1 _); isplitl [Gf0]; · iexact Gf0
      isplitl [Gf0_dst]; · iexact Gf0_dst
      isplitl [Gf0_src]; · iexact Gf0_src
      iexact Gr0
    isplitl [Gf1 Gf1_dst Gf1_src Gr1]
    · iapply (keptW_close c A 1 (Ring.sl 2 t.val) (Ring.bk 16 t.val) li M2 N2 W2 _); isplitl [Gf1]; · iexact Gf1
      isplitl [Gf1_dst]; · iexact Gf1_dst
      isplitl [Gf1_src]; · iexact Gf1_src
      iexact Gr1
    isplitl [Gf2 Gf2_dst Gf2_src Gr2]
    · iapply (keptX_close c A 2 (Ring.sl 2 t.val) (Ring.bk 16 t.val) M3 N3 W3 _); isplitl [Gf2]; · iexact Gf2
      isplitl [Gf2_dst]; · iexact Gf2_dst
      isplitl [Gf2_src]; · iexact Gf2_src
      iexact Gr2
    iapply (keptX_close c A 3 (Ring.sl 2 t.val) (Ring.bk 16 t.val) M4 N4 W4 _); isplitl [Gf3]; · iexact Gf3
    isplitl [Gf3_dst]; · iexact Gf3_dst
    isplitl [Gf3_src]; · iexact Gf3_src
    iexact Gr3
  iexists _; iexact HW

set_option maxHeartbeats 4000000 in
/-- The last point: nothing is sent for, and the products of this point are added to the outputs. -/
theorem run_last (hc0 : ¬atFirst (grid5.coords t)) (hc1 : ¬k5_cond2 (grid5.coords t) = 1#1) (hc2 : ¬k5_cond3 (grid5.coords t) = 1#1) (hc3 : k5_cond4 (grid5.coords t) = 1#1) (hc4 : ¬k5_cond5 (grid5.coords t) = 1#1) (hc5 : k5_cond6 (grid5.coords t) = 1#1)
    (W : Waits sig Unit) (K : PUnit → sProp 𝕄) :
    iprop(owns (c : Thread nD τ) arg5 fullShare x5 ∗ owns (c : Thread nD τ) arg6 fullShare x6
        ∗ flying c li N1 N2 N3 N4 M1 M2 M3 M4 A W1 W2 W3 W4 (Ring.sl 2 t.val) (Ring.bk 16 t.val) ∗ owes (c : Thread nD τ) 0 W
        ∗ (iprop(owns (c : Thread nD τ) arg5 fullShare (kMore (wBlk c li N1 W1 (Ring.bk 16 t.val)) (xBlk c N3 W3 (Ring.bk 16 t.val) 0) (xBlk c N3 W3 (Ring.bk 16 t.val) 1) x5)
            ∗ owns (c : Thread nD τ) arg6 fullShare (vMore (wBlk c li N2 W2 (Ring.bk 16 t.val)) (xBlk c N4 W4 (Ring.bk 16 t.val) 0) (xBlk c N4 W4 (Ring.bk 16 t.val) 1) x6)
            ∗ resting c li N1 N2 N3 N4 M1 M2 M3 M4 A W1 W2 W3 W4 (Ring.sl 2 t.val) (Ring.bk 16 t.val) ∗ ∃ W', owes (c : Thread nD τ) 0 W') -∗ K ⟨⟩))
      ⊢ wp frame (wpE (defs₀ (F := F)) Variants.none c none) Set.univ (conv li (grid5.coords t) N1 hN1 N2 hN2 N3 hN3 N4 hN4 arg5 harg5 arg6 harg6 M1 hM1 M2 hM2 M3 hM3 M4 hM4 A) K := by
  haveI : Fact (¬atFirst (grid5.coords t)) := ⟨hc0⟩
  haveI : Fact (¬k5_cond2 (grid5.coords t) = 1#1) := ⟨hc1⟩
  haveI : Fact (¬k5_cond3 (grid5.coords t) = 1#1) := ⟨hc2⟩
  haveI : Fact (k5_cond4 (grid5.coords t) = 1#1) := ⟨hc3⟩
  haveI : Fact (¬k5_cond5 (grid5.coords t) = 1#1) := ⟨hc4⟩
  haveI : Fact (k5_cond6 (grid5.coords t) = 1#1) := ⟨hc5⟩
  unfold conv convPart3 convPart4
  unfold owns flying resting Ring.inflight
  iintro ⟨⟨%f0, %hf0, H0⟩, ⟨%f1, %hf1, H1⟩, ⟨⟨%g0, Gf0, Gr0⟩, ⟨%g1, Gf1, Gr1⟩, ⟨%g2, Gf2, Gr2⟩, ⟨%g3, Gf3, Gr3⟩⟩, HW, Hk⟩
  obtain rfl := harg5.eq_unread hf0
  obtain rfl := harg6.eq_unread hf1
  sl_exec (disch := first | sl_exact hc0 | sl_exact hc1 | sl_exact hc2 | sl_exact hc3 | sl_exact hc4 | sl_exact hc5)
  sl_step
  iapply Hk
  isplitl [H0]
  · iexists _; isplitr; swap; · iexact H0
    ipureintro
    refine (read_halves arg5 _ _ _).trans ?_
    exact congr (congrArg stack2 (congr (congr (congrArg k5_pay13 (load_wBlk c t li N1 W1 M1 _ rfl _ _)) (load_xBlk c t N3 W3 M3 _ _ 0 _ _ _ (off_loadX0 t))) (readAt_rect harg5 _ _)))
      (congr (congr (congrArg k5_pay5 (congrArg k5_pay7 (load_wBlk c t li N1 W1 M1 _ rfl _ _))) (congrArg k5_pay15 (load_xBlk c t N3 W3 M3 _ _ 1 _ _ _ (off_loadX1 t)))) (readAt_rect harg5 _ _))
  isplitl [H1]
  · iexists _; isplitr; swap; · iexact H1
    ipureintro
    refine (read_halves arg6 _ _ _).trans ?_
    exact congr (congrArg stack2 (congr (congr (congrArg k5_pay14 (load_wBlk c t li N2 W2 M2 _ rfl _ _)) (load_xBlk c t N4 W4 M4 _ _ 0 _ _ _ (off_loadX0 t))) (readAt_rect harg6 _ _)))
      (congr (congr (congrArg k5_pay6 (congrArg k5_pay8 (load_wBlk c t li N2 W2 M2 _ rfl _ _))) (load_xBlk c t N4 W4 M4 _ _ 1 _ _ _ (off_loadX1 t))) (readAt_rect harg6 _ _))
  isplitl [Gf0 Gf0_dst Gf0_src Gr0 Gf1 Gf1_dst Gf1_src Gr1 Gf2 Gf2_dst Gf2_src Gr2 Gf3 Gf3_dst Gf3_src Gr3]
  · isplitl [Gf0 Gf0_dst Gf0_src Gr0]
    · iapply (keptW_close c A 0 (Ring.sl 2 t.val) (Ring.bk 16 t.val) li M1 N1 W1 _); isplitl [Gf0]; · iexact Gf0
      isplitl [Gf0_dst]; · iexact Gf0_dst
      isplitl [Gf0_src]; · iexact Gf0_src
      iexact Gr0
    isplitl [Gf1 Gf1_dst Gf1_src Gr1]
    · iapply (keptW_close c A 1 (Ring.sl 2 t.val) (Ring.bk 16 t.val) li M2 N2 W2 _); isplitl [Gf1]; · iexact Gf1
      isplitl [Gf1_dst]; · iexact Gf1_dst
      isplitl [Gf1_src]; · iexact Gf1_src
      iexact Gr1
    isplitl [Gf2 Gf2_dst Gf2_src Gr2]
    · iapply (keptX_close c A 2 (Ring.sl 2 t.val) (Ring.bk 16 t.val) M3 N3 W3 _); isplitl [Gf2]; · iexact Gf2
      isplitl [Gf2_dst]; · iexact Gf2_dst
      isplitl [Gf2_src]; · iexact Gf2_src
      iexact Gr2
    iapply (keptX_close c A 3 (Ring.sl 2 t.val) (Ring.bk 16 t.val) M4 N4 W4 _); isplitl [Gf3]; · iexact Gf3
    isplitl [Gf3_dst]; · iexact Gf3_dst
    isplitl [Gf3_src]; · iexact Gf3_src
    iexact Gr3
  iexists _; iexact HW

end Run

end Cert.KernelIdeal.Whole

end
-- ==== Proof.Whole.ConvStep.lean ====
/-
  One grid point of the convolutions' body, with the four rings as the invariant: what the rings hold before a point and
  after it, what the two output blocks hold after each point, and what goes into the rings at the start and comes out at
  the end.
-/
module

public import proofs.«01_k».proof.Proof.Whole.ConvRun

@[expose] public section

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## A two-slot ring before each step, for any pieces -/

section Steps
variable {M : Type} [URA M] {C : Fin 2 → Type} (cell : Fin 2 → sProp M) (slot : (s : Fin 2) → C s → sProp M)
  (flight : (s : Fin 2) → Fin 16 → C s → sProp M) (landed : (s : Fin 2) → Fin 16 → C s → C s)

/-- The ring before step `k`, no block held apart from its operand. -/
def ringOf (k : ℕ) : sProp M :=
  if k = 0 then Ring.At₀ cell slot (fun _ : Fin 16 => (iprop(emp) : sProp M)) else Ring.AtK 1 cell slot (fun _ : Fin 16 => (iprop(emp) : sProp M)) flight landed k

theorem ringOf_first (k : ℕ) (h : k = 0) : ringOf cell slot flight landed k ⊢ iprop(Ring.free cell slot (Ring.sl 2 k) ∗ Ring.free cell slot (Ring.sl 2 (k + 1))) := by
  unfold ringOf
  rw [if_pos h, Ring.At₀_eq2' _ _ _ k h (by decide : 2 ≤ 16)]
  iintro ⟨-, H⟩; iexact H

theorem ringOf_first_out (k : ℕ) (h : k = 0) :
    iprop(Ring.inflight flight (Ring.sl 2 (k + 1)) (Ring.bk 16 (k + 1)) ∗ Ring.kept cell slot landed (Ring.sl 2 k) (Ring.bk 16 k)) ⊢ ringOf cell slot flight landed (k + 1) := by
  unfold ringOf
  rw [if_neg (Nat.succ_ne_zero k), Ring.AtK2_one' _ _ _ _ _ k h (by decide : 1 < 16)]
  exact Ring.with_homes₀

theorem ringOf_mid (k : ℕ) (h1 : 1 ≤ k) (h : k + 1 < 16) :
    ringOf cell slot flight landed k ⊢ iprop(Ring.inflight flight (Ring.sl 2 k) (Ring.bk 16 k) ∗ Ring.kept cell slot landed (Ring.sl 2 (k + 1)) (Ring.bk 16 (k - 1))) := by
  unfold ringOf
  rw [if_neg (by omega), Ring.AtK2_here _ _ _ _ _ k h1 h]
  iintro ⟨-, H⟩; iexact H

theorem ringOf_mid_out (k : ℕ) (h1 : 1 ≤ k) (h : k + 1 < 16) :
    iprop(Ring.inflight flight (Ring.sl 2 (k + 1)) (Ring.bk 16 (k + 1)) ∗ Ring.kept cell slot landed (Ring.sl 2 k) (Ring.bk 16 k)) ⊢ ringOf cell slot flight landed (k + 1) := by
  unfold ringOf
  rw [if_neg (Nat.succ_ne_zero k), Ring.AtK2_next _ _ _ _ _ k h1 h]
  exact Ring.with_homes (Entails.refl _)

theorem ringOf_last (k : ℕ) (h1 : 1 ≤ k) (h : k + 1 = 16) :
    ringOf cell slot flight landed k ⊢ iprop(Ring.inflight flight (Ring.sl 2 k) (Ring.bk 16 k) ∗ Ring.kept cell slot landed (Ring.sl 2 (k + 1)) (Ring.bk 16 (k - 1))) := by
  unfold ringOf
  rw [if_neg (by omega), Ring.AtK2_here_last _ _ _ _ _ k h1 h]
  iintro ⟨-, H⟩; iexact H

theorem ringOf_last_out (k : ℕ) (h1 : 1 ≤ k) (h : k + 1 = 16) :
    iprop(Ring.kept cell slot landed (Ring.sl 2 (k + 1)) (Ring.bk 16 (k - 1)) ∗ Ring.kept cell slot landed (Ring.sl 2 k) (Ring.bk 16 k)) ⊢ ringOf cell slot flight landed (k + 1) := by
  unfold ringOf
  rw [if_neg (Nat.succ_ne_zero k), Ring.AtK2_next_last _ _ _ _ _ k h1 h]
  exact Ring.with_homes (Entails.refl _)

end Steps

local notation "𝕄" => MT nD τ sig Unit (Elt F) ℕ (Pipeline.UD sig nD τ) ℕ

section Run
variable (c : Dev nD) (t : Fin grid5.N) (li : Fin 2)
  (N1 : Memref sig .tc .hbm S2x1024x16x1024 .f32) (hN1 : N1.IsWhole) (N2 : Memref sig .tc .hbm S2x1024x16x1024 .f32) (hN2 : N2.IsWhole)
  (N3 : Memref sig .tc .hbm S2x256x16x1024 .f32) (hN3 : N3.IsWhole) (N4 : Memref sig .tc .hbm S2x256x16x1024 .f32) (hN4 : N4.IsWhole)
  (arg5 : Memref sig .tc .vmem S2x256x1024 .f32) (harg5 : arg5.IsWhole) (arg6 : Memref sig .tc .vmem S2x256x1024 .f32) (harg6 : arg6.IsWhole)
  (M1 : Memref sig .tc .vmem S2x1024x1x1024 .f32) (hM1 : M1.IsWhole) (M2 : Memref sig .tc .vmem S2x1024x1x1024 .f32) (hM2 : M2.IsWhole)
  (M3 : Memref sig .tc .vmem S2x2x256x1x1024 .f32) (hM3 : M3.IsWhole) (M4 : Memref sig .tc .vmem S2x2x256x1x1024 .f32) (hM4 : M4.IsWhole)
  (A : DmaSems sig S2x4)
  (W1 : HbBuf (F := F) c N1) (W2 : HbBuf (F := F) c N2) (W3 : HbBuf (F := F) c N3) (W4 : HbBuf (F := F) c N4)
  (x5 : Vec F S2x256x1024 .f32) (x6 : Vec F S2x256x1024 .f32)

/-- The four rings before point `k`. -/
def rings (k : ℕ) : sProp 𝕄 :=
  iprop(ringOf (cellF (F := F) c A 0) (holdW c M1 N1 W1) (flyW c A 0 li M1 N1 W1) (landW c li M1 N1 W1) k
    ∗ ringOf (cellF (F := F) c A 1) (holdW c M2 N2 W2) (flyW c A 1 li M2 N2 W2) (landW c li M2 N2 W2) k
    ∗ ringOf (cellF (F := F) c A 2) (holdX c M3 N3 W3) (flyX c A 2 M3 N3 W3) (landX c M3 N3 W3) k
    ∗ ringOf (cellF (F := F) c A 3) (holdX c M4 N4 W4) (flyX c A 3 M4 N4 W4) (landX c M4 N4 W4) k)

/-- What the rings are made of: each ring's scratch, semaphores and operand. -/
abbrev allParts : sProp 𝕄 :=
  iprop(parts c M1 N1 W1 A 0 ∗ parts c M2 N2 W2 A 1 ∗ parts c M3 N3 W3 A 2 ∗ parts c M4 N4 W4 A 3)

include hM1 hM2 hM3 hM4 in
theorem rings_in : allParts c N1 N2 N3 N4 M1 M2 M3 M4 A W1 W2 W3 W4 ⊢ rings c li N1 N2 N3 N4 M1 M2 M3 M4 A W1 W2 W3 W4 0 :=
  BI.sep_mono (ringW_in c A 0 li M1 hM1 N1 W1) (BI.sep_mono (ringW_in c A 1 li M2 hM2 N2 W2) (BI.sep_mono (ringX_in c A 2 M3 hM3 N3 W3) (ringX_in c A 3 M4 hM4 N4 W4)))

include hM1 hM2 hM3 hM4 in
theorem rings_out : rings c li N1 N2 N3 N4 M1 M2 M3 M4 A W1 W2 W3 W4 16 ⊢ allParts c N1 N2 N3 N4 M1 M2 M3 M4 A W1 W2 W3 W4 :=
  BI.sep_mono (ringW_out c A 0 li M1 hM1 N1 W1) (BI.sep_mono (ringW_out c A 1 li M2 hM2 N2 W2) (BI.sep_mono (ringX_out c A 2 M3 hM3 N3 W3) (ringX_out c A 3 M4 hM4 N4 W4)))

/-- The two output blocks after point `n`: the products of point 0, and those of each later point added. -/
def outAcc : ℕ → Vec F S2x256x1024 .f32 × Vec F S2x256x1024 .f32
  | 0 => (kStart (wBlk c li N1 W1 (Ring.bk 16 0)) (xBlk c N3 W3 (Ring.bk 16 0) 0) (xBlk c N3 W3 (Ring.bk 16 0) 1),
      vStart (wBlk c li N2 W2 (Ring.bk 16 0)) (xBlk c N4 W4 (Ring.bk 16 0) 0) (xBlk c N4 W4 (Ring.bk 16 0) 1))
  | n + 1 => (kMore (wBlk c li N1 W1 (Ring.bk 16 (n + 1))) (xBlk c N3 W3 (Ring.bk 16 (n + 1)) 0) (xBlk c N3 W3 (Ring.bk 16 (n + 1)) 1) (outAcc n).1,
      vMore (wBlk c li N2 W2 (Ring.bk 16 (n + 1))) (xBlk c N4 W4 (Ring.bk 16 (n + 1)) 0) (xBlk c N4 W4 (Ring.bk 16 (n + 1)) 1) (outAcc n).2)

/-- The first point, with the rings. -/
theorem step_first (ht : t.val = 0) (W : Waits sig Unit) (K : PUnit → sProp 𝕄) :
    iprop(owns (c : Thread nD τ) arg5 fullShare x5 ∗ owns (c : Thread nD τ) arg6 fullShare x6
        ∗ rings c li N1 N2 N3 N4 M1 M2 M3 M4 A W1 W2 W3 W4 t.val ∗ owes (c : Thread nD τ) 0 W
        ∗ (iprop(owns (c : Thread nD τ) arg5 fullShare (outAcc c li N1 N2 N3 N4 W1 W2 W3 W4 t.val).1
            ∗ owns (c : Thread nD τ) arg6 fullShare (outAcc c li N1 N2 N3 N4 W1 W2 W3 W4 t.val).2
            ∗ rings c li N1 N2 N3 N4 M1 M2 M3 M4 A W1 W2 W3 W4 (t.val + 1) ∗ ∃ W', owes (c : Thread nD τ) 0 W') -∗ K ⟨⟩))
      ⊢ wp frame (wpE (defs₀ (F := F)) Variants.none c none) Set.univ (conv li (grid5.coords t) N1 hN1 N2 hN2 N3 hN3 N4 hN4 arg5 harg5 arg6 harg6 M1 hM1 M2 hM2 M3 hM3 M4 hM4 A) K := by
  have h5 : (outAcc c li N1 N2 N3 N4 W1 W2 W3 W4 t.val).1 = kStart (wBlk c li N1 W1 (Ring.bk 16 t.val)) (xBlk c N3 W3 (Ring.bk 16 t.val) 0) (xBlk c N3 W3 (Ring.bk 16 t.val) 1) := by rw [ht]; rfl
  have h6 : (outAcc c li N1 N2 N3 N4 W1 W2 W3 W4 t.val).2 = vStart (wBlk c li N2 W2 (Ring.bk 16 t.val)) (xBlk c N4 W4 (Ring.bk 16 t.val) 0) (xBlk c N4 W4 (Ring.bk 16 t.val) 1) := by rw [ht]; rfl
  rw [h5, h6]
  unfold rings
  iintro ⟨H5, H6, ⟨R0, R1, R2, R3⟩, HW, Hk⟩
  ihave P0 := (ringOf_first (cellF (F := F) c A 0) (holdW c M1 N1 W1) (flyW c A 0 li M1 N1 W1) (landW c li M1 N1 W1) t.val ht) $$ R0
  icases P0 with ⟨I0, J0⟩
  ihave P1 := (ringOf_first (cellF (F := F) c A 1) (holdW c M2 N2 W2) (flyW c A 1 li M2 N2 W2) (landW c li M2 N2 W2) t.val ht) $$ R1
  icases P1 with ⟨I1, J1⟩
  ihave P2 := (ringOf_first (cellF (F := F) c A 2) (holdX c M3 N3 W3) (flyX c A 2 M3 N3 W3) (landX c M3 N3 W3) t.val ht) $$ R2
  icases P2 with ⟨I2, J2⟩
  ihave P3 := (ringOf_first (cellF (F := F) c A 3) (holdX c M4 N4 W4) (flyX c A 3 M4 N4 W4) (landX c M4 N4 W4) t.val ht) $$ R3
  icases P3 with ⟨I3, J3⟩
  iapply (run_first c t li N1 hN1 N2 hN2 N3 hN3 N4 hN4 arg5 harg5 arg6 harg6 M1 hM1 M2 hM2 M3 hM3 M4 hM4 A W1 W2 W3 W4 x5 x6
    ((atFirst_iff t).mpr ht) ((cond2_iff t).mpr (by omega)) ((cond3_iff t).mpr ht) (fun h => by have := (cond4_iff t).mp h; omega) ((cond5_iff t).mpr ht) (fun h => by have := (cond6_iff t).mp h; omega) W K)
  isplitl [H5]; · iexact H5
  isplitl [H6]; · iexact H6
  isplitl [I0 I1 I2 I3]
  · isplitl [I0]; · iexact I0
    isplitl [I1]; · iexact I1
    isplitl [I2]; · iexact I2
    iexact I3
  isplitl [J0 J1 J2 J3]
  · isplitl [J0]; · iexact J0
    isplitl [J1]; · iexact J1
    isplitl [J2]; · iexact J2
    iexact J3
  isplitl [HW]; · iexact HW
  iintro ⟨H5, H6, ⟨I0, I1, I2, I3⟩, ⟨J0, J1, J2, J3⟩, HW⟩
  iapply Hk
  isplitl [H5]; · iexact H5
  isplitl [H6]; · iexact H6
  isplitr [HW]
  swap
  · iexact HW
  isplitl [I0 J0]
  · iapply (ringOf_first_out (cellF (F := F) c A 0) (holdW c M1 N1 W1) (flyW c A 0 li M1 N1 W1) (landW c li M1 N1 W1) t.val ht); isplitl [I0]; · iexact I0
    iexact J0
  isplitl [I1 J1]
  · iapply (ringOf_first_out (cellF (F := F) c A 1) (holdW c M2 N2 W2) (flyW c A 1 li M2 N2 W2) (landW c li M2 N2 W2) t.val ht); isplitl [I1]; · iexact I1
    iexact J1
  isplitl [I2 J2]
  · iapply (ringOf_first_out (cellF (F := F) c A 2) (holdX c M3 N3 W3) (flyX c A 2 M3 N3 W3) (landX c M3 N3 W3) t.val ht); isplitl [I2]; · iexact I2
    iexact J2
  iapply (ringOf_first_out (cellF (F := F) c A 3) (holdX c M4 N4 W4) (flyX c A 3 M4 N4 W4) (landX c M4 N4 W4) t.val ht); isplitl [I3]; · iexact I3
  iexact J3

/-- A later point, with the rings. -/
theorem step_next (ht : 1 ≤ t.val) (h5 : x5 = (outAcc c li N1 N2 N3 N4 W1 W2 W3 W4 (t.val - 1)).1) (h6 : x6 = (outAcc c li N1 N2 N3 N4 W1 W2 W3 W4 (t.val - 1)).2)
    (W : Waits sig Unit) (K : PUnit → sProp 𝕄) :
    iprop(owns (c : Thread nD τ) arg5 fullShare x5 ∗ owns (c : Thread nD τ) arg6 fullShare x6
        ∗ rings c li N1 N2 N3 N4 M1 M2 M3 M4 A W1 W2 W3 W4 t.val ∗ owes (c : Thread nD τ) 0 W
        ∗ (iprop(owns (c : Thread nD τ) arg5 fullShare (outAcc c li N1 N2 N3 N4 W1 W2 W3 W4 t.val).1
            ∗ owns (c : Thread nD τ) arg6 fullShare (outAcc c li N1 N2 N3 N4 W1 W2 W3 W4 t.val).2
            ∗ rings c li N1 N2 N3 N4 M1 M2 M3 M4 A W1 W2 W3 W4 (t.val + 1) ∗ ∃ W', owes (c : Thread nD τ) 0 W') -∗ K ⟨⟩))
      ⊢ wp frame (wpE (defs₀ (F := F)) Variants.none c none) Set.univ (conv li (grid5.coords t) N1 hN1 N2 hN2 N3 hN3 N4 hN4 arg5 harg5 arg6 harg6 M1 hM1 M2 hM2 M3 hM3 M4 hM4 A) K := by
  have e5 : (outAcc c li N1 N2 N3 N4 W1 W2 W3 W4 t.val).1 = kMore (wBlk c li N1 W1 (Ring.bk 16 t.val)) (xBlk c N3 W3 (Ring.bk 16 t.val) 0) (xBlk c N3 W3 (Ring.bk 16 t.val) 1) x5 := by
    obtain ⟨n, hn⟩ : ∃ n, t.val = n + 1 := ⟨t.val - 1, by omega⟩
    rw [h5, hn]; rfl
  have e6 : (outAcc c li N1 N2 N3 N4 W1 W2 W3 W4 t.val).2 = vMore (wBlk c li N2 W2 (Ring.bk 16 t.val)) (xBlk c N4 W4 (Ring.bk 16 t.val) 0) (xBlk c N4 W4 (Ring.bk 16 t.val) 1) x6 := by
    obtain ⟨n, hn⟩ : ∃ n, t.val = n + 1 := ⟨t.val - 1, by omega⟩
    rw [h6, hn]; rfl
  rw [e5, e6]
  clear h5 h6 e5 e6
  have hN : t.val < 16 := lt_of_lt_of_eq t.isLt N_5
  unfold rings
  by_cases hl : t.val + 1 < 16
  · iintro ⟨H5, H6, ⟨R0, R1, R2, R3⟩, HW, Hk⟩
    ihave P0 := (ringOf_mid (cellF (F := F) c A 0) (holdW c M1 N1 W1) (flyW c A 0 li M1 N1 W1) (landW c li M1 N1 W1) t.val ht hl) $$ R0
    icases P0 with ⟨I0, J0⟩
    ihave P1 := (ringOf_mid (cellF (F := F) c A 1) (holdW c M2 N2 W2) (flyW c A 1 li M2 N2 W2) (landW c li M2 N2 W2) t.val ht hl) $$ R1
    icases P1 with ⟨I1, J1⟩
    ihave P2 := (ringOf_mid (cellF (F := F) c A 2) (holdX c M3 N3 W3) (flyX c A 2 M3 N3 W3) (landX c M3 N3 W3) t.val ht hl) $$ R2
    icases P2 with ⟨I2, J2⟩
    ihave P3 := (ringOf_mid (cellF (F := F) c A 3) (holdX c M4 N4 W4) (flyX c A 3 M4 N4 W4) (landX c M4 N4 W4) t.val ht hl) $$ R3
    icases P3 with ⟨I3, J3⟩
    iapply (run_mid c t li N1 hN1 N2 hN2 N3 hN3 N4 hN4 arg5 harg5 arg6 harg6 M1 hM1 M2 hM2 M3 hM3 M4 hM4 A W1 W2 W3 W4 x5 x6
      (fun h => by have := (atFirst_iff t).mp h; omega) ((cond2_iff t).mpr (by omega)) (fun h => by have := (cond3_iff t).mp h; omega) ((cond4_iff t).mpr ht) (fun h => by have := (cond5_iff t).mp h; omega) ((cond6_iff t).mpr ht) W K)
    isplitl [H5]; · iexact H5
    isplitl [H6]; · iexact H6
    isplitl [I0 I1 I2 I3]
    · isplitl [I0]; · iexact I0
      isplitl [I1]; · iexact I1
      isplitl [I2]; · iexact I2
      iexact I3
    isplitl [J0 J1 J2 J3]
    · isplitl [J0]; · iexact J0
      isplitl [J1]; · iexact J1
      isplitl [J2]; · iexact J2
      iexact J3
    isplitl [HW]; · iexact HW
    iintro ⟨H5, H6, ⟨I0, I1, I2, I3⟩, ⟨J0, J1, J2, J3⟩, HW⟩
    iapply Hk
    isplitl [H5]; · iexact H5
    isplitl [H6]; · iexact H6
    isplitr [HW]
    swap
    · iexact HW
    isplitl [I0 J0]
    · iapply (ringOf_mid_out (cellF (F := F) c A 0) (holdW c M1 N1 W1) (flyW c A 0 li M1 N1 W1) (landW c li M1 N1 W1) t.val ht hl); isplitl [I0]; · iexact I0
      iexact J0
    isplitl [I1 J1]
    · iapply (ringOf_mid_out (cellF (F := F) c A 1) (holdW c M2 N2 W2) (flyW c A 1 li M2 N2 W2) (landW c li M2 N2 W2) t.val ht hl); isplitl [I1]; · iexact I1
      iexact J1
    isplitl [I2 J2]
    · iapply (ringOf_mid_out (cellF (F := F) c A 2) (holdX c M3 N3 W3) (flyX c A 2 M3 N3 W3) (landX c M3 N3 W3) t.val ht hl); isplitl [I2]; · iexact I2
      iexact J2
    iapply (ringOf_mid_out (cellF (F := F) c A 3) (holdX c M4 N4 W4) (flyX c A 3 M4 N4 W4) (landX c M4 N4 W4) t.val ht hl); isplitl [I3]; · iexact I3
    iexact J3
  · have hl' : t.val + 1 = 16 := by omega
    iintro ⟨H5, H6, ⟨R0, R1, R2, R3⟩, HW, Hk⟩
    ihave P0 := (ringOf_last (cellF (F := F) c A 0) (holdW c M1 N1 W1) (flyW c A 0 li M1 N1 W1) (landW c li M1 N1 W1) t.val ht hl') $$ R0
    icases P0 with ⟨I0, J0⟩
    ihave P1 := (ringOf_last (cellF (F := F) c A 1) (holdW c M2 N2 W2) (flyW c A 1 li M2 N2 W2) (landW c li M2 N2 W2) t.val ht hl') $$ R1
    icases P1 with ⟨I1, J1⟩
    ihave P2 := (ringOf_last (cellF (F := F) c A 2) (holdX c M3 N3 W3) (flyX c A 2 M3 N3 W3) (landX c M3 N3 W3) t.val ht hl') $$ R2
    icases P2 with ⟨I2, J2⟩
    ihave P3 := (ringOf_last (cellF (F := F) c A 3) (holdX c M4 N4 W4) (flyX c A 3 M4 N4 W4) (landX c M4 N4 W4) t.val ht hl') $$ R3
    icases P3 with ⟨I3, J3⟩
    iapply (run_last c t li N1 hN1 N2 hN2 N3 hN3 N4 hN4 arg5 harg5 arg6 harg6 M1 hM1 M2 hM2 M3 hM3 M4 hM4 A W1 W2 W3 W4 x5 x6
      (fun h => by have := (atFirst_iff t).mp h; omega) (fun h => by have := (cond2_iff t).mp h; omega) (fun h => by have := (cond3_iff t).mp h; omega) ((cond4_iff t).mpr ht) (fun h => by have := (cond5_iff t).mp h; omega) ((cond6_iff t).mpr ht) W K)
    isplitl [H5]; · iexact H5
    isplitl [H6]; · iexact H6
    isplitl [I0 I1 I2 I3]
    · isplitl [I0]; · iexact I0
      isplitl [I1]; · iexact I1
      isplitl [I2]; · iexact I2
      iexact I3
    isplitl [HW]; · iexact HW
    iintro ⟨H5, H6, ⟨I0, I1, I2, I3⟩, HW⟩
    iapply Hk
    isplitl [H5]; · iexact H5
    isplitl [H6]; · iexact H6
    isplitr [HW]
    swap
    · iexact HW
    isplitl [J0 I0]
    · iapply (ringOf_last_out (cellF (F := F) c A 0) (holdW c M1 N1 W1) (flyW c A 0 li M1 N1 W1) (landW c li M1 N1 W1) t.val ht hl'); isplitl [J0]; · iexact J0
      iexact I0
    isplitl [J1 I1]
    · iapply (ringOf_last_out (cellF (F := F) c A 1) (holdW c M2 N2 W2) (flyW c A 1 li M2 N2 W2) (landW c li M2 N2 W2) t.val ht hl'); isplitl [J1]; · iexact J1
      iexact I1
    isplitl [J2 I2]
    · iapply (ringOf_last_out (cellF (F := F) c A 2) (holdX c M3 N3 W3) (flyX c A 2 M3 N3 W3) (landX c M3 N3 W3) t.val ht hl'); isplitl [J2]; · iexact J2
      iexact I2
    iapply (ringOf_last_out (cellF (F := F) c A 3) (holdX c M4 N4 W4) (flyX c A 3 M4 N4 W4) (landX c M4 N4 W4) t.val ht hl'); isplitl [J3]; · iexact J3
    iexact I3

end Run

end Cert.KernelIdeal.Whole

end
-- ==== Proof.Whole.K5.lean ====
/-
  Region 5 (the first convolution layer's projections): the rings as the pipeline's invariant, what the two output blocks
  hold after each point, the body's obligation, and how the region's scratch, semaphores and operands enter the rings
  and leave them.
-/
module

public import proofs.«01_k».proof.Proof.Whole.ConvStep
public import Idealize.ShloMosaic.Lib.Pipeline.TableIdle

@[expose] public section

set_option maxRecDepth 4096

noncomputable section

namespace Cert.KernelIdeal.Whole.K5

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The two output blocks after point `n`. -/
def acc (c : Dev nD) (n : ℕ) : Vec F S2x256x1024 .f32 × Vec F S2x256x1024 .f32 :=
  outAcc (F := F) c 0 (Memref.whole main_v5) (Memref.whole main_v6) (Memref.whole main_v9) (Memref.whole main_v10)
    (V c main_v5) (V c main_v6) (V c main_v9) (V c main_v10) n

/-- The rings before point `k`. -/
def ringsAt (c : Dev nD) (k : ℕ) : sProp 𝕄 :=
  rings (F := F) c 0 (Memref.whole main_v5) (Memref.whole main_v6) (Memref.whole main_v9) (Memref.whole main_v10)
    (Memref.whole cc5_scratch0) (Memref.whole cc5_scratch1) (Memref.whole cc5_scratch2) (Memref.whole cc5_scratch3) cc5_scratch4
    (V c main_v5) (V c main_v6) (V c main_v9) (V c main_v10) k

/-- The scoped buffers the rings leave alone. -/
abbrev restBut (c : Dev nD) : sProp 𝕄 :=
  Pipeline.scopedRestBut (Ix := Unit) (Name := ℕ) (U := Pipeline.UD sig nD τ) (Lvl := ℕ) (Val := Elt F) spec5 c [cc5_scratch0, cc5_scratch1, cc5_scratch2, cc5_scratch3]

/-- The region's invariant before point `k`. -/
def ΦK (c : Dev nD) (k : ℕ) : sProp 𝕄 := iprop(restBut (F := F) c ∗ (∃ r, prngReg c r) ∗ ringsAt V c k)

/-- The outputs' buffers hold `acc` after each point. -/
def dat (c : Dev nD) : Dat τ (Elt F) Unit ℕ (Pipeline.UD sig nD τ) ℕ cfg5 c where
  A w := V c (Pipeline.arrRef spec5 w)
  after w t := match w with
    | ⟨0, _⟩ => (acc V c t.val).1
    | ⟨1, _⟩ => (acc V c t.val).2
  Φ t := ΦK V c t.val
  q _ := fullShare
  owed _ := 0

theorem A_eq (c : Dev nD) (w : Fin cfg5.W) : (dat V c).A w = V c (Pipeline.arrRef spec5 w) := by
  dsimp only [dat]

/-- No window is idle at any point. -/
theorem live : ∀ (w : Fin cfg5.W) (t : Fin cfg5.N), cfg5.idle w (grid5.coords t) = false := by decide +kernel

/-- An output's buffer is fresh at the first point alone, and after the last. -/
def freshTab (n : ℕ) : Bool := n == 0 || n == 16

theorem fresh0 (t : Fin cfg5.N) : cfg5.fresh 0 t.val = freshTab t.val :=
  Pipeline.Cfg.fresh_tab cfg5 0 freshTab rfl (by decide +kernel) t.val (Nat.le_of_lt t.isLt)
theorem fresh1 (t : Fin cfg5.N) : cfg5.fresh 1 t.val = freshTab t.val :=
  Pipeline.Cfg.fresh_tab cfg5 1 freshTab rfl (by decide +kernel) t.val (Nat.le_of_lt t.isLt)
theorem freshTab_false (n : ℕ) (h : 1 ≤ n) (hn : n < 16) : freshTab n = false := by
  simp only [freshTab, Bool.or_eq_false_iff, beq_eq_false_iff_ne]; omega

/-- After the first point an output's buffer holds what the point before left. -/
theorem before0 (c : Dev nD) (t : Fin cfg5.N) (h : 1 ≤ t.val) (d) : (dat V c).before 0 t d = (acc V c (t.val - 1)).1 := by
  rw [Dat.before_out_traj _ 0 rfl (fun _ _ => rfl) (fun t _ hi _ => absurd ((live 0 t).symm.trans hi) Bool.false_ne_true) t.val t rfl d,
    if_neg (by rw [fresh0, freshTab_false _ h (lt_of_lt_of_eq t.isLt N_5)]; exact Bool.false_ne_true)]
  dsimp only [dat]
theorem before1 (c : Dev nD) (t : Fin cfg5.N) (h : 1 ≤ t.val) (d) : (dat V c).before 1 t d = (acc V c (t.val - 1)).2 := by
  rw [Dat.before_out_traj _ 1 rfl (fun _ _ => rfl) (fun t _ hi _ => absurd ((live 1 t).symm.trans hi) Bool.false_ne_true) t.val t rfl d,
    if_neg (by rw [fresh1, freshTab_false _ h (lt_of_lt_of_eq t.isLt N_5)]; exact Bool.false_ne_true)]
  dsimp only [dat]

/-- What the body leaves in an output's buffer. -/
theorem leaves0 (c : Dev nD) (t : Fin cfg5.N) :
    (dat V c).leavesExact 0 t = owns (c : Thread nD τ) (win5_0.stage (cfg5.slots t 0)) fullShare (acc V c t.val).1 := by
  unfold Dat.leavesExact; rw [live 0 t]; rfl
theorem leaves1 (c : Dev nD) (t : Fin cfg5.N) :
    (dat V c).leavesExact 1 t = owns (c : Thread nD τ) (win5_1.stage (cfg5.slots t 1)) fullShare (acc V c t.val).2 := by
  unfold Dat.leavesExact; rw [live 1 t]; rfl

/-! ## The body's obligation -/

/-- What the body is called with at point `t`. -/
def bodyPre (c : Dev nD) (t : Fin cfg5.N) : sProp 𝕄 :=
  iprop((dat V c).Φ t.castSucc ∗ (dat V c).owesAt () t.castSucc
    ∗ (∃ d, owns (c : Thread nD τ) (win5_0.stage (cfg5.slots t 0)) fullShare ((dat V c).before 0 t d))
    ∗ (∃ d, owns (c : Thread nD τ) (win5_1.stage (cfg5.slots t 1)) fullShare ((dat V c).before 1 t d)))
/-- What it returns. -/
def bodyPost (c : Dev nD) (t : Fin cfg5.N) : sProp 𝕄 :=
  iprop((dat V c).Φ t.succ ∗ (dat V c).owesAt () t.succ ∗ (dat V c).leavesExact 0 t ∗ (dat V c).leavesExact 1 t)

/-- The body's triple from a step of the rings. -/
theorem sound_of (c : Dev nD) (t : Fin cfg5.N) (P0 P1 : sProp 𝕄)
    (h0 : iprop(∃ d, owns (c : Thread nD τ) (win5_0.stage (cfg5.slots t 0)) fullShare ((dat V c).before 0 t d)) ⊢ P0)
    (h1 : iprop(∃ d, owns (c : Thread nD τ) (win5_1.stage (cfg5.slots t 1)) fullShare ((dat V c).before 1 t d)) ⊢ P1)
    (hrun : ∀ (W : Waits sig Unit) (K : PUnit → sProp 𝕄), iprop(P0 ∗ P1 ∗ ringsAt V c t.val ∗ owes (c : Thread nD τ) 0 W
        ∗ (iprop(owns (c : Thread nD τ) (win5_0.stage (cfg5.slots t 0)) fullShare (acc V c t.val).1
            ∗ owns (c : Thread nD τ) (win5_1.stage (cfg5.slots t 1)) fullShare (acc V c t.val).2
            ∗ ringsAt V c (t.val + 1) ∗ ∃ W', owes (c : Thread nD τ) 0 W') -∗ K ⟨⟩))
      ⊢ wp frame (wpE (defs₀ (F := F)) Variants.none c none) Set.univ (bodyAt5 t) K) :
    bodyPre V c t ⊢ wp frame (wpE (defs₀ (F := F)) Variants.none c none) Set.univ (bodyAt5 t) (fun _ => bodyPost V c t) := by
  unfold bodyPre bodyPost
  rw [leaves0, leaves1]
  rw [show (dat V c).Φ t.castSucc = ΦK V c t.val from rfl, show (dat V c).Φ t.succ = ΦK V c (t.val + 1) from rfl]
  unfold ΦK Dat.owesAt Pipeline.owesWithin
  rw [show (dat V c).owed t.castSucc = 0 from rfl, show (dat V c).owed t.succ = 0 from rfl]
  iintro ⟨⟨Hb, Hp, HR⟩, ⟨%W, -, HW⟩, H0, H1⟩
  iapply (hrun W _)
  isplitl [H0]; · iapply h0; iexact H0
  isplitl [H1]; · iapply h1; iexact H1
  isplitl [HR]; · iexact HR
  isplitl [HW]; · iexact HW
  iintro ⟨H0, H1, HR, ⟨%W', HW⟩⟩
  isplitl [Hb Hp HR]
  · isplitl [Hb]; · iexact Hb
    isplitl [Hp]; · iexact Hp
    iexact HR
  isplitl [HW]
  · iexists W'
    isplitr; · ipureintro; exact fun _ _ => Or.inl trivial
    iexact HW
  isplitl [H0]; · iexact H0
  iexact H1

/-- The body at any point. -/
theorem sound_body (c : Dev nD) (t : Fin cfg5.N) :
    bodyPre V c t ⊢ wp frame (wpE (defs₀ (F := F)) Variants.none c none) Set.univ (bodyAt5 t) (fun _ => bodyPost V c t) := by
  have e : bodyAt5 (F := F) t = conv 0 (grid5.coords t) (Memref.whole main_v5) (Memref.isWhole_whole _) (Memref.whole main_v6) (Memref.isWhole_whole _) (Memref.whole main_v9) (Memref.isWhole_whole _) (Memref.whole main_v10) (Memref.isWhole_whole _) (win5_0.stage (cfg5.slots t 0)) (hstage5_0 ((cfg5.slots t 0).cast nbuf5_0)) (win5_1.stage (cfg5.slots t 1)) (hstage5_1 ((cfg5.slots t 1).cast nbuf5_1)) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4 := by
    unfold bodyAt5; rw [cc5_eq]
  by_cases h : t.val = 0
  · refine sound_of V c t iprop(∃ d, owns (c : Thread nD τ) (win5_0.stage (cfg5.slots t 0)) fullShare d) iprop(∃ d, owns (c : Thread nD τ) (win5_1.stage (cfg5.slots t 1)) fullShare d) ?_ ?_ fun W K => ?_
    · iintro ⟨%d, H⟩; iexists _; iexact H
    · iintro ⟨%d, H⟩; iexists _; iexact H
    · rw [e]
      iintro ⟨⟨%x0, H0⟩, ⟨%x1, H1⟩, HR⟩
      iapply (step_first c t 0 (Memref.whole main_v5) (Memref.isWhole_whole _) (Memref.whole main_v6) (Memref.isWhole_whole _) (Memref.whole main_v9) (Memref.isWhole_whole _) (Memref.whole main_v10) (Memref.isWhole_whole _) (win5_0.stage (cfg5.slots t 0)) (hstage5_0 ((cfg5.slots t 0).cast nbuf5_0)) (win5_1.stage (cfg5.slots t 1)) (hstage5_1 ((cfg5.slots t 1).cast nbuf5_1)) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4
        (V c main_v5) (V c main_v6) (V c main_v9) (V c main_v10) x0 x1 h W K)
      isplitl [H0]; · iexact H0
      isplitl [H1]; · iexact H1
      iexact HR
  · have h' : 1 ≤ t.val := by omega
    refine sound_of V c t (owns (c : Thread nD τ) (win5_0.stage (cfg5.slots t 0)) fullShare (acc V c (t.val - 1)).1) (owns (c : Thread nD τ) (win5_1.stage (cfg5.slots t 1)) fullShare (acc V c (t.val - 1)).2) ?_ ?_ fun W K => ?_
    · simp only [before0 V c t h']; iintro ⟨%d, H⟩; iexact H
    · simp only [before1 V c t h']; iintro ⟨%d, H⟩; iexact H
    · rw [e]
      exact step_next c t 0 (Memref.whole main_v5) (Memref.isWhole_whole _) (Memref.whole main_v6) (Memref.isWhole_whole _) (Memref.whole main_v9) (Memref.isWhole_whole _) (Memref.whole main_v10) (Memref.isWhole_whole _) (win5_0.stage (cfg5.slots t 0)) (hstage5_0 ((cfg5.slots t 0).cast nbuf5_0)) (win5_1.stage (cfg5.slots t 1)) (hstage5_1 ((cfg5.slots t 1).cast nbuf5_1)) (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4
        (V c main_v5) (V c main_v6) (V c main_v9) (V c main_v10) _ _ h' rfl rfl W K

/-- The body table's row at point `t`'s slots is the body at the point. -/
theorem defs₀_row (t : Fin cfg5.N) : defs₀ (F := F) .tc cfg5.body (cfg5.bodyArgs t (cfg5.slots t)) = bodyAt5 t := by
  unfold defs₀; rw [Defs.onTc_tc]

theorem body_obligation (c : Dev nD) : BodyObligation (dat V c) (defs₀ (F := F)) Variants.none () Set.univ := fun t => by
  rw [bigSep_W5, bigSep_W5, defs₀_row]
  exact triple_restated (sound_body V c t) rfl .rfl fun _ => .rfl

/-! ## Into the rings and out of them -/

/-- The region's own semaphores: a ring's two, ring by ring. -/
def osem (j : Fin 8) : SemLoc sig := cellR cc5_scratch4 (j.val / 2) ⟨j.val % 2, Nat.mod_lt _ (by decide)⟩

theorem ownSemFacts : Pipeline.OwnSemFacts (sig := sig) spec5 osem := by decide +kernel

/-- The operands the body's transfers read. -/
def operands : Finset (Ref sig .tc) := {main_v5, main_v6, main_v9, main_v10}

theorem operands_sep (Φ : Ref sig .tc → sProp 𝕄) : bigSep operands Φ = iprop(Φ main_v5 ∗ Φ main_v6 ∗ Φ main_v9 ∗ Φ main_v10) := by
  exact bigSep_eq_bigSepL_of_eq [main_v5, main_v6, main_v9, main_v10] (by decide) (by decide) Φ

theorem osem_sep (c : Dev nD) : (Pipeline.ownSems0 (Ix := Unit) (Name := ℕ) (U := Pipeline.UD sig nD τ) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0) := by
  exact Pipeline.ownSems0_eq_of_list c osem [0, 1, 2, 3, 4, 5, 6, 7] (by decide) (by decide)

theorem hin (c : Dev nD) : iprop(Pipeline.scopedRest (Ix := Unit) (Name := ℕ) (U := Pipeline.UD sig nD τ) (Lvl := ℕ) (Val := Elt F) spec5 c ∗ (∃ r, prngReg c r) ∗ Pipeline.ownSems0 osem c
      ∗ (bigSep operands fun b => ((c : Thread nD τ).loc b) ↦{fullShare} V c b)) ⊢ ΦK V c 0 := by
  rw [scopedRest5_split, osem_sep, operands_sep]
  unfold ΦK ringsAt
  iintro ⟨⟨⟨S0, S1, S2, S3⟩, Hb⟩, Hp, ⟨C0, C1, C2, C3, C4, C5, C6, C7⟩, ⟨O0, O1, O2, O3⟩⟩
  isplitl [Hb]; · iexact Hb
  isplitl [Hp]; · iexact Hp
  iapply (rings_in (F := F) c 0 (Memref.whole main_v5) (Memref.whole main_v6) (Memref.whole main_v9) (Memref.whole main_v10)
    (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4
    (V c main_v5) (V c main_v6) (V c main_v9) (V c main_v10))
  unfold allParts parts
  isplitl [S0 C0 C1 O0]
  · isplitl [S0]; · iexact S0
    isplitl [C0 C1]
    · isplitl [C0]; · iexact C0
      iexact C1
    iexact O0
  isplitl [S1 C2 C3 O1]
  · isplitl [S1]; · iexact S1
    isplitl [C2 C3]
    · isplitl [C2]; · iexact C2
      iexact C3
    iexact O1
  isplitl [S2 C4 C5 O2]
  · isplitl [S2]; · iexact S2
    isplitl [C4 C5]
    · isplitl [C4]; · iexact C4
      iexact C5
    iexact O2
  isplitl [S3]; · iexact S3
  isplitl [C6 C7]
  · isplitl [C6]; · iexact C6
    iexact C7
  iexact O3

theorem hout (c : Dev nD) : ΦK V c 16 ⊢ iprop(Pipeline.scopedRest (Ix := Unit) (Name := ℕ) (U := Pipeline.UD sig nD τ) (Lvl := ℕ) (Val := Elt F) spec5 c ∗ (∃ r, prngReg c r) ∗ Pipeline.ownSems0 osem c
      ∗ (bigSep operands fun b => ((c : Thread nD τ).loc b) ↦{fullShare} V c b)) := by
  rw [scopedRest5_split, osem_sep, operands_sep]
  unfold ΦK ringsAt
  iintro ⟨Hb, Hp, HR⟩
  ihave HP := (rings_out (F := F) c 0 (Memref.whole main_v5) (Memref.whole main_v6) (Memref.whole main_v9) (Memref.whole main_v10)
    (Memref.whole cc5_scratch0) (Memref.isWhole_whole _) (Memref.whole cc5_scratch1) (Memref.isWhole_whole _) (Memref.whole cc5_scratch2) (Memref.isWhole_whole _) (Memref.whole cc5_scratch3) (Memref.isWhole_whole _) cc5_scratch4
    (V c main_v5) (V c main_v6) (V c main_v9) (V c main_v10)) $$ HR
  unfold allParts parts
  icases HP with ⟨⟨S0, ⟨C0, C1⟩, O0⟩, ⟨S1, ⟨C2, C3⟩, O1⟩, ⟨S2, ⟨C4, C5⟩, O2⟩, ⟨S3, ⟨C6, C7⟩, O3⟩⟩
  isplitl [S0 S1 S2 S3 Hb]
  · isplitl [S0 S1 S2 S3]
    · isplitl [S0]; · iexact S0
      isplitl [S1]; · iexact S1
      isplitl [S2]; · iexact S2
      iexact S3
    iexact Hb
  isplitl [Hp]; · iexact Hp
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [O0]; · iexact O0
  isplitl [O1]; · iexact O1
  isplitl [O2]; · iexact O2
  iexact O3

end Cert.KernelIdeal.Whole.K5

end
-- ==== Proof.Whole.K8.lean ====
/-
  Region 8 (the second convolution layer's projections): the rings as the pipeline's invariant, what the two output blocks
  hold after each point, the body's obligation, and how the region's scratch, semaphores and operands enter the rings
  and leave them.
-/
module

public import proofs.«01_k».proof.Proof.Whole.ConvStep
public import Idealize.ShloMosaic.Lib.Pipeline.TableIdle

@[expose] public section

set_option maxRecDepth 4096

noncomputable section

namespace Cert.KernelIdeal.Whole.K8

open Cert.KernelIdeal Cert.KernelIdeal.Gen Cert.KernelIdeal.Whole
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-- The two output blocks after point `n`. -/
def acc (c : Dev nD) (n : ℕ) : Vec F S2x256x1024 .f32 × Vec F S2x256x1024 .f32 :=
  outAcc (F := F) c 1 (Memref.whole main_v5) (Memref.whole main_v6) (Memref.whole main_v15) (Memref.whole main_v16)
    (V c main_v5) (V c main_v6) (V c main_v15) (V c main_v16) n

/-- The rings before point `k`. -/
def ringsAt (c : Dev nD) (k : ℕ) : sProp 𝕄 :=
  rings (F := F) c 1 (Memref.whole main_v5) (Memref.whole main_v6) (Memref.whole main_v15) (Memref.whole main_v16)
    (Memref.whole cc8_scratch0) (Memref.whole cc8_scratch1) (Memref.whole cc8_scratch2) (Memref.whole cc8_scratch3) cc8_scratch4
    (V c main_v5) (V c main_v6) (V c main_v15) (V c main_v16) k

/-- The scoped buffers the rings leave alone. -/
abbrev restBut (c : Dev nD) : sProp 𝕄 :=
  Pipeline.scopedRestBut (Ix := Unit) (Name := ℕ) (U := Pipeline.UD sig nD τ) (Lvl := ℕ) (Val := Elt F) spec8 c [cc8_scratch0, cc8_scratch1, cc8_scratch2, cc8_scratch3]

/-- The region's invariant before point `k`. -/
def ΦK (c : Dev nD) (k : ℕ) : sProp 𝕄 := iprop(restBut (F := F) c ∗ (∃ r, prngReg c r) ∗ ringsAt V c k)

/-- The outputs' buffers hold `acc` after each point. -/
def dat (c : Dev nD) : Dat τ (Elt F) Unit ℕ (Pipeline.UD sig nD τ) ℕ cfg8 c where
  A w := V c (Pipeline.arrRef spec8 w)
  after w t := match w with
    | ⟨0, _⟩ => (acc V c t.val).1
    | ⟨1, _⟩ => (acc V c t.val).2
  Φ t := ΦK V c t.val
  q _ := fullShare
  owed _ := 0

theorem A_eq (c : Dev nD) (w : Fin cfg8.W) : (dat V c).A w = V c (Pipeline.arrRef spec8 w) := by
  dsimp only [dat]

/-- No window is idle at any point. -/
theorem live : ∀ (w : Fin cfg8.W) (t : Fin cfg8.N), cfg8.idle w (grid8.coords t) = false := by decide +kernel

/-- An output's buffer is fresh at the first point alone, and after the last. -/
def freshTab (n : ℕ) : Bool := n == 0 || n == 16

theorem fresh0 (t : Fin cfg8.N) : cfg8.fresh 0 t.val = freshTab t.val :=
  Pipeline.Cfg.fresh_tab cfg8 0 freshTab rfl (by decide +kernel) t.val (Nat.le_of_lt t.isLt)
theorem fresh1 (t : Fin cfg8.N) : cfg8.fresh 1 t.val = freshTab t.val :=
  Pipeline.Cfg.fresh_tab cfg8 1 freshTab rfl (by decide +kernel) t.val (Nat.le_of_lt t.isLt)
theorem freshTab_false (n : ℕ) (h : 1 ≤ n) (hn : n < 16) : freshTab n = false := by
  simp only [freshTab, Bool.or_eq_false_iff, beq_eq_false_iff_ne]; omega

/-- After the first point an output's buffer holds what the point before left. -/
theorem before0 (c : Dev nD) (t : Fin cfg8.N) (h : 1 ≤ t.val) (d) : (dat V c).before 0 t d = (acc V c (t.val - 1)).1 := by
  rw [Dat.before_out_traj _ 0 rfl (fun _ _ => rfl) (fun t _ hi _ => absurd ((live 0 t).symm.trans hi) Bool.false_ne_true) t.val t rfl d,
    if_neg (by rw [fresh0, freshTab_false _ h (lt_of_lt_of_eq t.isLt N_8)]; exact Bool.false_ne_true)]
  dsimp only [dat]
theorem before1 (c : Dev nD) (t : Fin cfg8.N) (h : 1 ≤ t.val) (d) : (dat V c).before 1 t d = (acc V c (t.val - 1)).2 := by
  rw [Dat.before_out_traj _ 1 rfl (fun _ _ => rfl) (fun t _ hi _ => absurd ((live 1 t).symm.trans hi) Bool.false_ne_true) t.val t rfl d,
    if_neg (by rw [fresh1, freshTab_false _ h (lt_of_lt_of_eq t.isLt N_8)]; exact Bool.false_ne_true)]
  dsimp only [dat]

/-- What the body leaves in an output's buffer. -/
theorem leaves0 (c : Dev nD) (t : Fin cfg8.N) :
    (dat V c).leavesExact 0 t = owns (c : Thread nD τ) (win8_0.stage (cfg8.slots t 0)) fullShare (acc V c t.val).1 := by
  unfold Dat.leavesExact; rw [live 0 t]; rfl
theorem leaves1 (c : Dev nD) (t : Fin cfg8.N) :
    (dat V c).leavesExact 1 t = owns (c : Thread nD τ) (win8_1.stage (cfg8.slots t 1)) fullShare (acc V c t.val).2 := by
  unfold Dat.leavesExact; rw [live 1 t]; rfl

/-! ## The body's obligation -/

/-- What the body is called with at point `t`. -/
def bodyPre (c : Dev nD) (t : Fin cfg8.N) : sProp 𝕄 :=
  iprop((dat V c).Φ t.castSucc ∗ (dat V c).owesAt () t.castSucc
    ∗ (∃ d, owns (c : Thread nD τ) (win8_0.stage (cfg8.slots t 0)) fullShare ((dat V c).before 0 t d))
    ∗ (∃ d, owns (c : Thread nD τ) (win8_1.stage (cfg8.slots t 1)) fullShare ((dat V c).before 1 t d)))
/-- What it returns. -/
def bodyPost (c : Dev nD) (t : Fin cfg8.N) : sProp 𝕄 :=
  iprop((dat V c).Φ t.succ ∗ (dat V c).owesAt () t.succ ∗ (dat V c).leavesExact 0 t ∗ (dat V c).leavesExact 1 t)

/-- The body's triple from a step of the rings. -/
theorem sound_of (c : Dev nD) (t : Fin cfg8.N) (P0 P1 : sProp 𝕄)
    (h0 : iprop(∃ d, owns (c : Thread nD τ) (win8_0.stage (cfg8.slots t 0)) fullShare ((dat V c).before 0 t d)) ⊢ P0)
    (h1 : iprop(∃ d, owns (c : Thread nD τ) (win8_1.stage (cfg8.slots t 1)) fullShare ((dat V c).before 1 t d)) ⊢ P1)
    (hrun : ∀ (W : Waits sig Unit) (K : PUnit → sProp 𝕄), iprop(P0 ∗ P1 ∗ ringsAt V c t.val ∗ owes (c : Thread nD τ) 0 W
        ∗ (iprop(owns (c : Thread nD τ) (win8_0.stage (cfg8.slots t 0)) fullShare (acc V c t.val).1
            ∗ owns (c : Thread nD τ) (win8_1.stage (cfg8.slots t 1)) fullShare (acc V c t.val).2
            ∗ ringsAt V c (t.val + 1) ∗ ∃ W', owes (c : Thread nD τ) 0 W') -∗ K ⟨⟩))
      ⊢ wp frame (wpE (defs₀ (F := F)) Variants.none c none) Set.univ (bodyAt8 t) K) :
    bodyPre V c t ⊢ wp frame (wpE (defs₀ (F := F)) Variants.none c none) Set.univ (bodyAt8 t) (fun _ => bodyPost V c t) := by
  unfold bodyPre bodyPost
  rw [leaves0, leaves1]
  rw [show (dat V c).Φ t.castSucc = ΦK V c t.val from rfl, show (dat V c).Φ t.succ = ΦK V c (t.val + 1) from rfl]
  unfold ΦK Dat.owesAt Pipeline.owesWithin
  rw [show (dat V c).owed t.castSucc = 0 from rfl, show (dat V c).owed t.succ = 0 from rfl]
  iintro ⟨⟨Hb, Hp, HR⟩, ⟨%W, -, HW⟩, H0, H1⟩
  iapply (hrun W _)
  isplitl [H0]; · iapply h0; iexact H0
  isplitl [H1]; · iapply h1; iexact H1
  isplitl [HR]; · iexact HR
  isplitl [HW]; · iexact HW
  iintro ⟨H0, H1, HR, ⟨%W', HW⟩⟩
  isplitl [Hb Hp HR]
  · isplitl [Hb]; · iexact Hb
    isplitl [Hp]; · iexact Hp
    iexact HR
  isplitl [HW]
  · iexists W'
    isplitr; · ipureintro; exact fun _ _ => Or.inl trivial
    iexact HW
  isplitl [H0]; · iexact H0
  iexact H1

/-- The body at any point. -/
theorem sound_body (c : Dev nD) (t : Fin cfg8.N) :
    bodyPre V c t ⊢ wp frame (wpE (defs₀ (F := F)) Variants.none c none) Set.univ (bodyAt8 t) (fun _ => bodyPost V c t) := by
  have e : bodyAt8 (F := F) t = conv 1 (grid5.coords t) (Memref.whole main_v5) (Memref.isWhole_whole _) (Memref.whole main_v6) (Memref.isWhole_whole _) (Memref.whole main_v15) (Memref.isWhole_whole _) (Memref.whole main_v16) (Memref.isWhole_whole _) (win8_0.stage (cfg8.slots t 0)) (hstage8_0 ((cfg8.slots t 0).cast nbuf8_0)) (win8_1.stage (cfg8.slots t 1)) (hstage8_1 ((cfg8.slots t 1).cast nbuf8_1)) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4 := by
    unfold bodyAt8; rw [cc8_eq]
  by_cases h : t.val = 0
  · refine sound_of V c t iprop(∃ d, owns (c : Thread nD τ) (win8_0.stage (cfg8.slots t 0)) fullShare d) iprop(∃ d, owns (c : Thread nD τ) (win8_1.stage (cfg8.slots t 1)) fullShare d) ?_ ?_ fun W K => ?_
    · iintro ⟨%d, H⟩; iexists _; iexact H
    · iintro ⟨%d, H⟩; iexists _; iexact H
    · rw [e]
      iintro ⟨⟨%x0, H0⟩, ⟨%x1, H1⟩, HR⟩
      iapply (step_first c t 1 (Memref.whole main_v5) (Memref.isWhole_whole _) (Memref.whole main_v6) (Memref.isWhole_whole _) (Memref.whole main_v15) (Memref.isWhole_whole _) (Memref.whole main_v16) (Memref.isWhole_whole _) (win8_0.stage (cfg8.slots t 0)) (hstage8_0 ((cfg8.slots t 0).cast nbuf8_0)) (win8_1.stage (cfg8.slots t 1)) (hstage8_1 ((cfg8.slots t 1).cast nbuf8_1)) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4
        (V c main_v5) (V c main_v6) (V c main_v15) (V c main_v16) x0 x1 h W K)
      isplitl [H0]; · iexact H0
      isplitl [H1]; · iexact H1
      iexact HR
  · have h' : 1 ≤ t.val := by omega
    refine sound_of V c t (owns (c : Thread nD τ) (win8_0.stage (cfg8.slots t 0)) fullShare (acc V c (t.val - 1)).1) (owns (c : Thread nD τ) (win8_1.stage (cfg8.slots t 1)) fullShare (acc V c (t.val - 1)).2) ?_ ?_ fun W K => ?_
    · simp only [before0 V c t h']; iintro ⟨%d, H⟩; iexact H
    · simp only [before1 V c t h']; iintro ⟨%d, H⟩; iexact H
    · rw [e]
      exact step_next c t 1 (Memref.whole main_v5) (Memref.isWhole_whole _) (Memref.whole main_v6) (Memref.isWhole_whole _) (Memref.whole main_v15) (Memref.isWhole_whole _) (Memref.whole main_v16) (Memref.isWhole_whole _) (win8_0.stage (cfg8.slots t 0)) (hstage8_0 ((cfg8.slots t 0).cast nbuf8_0)) (win8_1.stage (cfg8.slots t 1)) (hstage8_1 ((cfg8.slots t 1).cast nbuf8_1)) (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4
        (V c main_v5) (V c main_v6) (V c main_v15) (V c main_v16) _ _ h' rfl rfl W K

/-- The body table's row at point `t`'s slots is the body at the point. -/
theorem defs₀_row (t : Fin cfg8.N) : defs₀ (F := F) .tc cfg8.body (cfg8.bodyArgs t (cfg8.slots t)) = bodyAt8 t := by
  unfold defs₀; rw [Defs.onTc_tc]

theorem body_obligation (c : Dev nD) : BodyObligation (dat V c) (defs₀ (F := F)) Variants.none () Set.univ := fun t => by
  rw [bigSep_W8, bigSep_W8, defs₀_row]
  exact triple_restated (sound_body V c t) rfl .rfl fun _ => .rfl

/-! ## Into the rings and out of them -/

/-- The region's own semaphores: a ring's two, ring by ring. -/
def osem (j : Fin 8) : SemLoc sig := cellR cc8_scratch4 (j.val / 2) ⟨j.val % 2, Nat.mod_lt _ (by decide)⟩

theorem ownSemFacts : Pipeline.OwnSemFacts (sig := sig) spec8 osem := by decide +kernel

/-- The operands the body's transfers read. -/
def operands : Finset (Ref sig .tc) := {main_v5, main_v6, main_v15, main_v16}

theorem operands_sep (Φ : Ref sig .tc → sProp 𝕄) : bigSep operands Φ = iprop(Φ main_v5 ∗ Φ main_v6 ∗ Φ main_v15 ∗ Φ main_v16) := by
  exact bigSep_eq_bigSepL_of_eq [main_v5, main_v6, main_v15, main_v16] (by decide) (by decide) Φ

theorem osem_sep (c : Dev nD) : (Pipeline.ownSems0 (Ix := Unit) (Name := ℕ) (U := Pipeline.UD sig nD τ) (Lvl := ℕ) (Val := Elt F) (τ := τ) osem c : sProp 𝕄)
    = iprop(semVal ((c : Thread nD τ), osem 0) 0 ∗ semVal ((c : Thread nD τ), osem 1) 0 ∗ semVal ((c : Thread nD τ), osem 2) 0 ∗ semVal ((c : Thread nD τ), osem 3) 0
      ∗ semVal ((c : Thread nD τ), osem 4) 0 ∗ semVal ((c : Thread nD τ), osem 5) 0 ∗ semVal ((c : Thread nD τ), osem 6) 0 ∗ semVal ((c : Thread nD τ), osem 7) 0) := by
  exact Pipeline.ownSems0_eq_of_list c osem [0, 1, 2, 3, 4, 5, 6, 7] (by decide) (by decide)

theorem hin (c : Dev nD) : iprop(Pipeline.scopedRest (Ix := Unit) (Name := ℕ) (U := Pipeline.UD sig nD τ) (Lvl := ℕ) (Val := Elt F) spec8 c ∗ (∃ r, prngReg c r) ∗ Pipeline.ownSems0 osem c
      ∗ (bigSep operands fun b => ((c : Thread nD τ).loc b) ↦{fullShare} V c b)) ⊢ ΦK V c 0 := by
  rw [scopedRest8_split, osem_sep, operands_sep]
  unfold ΦK ringsAt
  iintro ⟨⟨⟨S0, S1, S2, S3⟩, Hb⟩, Hp, ⟨C0, C1, C2, C3, C4, C5, C6, C7⟩, ⟨O0, O1, O2, O3⟩⟩
  isplitl [Hb]; · iexact Hb
  isplitl [Hp]; · iexact Hp
  iapply (rings_in (F := F) c 1 (Memref.whole main_v5) (Memref.whole main_v6) (Memref.whole main_v15) (Memref.whole main_v16)
    (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4
    (V c main_v5) (V c main_v6) (V c main_v15) (V c main_v16))
  unfold allParts parts
  isplitl [S0 C0 C1 O0]
  · isplitl [S0]; · iexact S0
    isplitl [C0 C1]
    · isplitl [C0]; · iexact C0
      iexact C1
    iexact O0
  isplitl [S1 C2 C3 O1]
  · isplitl [S1]; · iexact S1
    isplitl [C2 C3]
    · isplitl [C2]; · iexact C2
      iexact C3
    iexact O1
  isplitl [S2 C4 C5 O2]
  · isplitl [S2]; · iexact S2
    isplitl [C4 C5]
    · isplitl [C4]; · iexact C4
      iexact C5
    iexact O2
  isplitl [S3]; · iexact S3
  isplitl [C6 C7]
  · isplitl [C6]; · iexact C6
    iexact C7
  iexact O3

theorem hout (c : Dev nD) : ΦK V c 16 ⊢ iprop(Pipeline.scopedRest (Ix := Unit) (Name := ℕ) (U := Pipeline.UD sig nD τ) (Lvl := ℕ) (Val := Elt F) spec8 c ∗ (∃ r, prngReg c r) ∗ Pipeline.ownSems0 osem c
      ∗ (bigSep operands fun b => ((c : Thread nD τ).loc b) ↦{fullShare} V c b)) := by
  rw [scopedRest8_split, osem_sep, operands_sep]
  unfold ΦK ringsAt
  iintro ⟨Hb, Hp, HR⟩
  ihave HP := (rings_out (F := F) c 1 (Memref.whole main_v5) (Memref.whole main_v6) (Memref.whole main_v15) (Memref.whole main_v16)
    (Memref.whole cc8_scratch0) (Memref.isWhole_whole _) (Memref.whole cc8_scratch1) (Memref.isWhole_whole _) (Memref.whole cc8_scratch2) (Memref.isWhole_whole _) (Memref.whole cc8_scratch3) (Memref.isWhole_whole _) cc8_scratch4
    (V c main_v5) (V c main_v6) (V c main_v15) (V c main_v16)) $$ HR
  unfold allParts parts
  icases HP with ⟨⟨S0, ⟨C0, C1⟩, O0⟩, ⟨S1, ⟨C2, C3⟩, O1⟩, ⟨S2, ⟨C4, C5⟩, O2⟩, ⟨S3, ⟨C6, C7⟩, O3⟩⟩
  isplitl [S0 S1 S2 S3 Hb]
  · isplitl [S0 S1 S2 S3]
    · isplitl [S0]; · iexact S0
      isplitl [S1]; · iexact S1
      isplitl [S2]; · iexact S2
      iexact S3
    iexact Hb
  isplitl [Hp]; · iexact Hp
  isplitl [C0 C1 C2 C3 C4 C5 C6 C7]
  · isplitl [C0]; · iexact C0
    isplitl [C1]; · iexact C1
    isplitl [C2]; · iexact C2
    isplitl [C3]; · iexact C3
    isplitl [C4]; · iexact C4
    isplitl [C5]; · iexact C5
    isplitl [C6]; · iexact C6
    iexact C7
  isplitl [O0]; · iexact O0
  isplitl [O1]; · iexact O1
  isplitl [O2]; · iexact O2
  iexact O3

end Cert.KernelIdeal.Whole.K8

end
-- ==== Proof.Whole.Vals.lean ====
/-
  What every buffer of the program holds between two items of `main`: the launch contents, then each host stretch applied,
  then each kernel region's output arrays at what the region's proof data leave in them.
-/
module

public import proofs.«01_k».proof.Proof.Gen.KernelIdeal.Regions
public import proofs.«01_k».proof.Proof.Gen.Own.KernelIdeal.K1.Frame
public import proofs.«01_k».proof.Proof.Gen.Own.KernelIdeal.K3.Frame
public import proofs.«01_k».proof.Proof.Gen.Own.KernelIdeal.K4.Frame
public import proofs.«01_k».proof.Proof.Gen.Own.KernelIdeal.K6.Frame
public import proofs.«01_k».proof.Proof.Gen.Own.KernelIdeal.K7.Frame
public import proofs.«01_k».proof.Proof.Gen.Own.KernelIdeal.K9.Frame
public import proofs.«01_k».proof.Proof.Whole.K0
public import proofs.«01_k».proof.Proof.Whole.K2
public import proofs.«01_k».proof.Proof.Whole.K5
public import proofs.«01_k».proof.Proof.Whole.K8

@[expose] public section

set_option maxRecDepth 4096

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

/-- A valuation of a core's buffers read at the core's own references, as a region's entry contents. -/
abbrev entry (W : Dev nD → Valuation τ sig (Elt F)) (c : Dev nD) (b : Ref sig .tc) : Buf (Elt F) ((c : Thread nD τ).loc b) := W c (Proc.devRef .tc b)

/-- No region runs while its core owes a signal. -/
abbrev none₀ : Dev nD → CellTallies nD τ sig Unit := fun _ => 0

variable (m : (ℓ : Loc nD τ sig) → Buf (Elt F) ℓ)

/-- The launch contents. -/
def W0 (c : Dev nD) : Valuation τ sig (Elt F) := fun b => m (c, b)
/-- After the host stretch `hostOps0`. -/
def W1 (c : Dev nD) : Valuation τ sig (Elt F) := StableHlo.after hostOps0 (W0 m c)
/-- Region 0's proof data, over what the program holds before it. -/
abbrev D0 (c : Dev nD) : Dat τ (Elt F) Unit ℕ (Pipeline.UD sig nD τ) ℕ cfg0 c := K0.dat (Ix := Unit) (U := Pipeline.UD sig nD τ) (Lvl := ℕ) (entry (W1 m)) none₀ c
/-- After region 0. -/
def W2 (c : Dev nD) : Valuation τ sig (Elt F) := Function.update (Function.update (W1 m c) (Proc.devRef .tc main_v1_0) ((D0 m c).arrAt 7 cfg0.N)) (Proc.devRef .tc main_v1_1) ((D0 m c).arrAt 8 cfg0.N)
/-- Region 1's proof data, over what the program holds before it. -/
abbrev D1 (c : Dev nD) : Dat τ (Elt F) Unit ℕ (Pipeline.UD sig nD τ) ℕ cfg1 c := Own.K1.dat (Ix := Unit) (U := Pipeline.UD sig nD τ) (Lvl := ℕ) Variants.none (entry (W2 m)) none₀ c
/-- After region 1. -/
def W3 (c : Dev nD) : Valuation τ sig (Elt F) := Function.update (W2 m c) (Proc.devRef .tc main_v2) ((D1 m c).arrAt 14 cfg1.N)
/-- Region 2's proof data, over what the program holds before it. -/
abbrev D2 (c : Dev nD) : Dat τ (Elt F) Unit ℕ (Pipeline.UD sig nD τ) ℕ cfg2 c := K2.dat (Ix := Unit) (U := Pipeline.UD sig nD τ) (Lvl := ℕ) (entry (W3 m)) none₀ c
/-- After region 2. -/
def W4 (c : Dev nD) : Valuation τ sig (Elt F) := Function.update (Function.update (W3 m c) (Proc.devRef .tc main_v3_0) ((D2 m c).arrAt 7 cfg2.N)) (Proc.devRef .tc main_v3_1) ((D2 m c).arrAt 8 cfg2.N)
/-- Region 3's proof data, over what the program holds before it. -/
abbrev D3 (c : Dev nD) : Dat τ (Elt F) Unit ℕ (Pipeline.UD sig nD τ) ℕ cfg3 c := Own.K3.dat (Ix := Unit) (U := Pipeline.UD sig nD τ) (Lvl := ℕ) Variants.none (entry (W4 m)) none₀ c
/-- After region 3. -/
def W5 (c : Dev nD) : Valuation τ sig (Elt F) := Function.update (W4 m c) (Proc.devRef .tc main_v4) ((D3 m c).arrAt 14 cfg3.N)
/-- After the host stretch `hostOps4`. -/
def W6 (c : Dev nD) : Valuation τ sig (Elt F) := StableHlo.after hostOps4 (W5 m c)
/-- Region 4's proof data, over what the program holds before it. -/
abbrev D4 (c : Dev nD) : Dat τ (Elt F) Unit ℕ (Pipeline.UD sig nD τ) ℕ cfg4 c := Own.K4.dat (Ix := Unit) (U := Pipeline.UD sig nD τ) (Lvl := ℕ) Variants.none (entry (W6 m)) none₀ c
/-- After region 4. -/
def W7 (c : Dev nD) : Valuation τ sig (Elt F) := Function.update (Function.update (W6 m c) (Proc.devRef .tc main_v8_0) ((D4 m c).arrAt 5 cfg4.N)) (Proc.devRef .tc main_v8_1) ((D4 m c).arrAt 6 cfg4.N)
/-- After the host stretch `hostOps5`. -/
def W8 (c : Dev nD) : Valuation τ sig (Elt F) := StableHlo.after hostOps5 (W7 m c)
/-- Region 5's proof data, over what the program holds before it. -/
abbrev D5 (c : Dev nD) : Dat τ (Elt F) Unit ℕ (Pipeline.UD sig nD τ) ℕ cfg5 c := K5.dat (entry (W8 m)) c
/-- After region 5. -/
def W9 (c : Dev nD) : Valuation τ sig (Elt F) := Function.update (Function.update (W8 m c) (Proc.devRef .tc main_v11_0) ((D5 m c).arrAt 0 cfg5.N)) (Proc.devRef .tc main_v11_1) ((D5 m c).arrAt 1 cfg5.N)
/-- Region 6's proof data, over what the program holds before it. -/
abbrev D6 (c : Dev nD) : Dat τ (Elt F) Unit ℕ (Pipeline.UD sig nD τ) ℕ cfg6 c := Own.K6.dat (Ix := Unit) (U := Pipeline.UD sig nD τ) (Lvl := ℕ) Variants.none (entry (W9 m)) none₀ c
/-- After region 6. -/
def W10 (c : Dev nD) : Valuation τ sig (Elt F) := Function.update (W9 m c) (Proc.devRef .tc main_v12) ((D6 m c).arrAt 14 cfg6.N)
/-- After the host stretch `hostOps7`. -/
def W11 (c : Dev nD) : Valuation τ sig (Elt F) := StableHlo.after hostOps7 (W10 m c)
/-- Region 7's proof data, over what the program holds before it. -/
abbrev D7 (c : Dev nD) : Dat τ (Elt F) Unit ℕ (Pipeline.UD sig nD τ) ℕ cfg7 c := Own.K7.dat (Ix := Unit) (U := Pipeline.UD sig nD τ) (Lvl := ℕ) Variants.none (entry (W11 m)) none₀ c
/-- After region 7. -/
def W12 (c : Dev nD) : Valuation τ sig (Elt F) := Function.update (Function.update (W11 m c) (Proc.devRef .tc main_v14_0) ((D7 m c).arrAt 5 cfg7.N)) (Proc.devRef .tc main_v14_1) ((D7 m c).arrAt 6 cfg7.N)
/-- After the host stretch `hostOps8`. -/
def W13 (c : Dev nD) : Valuation τ sig (Elt F) := StableHlo.after hostOps8 (W12 m c)
/-- Region 8's proof data, over what the program holds before it. -/
abbrev D8 (c : Dev nD) : Dat τ (Elt F) Unit ℕ (Pipeline.UD sig nD τ) ℕ cfg8 c := K8.dat (entry (W13 m)) c
/-- After region 8. -/
def W14 (c : Dev nD) : Valuation τ sig (Elt F) := Function.update (Function.update (W13 m c) (Proc.devRef .tc main_v17_0) ((D8 m c).arrAt 0 cfg8.N)) (Proc.devRef .tc main_v17_1) ((D8 m c).arrAt 1 cfg8.N)
/-- Region 9's proof data, over what the program holds before it. -/
abbrev D9 (c : Dev nD) : Dat τ (Elt F) Unit ℕ (Pipeline.UD sig nD τ) ℕ cfg9 c := Own.K9.dat (Ix := Unit) (U := Pipeline.UD sig nD τ) (Lvl := ℕ) Variants.none (entry (W14 m)) none₀ c
/-- After region 9. -/
def W15 (c : Dev nD) : Valuation τ sig (Elt F) := Function.update (W14 m c) (Proc.devRef .tc main_v18) ((D9 m c).arrAt 14 cfg9.N)

end Cert.KernelIdeal.Whole

end
-- ==== Proof.Whole.Records.lean ====
/-
  Each kernel region's record: entered from the buffers as the program holds them before it, left with its output arrays
  at what its proof data leave in them and everything else as it was.
-/
module

public import proofs.«01_k».proof.Proof.Whole.Vals
public import Idealize.ShloMosaic.Lib.Pipeline.RegionArrays
public import Idealize.ShloMosaic.Lib.Pipeline.RegionArraysD

@[expose] public section

set_option maxRecDepth 4096

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

/-! ## Levels, and the state that rides between items -/

/-- Every TensorCore semaphore has one level. -/
def L (g : GSem nD τ sig) : Finset Unit := if g.1.2 = .tc then {()} else ∅
def lv (_ : GSem nD τ sig) (_ : Unit) : ℕ := 0

theorem hL : ∀ g : GSem nD τ sig, g.1.2 ≠ .tc → L g = ∅ := fun _ h => if_neg h

/-- The rest of a core's state between two items: its generator register, and that it owes nothing. -/
def E (c : Dev nD) : sProp 𝕄 := iprop((∃ r, prngReg c r) ∗ ∃ W, owes (c : Thread nD τ) (0 : CellTallies nD τ sig Unit) W)

theorem cut (pdats : (p : Fin 10) → (c : Dev nD) → Dat τ (Elt F) Unit ℕ (Pipeline.UD sig nD τ) ℕ (cfgs p) c) (p : Fin 10) :
    Pipeline.LevelCut (Val := Elt F) (pcfgs (F := F)) adm () L lv p none₀ (fun _ => 0) where
  hι c w s := by simp [L]
  hιb c w s := Nat.le_refl _
  hD c g i h := absurd h (by simp)

/-- A core's unscoped buffers split at a region's arrays, with the state that rides. -/
theorem enter (c : Dev nD) {S : Finset (DevRef τ sig)} (hS : S ⊆ Pipeline.ucRefs τ sig) (W : Valuation τ sig (Elt F)) :
    (iprop(StableHlo.held (c : Thread nD τ) (Pipeline.ucRefs τ sig) W ∗ E c) : sProp 𝕄)
      ⊢ iprop(StableHlo.held (c : Thread nD τ) S W ∗ (∃ r, prngReg c r)
        ∗ (StableHlo.held (c : Thread nD τ) (Pipeline.ucRefs τ sig \ S) W ∗ emp) ∗ ∃ Wd, owes (c : Thread nD τ) (0 : CellTallies nD τ sig Unit) Wd) := by
  rw [StableHlo.held_sub_split (c : Thread nD τ) hS W]
  unfold E
  iintro ⟨⟨Ha, Hr⟩, Hp, HO⟩
  isplitl [Ha]; · iexact Ha
  isplitl [Hp]; · iexact Hp
  isplitl [Hr]
  · isplitl [Hr]; · iexact Hr
    iempintro
  iexact HO

/-- And rejoined after it, where everything but the region's arrays is as it was. -/
theorem leave (c : Dev nD) {S : Finset (DevRef τ sig)} (hS : S ⊆ Pipeline.ucRefs τ sig) (W W' : Valuation τ sig (Elt F)) (h : ∀ b ∈ Pipeline.ucRefs τ sig \ S, W' b = W b) :
    iprop(StableHlo.held (c : Thread nD τ) S W' ∗ (∃ r, prngReg c r)
        ∗ (StableHlo.held (c : Thread nD τ) (Pipeline.ucRefs τ sig \ S) W ∗ emp) ∗ ∃ Wd, owes (c : Thread nD τ) (0 : CellTallies nD τ sig Unit) Wd)
      ⊢ (iprop(StableHlo.held (c : Thread nD τ) (Pipeline.ucRefs τ sig) W' ∗ E c) : sProp 𝕄) := by
  rw [StableHlo.held_sub_split (c : Thread nD τ) hS W', StableHlo.held_congr (c : Thread nD τ) (S := Pipeline.ucRefs τ sig \ S) h]
  unfold E
  iintro ⟨Ha, Hp, ⟨Hr, -⟩, HO⟩
  isplitl [Ha Hr]; · isplitl [Ha] <;> iassumption
  isplitl [Hp]; · iexact Hp
  iexact HO

variable (m : (ℓ : Loc nD τ sig) → Buf (Elt F) ℓ)

/-- Every region's proof data. -/
def PD : (p : Fin 10) → (c : Dev nD) → Dat τ (Elt F) Unit ℕ (Pipeline.UD sig nD τ) ℕ (cfgs p) c
  | 0 => D0 m
  | 1 => D1 m
  | 2 => D2 m
  | 3 => D3 m
  | 4 => D4 m
  | 5 => D5 m
  | 6 => D6 m
  | 7 => D7 m
  | 8 => D8 m
  | 9 => D9 m
  | ⟨_ + 10, h⟩ => absurd h (Nat.not_lt.2 (Nat.le_add_left _ _))

/-! ## Region 0 -/

theorem arrs0 : Pipeline.arrRefs (τ := τ) spec0 ⊆ Pipeline.ucRefs τ sig := Pipeline.arrRefs_sub_ucRefs spec0 (by decide)
theorem arr0_mem (w : Fin cfg0.W) : (Proc.devRef .tc (Pipeline.arrRef spec0 w) : DevRef τ sig) ∈ Pipeline.arrRefs (τ := τ) spec0 :=
  Finset.mem_map_of_mem _ (Finset.mem_image_of_mem _ (Finset.mem_univ w))
theorem W2_main_v1_0 (c : Dev nD) : W2 m c (Proc.devRef .tc main_v1_0) = (D0 m c).arrAt 7 cfg0.N := by simp only [W2, Function.update_of_ne (StableHlo.devRef_ne_of_ne (by decide : (main_v1_0 : Ref sig .tc) ≠ main_v1_1)), Function.update_self]
theorem W2_main_v1_1 (c : Dev nD) : W2 m c (Proc.devRef .tc main_v1_1) = (D0 m c).arrAt 8 cfg0.N := by simp only [W2, Function.update_self]
theorem W2_of (c : Dev nD) (b : Ref sig .tc) (h0 : b ≠ main_v1_0) (h1 : b ≠ main_v1_1) : W2 m c (Proc.devRef .tc b) = W1 m c (Proc.devRef .tc b) := by
  simp only [W2, Function.update_of_ne (StableHlo.devRef_ne_of_ne h0), Function.update_of_ne (StableHlo.devRef_ne_of_ne h1)]
theorem rest0 (c : Dev nD) : ∀ b ∈ Pipeline.ucRefs τ sig \ Pipeline.arrRefs (τ := τ) spec0, W2 m c b = W1 m c b := fun b hb => by
  have hn : b ∉ Pipeline.arrRefs (τ := τ) spec0 := (Finset.mem_sdiff.mp hb).2
  have h0 : b ≠ Proc.devRef .tc main_v1_0 := by rintro rfl; exact hn (arr0_mem 7)
  have h1 : b ≠ Proc.devRef .tc main_v1_1 := by rintro rfl; exact hn (arr0_mem 8)
  simp only [W2, Function.update_of_ne h0, Function.update_of_ne h1]
theorem exit0 (c : Dev nD) (w : Fin cfg0.W) : (D0 m c).arrAt w cfg0.N = W2 m c (Proc.devRef .tc (Pipeline.arrRef spec0 w)) := by
  by_cases e0 : w = 7
  · subst e0; exact (W2_main_v1_0 m c).symm
  by_cases e1 : w = 8
  · subst e1; exact (W2_main_v1_1 m c).symm
  have hi : (cfg0.win w).isOut = false := by clear c; revert w; decide
  exact ((D0 m c).arrAt_in w hi _).trans ((K0.A_eq _ _ c w).trans (W2_of m c (Pipeline.arrRef spec0 w) (by clear hi c; revert w; decide) (by clear hi c; revert w; decide)).symm)

set_option backward.isDefEq.respectTransparency.types false in
/-- Region 0. -/
def R0 : RegionSeg (pcfgs (F := F)) adm (PD m) () defs₀ Variants.none L lv 0 :=
  Pipeline.RegionSeg.ofHeld (pcfgs (F := F)) adm (PD m) () defs₀ Variants.none L lv 0 none₀
    (fun c => iprop(∃ r, prngReg c r)) (fun c => iprop(∃ r, prngReg c r))
    launch0.toP rfl (fun c => (K0.body_obligation Variants.none (entry (W1 m)) none₀ () c).loose) (fun _ _ => rfl) (fun _ => rfl)
    (fun c => (PD m 0 c).share_full fun _ => rfl) (fun _ => .rfl) (fun _ => .rfl) (fun _ => 0) (cut (PD m) 0)
    (fun c => iprop(StableHlo.held (c : Thread nD τ) (Pipeline.ucRefs τ sig \ Pipeline.arrRefs (τ := τ) spec0) (W1 m c) ∗ emp))
    (W1 m) (W2 m) (fun _ _ => rfl) (exit0 m)

theorem enter0 (c : Dev nD) : iprop(StableHlo.held (c : Thread nD τ) (Pipeline.ucRefs τ sig) (W1 m c) ∗ E c) ⊢ (R0 m).pre c := enter c arrs0 (W1 m c)
theorem leave0 (c : Dev nD) : (R0 m).post c ⊢ iprop(StableHlo.held (c : Thread nD τ) (Pipeline.ucRefs τ sig) (W2 m c) ∗ E c) := leave c arrs0 (W1 m c) (W2 m c) (rest0 m c)

/-! ## Region 1 -/

theorem arrs1 : Pipeline.arrRefs (τ := τ) spec1 ⊆ Pipeline.ucRefs τ sig := Pipeline.arrRefs_sub_ucRefs spec1 (by decide)
theorem arr1_mem (w : Fin cfg1.W) : (Proc.devRef .tc (Pipeline.arrRef spec1 w) : DevRef τ sig) ∈ Pipeline.arrRefs (τ := τ) spec1 :=
  Finset.mem_map_of_mem _ (Finset.mem_image_of_mem _ (Finset.mem_univ w))
theorem W3_main_v2 (c : Dev nD) : W3 m c (Proc.devRef .tc main_v2) = (D1 m c).arrAt 14 cfg1.N := by simp only [W3, Function.update_self]
theorem W3_of (c : Dev nD) (b : Ref sig .tc) (h0 : b ≠ main_v2) : W3 m c (Proc.devRef .tc b) = W2 m c (Proc.devRef .tc b) := by
  simp only [W3, Function.update_of_ne (StableHlo.devRef_ne_of_ne h0)]
theorem rest1 (c : Dev nD) : ∀ b ∈ Pipeline.ucRefs τ sig \ Pipeline.arrRefs (τ := τ) spec1, W3 m c b = W2 m c b := fun b hb => by
  have hn : b ∉ Pipeline.arrRefs (τ := τ) spec1 := (Finset.mem_sdiff.mp hb).2
  have h0 : b ≠ Proc.devRef .tc main_v2 := by rintro rfl; exact hn (arr1_mem 14)
  simp only [W3, Function.update_of_ne h0]
theorem exit1 (c : Dev nD) (w : Fin cfg1.W) : (D1 m c).arrAt w cfg1.N = W3 m c (Proc.devRef .tc (Pipeline.arrRef spec1 w)) := by
  by_cases e0 : w = 14
  · subst e0; exact (W3_main_v2 m c).symm
  have hi : (cfg1.win w).isOut = false := by clear c; revert w; decide
  exact ((D1 m c).arrAt_in w hi _).trans ((Own.K1.A_eq _ _ _ c w).trans (W3_of m c (Pipeline.arrRef spec1 w) (by clear hi c; revert w; decide)).symm)

set_option backward.isDefEq.respectTransparency.types false in
/-- Region 1. -/
def R1 : RegionSeg (pcfgs (F := F)) adm (PD m) () defs₀ Variants.none L lv 1 :=
  Pipeline.RegionSeg.ofHeld (pcfgs (F := F)) adm (PD m) () defs₀ Variants.none L lv 1 none₀
    (fun c => iprop(∃ r, prngReg c r)) (fun c => iprop(∃ r, prngReg c r))
    launch1.toP rfl (fun c => (Own.K1.body_obligation Variants.none (entry (W2 m)) none₀ () c).loose) (fun _ _ => rfl) (fun _ => rfl)
    (fun c => (PD m 1 c).share_full fun _ => rfl) (fun _ => .rfl) (fun _ => .rfl) (fun _ => 0) (cut (PD m) 1)
    (fun c => iprop(StableHlo.held (c : Thread nD τ) (Pipeline.ucRefs τ sig \ Pipeline.arrRefs (τ := τ) spec1) (W2 m c) ∗ emp))
    (W2 m) (W3 m) (fun _ _ => rfl) (exit1 m)

theorem enter1 (c : Dev nD) : iprop(StableHlo.held (c : Thread nD τ) (Pipeline.ucRefs τ sig) (W2 m c) ∗ E c) ⊢ (R1 m).pre c := enter c arrs1 (W2 m c)
theorem leave1 (c : Dev nD) : (R1 m).post c ⊢ iprop(StableHlo.held (c : Thread nD τ) (Pipeline.ucRefs τ sig) (W3 m c) ∗ E c) := leave c arrs1 (W2 m c) (W3 m c) (rest1 m c)

/-! ## Region 2 -/

theorem arrs2 : Pipeline.arrRefs (τ := τ) spec2 ⊆ Pipeline.ucRefs τ sig := Pipeline.arrRefs_sub_ucRefs spec2 (by decide)
theorem arr2_mem (w : Fin cfg2.W) : (Proc.devRef .tc (Pipeline.arrRef spec2 w) : DevRef τ sig) ∈ Pipeline.arrRefs (τ := τ) spec2 :=
  Finset.mem_map_of_mem _ (Finset.mem_image_of_mem _ (Finset.mem_univ w))
theorem W4_main_v3_0 (c : Dev nD) : W4 m c (Proc.devRef .tc main_v3_0) = (D2 m c).arrAt 7 cfg2.N := by simp only [W4, Function.update_of_ne (StableHlo.devRef_ne_of_ne (by decide : (main_v3_0 : Ref sig .tc) ≠ main_v3_1)), Function.update_self]
theorem W4_main_v3_1 (c : Dev nD) : W4 m c (Proc.devRef .tc main_v3_1) = (D2 m c).arrAt 8 cfg2.N := by simp only [W4, Function.update_self]
theorem W4_of (c : Dev nD) (b : Ref sig .tc) (h0 : b ≠ main_v3_0) (h1 : b ≠ main_v3_1) : W4 m c (Proc.devRef .tc b) = W3 m c (Proc.devRef .tc b) := by
  simp only [W4, Function.update_of_ne (StableHlo.devRef_ne_of_ne h0), Function.update_of_ne (StableHlo.devRef_ne_of_ne h1)]
theorem rest2 (c : Dev nD) : ∀ b ∈ Pipeline.ucRefs τ sig \ Pipeline.arrRefs (τ := τ) spec2, W4 m c b = W3 m c b := fun b hb => by
  have hn : b ∉ Pipeline.arrRefs (τ := τ) spec2 := (Finset.mem_sdiff.mp hb).2
  have h0 : b ≠ Proc.devRef .tc main_v3_0 := by rintro rfl; exact hn (arr2_mem 7)
  have h1 : b ≠ Proc.devRef .tc main_v3_1 := by rintro rfl; exact hn (arr2_mem 8)
  simp only [W4, Function.update_of_ne h0, Function.update_of_ne h1]
theorem exit2 (c : Dev nD) (w : Fin cfg2.W) : (D2 m c).arrAt w cfg2.N = W4 m c (Proc.devRef .tc (Pipeline.arrRef spec2 w)) := by
  by_cases e0 : w = 7
  · subst e0; exact (W4_main_v3_0 m c).symm
  by_cases e1 : w = 8
  · subst e1; exact (W4_main_v3_1 m c).symm
  have hi : (cfg2.win w).isOut = false := by clear c; revert w; decide
  exact ((D2 m c).arrAt_in w hi _).trans ((K2.A_eq _ _ c w).trans (W4_of m c (Pipeline.arrRef spec2 w) (by clear hi c; revert w; decide) (by clear hi c; revert w; decide)).symm)

set_option backward.isDefEq.respectTransparency.types false in
/-- Region 2. -/
def R2 : RegionSeg (pcfgs (F := F)) adm (PD m) () defs₀ Variants.none L lv 2 :=
  Pipeline.RegionSeg.ofHeld (pcfgs (F := F)) adm (PD m) () defs₀ Variants.none L lv 2 none₀
    (fun c => iprop(∃ r, prngReg c r)) (fun c => iprop(∃ r, prngReg c r))
    launch2.toP rfl (fun c => (K2.body_obligation Variants.none (entry (W3 m)) none₀ () c).loose) (fun _ _ => rfl) (fun _ => rfl)
    (fun c => (PD m 2 c).share_full fun _ => rfl) (fun _ => .rfl) (fun _ => .rfl) (fun _ => 0) (cut (PD m) 2)
    (fun c => iprop(StableHlo.held (c : Thread nD τ) (Pipeline.ucRefs τ sig \ Pipeline.arrRefs (τ := τ) spec2) (W3 m c) ∗ emp))
    (W3 m) (W4 m) (fun _ _ => rfl) (exit2 m)

theorem enter2 (c : Dev nD) : iprop(StableHlo.held (c : Thread nD τ) (Pipeline.ucRefs τ sig) (W3 m c) ∗ E c) ⊢ (R2 m).pre c := enter c arrs2 (W3 m c)
theorem leave2 (c : Dev nD) : (R2 m).post c ⊢ iprop(StableHlo.held (c : Thread nD τ) (Pipeline.ucRefs τ sig) (W4 m c) ∗ E c) := leave c arrs2 (W3 m c) (W4 m c) (rest2 m c)

/-! ## Region 3 -/

theorem arrs3 : Pipeline.arrRefs (τ := τ) spec3 ⊆ Pipeline.ucRefs τ sig := Pipeline.arrRefs_sub_ucRefs spec3 (by decide)
theorem arr3_mem (w : Fin cfg3.W) : (Proc.devRef .tc (Pipeline.arrRef spec3 w) : DevRef τ sig) ∈ Pipeline.arrRefs (τ := τ) spec3 :=
  Finset.mem_map_of_mem _ (Finset.mem_image_of_mem _ (Finset.mem_univ w))
theorem W5_main_v4 (c : Dev nD) : W5 m c (Proc.devRef .tc main_v4) = (D3 m c).arrAt 14 cfg3.N := by simp only [W5, Function.update_self]
theorem W5_of (c : Dev nD) (b : Ref sig .tc) (h0 : b ≠ main_v4) : W5 m c (Proc.devRef .tc b) = W4 m c (Proc.devRef .tc b) := by
  simp only [W5, Function.update_of_ne (StableHlo.devRef_ne_of_ne h0)]
theorem rest3 (c : Dev nD) : ∀ b ∈ Pipeline.ucRefs τ sig \ Pipeline.arrRefs (τ := τ) spec3, W5 m c b = W4 m c b := fun b hb => by
  have hn : b ∉ Pipeline.arrRefs (τ := τ) spec3 := (Finset.mem_sdiff.mp hb).2
  have h0 : b ≠ Proc.devRef .tc main_v4 := by rintro rfl; exact hn (arr3_mem 14)
  simp only [W5, Function.update_of_ne h0]
theorem exit3 (c : Dev nD) (w : Fin cfg3.W) : (D3 m c).arrAt w cfg3.N = W5 m c (Proc.devRef .tc (Pipeline.arrRef spec3 w)) := by
  by_cases e0 : w = 14
  · subst e0; exact (W5_main_v4 m c).symm
  have hi : (cfg3.win w).isOut = false := by clear c; revert w; decide
  exact ((D3 m c).arrAt_in w hi _).trans ((Own.K3.A_eq _ _ _ c w).trans (W5_of m c (Pipeline.arrRef spec3 w) (by clear hi c; revert w; decide)).symm)

set_option backward.isDefEq.respectTransparency.types false in
/-- Region 3. -/
def R3 : RegionSeg (pcfgs (F := F)) adm (PD m) () defs₀ Variants.none L lv 3 :=
  Pipeline.RegionSeg.ofHeld (pcfgs (F := F)) adm (PD m) () defs₀ Variants.none L lv 3 none₀
    (fun c => iprop(∃ r, prngReg c r)) (fun c => iprop(∃ r, prngReg c r))
    launch3.toP rfl (fun c => (Own.K3.body_obligation Variants.none (entry (W4 m)) none₀ () c).loose) (fun _ _ => rfl) (fun _ => rfl)
    (fun c => (PD m 3 c).share_full fun _ => rfl) (fun _ => .rfl) (fun _ => .rfl) (fun _ => 0) (cut (PD m) 3)
    (fun c => iprop(StableHlo.held (c : Thread nD τ) (Pipeline.ucRefs τ sig \ Pipeline.arrRefs (τ := τ) spec3) (W4 m c) ∗ emp))
    (W4 m) (W5 m) (fun _ _ => rfl) (exit3 m)

theorem enter3 (c : Dev nD) : iprop(StableHlo.held (c : Thread nD τ) (Pipeline.ucRefs τ sig) (W4 m c) ∗ E c) ⊢ (R3 m).pre c := enter c arrs3 (W4 m c)
theorem leave3 (c : Dev nD) : (R3 m).post c ⊢ iprop(StableHlo.held (c : Thread nD τ) (Pipeline.ucRefs τ sig) (W5 m c) ∗ E c) := leave c arrs3 (W4 m c) (W5 m c) (rest3 m c)

/-! ## Region 4 -/

theorem arrs4 : Pipeline.arrRefs (τ := τ) spec4 ⊆ Pipeline.ucRefs τ sig := Pipeline.arrRefs_sub_ucRefs spec4 (by decide)
theorem arr4_mem (w : Fin cfg4.W) : (Proc.devRef .tc (Pipeline.arrRef spec4 w) : DevRef τ sig) ∈ Pipeline.arrRefs (τ := τ) spec4 :=
  Finset.mem_map_of_mem _ (Finset.mem_image_of_mem _ (Finset.mem_univ w))
theorem W7_main_v8_0 (c : Dev nD) : W7 m c (Proc.devRef .tc main_v8_0) = (D4 m c).arrAt 5 cfg4.N := by simp only [W7, Function.update_of_ne (StableHlo.devRef_ne_of_ne (by decide : (main_v8_0 : Ref sig .tc) ≠ main_v8_1)), Function.update_self]
theorem W7_main_v8_1 (c : Dev nD) : W7 m c (Proc.devRef .tc main_v8_1) = (D4 m c).arrAt 6 cfg4.N := by simp only [W7, Function.update_self]
theorem W7_of (c : Dev nD) (b : Ref sig .tc) (h0 : b ≠ main_v8_0) (h1 : b ≠ main_v8_1) : W7 m c (Proc.devRef .tc b) = W6 m c (Proc.devRef .tc b) := by
  simp only [W7, Function.update_of_ne (StableHlo.devRef_ne_of_ne h0), Function.update_of_ne (StableHlo.devRef_ne_of_ne h1)]
theorem rest4 (c : Dev nD) : ∀ b ∈ Pipeline.ucRefs τ sig \ Pipeline.arrRefs (τ := τ) spec4, W7 m c b = W6 m c b := fun b hb => by
  have hn : b ∉ Pipeline.arrRefs (τ := τ) spec4 := (Finset.mem_sdiff.mp hb).2
  have h0 : b ≠ Proc.devRef .tc main_v8_0 := by rintro rfl; exact hn (arr4_mem 5)
  have h1 : b ≠ Proc.devRef .tc main_v8_1 := by rintro rfl; exact hn (arr4_mem 6)
  simp only [W7, Function.update_of_ne h0, Function.update_of_ne h1]
theorem exit4 (c : Dev nD) (w : Fin cfg4.W) : (D4 m c).arrAt w cfg4.N = W7 m c (Proc.devRef .tc (Pipeline.arrRef spec4 w)) := by
  by_cases e0 : w = 5
  · subst e0; exact (W7_main_v8_0 m c).symm
  by_cases e1 : w = 6
  · subst e1; exact (W7_main_v8_1 m c).symm
  have hi : (cfg4.win w).isOut = false := by clear c; revert w; decide
  exact ((D4 m c).arrAt_in w hi _).trans ((Own.K4.A_eq _ _ _ c w).trans (W7_of m c (Pipeline.arrRef spec4 w) (by clear hi c; revert w; decide) (by clear hi c; revert w; decide)).symm)

set_option backward.isDefEq.respectTransparency.types false in
/-- Region 4. -/
def R4 : RegionSeg (pcfgs (F := F)) adm (PD m) () defs₀ Variants.none L lv 4 :=
  Pipeline.RegionSeg.ofHeld (pcfgs (F := F)) adm (PD m) () defs₀ Variants.none L lv 4 none₀
    (fun c => iprop(∃ r, prngReg c r)) (fun c => iprop(∃ r, prngReg c r))
    launch4.toP rfl (fun c => (Own.K4.body_obligation Variants.none (entry (W6 m)) none₀ () c).loose) (fun _ _ => rfl) (fun _ => rfl)
    (fun c => (PD m 4 c).share_full fun _ => rfl) (fun _ => .rfl) (fun _ => .rfl) (fun _ => 0) (cut (PD m) 4)
    (fun c => iprop(StableHlo.held (c : Thread nD τ) (Pipeline.ucRefs τ sig \ Pipeline.arrRefs (τ := τ) spec4) (W6 m c) ∗ emp))
    (W6 m) (W7 m) (fun _ _ => rfl) (exit4 m)

theorem enter4 (c : Dev nD) : iprop(StableHlo.held (c : Thread nD τ) (Pipeline.ucRefs τ sig) (W6 m c) ∗ E c) ⊢ (R4 m).pre c := enter c arrs4 (W6 m c)
theorem leave4 (c : Dev nD) : (R4 m).post c ⊢ iprop(StableHlo.held (c : Thread nD τ) (Pipeline.ucRefs τ sig) (W7 m c) ∗ E c) := leave c arrs4 (W6 m c) (W7 m c) (rest4 m c)

/-! ## Region 5 -/

theorem arrs5 : Pipeline.arrRefs (τ := τ) spec5 ⊆ Pipeline.ucRefs τ sig := Pipeline.arrRefs_sub_ucRefs spec5 (by decide)
theorem arr5_mem (w : Fin cfg5.W) : (Proc.devRef .tc (Pipeline.arrRef spec5 w) : DevRef τ sig) ∈ Pipeline.arrRefs (τ := τ) spec5 :=
  Finset.mem_map_of_mem _ (Finset.mem_image_of_mem _ (Finset.mem_univ w))
theorem W9_main_v11_0 (c : Dev nD) : W9 m c (Proc.devRef .tc main_v11_0) = (D5 m c).arrAt 0 cfg5.N := by simp only [W9, Function.update_of_ne (StableHlo.devRef_ne_of_ne (by decide : (main_v11_0 : Ref sig .tc) ≠ main_v11_1)), Function.update_self]
theorem W9_main_v11_1 (c : Dev nD) : W9 m c (Proc.devRef .tc main_v11_1) = (D5 m c).arrAt 1 cfg5.N := by simp only [W9, Function.update_self]
theorem W9_of (c : Dev nD) (b : Ref sig .tc) (h0 : b ≠ main_v11_0) (h1 : b ≠ main_v11_1) : W9 m c (Proc.devRef .tc b) = W8 m c (Proc.devRef .tc b) := by
  simp only [W9, Function.update_of_ne (StableHlo.devRef_ne_of_ne h0), Function.update_of_ne (StableHlo.devRef_ne_of_ne h1)]
theorem rest5 (c : Dev nD) : ∀ b ∈ Pipeline.ucRefs τ sig \ Pipeline.arrRefs (τ := τ) spec5, W9 m c b = W8 m c b := fun b hb => by
  have hn : b ∉ Pipeline.arrRefs (τ := τ) spec5 := (Finset.mem_sdiff.mp hb).2
  have h0 : b ≠ Proc.devRef .tc main_v11_0 := by rintro rfl; exact hn (arr5_mem 0)
  have h1 : b ≠ Proc.devRef .tc main_v11_1 := by rintro rfl; exact hn (arr5_mem 1)
  simp only [W9, Function.update_of_ne h0, Function.update_of_ne h1]
theorem exit5 (c : Dev nD) (w : Fin cfg5.W) : (D5 m c).arrAt w cfg5.N = W9 m c (Proc.devRef .tc (Pipeline.arrRef spec5 w)) := by
  by_cases e0 : w = 0
  · subst e0; exact (W9_main_v11_0 m c).symm
  by_cases e1 : w = 1
  · subst e1; exact (W9_main_v11_1 m c).symm
  exfalso; revert w; decide

theorem operands5 : Pipeline.hbmRefs (τ := τ) K5.operands ⊆ Pipeline.ucRefs τ sig \ Pipeline.arrRefs (τ := τ) spec5 := by decide

set_option backward.isDefEq.respectTransparency.types false in
/-- Region 5, its transfers' operands among the buffers that ride. -/
def R5 : RegionSeg (pcfgs (F := F)) adm (PD m) () defs₀ Variants.none L lv 5 :=
  Pipeline.RegionSeg.ofHeldDH (pcfgs (F := F)) adm (PD m) () defs₀ Variants.none L lv 5 none₀ default K5.osem K5.ownSemFacts
    K5.operands (Pipeline.ucRefs τ sig \ Pipeline.arrRefs (τ := τ) spec5) operands5
    launch5.toP rfl (fun c => (K5.body_obligation (entry (W8 m)) c).loose) (fun _ _ => rfl) (fun _ => rfl)
    (fun c => (PD m 5 c).share_full fun _ => rfl) (fun c => by iintro -; iapply (Transfers.MayWaits.zero (c : Thread nD τ) default); iempintro)
    (W8 m) (W9 m) (fun c => by
      refine .trans ?_ (K5.hin (entry (W8 m)) c)
      iintro ⟨Ha, Hb, Hc, Hd, -⟩
      isplitl [Ha]; · iexact Ha
      isplitl [Hb]; · iexact Hb
      isplitl [Hc]; · iexact Hc
      iexact Hd) (K5.hout (entry (W8 m))) (fun _ => 0) (cut (PD m) 5)
    (fun _ => iprop(emp)) (fun _ _ => rfl) (exit5 m)

theorem enter5 (c : Dev nD) : iprop(StableHlo.held (c : Thread nD τ) (Pipeline.ucRefs τ sig) (W8 m c) ∗ E c) ⊢ (R5 m).pre c := enter c arrs5 (W8 m c)
theorem leave5 (c : Dev nD) : (R5 m).post c ⊢ iprop(StableHlo.held (c : Thread nD τ) (Pipeline.ucRefs τ sig) (W9 m c) ∗ E c) := leave c arrs5 (W8 m c) (W9 m c) (rest5 m c)

/-! ## Region 6 -/

theorem arrs6 : Pipeline.arrRefs (τ := τ) spec6 ⊆ Pipeline.ucRefs τ sig := Pipeline.arrRefs_sub_ucRefs spec6 (by decide)
theorem arr6_mem (w : Fin cfg6.W) : (Proc.devRef .tc (Pipeline.arrRef spec6 w) : DevRef τ sig) ∈ Pipeline.arrRefs (τ := τ) spec6 :=
  Finset.mem_map_of_mem _ (Finset.mem_image_of_mem _ (Finset.mem_univ w))
theorem W10_main_v12 (c : Dev nD) : W10 m c (Proc.devRef .tc main_v12) = (D6 m c).arrAt 14 cfg6.N := by simp only [W10, Function.update_self]
theorem W10_of (c : Dev nD) (b : Ref sig .tc) (h0 : b ≠ main_v12) : W10 m c (Proc.devRef .tc b) = W9 m c (Proc.devRef .tc b) := by
  simp only [W10, Function.update_of_ne (StableHlo.devRef_ne_of_ne h0)]
theorem rest6 (c : Dev nD) : ∀ b ∈ Pipeline.ucRefs τ sig \ Pipeline.arrRefs (τ := τ) spec6, W10 m c b = W9 m c b := fun b hb => by
  have hn : b ∉ Pipeline.arrRefs (τ := τ) spec6 := (Finset.mem_sdiff.mp hb).2
  have h0 : b ≠ Proc.devRef .tc main_v12 := by rintro rfl; exact hn (arr6_mem 14)
  simp only [W10, Function.update_of_ne h0]
theorem exit6 (c : Dev nD) (w : Fin cfg6.W) : (D6 m c).arrAt w cfg6.N = W10 m c (Proc.devRef .tc (Pipeline.arrRef spec6 w)) := by
  by_cases e0 : w = 14
  · subst e0; exact (W10_main_v12 m c).symm
  have hi : (cfg6.win w).isOut = false := by clear c; revert w; decide
  exact ((D6 m c).arrAt_in w hi _).trans ((Own.K6.A_eq _ _ _ c w).trans (W10_of m c (Pipeline.arrRef spec6 w) (by clear hi c; revert w; decide)).symm)

set_option backward.isDefEq.respectTransparency.types false in
/-- Region 6. -/
def R6 : RegionSeg (pcfgs (F := F)) adm (PD m) () defs₀ Variants.none L lv 6 :=
  Pipeline.RegionSeg.ofHeld (pcfgs (F := F)) adm (PD m) () defs₀ Variants.none L lv 6 none₀
    (fun c => iprop(∃ r, prngReg c r)) (fun c => iprop(∃ r, prngReg c r))
    launch6.toP rfl (fun c => (Own.K6.body_obligation Variants.none (entry (W9 m)) none₀ () c).loose) (fun _ _ => rfl) (fun _ => rfl)
    (fun c => (PD m 6 c).share_full fun _ => rfl) (fun _ => .rfl) (fun _ => .rfl) (fun _ => 0) (cut (PD m) 6)
    (fun c => iprop(StableHlo.held (c : Thread nD τ) (Pipeline.ucRefs τ sig \ Pipeline.arrRefs (τ := τ) spec6) (W9 m c) ∗ emp))
    (W9 m) (W10 m) (fun _ _ => rfl) (exit6 m)

theorem enter6 (c : Dev nD) : iprop(StableHlo.held (c : Thread nD τ) (Pipeline.ucRefs τ sig) (W9 m c) ∗ E c) ⊢ (R6 m).pre c := enter c arrs6 (W9 m c)
theorem leave6 (c : Dev nD) : (R6 m).post c ⊢ iprop(StableHlo.held (c : Thread nD τ) (Pipeline.ucRefs τ sig) (W10 m c) ∗ E c) := leave c arrs6 (W9 m c) (W10 m c) (rest6 m c)

/-! ## Region 7 -/

theorem arrs7 : Pipeline.arrRefs (τ := τ) spec7 ⊆ Pipeline.ucRefs τ sig := Pipeline.arrRefs_sub_ucRefs spec7 (by decide)
theorem arr7_mem (w : Fin cfg7.W) : (Proc.devRef .tc (Pipeline.arrRef spec7 w) : DevRef τ sig) ∈ Pipeline.arrRefs (τ := τ) spec7 :=
  Finset.mem_map_of_mem _ (Finset.mem_image_of_mem _ (Finset.mem_univ w))
theorem W12_main_v14_0 (c : Dev nD) : W12 m c (Proc.devRef .tc main_v14_0) = (D7 m c).arrAt 5 cfg7.N := by simp only [W12, Function.update_of_ne (StableHlo.devRef_ne_of_ne (by decide : (main_v14_0 : Ref sig .tc) ≠ main_v14_1)), Function.update_self]
theorem W12_main_v14_1 (c : Dev nD) : W12 m c (Proc.devRef .tc main_v14_1) = (D7 m c).arrAt 6 cfg7.N := by simp only [W12, Function.update_self]
theorem W12_of (c : Dev nD) (b : Ref sig .tc) (h0 : b ≠ main_v14_0) (h1 : b ≠ main_v14_1) : W12 m c (Proc.devRef .tc b) = W11 m c (Proc.devRef .tc b) := by
  simp only [W12, Function.update_of_ne (StableHlo.devRef_ne_of_ne h0), Function.update_of_ne (StableHlo.devRef_ne_of_ne h1)]
theorem rest7 (c : Dev nD) : ∀ b ∈ Pipeline.ucRefs τ sig \ Pipeline.arrRefs (τ := τ) spec7, W12 m c b = W11 m c b := fun b hb => by
  have hn : b ∉ Pipeline.arrRefs (τ := τ) spec7 := (Finset.mem_sdiff.mp hb).2
  have h0 : b ≠ Proc.devRef .tc main_v14_0 := by rintro rfl; exact hn (arr7_mem 5)
  have h1 : b ≠ Proc.devRef .tc main_v14_1 := by rintro rfl; exact hn (arr7_mem 6)
  simp only [W12, Function.update_of_ne h0, Function.update_of_ne h1]
theorem exit7 (c : Dev nD) (w : Fin cfg7.W) : (D7 m c).arrAt w cfg7.N = W12 m c (Proc.devRef .tc (Pipeline.arrRef spec7 w)) := by
  by_cases e0 : w = 5
  · subst e0; exact (W12_main_v14_0 m c).symm
  by_cases e1 : w = 6
  · subst e1; exact (W12_main_v14_1 m c).symm
  have hi : (cfg7.win w).isOut = false := by clear c; revert w; decide
  exact ((D7 m c).arrAt_in w hi _).trans ((Own.K7.A_eq _ _ _ c w).trans (W12_of m c (Pipeline.arrRef spec7 w) (by clear hi c; revert w; decide) (by clear hi c; revert w; decide)).symm)

set_option backward.isDefEq.respectTransparency.types false in
/-- Region 7. -/
def R7 : RegionSeg (pcfgs (F := F)) adm (PD m) () defs₀ Variants.none L lv 7 :=
  Pipeline.RegionSeg.ofHeld (pcfgs (F := F)) adm (PD m) () defs₀ Variants.none L lv 7 none₀
    (fun c => iprop(∃ r, prngReg c r)) (fun c => iprop(∃ r, prngReg c r))
    launch7.toP rfl (fun c => (Own.K7.body_obligation Variants.none (entry (W11 m)) none₀ () c).loose) (fun _ _ => rfl) (fun _ => rfl)
    (fun c => (PD m 7 c).share_full fun _ => rfl) (fun _ => .rfl) (fun _ => .rfl) (fun _ => 0) (cut (PD m) 7)
    (fun c => iprop(StableHlo.held (c : Thread nD τ) (Pipeline.ucRefs τ sig \ Pipeline.arrRefs (τ := τ) spec7) (W11 m c) ∗ emp))
    (W11 m) (W12 m) (fun _ _ => rfl) (exit7 m)

theorem enter7 (c : Dev nD) : iprop(StableHlo.held (c : Thread nD τ) (Pipeline.ucRefs τ sig) (W11 m c) ∗ E c) ⊢ (R7 m).pre c := enter c arrs7 (W11 m c)
theorem leave7 (c : Dev nD) : (R7 m).post c ⊢ iprop(StableHlo.held (c : Thread nD τ) (Pipeline.ucRefs τ sig) (W12 m c) ∗ E c) := leave c arrs7 (W11 m c) (W12 m c) (rest7 m c)

/-! ## Region 8 -/

theorem arrs8 : Pipeline.arrRefs (τ := τ) spec8 ⊆ Pipeline.ucRefs τ sig := Pipeline.arrRefs_sub_ucRefs spec8 (by decide)
theorem arr8_mem (w : Fin cfg8.W) : (Proc.devRef .tc (Pipeline.arrRef spec8 w) : DevRef τ sig) ∈ Pipeline.arrRefs (τ := τ) spec8 :=
  Finset.mem_map_of_mem _ (Finset.mem_image_of_mem _ (Finset.mem_univ w))
theorem W14_main_v17_0 (c : Dev nD) : W14 m c (Proc.devRef .tc main_v17_0) = (D8 m c).arrAt 0 cfg8.N := by simp only [W14, Function.update_of_ne (StableHlo.devRef_ne_of_ne (by decide : (main_v17_0 : Ref sig .tc) ≠ main_v17_1)), Function.update_self]
theorem W14_main_v17_1 (c : Dev nD) : W14 m c (Proc.devRef .tc main_v17_1) = (D8 m c).arrAt 1 cfg8.N := by simp only [W14, Function.update_self]
theorem W14_of (c : Dev nD) (b : Ref sig .tc) (h0 : b ≠ main_v17_0) (h1 : b ≠ main_v17_1) : W14 m c (Proc.devRef .tc b) = W13 m c (Proc.devRef .tc b) := by
  simp only [W14, Function.update_of_ne (StableHlo.devRef_ne_of_ne h0), Function.update_of_ne (StableHlo.devRef_ne_of_ne h1)]
theorem rest8 (c : Dev nD) : ∀ b ∈ Pipeline.ucRefs τ sig \ Pipeline.arrRefs (τ := τ) spec8, W14 m c b = W13 m c b := fun b hb => by
  have hn : b ∉ Pipeline.arrRefs (τ := τ) spec8 := (Finset.mem_sdiff.mp hb).2
  have h0 : b ≠ Proc.devRef .tc main_v17_0 := by rintro rfl; exact hn (arr8_mem 0)
  have h1 : b ≠ Proc.devRef .tc main_v17_1 := by rintro rfl; exact hn (arr8_mem 1)
  simp only [W14, Function.update_of_ne h0, Function.update_of_ne h1]
theorem exit8 (c : Dev nD) (w : Fin cfg8.W) : (D8 m c).arrAt w cfg8.N = W14 m c (Proc.devRef .tc (Pipeline.arrRef spec8 w)) := by
  by_cases e0 : w = 0
  · subst e0; exact (W14_main_v17_0 m c).symm
  by_cases e1 : w = 1
  · subst e1; exact (W14_main_v17_1 m c).symm
  exfalso; revert w; decide

theorem operands8 : Pipeline.hbmRefs (τ := τ) K8.operands ⊆ Pipeline.ucRefs τ sig \ Pipeline.arrRefs (τ := τ) spec8 := by decide

set_option backward.isDefEq.respectTransparency.types false in
/-- Region 8, its transfers' operands among the buffers that ride. -/
def R8 : RegionSeg (pcfgs (F := F)) adm (PD m) () defs₀ Variants.none L lv 8 :=
  Pipeline.RegionSeg.ofHeldDH (pcfgs (F := F)) adm (PD m) () defs₀ Variants.none L lv 8 none₀ default K8.osem K8.ownSemFacts
    K8.operands (Pipeline.ucRefs τ sig \ Pipeline.arrRefs (τ := τ) spec8) operands8
    launch8.toP rfl (fun c => (K8.body_obligation (entry (W13 m)) c).loose) (fun _ _ => rfl) (fun _ => rfl)
    (fun c => (PD m 8 c).share_full fun _ => rfl) (fun c => by iintro -; iapply (Transfers.MayWaits.zero (c : Thread nD τ) default); iempintro)
    (W13 m) (W14 m) (fun c => by
      refine .trans ?_ (K8.hin (entry (W13 m)) c)
      iintro ⟨Ha, Hb, Hc, Hd, -⟩
      isplitl [Ha]; · iexact Ha
      isplitl [Hb]; · iexact Hb
      isplitl [Hc]; · iexact Hc
      iexact Hd) (K8.hout (entry (W13 m))) (fun _ => 0) (cut (PD m) 8)
    (fun _ => iprop(emp)) (fun _ _ => rfl) (exit8 m)

theorem enter8 (c : Dev nD) : iprop(StableHlo.held (c : Thread nD τ) (Pipeline.ucRefs τ sig) (W13 m c) ∗ E c) ⊢ (R8 m).pre c := enter c arrs8 (W13 m c)
theorem leave8 (c : Dev nD) : (R8 m).post c ⊢ iprop(StableHlo.held (c : Thread nD τ) (Pipeline.ucRefs τ sig) (W14 m c) ∗ E c) := leave c arrs8 (W13 m c) (W14 m c) (rest8 m c)

/-! ## Region 9 -/

theorem arrs9 : Pipeline.arrRefs (τ := τ) spec9 ⊆ Pipeline.ucRefs τ sig := Pipeline.arrRefs_sub_ucRefs spec9 (by decide)
theorem arr9_mem (w : Fin cfg9.W) : (Proc.devRef .tc (Pipeline.arrRef spec9 w) : DevRef τ sig) ∈ Pipeline.arrRefs (τ := τ) spec9 :=
  Finset.mem_map_of_mem _ (Finset.mem_image_of_mem _ (Finset.mem_univ w))
theorem W15_main_v18 (c : Dev nD) : W15 m c (Proc.devRef .tc main_v18) = (D9 m c).arrAt 14 cfg9.N := by simp only [W15, Function.update_self]
theorem W15_of (c : Dev nD) (b : Ref sig .tc) (h0 : b ≠ main_v18) : W15 m c (Proc.devRef .tc b) = W14 m c (Proc.devRef .tc b) := by
  simp only [W15, Function.update_of_ne (StableHlo.devRef_ne_of_ne h0)]
theorem rest9 (c : Dev nD) : ∀ b ∈ Pipeline.ucRefs τ sig \ Pipeline.arrRefs (τ := τ) spec9, W15 m c b = W14 m c b := fun b hb => by
  have hn : b ∉ Pipeline.arrRefs (τ := τ) spec9 := (Finset.mem_sdiff.mp hb).2
  have h0 : b ≠ Proc.devRef .tc main_v18 := by rintro rfl; exact hn (arr9_mem 14)
  simp only [W15, Function.update_of_ne h0]
theorem exit9 (c : Dev nD) (w : Fin cfg9.W) : (D9 m c).arrAt w cfg9.N = W15 m c (Proc.devRef .tc (Pipeline.arrRef spec9 w)) := by
  by_cases e0 : w = 14
  · subst e0; exact (W15_main_v18 m c).symm
  have hi : (cfg9.win w).isOut = false := by clear c; revert w; decide
  exact ((D9 m c).arrAt_in w hi _).trans ((Own.K9.A_eq _ _ _ c w).trans (W15_of m c (Pipeline.arrRef spec9 w) (by clear hi c; revert w; decide)).symm)

set_option backward.isDefEq.respectTransparency.types false in
/-- Region 9. -/
def R9 : RegionSeg (pcfgs (F := F)) adm (PD m) () defs₀ Variants.none L lv 9 :=
  Pipeline.RegionSeg.ofHeld (pcfgs (F := F)) adm (PD m) () defs₀ Variants.none L lv 9 none₀
    (fun c => iprop(∃ r, prngReg c r)) (fun c => iprop(∃ r, prngReg c r))
    launch9.toP rfl (fun c => (Own.K9.body_obligation Variants.none (entry (W14 m)) none₀ () c).loose) (fun _ _ => rfl) (fun _ => rfl)
    (fun c => (PD m 9 c).share_full fun _ => rfl) (fun _ => .rfl) (fun _ => .rfl) (fun _ => 0) (cut (PD m) 9)
    (fun c => iprop(StableHlo.held (c : Thread nD τ) (Pipeline.ucRefs τ sig \ Pipeline.arrRefs (τ := τ) spec9) (W14 m c) ∗ emp))
    (W14 m) (W15 m) (fun _ _ => rfl) (exit9 m)

theorem enter9 (c : Dev nD) : iprop(StableHlo.held (c : Thread nD τ) (Pipeline.ucRefs τ sig) (W14 m c) ∗ E c) ⊢ (R9 m).pre c := enter c arrs9 (W14 m c)
theorem leave9 (c : Dev nD) : (R9 m).post c ⊢ iprop(StableHlo.held (c : Thread nD τ) (Pipeline.ucRefs τ sig) (W15 m c) ∗ E c) := leave c arrs9 (W14 m c) (W15 m c) (rest9 m c)

end Cert.KernelIdeal.Whole

end
-- ==== Proof.Whole.Run.lean ====
/-
  The run of `main`: every weakly fair execution ends, every unscoped buffer of a core then holds what the last valuation
  says, and every semaphore is at zero.
-/
module

public import proofs.«01_k».proof.Proof.Whole.Records
public import Idealize.ShloMosaic.Lib.Pipeline.Regions

@[expose] public section

set_option maxRecDepth 4096

noncomputable section

namespace Cert.KernelIdeal.Whole

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (Pipeline.UD sig nD τ) ℕ

variable (m : (ℓ : Loc nD τ sig) → Buf (Elt F) ℓ)

/-! ## The host stretches, from what the program holds before each -/

def host0 : HostSeg (Ix := Unit) (Name := ℕ) (U := Pipeline.UD sig nD τ) (Lvl := ℕ) (pcfgs (F := F)) defs₀ Variants.none L lv :=
  HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (W0 m) E
def host4 : HostSeg (Ix := Unit) (Name := ℕ) (U := Pipeline.UD sig nD τ) (Lvl := ℕ) (pcfgs (F := F)) defs₀ Variants.none L lv :=
  HostSeg.ofOps _ _ _ _ _ (Pipeline.ucRefs τ sig) hostOps4
    (fun op h => Pipeline.sub_ucRefs op ((List.forall_iff_forall_mem.mp hostOps4_sub) op h))
    (fun op h => (List.forall_iff_forall_mem.mp hostOps4_fresh) op h) (W5 m) E
def host5 : HostSeg (Ix := Unit) (Name := ℕ) (U := Pipeline.UD sig nD τ) (Lvl := ℕ) (pcfgs (F := F)) defs₀ Variants.none L lv :=
  HostSeg.ofOps _ _ _ _ _ (Pipeline.ucRefs τ sig) hostOps5
    (fun op h => Pipeline.sub_ucRefs op ((List.forall_iff_forall_mem.mp hostOps5_sub) op h))
    (fun op h => (List.forall_iff_forall_mem.mp hostOps5_fresh) op h) (W7 m) E
def host7 : HostSeg (Ix := Unit) (Name := ℕ) (U := Pipeline.UD sig nD τ) (Lvl := ℕ) (pcfgs (F := F)) defs₀ Variants.none L lv :=
  HostSeg.ofOps _ _ _ _ _ (Pipeline.ucRefs τ sig) hostOps7
    (fun op h => Pipeline.sub_ucRefs op ((List.forall_iff_forall_mem.mp hostOps7_sub) op h))
    (fun op h => (List.forall_iff_forall_mem.mp hostOps7_fresh) op h) (W10 m) E
def host8 : HostSeg (Ix := Unit) (Name := ℕ) (U := Pipeline.UD sig nD τ) (Lvl := ℕ) (pcfgs (F := F)) defs₀ Variants.none L lv :=
  HostSeg.ofOps _ _ _ _ _ (Pipeline.ucRefs τ sig) hostOps8
    (fun op h => Pipeline.sub_ucRefs op ((List.forall_iff_forall_mem.mp hostOps8_sub) op h))
    (fun op h => (List.forall_iff_forall_mem.mp hostOps8_fresh) op h) (W12 m) E

/-- `main`'s items, in order. -/
abbrev items (_ : Dev nD) : List (Seg (pcfgs (F := F)) adm (PD m) () defs₀ Variants.none L lv) :=
  [.host (host0 m), .region (R0 m), .region (R1 m), .region (R2 m), .region (R3 m), .host (host4 m), .region (R4 m), .host (host5 m), .region (R5 m), .region (R6 m), .host (host7 m), .region (R7 m), .host (host8 m), .region (R8 m), .region (R9 m)]

/-- What a core starts from, as the first item asks for it. -/
theorem start_core (ρ : Dev nD → PrngReg) (c : Dev nD) :
    (iprop(unscopedBufs c (fun b => m ((c.tc : Thread nD τ).loc b)) ∗ unscopedSems0 c
        ∗ owes (c.tc : Thread nD τ) (0 : CellTallies nD τ sig Unit) ∅ ∗ Pipeline.launchCred (fun _ => 0) c ∗ prngReg c (ρ c) ∗ emp) : sProp 𝕄)
      ⊢ iprop(StableHlo.held (c : Thread nD τ) (Pipeline.ucRefs τ sig) (W0 m c) ∗ E c) := by
  have hb : (unscopedBufs c (fun b => m ((c.tc : Thread nD τ).loc b)) : sProp 𝕄) ⊢ StableHlo.held (c : Thread nD τ) (Pipeline.ucRefs τ sig) (W0 m c) := by
    rw [← Pipeline.unscopedBufs_held (Ix := Unit) (Name := ℕ) (U := Pipeline.UD sig nD τ) (Lvl := ℕ) c (W0 m c)]
    exact BI.Entails.refl _
  unfold E
  iintro ⟨Hb, -, HO, -, Hp, -⟩
  ihave Hh := hb $$ Hb
  isplitl [Hh]; · iexact Hh
  isplitl [Hp]; · iexists _; iexact Hp
  iexists _; iexact HO

set_option backward.isDefEq.respectTransparency.types false in
theorem run (ρ : Dev nD → PrngReg) :
    θ_run defs (onTc (τ := τ) (main (F := F))) ⟨m, fun _ => 0, ρ⟩ (fun r =>
      (∀ (c : Dev nD), ∀ b ∈ Pipeline.ucRefs τ sig, r.2.mem (c, b) = W15 m c b) ∧ r.2.sem = fun _ => 0) := by
  refine Pipeline.θ_run_regions_kit_dev_sems (pcfgs (F := F)) adm (PD m) () cellOf_inj embL defs₀ Variants.none L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          Prog.lift (.customCall (Pipeline.entry 2) ()),
          Prog.lift (.customCall (Pipeline.entry 3) ()),
          StableHlo.seq hostOps4,
          Prog.lift (.customCall (Pipeline.entry 4) ()),
          StableHlo.seq hostOps5,
          Prog.lift (.customCall (Pipeline.entry 5) ()),
          Prog.lift (.customCall (Pipeline.entry 6) ()),
          StableHlo.seq hostOps7,
          Prog.lift (.customCall (Pipeline.entry 7) ()),
          StableHlo.seq hostOps8,
          Prog.lift (.customCall (Pipeline.entry 8) ()),
          Prog.lift (.customCall (Pipeline.entry 9) ()) ] from rfl]
      dsimp (config := { failIfUnchanged := false }) only
      exact .rfl)
    (fun c => by simp only [Seg.pipes_host, Seg.pipes_region, Seg.pipes_nil]; decide) (fun _ => 0) hL
    (G := fun _ => iprop(emp)) (u₀ := (initOf (Pipeline.cells cfgs cellOf_inj) (Pipeline.launchToks cfgs cellOf_inj), 1))
    (hu₀ := ?_)
    (T₀ := fun c => iprop(StableHlo.held (c : Thread nD τ) (Pipeline.ucRefs τ sig) (W0 m c) ∗ E c))
    (Tₙ := fun c => StableHlo.held (c : Thread nD τ) (Pipeline.ucRefs τ sig) (W15 m c))
    (hch := fun c => ⟨.rfl, enter0 m c, (leave0 m c).trans (enter1 m c), (leave1 m c).trans (enter2 m c), (leave2 m c).trans (enter3 m c), leave3 m c, enter4 m c, leave4 m c, enter5 m c,
      (leave5 m c).trans (enter6 m c), leave6 m c, enter7 m c, leave7 m c, enter8 m c, (leave8 m c).trans (enter9 m c), (leave9 m c).trans (sep_mono .rfl (by unfold E; iintro ⟨-, HO⟩; iexact HO))⟩)
    (hinit := ?_) (QY := fun c s => ∀ b ∈ Pipeline.ucRefs τ sig, s.mem (c, b) = W15 m c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · have hsplit : (bigSep Finset.univ fun c : Dev nD => iprop(unscopedBufs c (fun b => m ((c.tc : Thread nD τ).loc b)) ∗ unscopedSems0 c
          ∗ owes (c.tc : Thread nD τ) (0 : CellTallies nD τ sig Unit) ∅ ∗ Pipeline.launchCred (fun _ => 0) c ∗ prngReg c (ρ c) ∗ emp))
        ⊢ (bigSep Finset.univ fun c : Dev nD => iprop(StableHlo.held (c : Thread nD τ) (Pipeline.ucRefs τ sig) (W0 m c) ∗ E c) : sProp 𝕄) := by
      refine bigSep_mono fun c _ => ?_
      exact start_core m ρ c
    iintro ⟨H, -⟩
    imodintro
    iapply hsplit; iexact H
  · unfold StableHlo.held
    iintro ⟨Hh, HSI⟩
    ihave Hr := (pointsTo_read_all (Pipeline.ucRefs τ sig) (fun b => ((c : Thread nD τ).1, b)) (W15 m c) s') $$ [Hh HSI]
    · isplitl [Hh] <;> iassumption
    icases Hr with ⟨%h, HSI⟩
    imodintro
    isplitr
    · ipureintro; exact h
    · iexact HSI

end Cert.KernelIdeal.Whole

end
-- ==== Proof.Whole.Kept.lean ====
/-
  What no item writes is, at every point of `main`, what the program was launched with; and the frame of the whole program.
-/
module

public import proofs.«01_k».proof.Proof.Whole.Run
public import Idealize.ShloMosaic.Lib.Claim

@[expose] public section

set_option maxRecDepth 4096

noncomputable section

namespace Cert.KernelIdeal.Whole

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ)

/-- The arrays `main` writes, over all its items. -/
def written : List (Ref sig .tc) := [main_v0, main_v1_0, main_v1_1, main_v2, main_v3_0, main_v3_1, main_v4, main_v5, main_v6, main_v7, main_v8_0, main_v8_1, main_v9, main_v10, main_v11_0, main_v11_1, main_v12, main_v13, main_v14_0, main_v14_1, main_v15, main_v16, main_v17_0, main_v17_1, main_v18]

/-- An array outside `written` is not one of the given written ones. -/
theorem ne_of_unwritten {r w : Ref sig .tc} (h : r ∉ written) (hw : w ∈ written) : r ≠ w := fun e => h (e ▸ hw)

theorem not_mem_of_unwritten {r : Ref sig .tc} {ws : List (Ref sig .tc)} (h : r ∉ written) (hs : ws ⊆ written) : r ∉ ws :=
  fun e => h (hs e)

theorem W1_of (c : Dev nD) (r : Ref sig .tc) (h : r ∉ hostOps0_W) : W1 m c (Proc.devRef .tc r) = W0 m c (Proc.devRef .tc r) :=
  StableHlo.after_of_writes_sub hostOps0 _ hostOps0_writes h
theorem W1_kept (c : Dev nD) (r : Ref sig .tc) (h : r ∉ written) : W1 m c (Proc.devRef .tc r) = m (c, Proc.devRef .tc r) :=
  (W1_of m c r (not_mem_of_unwritten h (by decide))).trans rfl
theorem W2_kept (c : Dev nD) (r : Ref sig .tc) (h : r ∉ written) : W2 m c (Proc.devRef .tc r) = m (c, Proc.devRef .tc r) :=
  (W2_of m c r (ne_of_unwritten h (by decide)) (ne_of_unwritten h (by decide))).trans (W1_kept m c r h)
theorem W3_kept (c : Dev nD) (r : Ref sig .tc) (h : r ∉ written) : W3 m c (Proc.devRef .tc r) = m (c, Proc.devRef .tc r) :=
  (W3_of m c r (ne_of_unwritten h (by decide))).trans (W2_kept m c r h)
theorem W4_kept (c : Dev nD) (r : Ref sig .tc) (h : r ∉ written) : W4 m c (Proc.devRef .tc r) = m (c, Proc.devRef .tc r) :=
  (W4_of m c r (ne_of_unwritten h (by decide)) (ne_of_unwritten h (by decide))).trans (W3_kept m c r h)
theorem W5_kept (c : Dev nD) (r : Ref sig .tc) (h : r ∉ written) : W5 m c (Proc.devRef .tc r) = m (c, Proc.devRef .tc r) :=
  (W5_of m c r (ne_of_unwritten h (by decide))).trans (W4_kept m c r h)
theorem W6_of (c : Dev nD) (r : Ref sig .tc) (h : r ∉ hostOps4_W) : W6 m c (Proc.devRef .tc r) = W5 m c (Proc.devRef .tc r) :=
  StableHlo.after_of_writes_sub hostOps4 _ hostOps4_writes h
theorem W6_kept (c : Dev nD) (r : Ref sig .tc) (h : r ∉ written) : W6 m c (Proc.devRef .tc r) = m (c, Proc.devRef .tc r) :=
  (W6_of m c r (not_mem_of_unwritten h (by decide))).trans (W5_kept m c r h)
theorem W7_kept (c : Dev nD) (r : Ref sig .tc) (h : r ∉ written) : W7 m c (Proc.devRef .tc r) = m (c, Proc.devRef .tc r) :=
  (W7_of m c r (ne_of_unwritten h (by decide)) (ne_of_unwritten h (by decide))).trans (W6_kept m c r h)
theorem W8_of (c : Dev nD) (r : Ref sig .tc) (h : r ∉ hostOps5_W) : W8 m c (Proc.devRef .tc r) = W7 m c (Proc.devRef .tc r) :=
  StableHlo.after_of_writes_sub hostOps5 _ hostOps5_writes h
theorem W8_kept (c : Dev nD) (r : Ref sig .tc) (h : r ∉ written) : W8 m c (Proc.devRef .tc r) = m (c, Proc.devRef .tc r) :=
  (W8_of m c r (not_mem_of_unwritten h (by decide))).trans (W7_kept m c r h)
theorem W9_kept (c : Dev nD) (r : Ref sig .tc) (h : r ∉ written) : W9 m c (Proc.devRef .tc r) = m (c, Proc.devRef .tc r) :=
  (W9_of m c r (ne_of_unwritten h (by decide)) (ne_of_unwritten h (by decide))).trans (W8_kept m c r h)
theorem W10_kept (c : Dev nD) (r : Ref sig .tc) (h : r ∉ written) : W10 m c (Proc.devRef .tc r) = m (c, Proc.devRef .tc r) :=
  (W10_of m c r (ne_of_unwritten h (by decide))).trans (W9_kept m c r h)
theorem W11_of (c : Dev nD) (r : Ref sig .tc) (h : r ∉ hostOps7_W) : W11 m c (Proc.devRef .tc r) = W10 m c (Proc.devRef .tc r) :=
  StableHlo.after_of_writes_sub hostOps7 _ hostOps7_writes h
theorem W11_kept (c : Dev nD) (r : Ref sig .tc) (h : r ∉ written) : W11 m c (Proc.devRef .tc r) = m (c, Proc.devRef .tc r) :=
  (W11_of m c r (not_mem_of_unwritten h (by decide))).trans (W10_kept m c r h)
theorem W12_kept (c : Dev nD) (r : Ref sig .tc) (h : r ∉ written) : W12 m c (Proc.devRef .tc r) = m (c, Proc.devRef .tc r) :=
  (W12_of m c r (ne_of_unwritten h (by decide)) (ne_of_unwritten h (by decide))).trans (W11_kept m c r h)
theorem W13_of (c : Dev nD) (r : Ref sig .tc) (h : r ∉ hostOps8_W) : W13 m c (Proc.devRef .tc r) = W12 m c (Proc.devRef .tc r) :=
  StableHlo.after_of_writes_sub hostOps8 _ hostOps8_writes h
theorem W13_kept (c : Dev nD) (r : Ref sig .tc) (h : r ∉ written) : W13 m c (Proc.devRef .tc r) = m (c, Proc.devRef .tc r) :=
  (W13_of m c r (not_mem_of_unwritten h (by decide))).trans (W12_kept m c r h)
theorem W14_kept (c : Dev nD) (r : Ref sig .tc) (h : r ∉ written) : W14 m c (Proc.devRef .tc r) = m (c, Proc.devRef .tc r) :=
  (W14_of m c r (ne_of_unwritten h (by decide)) (ne_of_unwritten h (by decide))).trans (W13_kept m c r h)
theorem W15_kept (c : Dev nD) (r : Ref sig .tc) (h : r ∉ written) : W15 m c (Proc.devRef .tc r) = m (c, Proc.devRef .tc r) :=
  (W15_of m c r (ne_of_unwritten h (by decide))).trans (W14_kept m c r h)

/-- The argument arrays. -/
def argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22, main_arg23, main_arg24, main_arg25, main_arg26, main_arg27, main_arg28, main_arg29, main_arg30]

theorem argRefs_unwritten : ∀ r ∈ argRefs, r ∉ written := by decide

theorem argRefs_unscoped : ∀ r ∈ argRefs, (Proc.devRef .tc r : DevRef τ sig) ∈ Pipeline.ucRefs τ sig := fun r hr =>
  Finset.mem_filter.mpr ⟨StableHlo.devRef_mem_tcRefs r, by revert r; decide⟩

/-- The run, read at the arguments and at the result. -/
theorem run_read (ρ : Dev nD → PrngReg) :
    θ_run defs (onTc (τ := τ) (main (F := F))) ⟨m, fun _ => 0, ρ⟩ (fun r =>
      (∀ (c : Dev nD), (∀ b ∈ argRefs, r.2.mem (c, Proc.devRef .tc b) = m (c, Proc.devRef .tc b))
        ∧ r.2.mem ((c.tc : Thread nD τ).loc main_v18) = (D9 m c).arrAt 14 cfg9.N) ∧ r.2.sem = fun _ => 0) :=
  θ_run_mono (run m ρ) fun _ h => ⟨fun c => ⟨fun b hb => (h.1 c _ (argRefs_unscoped b hb)).trans (W15_kept m c b (argRefs_unwritten b hb)),
    (h.1 c (Proc.devRef .tc main_v18) (Finset.mem_filter.mpr ⟨StableHlo.devRef_mem_tcRefs main_v18, by decide⟩)).trans (W15_main_v18 m c)⟩, h.2⟩

end Cert.KernelIdeal.Whole

end
-- ==== Proof.Whole.SameA.lean ====
/-
  The kernel and its idealization have the same text: the body table, label by label (part A).
-/
module

public import proofs.«01_k».proof.Kernel
public import proofs.«01_k».proof.KernelIdeal

@[expose] public section

set_option maxRecDepth 65536
set_option maxHeartbeats 0
set_option backward.isDefEq.respectTransparency false

namespace Cert.Whole

open Idealize.ShloMosaic Idealize.SL.Sem

variable [Cert.Kernel.Facts] [Cert.KernelIdeal.Facts] {F : FTy → Type} [FloatOps F]

/-- Label 0 runs the same body. -/
theorem same_label0 : Cert.Kernel.defs₀ (F := F) .tc (0 : Fin 10) = Cert.KernelIdeal.defs₀ (F := F) .tc (0 : Fin 10) := by
  refine funext fun a => ?_
  with_unfolding_all rfl

/-- Label 1 runs the same body. -/
theorem same_label1 : Cert.Kernel.defs₀ (F := F) .tc (1 : Fin 10) = Cert.KernelIdeal.defs₀ (F := F) .tc (1 : Fin 10) := by
  refine funext fun a => ?_
  with_unfolding_all rfl

end Cert.Whole
-- ==== Proof.Whole.SameB.lean ====
/-
  The kernel and its idealization have the same text: the body table, label by label (part B).
-/
module

public import proofs.«01_k».proof.Kernel
public import proofs.«01_k».proof.KernelIdeal

@[expose] public section

set_option maxRecDepth 65536
set_option maxHeartbeats 0
set_option backward.isDefEq.respectTransparency false

namespace Cert.Whole

open Idealize.ShloMosaic Idealize.SL.Sem

variable [Cert.Kernel.Facts] [Cert.KernelIdeal.Facts] {F : FTy → Type} [FloatOps F]

/-- Label 2 runs the same body. -/
theorem same_label2 : Cert.Kernel.defs₀ (F := F) .tc (2 : Fin 10) = Cert.KernelIdeal.defs₀ (F := F) .tc (2 : Fin 10) := by
  refine funext fun a => ?_
  with_unfolding_all rfl

/-- Label 3 runs the same body. -/
theorem same_label3 : Cert.Kernel.defs₀ (F := F) .tc (3 : Fin 10) = Cert.KernelIdeal.defs₀ (F := F) .tc (3 : Fin 10) := by
  refine funext fun a => ?_
  with_unfolding_all rfl

end Cert.Whole
-- ==== Proof.Whole.SameC.lean ====
/-
  The kernel and its idealization have the same text: the body table, label by label (part C).
-/
module

public import proofs.«01_k».proof.Kernel
public import proofs.«01_k».proof.KernelIdeal

@[expose] public section

set_option maxRecDepth 65536
set_option maxHeartbeats 0
set_option backward.isDefEq.respectTransparency false

namespace Cert.Whole

open Idealize.ShloMosaic Idealize.SL.Sem

variable [Cert.Kernel.Facts] [Cert.KernelIdeal.Facts] {F : FTy → Type} [FloatOps F]

/-- Label 4 runs the same body. -/
theorem same_label4 : Cert.Kernel.defs₀ (F := F) .tc (4 : Fin 10) = Cert.KernelIdeal.defs₀ (F := F) .tc (4 : Fin 10) := by
  refine funext fun a => ?_
  with_unfolding_all rfl

/-- Label 5 runs the same body. -/
theorem same_label5 : Cert.Kernel.defs₀ (F := F) .tc (5 : Fin 10) = Cert.KernelIdeal.defs₀ (F := F) .tc (5 : Fin 10) := by
  refine funext fun a => ?_
  with_unfolding_all rfl

/-- Label 6 runs the same body. -/
theorem same_label6 : Cert.Kernel.defs₀ (F := F) .tc (6 : Fin 10) = Cert.KernelIdeal.defs₀ (F := F) .tc (6 : Fin 10) := by
  refine funext fun a => ?_
  with_unfolding_all rfl

end Cert.Whole
-- ==== Proof.Whole.SameD.lean ====
/-
  The kernel and its idealization have the same text: the body table, label by label (part D).
-/
module

public import proofs.«01_k».proof.Kernel
public import proofs.«01_k».proof.KernelIdeal

@[expose] public section

set_option maxRecDepth 65536
set_option maxHeartbeats 0
set_option backward.isDefEq.respectTransparency false

namespace Cert.Whole

open Idealize.ShloMosaic Idealize.SL.Sem

variable [Cert.Kernel.Facts] [Cert.KernelIdeal.Facts] {F : FTy → Type} [FloatOps F]

/-- Label 7 runs the same body. -/
theorem same_label7 : Cert.Kernel.defs₀ (F := F) .tc (7 : Fin 10) = Cert.KernelIdeal.defs₀ (F := F) .tc (7 : Fin 10) := by
  refine funext fun a => ?_
  with_unfolding_all rfl

/-- Label 8 runs the same body. -/
theorem same_label8 : Cert.Kernel.defs₀ (F := F) .tc (8 : Fin 10) = Cert.KernelIdeal.defs₀ (F := F) .tc (8 : Fin 10) := by
  refine funext fun a => ?_
  with_unfolding_all rfl

/-- Label 9 runs the same body. -/
theorem same_label9 : Cert.Kernel.defs₀ (F := F) .tc (9 : Fin 10) = Cert.KernelIdeal.defs₀ (F := F) .tc (9 : Fin 10) := by
  refine funext fun a => ?_
  with_unfolding_all rfl

end Cert.Whole
-- ==== Proof.Whole.Same.lean ====
/-
  The kernel and its idealization have the same text: the pipelines, `main`, and so the whole program.
-/
module

public import proofs.«01_k».proof.Proof.Whole.SameA
public import proofs.«01_k».proof.Proof.Whole.SameB
public import proofs.«01_k».proof.Proof.Whole.SameC
public import proofs.«01_k».proof.Proof.Whole.SameD

@[expose] public section

set_option maxRecDepth 65536
set_option maxHeartbeats 0
set_option backward.isDefEq.respectTransparency false

namespace Cert.Whole

open Idealize.ShloMosaic Idealize.SL.Sem

variable [Cert.Kernel.Facts] [Cert.KernelIdeal.Facts] {F : FTy → Type} [FloatOps F]

theorem same_bodies : Cert.Kernel.defs₀ (F := F) = Cert.KernelIdeal.defs₀ (F := F) := by
  refine funext fun c => ?_
  match c with
  | .tc =>
    refine funext fun l => ?_
    match l with
    | 0 => exact same_label0
    | 1 => exact same_label1
    | 2 => exact same_label2
    | 3 => exact same_label3
    | 4 => exact same_label4
    | 5 => exact same_label5
    | 6 => exact same_label6
    | 7 => exact same_label7
    | 8 => exact same_label8
    | 9 => exact same_label9
  | .scScalar _ => with_unfolding_all rfl
  | .scVector _ _ => with_unfolding_all rfl

theorem same_defs : Cert.Kernel.defs (F := F) = Cert.KernelIdeal.defs (F := F) := by
  unfold Cert.KernelIdeal.defs
  rw [← same_bodies]
  with_unfolding_all rfl

theorem same_main : Cert.Kernel.main (F := F) = Cert.KernelIdeal.main (F := F) := by
  with_unfolding_all rfl

end Cert.Whole
-- ==== Proof.Whole.Frames.lean ====
/-
  The frames: the idealized kernel's, the kernel's own (the same program, read at machine floats), and the reference's.
-/
module

public import proofs.«01_k».proof.Defs
public import proofs.«01_k».proof.Proof.Whole.Kept
public import proofs.«01_k».proof.Proof.Gen.ReferenceIdeal.Run
public import proofs.«01_k».proof.Proof.Whole.Same
public import Idealize.ShloMosaic.Lib.Claim

@[expose] public section

set_option maxRecDepth 65536

namespace Cert.KernelIdeal.Whole

open Cert.KernelIdeal Cert.KernelIdeal.Gen
open Idealize.ShloMosaic Idealize.ShloMosaic.TcCoe
open Idealize.SL.Sem

/-- The whole frame, for any float values: the program ends, its arguments as they were, its semaphores at zero. -/
theorem frame (F : FTy → Type) [FloatOps F] :
  ∀ (m : (ℓ : Loc nD τ sig) → Buf (Elt F) ℓ) (g : Dev nD → PrngReg),
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)
      ∧ r.2.mem ((c.tc : Thread nD τ).loc main_arg23) = m ((c.tc : Thread nD τ).loc main_arg23)
      ∧ r.2.mem ((c.tc : Thread nD τ).loc main_arg24) = m ((c.tc : Thread nD τ).loc main_arg24)
      ∧ r.2.mem ((c.tc : Thread nD τ).loc main_arg25) = m ((c.tc : Thread nD τ).loc main_arg25)
      ∧ r.2.mem ((c.tc : Thread nD τ).loc main_arg26) = m ((c.tc : Thread nD τ).loc main_arg26)
      ∧ r.2.mem ((c.tc : Thread nD τ).loc main_arg27) = m ((c.tc : Thread nD τ).loc main_arg27)
      ∧ r.2.mem ((c.tc : Thread nD τ).loc main_arg28) = m ((c.tc : Thread nD τ).loc main_arg28)
      ∧ r.2.mem ((c.tc : Thread nD τ).loc main_arg29) = m ((c.tc : Thread nD τ).loc main_arg29)
      ∧ r.2.mem ((c.tc : Thread nD τ).loc main_arg30) = m ((c.tc : Thread nD τ).loc main_arg30))
      ∧ r.2.sem = fun _ => 0) := by
  intro m g
  refine θ_run_mono (run_read m g) fun r h => ⟨fun c => ?_, h.2⟩
  have hc := (h.1 c).1
  repeat (first | exact hc _ (by decide) | refine ⟨hc _ (by decide), ?_⟩)

end Cert.KernelIdeal.Whole

namespace Cert.Whole

set_option maxHeartbeats 0
set_option backward.isDefEq.respectTransparency false

open Idealize.ShloMosaic Idealize.ShloMosaic.TcCoe
open Idealize.SL.Sem

/-- The kernel's side conditions are the idealized kernel's: the two programs have the same text. -/
theorem kernel_facts₀ : Cert.Kernel.Facts₀ := by
  with_unfolding_all exact @Cert.KernelIdeal.Facts₀.rec (fun _ => Cert.Kernel.Facts₀) Cert.Kernel.Facts₀.mk Cert.KernelIdeal.Gen.facts.toFacts₀

theorem kernel_facts : Cert.Kernel.Facts := { toFacts₀ := kernel_facts₀ }

theorem frame_ideal : Cert.quiescent_KernelIdeal (hKernelIdeal := Cert.KernelIdeal.Gen.facts) :=
  fun m g _ => Cert.KernelIdeal.Whole.frame Ideal m g

/-- The kernel's frame is the idealized kernel's, read at machine floats: no operation was rewritten. -/
theorem frame_kernel : Cert.quiescent_Kernel (hKernel := kernel_facts) := by
  letI := kernel_facts
  have h := Cert.KernelIdeal.Whole.frame Bits
  rw [← same_defs, ← same_main] at h
  with_unfolding_all exact fun m g _ => h m g

theorem frame_reference : Cert.quiescent_ReferenceIdeal (hReferenceIdeal := Cert.ReferenceIdeal.Gen.facts) := by
  intro m g _
  exact θ_run_mono (Cert.ReferenceIdeal.Value.run m g) fun r h => ⟨fun c => (h c).2, sem_eq_zero_of_no_sems (by decide) r.2⟩

end Cert.Whole
-- ==== Proof.Value.Spec.lean ====
/-
  The layer's mathematics on one row, over the extended reals: the layer norm, a matrix applied to a row, attention with eight
  heads over 256 keys, and the feed-forward network.
-/
module

public import Idealize.ShloMosaic.PureOps.Ideal
public import Idealize.ShloMosaic.Lib.Pointwise

@[expose] public section

noncomputable section

namespace Cert.Spec

open Idealize.ShloMosaic

/-- The row length, 1024. -/
abbrev len : EReal := Ideal.ofBits FTy.f32 1149239296#32
/-- The number added to the variance. -/
abbrev eps : EReal := Ideal.ofBits FTy.f32 925353388#32
/-- The scale of the scores, one over the root of the head's width. -/
abbrev scl : EReal := Ideal.ofBits FTy.f32 1035273459#32
/-- Minus infinity. -/
abbrev ninf : EReal := Ideal.ofBits FTy.f32 4286578688#32
/-- One half. -/
abbrev half : EReal := Ideal.ofBits FTy.f32 1056964608#32
/-- One over the root of two. -/
abbrev isq : EReal := Ideal.ofBits FTy.f32 1060439283#32

/-- A row's mean. -/
def mean (x : Fin 1024 → EReal) : EReal := Ideal.div (∑ k, x k) len

/-- A row's variance. -/
def var (x : Fin 1024 → EReal) : EReal := Ideal.div (∑ k, (x k - mean x) * (x k - mean x)) len

/-- The layer norm of a row. -/
def ln (g b x : Fin 1024 → EReal) (k : Fin 1024) : EReal := (x k - mean x) * Ideal.rsqrt (var x + eps) * g k + b k

/-- A matrix applied to a row. -/
def lin {n m : ℕ} (w : Fin n → Fin m → EReal) (x : Fin n → EReal) (j : Fin m) : EReal := ∑ k, x k * w k j

/-- Column `d` of head `h`. -/
def col (h : Fin 8) (d : Fin 128) : Fin 1024 := ⟨128 * h.val + d.val, by omega⟩

/-- The score of a query row against key `t` in head `h`. -/
def score (q : Fin 1024 → EReal) (K : Fin 256 → Fin 1024 → EReal) (h : Fin 8) (t : Fin 256) : EReal :=
  (∑ d, q (col h d) * K t (col h d)) * scl

/-- The scores' greatest. -/
def top (s : Fin 256 → EReal) : EReal := Finset.fold max ninf s Finset.univ

/-- The softmax of a row of scores. -/
def soft (s : Fin 256 → EReal) (t : Fin 256) : EReal :=
  Ideal.div (Ideal.exp (s t - top s)) (∑ u, Ideal.exp (s u - top s))

/-- One head of attention, at its column `d`. -/
def head (q : Fin 1024 → EReal) (K V : Fin 256 → Fin 1024 → EReal) (h : Fin 8) (d : Fin 128) : EReal :=
  ∑ t, soft (score q K h) t * V t (col h d)

/-- The eight heads side by side. -/
def att (q : Fin 1024 → EReal) (K V : Fin 256 → Fin 1024 → EReal) (j : Fin 1024) : EReal :=
  head q K V ⟨j.val / 128, by omega⟩ ⟨j.val % 128, Nat.mod_lt _ (by norm_num)⟩

/-- The Gaussian error linear unit. -/
def gelu (h : EReal) : EReal := half * h * (1 + Ideal.erf (h * isq))

/-- The feed-forward network's part at a hidden unit and a column. -/
def unit (w1 : Fin 1024 → Fin 4096 → EReal) (b1 : Fin 4096 → EReal) (w2 : Fin 4096 → Fin 1024 → EReal) (x : Fin 1024 → EReal)
    (j : Fin 1024) (k : Fin 4096) : EReal := gelu (lin w1 x k + b1 k) * w2 k j

/-- The row after attention. -/
def mid (g b : Fin 1024 → EReal) (wq : Fin 1024 → Fin 1024 → EReal) (K V : Fin 256 → Fin 1024 → EReal)
    (wo : Fin 1024 → Fin 1024 → EReal) (bo : Fin 1024 → EReal) (x : Fin 1024 → EReal) (j : Fin 1024) : EReal :=
  x j + lin wo (att (lin wq (ln g b x)) K V) j + bo j

/-- The row after the feed-forward network. -/
def out (g2 b2 : Fin 1024 → EReal) (w1 : Fin 1024 → Fin 4096 → EReal) (b1 : Fin 4096 → EReal) (w2 : Fin 4096 → Fin 1024 → EReal)
    (bb : Fin 1024 → EReal) (y : Fin 1024 → EReal) (j : Fin 1024) : EReal :=
  y j + ∑ k, unit w1 b1 w2 (ln g2 b2 y) j k + bb j

end Cert.Spec

end
-- ==== Proof.Value.Ref.lean ====
/-
  The operations of the reference's layers, once for every layer: each stage is a function of the arrays it reads, and each is
  read at a position as the row function of the specification.
-/
module

public import proofs.«01_k».proof.Proof.Gen.ReferenceIdeal.Read
public import proofs.«01_k».proof.Proof.Value.Spec
public import Idealize.ShloMosaic.Lib.Pointwise

@[expose] public section

set_option maxRecDepth 16384

noncomputable section

namespace Cert.Ref

open Cert.ReferenceIdeal Cert.ReferenceIdeal.Gen
open Idealize.ShloMosaic
open Cert.Spec

/-! ## A layer's weights, taken from the stacked arrays -/

/-- Row `l` of a table. -/
def vecOf (l : Fin 2) (x : FVec Ideal S2x1024 .f32) : FVec Ideal S1024 .f32 :=
  shapeCast _ (extractStridedSlice S1x1024 ![l.val, 0] x (by fin_cases l <;> decide)) shapeCasts_S1x1024_S1024
/-- Matrix `l` of a stack of square matrices. -/
def matOf (l : Fin 2) (x : FVec Ideal S2x1024x1024 .f32) : FVec Ideal S1024x1024 .f32 :=
  shapeCast _ (extractStridedSlice S1x1024x1024 ![l.val, 0, 0] x (by fin_cases l <;> decide)) shapeCasts_S1x1024x1024_S1024x1024
/-- Projection `l` along the sequence. -/
def seqOf (l : Fin 2) (x : FVec Ideal S2x4096x256 .f32) : FVec Ideal S4096x256 .f32 :=
  shapeCast _ (extractStridedSlice S1x4096x256 ![l.val, 0, 0] x (by fin_cases l <;> decide)) shapeCasts_S1x4096x256_S4096x256
/-- Convolution kernel `l`. -/
def kerOf (l : Fin 2) (x : FVec Ideal S2x1024x1024x16 .f32) : FVec Ideal S1024x1024x16 .f32 :=
  shapeCast _ (extractStridedSlice S1x1024x1024x16 ![l.val, 0, 0, 0] x (by fin_cases l <;> decide)) shapeCasts_S1x1024x1024x16_S1024x1024x16
/-- The first feed-forward matrix of layer `l`. -/
def upOf (l : Fin 2) (x : FVec Ideal S2x1024x4096 .f32) : FVec Ideal S1024x4096 .f32 :=
  shapeCast _ (extractStridedSlice S1x1024x4096 ![l.val, 0, 0] x (by fin_cases l <;> decide)) shapeCasts_S1x1024x4096_S1024x4096
/-- The first feed-forward bias of layer `l`. -/
def upBiasOf (l : Fin 2) (x : FVec Ideal S2x4096 .f32) : FVec Ideal S4096 .f32 :=
  shapeCast _ (extractStridedSlice S1x4096 ![l.val, 0] x (by fin_cases l <;> decide)) shapeCasts_S1x4096_S4096
/-- The second feed-forward matrix of layer `l`. -/
def downOf (l : Fin 2) (x : FVec Ideal S2x4096x1024 .f32) : FVec Ideal S4096x1024 .f32 :=
  shapeCast _ (extractStridedSlice S1x4096x1024 ![l.val, 0, 0] x (by fin_cases l <;> decide)) shapeCasts_S1x4096x1024_S4096x1024

theorem vecOf_at (l : Fin 2) (x : FVec Ideal S2x1024 .f32) (k : Fin 1024) : vecOf l x (ix1 k) = x (ix2 l k) := by
  unfold vecOf
  pointwise
theorem matOf_at (l : Fin 2) (x : FVec Ideal S2x1024x1024 .f32) (k j : Fin 1024) : matOf l x (ix2 k j) = x (ix3 l k j) := by
  unfold matOf
  pointwise
theorem seqOf_at (l : Fin 2) (x : FVec Ideal S2x4096x256 .f32) (k : Fin 4096) (j : Fin 256) : seqOf l x (ix2 k j) = x (ix3 l k j) := by
  unfold seqOf
  pointwise
theorem kerOf_at (l : Fin 2) (x : FVec Ideal S2x1024x1024x16 .f32) (o k : Fin 1024) (s : Fin 16) : kerOf l x (ix3 o k s) = x (ix4 l o k s) := by
  unfold kerOf
  pointwise
theorem upOf_at (l : Fin 2) (x : FVec Ideal S2x1024x4096 .f32) (k : Fin 1024) (j : Fin 4096) : upOf l x (ix2 k j) = x (ix3 l k j) := by
  unfold upOf
  pointwise
theorem upBiasOf_at (l : Fin 2) (x : FVec Ideal S2x4096 .f32) (k : Fin 4096) : upBiasOf l x (ix1 k) = x (ix2 l k) := by
  unfold upBiasOf
  pointwise
theorem downOf_at (l : Fin 2) (x : FVec Ideal S2x4096x1024 .f32) (k : Fin 4096) (j : Fin 1024) : downOf l x (ix2 k j) = x (ix3 l k j) := by
  unfold downOf
  pointwise

/-! ## The stages -/

/-- A number at every row. -/
def num (b : BitVec 32) : FVec Ideal S2x4096x1 .f32 := broadcastInDim S2x4096x1 ![] bcast_S_S2x4096x1 (constant S_ .f32 b)
/-- A number of each row at every column. -/
def wide (x : FVec Ideal S2x4096x1 .f32) : FVec Ideal S2x4096x1024 .f32 := broadcastInDim S2x4096x1024 ![0, 1, 2] bcast_S2x4096x1_S2x4096x1024_0_1_2 x
/-- A vector at every row. -/
def each (v : FVec Ideal S1024 .f32) : FVec Ideal S2x4096x1024 .f32 :=
  broadcastInDim S2x4096x1024 ![0, 1, 2] bcast_S1x1x1024_S2x4096x1024_0_1_2 (broadcastInDim S1x1x1024 ![2] bcast_S1024_S1x1x1024_2 v)
/-- The sum of each row over the row's length. -/
def avg (x : FVec Ideal S2x4096x1024 .f32) : FVec Ideal S2x4096x1 .f32 :=
  Host.divf (broadcastInDim S2x4096x1 ![0, 1] bcast_S2x4096_S2x4096x1_0_1
    (Host.reduceAdd x (constant S_ .f32 0x00000000#32) reducesTo_S2x4096x1024_S2x4096_d2 h_S_)) (num 0x44800000#32)
/-- The layer norm. -/
def lnR (x : FVec Ideal S2x4096x1024 .f32) (g b : FVec Ideal S1024 .f32) : FVec Ideal S2x4096x1024 .f32 :=
  addf (mulf (mulf (subf x (wide (avg x))) (wide (Host.rsqrt (addf (avg (mulf (subf x (wide (avg x))) (subf x (wide (avg x))))) (num 0x3727C5AC#32)))))
    (each g)) (each b)
/-- A square matrix applied to every row. -/
def linR (x : FVec Ideal S2x4096x1024 .f32) (w : FVec Ideal S1024x1024 .f32) : FVec Ideal S2x4096x1024 .f32 :=
  Host.dotGeneral dot_S2x4096x1024_S1024x1024_S2x4096x1024_2_0_01_1_n_n none x w
/-- The projection along the sequence. -/
def seqR (x : FVec Ideal S2x4096x1024 .f32) (p : FVec Ideal S4096x256 .f32) : FVec Ideal S2x256x1024 .f32 :=
  transpose S2x256x1024 [1, 0, 2] (Host.dotGeneral dot_S4096x256_S2x4096x1024_S256x2x1024_0_1_1_02_n_n none p x) transposes_S256x2x1024_S2x256x1024_1_0_2
/-- The convolution along the sequence. -/
def convR (x : FVec Ideal S2x4096x1024 .f32) (w : FVec Ideal S1024x1024x16 .f32) : FVec Ideal S2x256x1024 .f32 :=
  Host.dotGeneral dot_S2x256x16x1024_S1024x1024x16_S2x256x1024_32_12_01_0_n_n none (shapeCast _ x shapeCasts_S2x4096x1024_S2x256x16x1024) w
/-- The queries, head by head. -/
def headsQ (x : FVec Ideal S2x4096x1024 .f32) : FVec Ideal S2x8x4096x128 .f32 :=
  transpose S2x8x4096x128 [0, 2, 1, 3] (shapeCast _ x shapeCasts_S2x4096x1024_S2x4096x8x128) transposes_S2x4096x8x128_S2x8x4096x128_0_2_1_3
/-- The keys or the values, head by head. -/
def headsK (x : FVec Ideal S2x256x1024 .f32) : FVec Ideal S2x8x256x128 .f32 :=
  transpose S2x8x256x128 [0, 2, 1, 3] (shapeCast _ x shapeCasts_S2x256x1024_S2x256x8x128) transposes_S2x256x8x128_S2x8x256x128_0_2_1_3
/-- The scores. -/
def scoreR (q : FVec Ideal S2x8x4096x128 .f32) (k : FVec Ideal S2x8x256x128 .f32) : FVec Ideal S2x8x4096x256 .f32 :=
  mulf (Host.dotGeneral dot_S2x8x4096x128_S2x8x256x128_S2x8x4096x256_3_3_2_2_01_01 none q k)
    (broadcastInDim S2x8x4096x256 ![] bcast_S_S2x8x4096x256 (constant S_ .f32 0x3DB504F3#32))
/-- A number of each row of scores at every key. -/
def wideS (x : FVec Ideal S2x8x4096 .f32) : FVec Ideal S2x8x4096x256 .f32 :=
  broadcastInDim S2x8x4096x256 ![0, 1, 2, 3] bcast_S2x8x4096x1_S2x8x4096x256_0_1_2_3
    (broadcastInDim S2x8x4096x1 ![0, 1, 2] bcast_S2x8x4096_S2x8x4096x1_0_1_2 x)
/-- The greatest score of each row. -/
def topR (s : FVec Ideal S2x8x4096x256 .f32) : FVec Ideal S2x8x4096 .f32 :=
  maximumf (broadcastInDim S2x8x4096 ![] bcast_S_S2x8x4096 (constant S_ .f32 0xFF800000#32))
    (Host.reduce FloatOps.maximumf s (constant S_ .f32 0xFF800000#32) reducesTo_S2x8x4096x256_S2x8x4096_d3 h_S_)
/-- The scores' exponentials, the greatest score taken off. -/
def expR (s : FVec Ideal S2x8x4096x256 .f32) : FVec Ideal S2x8x4096x256 .f32 :=
  Host.exp (subf s (wideS (topR s)))
/-- The softmax of the scores. -/
def softR (s : FVec Ideal S2x8x4096x256 .f32) : FVec Ideal S2x8x4096x256 .f32 :=
  Host.divf (expR s) (wideS (Host.reduceAdd (expR s) (constant S_ .f32 0x00000000#32) reducesTo_S2x8x4096x256_S2x8x4096_d3 h_S_))
/-- The attention, the heads side by side. -/
def attR (q : FVec Ideal S2x4096x1024 .f32) (k v : FVec Ideal S2x256x1024 .f32) : FVec Ideal S2x4096x1024 .f32 :=
  shapeCast _ (transpose S2x4096x8x128 [0, 2, 1, 3]
    (Host.dotGeneral dot_S2x8x4096x256_S2x8x256x128_S2x8x4096x128_3_2_2_3_01_01 none (softR (scoreR (headsQ q) (headsK k))) (headsK v))
    transposes_S2x8x4096x128_S2x4096x8x128_0_2_1_3) shapeCasts_S2x4096x8x128_S2x4096x1024
/-- The first feed-forward product and its bias. -/
def upR (x : FVec Ideal S2x4096x1024 .f32) (w1 : FVec Ideal S1024x4096 .f32) (b1 : FVec Ideal S4096 .f32) : FVec Ideal S2x4096x4096 .f32 :=
  addf (Host.dotGeneral dot_S2x4096x1024_S1024x4096_S2x4096x4096_2_0_01_1_n_n none x w1)
    (broadcastInDim S2x4096x4096 ![0, 1, 2] bcast_S1x1x4096_S2x4096x4096_0_1_2 (broadcastInDim S1x1x4096 ![2] bcast_S4096_S1x1x4096_2 b1))
/-- The Gaussian error linear unit. -/
def geluR (h : FVec Ideal S2x4096x4096 .f32) : FVec Ideal S2x4096x4096 .f32 :=
  mulf (mulf (broadcastInDim S2x4096x4096 ![] bcast_S_S2x4096x4096 (constant S_ .f32 0x3F000000#32)) h)
    (Host.erfc (mulf (Host.negf h) (broadcastInDim S2x4096x4096 ![] bcast_S_S2x4096x4096 (constant S_ .f32 0x3F3504F3#32))))
/-- The rows after attention. -/
def midR (x : FVec Ideal S2x4096x1024 .f32) (g b : FVec Ideal S1024 .f32) (wq : FVec Ideal S1024x1024 .f32) (K V : FVec Ideal S2x256x1024 .f32)
    (wo : FVec Ideal S1024x1024 .f32) (bo : FVec Ideal S1024 .f32) : FVec Ideal S2x4096x1024 .f32 :=
  addf (addf x (linR (attR (linR (lnR x g b) wq) K V) wo)) (each bo)
/-- The rows after the feed-forward network. -/
def outR (y : FVec Ideal S2x4096x1024 .f32) (g2 b2 : FVec Ideal S1024 .f32) (w1 : FVec Ideal S1024x4096 .f32) (b1 : FVec Ideal S4096 .f32)
    (w2 : FVec Ideal S4096x1024 .f32) (bb : FVec Ideal S1024 .f32) : FVec Ideal S2x4096x1024 .f32 :=
  addf (addf y (Host.dotGeneral dot_S2x4096x4096_S4096x1024_S2x4096x1024_2_0_01_1_n_n none (geluR (upR (lnR y g2 b2) w1 b1)) w2)) (each bb)

/-! ## The stages read at a position -/

theorem lnR_at (x : FVec Ideal S2x4096x1024 .f32) (g b : FVec Ideal S1024 .f32) (n : Fin 2) (p : Fin 4096) (j : Fin 1024) :
    lnR x g b (ix3 n p j) = ln (fun k => g (ix1 k)) (fun k => b (ix1 k)) (fun k => x (ix3 n p k)) j := by
  unfold lnR avg wide each num
  pointwise
  rfl

theorem linR_at (x : FVec Ideal S2x4096x1024 .f32) (w : FVec Ideal S1024x1024 .f32) (n : Fin 2) (p : Fin 4096) (j : Fin 1024) :
    linR x w (ix3 n p j) = lin (fun k j => w (ix2 k j)) (fun k => x (ix3 n p k)) j := by
  unfold linR
  pointwise
  rfl

theorem seqR_at (x : FVec Ideal S2x4096x1024 .f32) (p : FVec Ideal S4096x256 .f32) (n : Fin 2) (t : Fin 256) (j : Fin 1024) :
    seqR x p (ix3 n t j) = ∑ k : Fin 4096, p (ix2 k t) * x (ix3 n k j) := by
  unfold seqR
  pointwise

theorem convR_at (x : FVec Ideal S2x4096x1024 .f32) (w : FVec Ideal S1024x1024x16 .f32) (n : Fin 2) (t : Fin 256) (j : Fin 1024) :
    convR x w (ix3 n t j) = ∑ k : Fin 1024, ∑ s : Fin 16, x (ix3 n (⟨t.val * 16 + s.val, by omega⟩ : Fin 4096) k) * w (ix3 j k s) := by
  unfold convR
  pointwise

theorem headsQ_at (x : FVec Ideal S2x4096x1024 .f32) (n : Fin 2) (h : Fin 8) (p : Fin 4096) (d : Fin 128) :
    headsQ x (ix4 n h p d) = x (ix3 n p (col h d)) := by
  unfold headsQ
  pointwise
  exact congrArg (fun e => x (ix3 n p e)) (Fin.ext (by simp only [col]; omega))

theorem headsK_at (x : FVec Ideal S2x256x1024 .f32) (n : Fin 2) (h : Fin 8) (p : Fin 256) (d : Fin 128) :
    headsK x (ix4 n h p d) = x (ix3 n p (col h d)) := by
  unfold headsK
  pointwise
  exact congrArg (fun e => x (ix3 n p e)) (Fin.ext (by simp only [col]; omega))

theorem scoreR_at (q : FVec Ideal S2x4096x1024 .f32) (k : FVec Ideal S2x256x1024 .f32) (n : Fin 2) (h : Fin 8) (p : Fin 4096) (t : Fin 256) :
    scoreR (headsQ q) (headsK k) (ix4 n h p t) = score (fun j => q (ix3 n p j)) (fun t j => k (ix3 n t j)) h t := by
  unfold scoreR
  pointwise [headsQ_at, headsK_at]
  rfl

/-- The greatest score, folded from minus infinity, is not below minus infinity. -/
theorem max_top (s : Fin 256 → EReal) : max ninf (top s) = top s := by
  unfold top
  generalize ninf = a
  exact max_eq_right (Finset.le_fold_max a |>.mpr (Or.inl le_rfl))

/-- The greatest element along the last axis of a rank-four array, folded from a number. -/
theorem reduce_last {a b c e : ℕ} {u : Shape} (x : FVec Ideal ⟨4, ![a, b, c, e]⟩ .f32) (w : BitVec 32)
    (h : (⟨4, ![a, b, c, e]⟩ : Shape).ReducesTo [3] ⟨3, ![a, b, c]⟩) (hu : 0 < u.numel) (n : Fin a) (d : Fin b) (p : Fin c) :
    Host.reduce FloatOps.maximumf x (constant u .f32 w) h hu (ix3 n d p)
      = Finset.univ.fold max (Ideal.ofBits .f32 w) fun k => x (ix4 n d p k) := by
  pointwise

theorem max_at {u : Shape} (a b : FVec Ideal u .f32) (i : u.Idx) : maximumf a b i = max (a i) (b i) := rfl

theorem const_at {u : Shape} (w : BitVec 32) (h : S_.BroadcastsInDim u (![] : Fin 0 → Fin u.rank)) (i : u.Idx) :
    broadcastInDim u ![] h (constant (F := Ideal) S_ .f32 w) i = Ideal.ofBits .f32 w := rfl

theorem topR_at (s : FVec Ideal S2x8x4096x256 .f32) (n : Fin 2) (h : Fin 8) (p : Fin 4096) :
    topR s (ix3 n h p) = top fun u => s (ix4 n h p u) := by
  unfold topR
  rw [max_at, const_at, reduce_last]
  exact max_top _

theorem expR_at (s : FVec Ideal S2x8x4096x256 .f32) (n : Fin 2) (h : Fin 8) (p : Fin 4096) (t : Fin 256) :
    expR s (ix4 n h p t) = Ideal.exp (s (ix4 n h p t) - top fun u => s (ix4 n h p u)) := by
  unfold expR wideS
  pointwise [topR_at]

theorem softR_at (s : FVec Ideal S2x8x4096x256 .f32) (n : Fin 2) (h : Fin 8) (p : Fin 4096) (t : Fin 256) :
    softR s (ix4 n h p t) = soft (fun u => s (ix4 n h p u)) t := by
  unfold softR wideS
  pointwise [expR_at]
  rfl

theorem attR_at (q : FVec Ideal S2x4096x1024 .f32) (k v : FVec Ideal S2x256x1024 .f32) (n : Fin 2) (p : Fin 4096) (j : Fin 1024) :
    attR q k v (ix3 n p j) = att (fun j => q (ix3 n p j)) (fun t j => k (ix3 n t j)) (fun t j => v (ix3 n t j)) j := by
  unfold attR
  pointwise [softR_at, scoreR_at, headsK_at]
  rfl

theorem upR_at (x : FVec Ideal S2x4096x1024 .f32) (w1 : FVec Ideal S1024x4096 .f32) (b1 : FVec Ideal S4096 .f32) (n : Fin 2) (p : Fin 4096) (k : Fin 4096) :
    upR x w1 b1 (ix3 n p k) = lin (fun k j => w1 (ix2 k j)) (fun k => x (ix3 n p k)) k + b1 (ix1 k) := by
  unfold upR
  pointwise
  rfl

theorem geluR_at (h : FVec Ideal S2x4096x4096 .f32) (n : Fin 2) (p : Fin 4096) (k : Fin 4096) : geluR h (ix3 n p k) = gelu (h (ix3 n p k)) := by
  unfold geluR
  pointwise
  unfold gelu
  rw [neg_mul, Ideal.erfc_neg]

theorem midR_at (x : FVec Ideal S2x4096x1024 .f32) (g b : FVec Ideal S1024 .f32) (wq : FVec Ideal S1024x1024 .f32) (K V : FVec Ideal S2x256x1024 .f32)
    (wo : FVec Ideal S1024x1024 .f32) (bo : FVec Ideal S1024 .f32) (n : Fin 2) (p : Fin 4096) (j : Fin 1024) :
    midR x g b wq K V wo bo (ix3 n p j) = mid (fun k => g (ix1 k)) (fun k => b (ix1 k)) (fun k j => wq (ix2 k j)) (fun t j => K (ix3 n t j))
      (fun t j => V (ix3 n t j)) (fun k j => wo (ix2 k j)) (fun k => bo (ix1 k)) (fun j => x (ix3 n p j)) j := by
  unfold midR each
  pointwise [linR_at, attR_at, lnR_at]
  rfl

theorem outR_at (y : FVec Ideal S2x4096x1024 .f32) (g2 b2 : FVec Ideal S1024 .f32) (w1 : FVec Ideal S1024x4096 .f32) (b1 : FVec Ideal S4096 .f32)
    (w2 : FVec Ideal S4096x1024 .f32) (bb : FVec Ideal S1024 .f32) (n : Fin 2) (p : Fin 4096) (j : Fin 1024) :
    outR y g2 b2 w1 b1 w2 bb (ix3 n p j) = out (fun k => g2 (ix1 k)) (fun k => b2 (ix1 k)) (fun k j => w1 (ix2 k j)) (fun k => b1 (ix1 k))
      (fun k j => w2 (ix2 k j)) (fun k => bb (ix1 k)) (fun j => y (ix3 n p j)) j := by
  unfold outR each
  pointwise [geluR_at, upR_at, lnR_at]
  rfl

end Cert.Ref

end
-- ==== Proof.Value.RefLayer.lean ====
/-
  The reference's four layers: each is the same composition of stages, over the layer before it.
-/
module

public import proofs.«01_k».proof.Proof.Value.Ref

@[expose] public section

set_option maxRecDepth 16384

noncomputable section

namespace Cert.Ref

open Cert.ReferenceIdeal Cert.ReferenceIdeal.Gen Cert.ReferenceIdeal.Read
open Idealize.ShloMosaic

/-- A layer after its keys and values. -/
def tailR (l : Fin 2) (x : FVec Ideal S2x4096x1024 .f32) (g b : FVec Ideal S2x1024 .f32) (wq : FVec Ideal S2x1024x1024 .f32)
    (K V : FVec Ideal S2x256x1024 .f32) (wo : FVec Ideal S2x1024x1024 .f32) (bo g2 b2 : FVec Ideal S2x1024 .f32)
    (w1 : FVec Ideal S2x1024x4096 .f32) (b1 : FVec Ideal S2x4096 .f32) (w2 : FVec Ideal S2x4096x1024 .f32) (bb : FVec Ideal S2x1024 .f32) :
    FVec Ideal S2x4096x1024 .f32 :=
  outR (midR x (vecOf l g) (vecOf l b) (matOf l wq) K V (matOf l wo) (vecOf l bo)) (vecOf l g2) (vecOf l b2) (upOf l w1) (upBiasOf l b1)
    (downOf l w2) (vecOf l bb)

/-- Keys or values projected along the sequence. -/
def seqKV (l : Fin 2) (x : FVec Ideal S2x4096x1024 .f32) (g b : FVec Ideal S2x1024 .f32) (w : FVec Ideal S2x1024x1024 .f32)
    (p : FVec Ideal S2x4096x256 .f32) : FVec Ideal S2x256x1024 .f32 :=
  seqR (linR (lnR x (vecOf l g) (vecOf l b)) (matOf l w)) (seqOf l p)

/-- Keys or values convolved along the sequence. -/
def convKV (l : Fin 2) (x : FVec Ideal S2x4096x1024 .f32) (g b : FVec Ideal S2x1024 .f32) (w : FVec Ideal S2x1024x1024 .f32)
    (p : FVec Ideal S2x1024x1024x16 .f32) : FVec Ideal S2x256x1024 .f32 :=
  convR (linR (lnR x (vecOf l g) (vecOf l b)) (matOf l w)) (kerOf l p)

section

variable (x0 : FVec Ideal S2x4096x1024 .f32) (x1 x2 : FVec Ideal S2x1024 .f32) (x3 x4 x5 : FVec Ideal S2x1024x1024 .f32)
  (x6 x7 : FVec Ideal S2x4096x256 .f32) (x8 : FVec Ideal S2x1024x1024 .f32) (x9 x10 x11 : FVec Ideal S2x1024 .f32)
  (x12 : FVec Ideal S2x1024x4096 .f32) (x13 : FVec Ideal S2x4096 .f32) (x14 : FVec Ideal S2x4096x1024 .f32) (x15 x16 x17 : FVec Ideal S2x1024 .f32)
  (x18 x19 x20 : FVec Ideal S2x1024x1024 .f32) (x21 x22 : FVec Ideal S2x1024x1024x16 .f32) (x23 : FVec Ideal S2x1024x1024 .f32)
  (x24 x25 x26 : FVec Ideal S2x1024 .f32) (x27 : FVec Ideal S2x1024x4096 .f32) (x28 : FVec Ideal S2x4096 .f32)
  (x29 : FVec Ideal S2x4096x1024 .f32) (x30 : FVec Ideal S2x1024 .f32)

theorem layer0 : val_main_v128 (F := Ideal) x0 x1 x2 x3 x4 x5 x6 x7 x8 x9 x10 x11 x12 x13 x14 x15
    = tailR 0 x0 x1 x2 x3 (seqKV 0 x0 x1 x2 x4 x6) (seqKV 0 x0 x1 x2 x5 x7) x8 x9 x10 x11 x12 x13 x14 x15 := rfl

theorem layer1 : val_main_v257 (F := Ideal) x0 x1 x2 x3 x4 x5 x6 x7 x8 x9 x10 x11 x12 x13 x14 x15
    = tailR 1 (val_main_v128 (F := Ideal) x0 x1 x2 x3 x4 x5 x6 x7 x8 x9 x10 x11 x12 x13 x14 x15) x1 x2 x3
      (seqKV 1 (val_main_v128 (F := Ideal) x0 x1 x2 x3 x4 x5 x6 x7 x8 x9 x10 x11 x12 x13 x14 x15) x1 x2 x4 x6)
      (seqKV 1 (val_main_v128 (F := Ideal) x0 x1 x2 x3 x4 x5 x6 x7 x8 x9 x10 x11 x12 x13 x14 x15) x1 x2 x5 x7) x8 x9 x10 x11 x12 x13 x14 x15 := rfl

theorem layer2 : val_main_v386 (F := Ideal) x0 x1 x2 x3 x4 x5 x6 x7 x8 x9 x10 x11 x12 x13 x14 x15 x16 x17 x18 x19 x20 x21 x22 x23 x24 x25 x26 x27 x28 x29 x30
    = tailR 0 (val_main_v257 (F := Ideal) x0 x1 x2 x3 x4 x5 x6 x7 x8 x9 x10 x11 x12 x13 x14 x15) x16 x17 x18
      (convKV 0 (val_main_v257 (F := Ideal) x0 x1 x2 x3 x4 x5 x6 x7 x8 x9 x10 x11 x12 x13 x14 x15) x16 x17 x19 x21)
      (convKV 0 (val_main_v257 (F := Ideal) x0 x1 x2 x3 x4 x5 x6 x7 x8 x9 x10 x11 x12 x13 x14 x15) x16 x17 x20 x22) x23 x24 x25 x26 x27 x28 x29 x30 := rfl

theorem layer3 : val_main_v515 (F := Ideal) x0 x1 x2 x3 x4 x5 x6 x7 x8 x9 x10 x11 x12 x13 x14 x15 x16 x17 x18 x19 x20 x21 x22 x23 x24 x25 x26 x27 x28 x29 x30
    = tailR 1 (val_main_v386 (F := Ideal) x0 x1 x2 x3 x4 x5 x6 x7 x8 x9 x10 x11 x12 x13 x14 x15 x16 x17 x18 x19 x20 x21 x22 x23 x24 x25 x26 x27 x28 x29 x30) x16 x17 x18
      (convKV 1 (val_main_v386 (F := Ideal) x0 x1 x2 x3 x4 x5 x6 x7 x8 x9 x10 x11 x12 x13 x14 x15 x16 x17 x18 x19 x20 x21 x22 x23 x24 x25 x26 x27 x28 x29 x30) x16 x17 x19 x21)
      (convKV 1 (val_main_v386 (F := Ideal) x0 x1 x2 x3 x4 x5 x6 x7 x8 x9 x10 x11 x12 x13 x14 x15 x16 x17 x18 x19 x20 x21 x22 x23 x24 x25 x26 x27 x28 x29 x30) x16 x17 x20 x22) x23 x24 x25 x26 x27 x28 x29 x30 := rfl

end

end Cert.Ref

end
-- ==== Proof.Value.Tile.lean ====
/-
  The attention and feed-forward kernel on one tile of 256 rows, as a composition of a few plain vector functions: the layer
  norm, the query projection, one head of attention, the output projection, and one chunk of the feed-forward network.
-/
module

public import proofs.«01_k».proof.Proof.Gen.KernelIdeal.Skeleton
public import Idealize.ShloMosaic.Lib.Pipeline.Value

@[expose] public section

noncomputable section

namespace Cert.KernelIdeal.Value

open Cert.KernelIdeal Cert.KernelIdeal.Gen
open Idealize.ShloMosaic

variable {F : FTy → Type} [FloatOps F]

/-- The layer norm of 256 rows: each row less its mean, over the root of its variance, scaled by `g` and moved by `b`. -/
def lnT (v1 : FVec F S256x1024 .f32) (v2 v3 : Vec F S1x1024 .f32) : FVec F S256x1024 .f32 :=
  have v4 : FVec F S256 .f32 := multiReduction .add [1] S256 v1 0x00000000#32 reduces_S256x1024_S256 (.inl rfl) rfl
  have v5 : FVec F S256x1 .f32 := shapeCast S256x1 v4 shapeCasts_S256_S256x1
  have cst_6 : F .f32 := Scalar.ofBits .f32 0x44800000#32
  have v6 : FVec F S256x1 .f32 := broadcast S256x1 cst_6
  have v7 : FVec F S256x1 .f32 := divf v5 v6
  have v8 : FVec F S256x1024 .f32 := broadcastTo S256x1024 v7 broadcasts_S256x1_S256x1024
  have v9 : FVec F S256x1024 .f32 := subf v1 v8
  have v10 : FVec F S256x1024 .f32 := mulf v9 v9
  have v11 : FVec F S256 .f32 := multiReduction .add [1] S256 v10 0x00000000#32 reduces_S256x1024_S256 (.inl rfl) rfl
  have v12 : FVec F S256x1 .f32 := shapeCast S256x1 v11 shapeCasts_S256_S256x1
  have cst_8 : F .f32 := Scalar.ofBits .f32 0x44800000#32
  have v13 : FVec F S256x1 .f32 := broadcast S256x1 cst_8
  have v14 : FVec F S256x1 .f32 := divf v12 v13
  have v15 : FVec F S256x1024 .f32 := broadcastTo S256x1024 v7 broadcasts_S256x1_S256x1024
  have v16 : FVec F S256x1024 .f32 := subf v1 v15
  have cst_9 : F .f32 := Scalar.ofBits .f32 0x3727C5AC#32
  have v17 : FVec F S256x1 .f32 := broadcast S256x1 cst_9
  have v18 : FVec F S256x1 .f32 := addf v14 v17
  have v19 : FVec F S256x1 .f32 := rsqrt v18
  have v20 : FVec F S256x1024 .f32 := broadcastTo S256x1024 v19 broadcasts_S256x1_S256x1024
  have v21 : FVec F S256x1024 .f32 := mulf v16 v20
  have v22 : FVec F S256x1024 .f32 := broadcastTo S256x1024 v2 broadcasts_S1x1024_S256x1024
  have v23 : FVec F S256x1024 .f32 := mulf v21 v22
  have v24 : FVec F S256x1024 .f32 := broadcastTo S256x1024 v3 broadcasts_S1x1024_S256x1024
  have v25 : FVec F S256x1024 .f32 := addf v23 v24
  v25

/-- The tile without its leading axis of one. -/
def rowsT (x : Vec F S1x256x1024 .f32) : FVec F S256x1024 .f32 := shapeCast S256x1024 x shapeCasts_S1x256x1024_S256x1024

/-- 256 rows times a square matrix. -/
def linT (x : FVec F S256x1024 .f32) (w : Vec F S1x1024x1024 .f32) : FVec F S256x1024 .f32 :=
  have v27 : FVec F S1024x1024 .f32 := shapeCast S1024x1024 w shapeCasts_S1x1024x1024_S1024x1024
  have cst_13 : FVec F S256x1024 .f32 := constant S256x1024 .f32 0x00000000#32
  matmul dot_S256x1024_S1024x1024_S256x1024_1_0_0_1_n_n none x v27 cst_13

/-- One head of attention: the head whose columns start at `o`. -/
def headT (o : Nat) (ho : S256x1024.Slices ![0, o] S256x128) (v28 v30 v32 : FVec F S256x1024 .f32) : FVec F S256x128 .f32 :=
  have v49 : FVec F S256x128 .f32 := extractStridedSlice S256x128 ![0, o] v28 ho
  have v50 : FVec F S256x128 .f32 := extractStridedSlice S256x128 ![0, o] v30 ho
  have cst_25 : FVec F S256x256 .f32 := constant S256x256 .f32 0x00000000#32
  have v51 : FVec F S256x256 .f32 := matmul dot_S256x128_S256x128_S256x256_1_1_0_0_n_n none v49 v50 cst_25
  have cst_26 : F .f32 := Scalar.ofBits .f32 0x3DB504F3#32
  have v52 : FVec F S256x256 .f32 := broadcast S256x256 cst_26
  have v53 : FVec F S256x256 .f32 := mulf v51 v52
  have v54 : FVec F S256 .f32 := multiReduction .maximumf [1] S256 v53 0xFF800000#32 reduces_S256x256_S256 (.inl rfl) rfl
  have v55 : FVec F S256x1 .f32 := shapeCast S256x1 v54 shapeCasts_S256_S256x1
  have v56 : FVec F S256x256 .f32 := broadcastTo S256x256 v55 broadcasts_S256x1_S256x256
  have v57 : FVec F S256x256 .f32 := subf v53 v56
  have v58 : FVec F S256x256 .f32 := exp v57
  have v59 : FVec F S256 .f32 := multiReduction .add [1] S256 v58 0x00000000#32 reduces_S256x256_S256 (.inl rfl) rfl
  have v60 : FVec F S256x1 .f32 := shapeCast S256x1 v59 shapeCasts_S256_S256x1
  have v61 : FVec F S256x256 .f32 := broadcastTo S256x256 v60 broadcasts_S256x1_S256x256
  have v62 : FVec F S256x256 .f32 := divf v58 v61
  have v63 : FVec F S256x128 .f32 := extractStridedSlice S256x128 ![0, o] v32 ho
  have cst_29 : FVec F S256x128 .f32 := constant S256x128 .f32 0x00000000#32
  have v64 : FVec F S256x128 .f32 := matmul dot_S256x256_S256x128_S256x128_1_0_0_1_n_n none v62 v63 cst_29
  v64

/-- The eight heads side by side. -/
def headsT (q k v : FVec F S256x1024 .f32) : FVec F S256x1024 .f32 :=
  concatenate S256x1024 1 [⟨S256x128, headT 0 slices_S256x1024_o0_0_S256x128 q k v⟩, ⟨S256x128, headT 128 slices_S256x1024_o0_128_S256x128 q k v⟩, ⟨S256x128, headT 256 slices_S256x1024_o0_256_S256x128 q k v⟩, ⟨S256x128, headT 384 slices_S256x1024_o0_384_S256x128 q k v⟩, ⟨S256x128, headT 512 slices_S256x1024_o0_512_S256x128 q k v⟩, ⟨S256x128, headT 640 slices_S256x1024_o0_640_S256x128 q k v⟩, ⟨S256x128, headT 768 slices_S256x1024_o0_768_S256x128 q k v⟩, ⟨S256x128, headT 896 slices_S256x1024_o0_896_S256x128 q k v⟩] concatenates_S256x128_S256x128_S256x128_S256x128_S256x128_S256x128_S256x128_S256x128_S256x1024_d1

/-- A row vector added to every row. -/
def biasT (x : FVec F S256x1024 .f32) (b : Vec F S1x1024 .f32) : FVec F S256x1024 .f32 :=
  addf x (broadcastTo S256x1024 b broadcasts_S1x1024_S256x1024)

/-- The rows after attention: the input plus the projected heads plus the bias. -/
def midT (x : Vec F S1x256x1024 .f32) (g b : Vec F S1x1024 .f32) (wq : Vec F S1x1024x1024 .f32) (k v : Vec F S1x256x1024 .f32)
    (wo : Vec F S1x1024x1024 .f32) (bo : Vec F S1x1024 .f32) : FVec F S256x1024 .f32 :=
  biasT (addf (rowsT x) (linT (headsT (linT (lnT (rowsT x) g b) wq) (rowsT k) (rowsT v)) wo)) bo

/-- The hidden layer's activations for one chunk of 512 columns. -/
def hidT (xn : FVec F S256x1024 .f32) (w1 : Vec F S1x1024x512 .f32) (b1 : Vec F S1x512 .f32) : FVec F S256x512 .f32 :=
  have v202 : FVec F S1024x512 .f32 := shapeCast S1024x512 w1 shapeCasts_S1x1024x512_S1024x512
  have cst_86 : FVec F S256x512 .f32 := constant S256x512 .f32 0x00000000#32
  have v203 : FVec F S256x512 .f32 := matmul dot_S256x1024_S1024x512_S256x512_1_0_0_1_n_n none xn v202 cst_86
  have v205 : FVec F S256x512 .f32 := broadcastTo S256x512 b1 broadcasts_S1x512_S256x512
  have v206 : FVec F S256x512 .f32 := addf v203 v205
  have cst_89 : F .f32 := Scalar.ofBits .f32 0x3F000000#32
  have v207 : FVec F S256x512 .f32 := broadcast S256x512 cst_89
  have v208 : FVec F S256x512 .f32 := mulf v207 v206
  have cst_90 : F .f32 := Scalar.ofBits .f32 0x3F3504F3#32
  have v209 : FVec F S256x512 .f32 := broadcast S256x512 cst_90
  have v210 : FVec F S256x512 .f32 := mulf v206 v209
  have v211 : FVec F S256x512 .f32 := erf v210
  have cst_91 : F .f32 := Scalar.ofBits .f32 0x3F800000#32
  have v212 : FVec F S256x512 .f32 := broadcast S256x512 cst_91
  have v213 : FVec F S256x512 .f32 := addf v212 v211
  mulf v208 v213

/-- One chunk's part of the feed-forward network, added to what is there. -/
def stepT (xn : FVec F S256x1024 .f32) (w1 : Vec F S1x1024x512 .f32) (b1 : Vec F S1x512 .f32) (w2 : Vec F S1x512x1024 .f32)
    (o : Vec F S1x256x1024 .f32) : Vec F S1x256x1024 .f32 :=
  have v218 : FVec F S512x1024 .f32 := shapeCast S512x1024 w2 shapeCasts_S1x512x1024_S512x1024
  have cst_98 : FVec F S256x1024 .f32 := constant S256x1024 .f32 0x00000000#32
  have v219 : FVec F S256x1024 .f32 := matmul dot_S256x512_S512x1024_S256x1024_1_0_0_1_n_n none (hidT xn w1 b1) v218 cst_98
  shapeCast S1x256x1024 (addf (rowsT o) v219) shapeCasts_S256x1024_S1x256x1024

/-- The whole tile from its rows after attention: the feed-forward network's eight chunks added one after the other onto the
    rows and the last bias. -/
def tailT (x1 : FVec F S256x1024 .f32) (g2 b2 bb : Vec F S1x1024 .f32) (w1 : Fin 8 → Vec F S1x1024x512 .f32)
    (b1 : Fin 8 → Vec F S1x512 .f32) (w2 : Fin 8 → Vec F S1x512x1024 .f32) : Vec F S1x256x1024 .f32 :=
  stepT (lnT x1 g2 b2) (w1 7) (b1 7) (w2 7) <| stepT (lnT x1 g2 b2) (w1 6) (b1 6) (w2 6) <|
  stepT (lnT x1 g2 b2) (w1 5) (b1 5) (w2 5) <| stepT (lnT x1 g2 b2) (w1 4) (b1 4) (w2 4) <|
  stepT (lnT x1 g2 b2) (w1 3) (b1 3) (w2 3) <| stepT (lnT x1 g2 b2) (w1 2) (b1 2) (w2 2) <|
  stepT (lnT x1 g2 b2) (w1 1) (b1 1) (w2 1) <| stepT (lnT x1 g2 b2) (w1 0) (b1 0) (w2 0) <|
  shapeCast S1x256x1024 (biasT x1 bb) shapeCasts_S256x1024_S1x256x1024

/-- The offsets of a whole block of three axes are zero. -/
theorem zeros3 : (![0, 0, 0] : Fin 3 → Nat) = fun _ => 0 := by
  funext a; fin_cases a <;> rfl

/-- A load of the whole block after a store of the whole block reads what was stored last, whatever was stored before. -/
theorem readCov_last {sig : RefSig} {κ : Kind} {sp : Space} {S : Shape} {e : EltTy} (v : View sig κ sp S e) {off : Fin S.rank → Nat}
    (h : off = fun _ => 0) (inb : ∀ a, off a + S.size a ≤ S.size a) (w : S.Idx → Elt F e) (L : List (View.Piece (Elt F) S e)) :
    v.readCov ((⟨Rect.unit off S.size inb, w⟩ : View.Piece (Elt F) S e) :: L) (Rect.unit off S.size inb).toLoadRect = w := by
  rw [View.readCov_eq_canon_ld _ _ _ (fun y => ⟨_, List.mem_cons_self, View.mem_set_unit_zero h inb y⟩),
    View.canon_cons_unit_zero h, View.ld_unit_zero h]

/-- A load of a whole tile. -/
theorem ld_tile (x : Vec F S1x256x1024 .f32) (inb) : View.ld (S := S1x256x1024) (Val := Elt F) (e' := .f32) x (Rect.unit ![0, 0, 0] ![1, 256, 1024] inb) = x :=
  View.ld_unit_zero zeros3 inb x

/-- A load of a whole square matrix. -/
theorem ld_square (x : Vec F S1x1024x1024 .f32) (inb) :
    View.ld (S := S1x1024x1024) (Val := Elt F) (e' := .f32) x (Rect.unit ![0, 0, 0] ![1, 1024, 1024] inb) = x :=
  View.ld_unit_zero zeros3 inb x

/-- A load of the whole tile after a store of it. -/
theorem readCov_tile {sig : RefSig} {κ : Kind} {sp : Space} (v : View sig κ sp S1x256x1024 .f32) (inb) (w : Vec F S1x256x1024 .f32)
    (L : List (View.Piece (Elt F) S1x256x1024 .f32)) :
    v.readCov ((⟨Rect.unit ![0, 0, 0] ![1, 256, 1024] inb, w⟩ : View.Piece (Elt F) S1x256x1024 .f32) :: L)
      (Rect.unit ![0, 0, 0] ![1, 256, 1024] inb).toLoadRect = w :=
  readCov_last v zeros3 inb w L

/-- Row `l` of a pair of row vectors. -/
def rowOf (l : Fin 2) (x : Vec F S2x1024 .f32) : Vec F S1x1024 .f32 :=
  View.ld x (Rect.unit ![l, 0] ![1, 1024] (by fin_cases l <;> decide))

/-- Chunk `c` of the columns of the first feed-forward matrix. -/
def colsOf (x : Vec F S1x1024x4096 .f32) (c : Fin 8) : Vec F S1x1024x512 .f32 :=
  View.ld x (Rect.unit ![0, 0, 512 * c] ![1, 1024, 512] (by fin_cases c <;> decide))

/-- Chunk `c` of row `l` of the first feed-forward bias. -/
def biasOf (l : Fin 2) (x : Vec F S2x4096 .f32) (c : Fin 8) : Vec F S1x512 .f32 :=
  View.ld x (Rect.unit ![l, 512 * c] ![1, 512] (by fin_cases l <;> fin_cases c <;> decide))

/-- Chunk `c` of the rows of the second feed-forward matrix. -/
def rowsOf (x : Vec F S1x4096x1024 .f32) (c : Fin 8) : Vec F S1x512x1024 .f32 :=
  View.ld x (Rect.unit ![0, 512 * c, 0] ![1, 512, 1024] (by fin_cases c <;> decide))

end Cert.KernelIdeal.Value

end
-- ==== Proof.Value.TileSpec.lean ====
/-
  The tile functions read at a row and a column, over the extended reals: each is the row function of the specification.
-/
module

public import proofs.«01_k».proof.Proof.Value.Tile
public import proofs.«01_k».proof.Proof.Value.Spec
public import Idealize.ShloMosaic.Lib.Pointwise

@[expose] public section

noncomputable section

namespace Cert.KernelIdeal.Value

open Cert.KernelIdeal Cert.KernelIdeal.Gen
open Idealize.ShloMosaic
open Cert.Spec

/-- A row of a tile. -/
abbrev row (x : FVec Ideal S256x1024 .f32) (r : Fin 256) : Fin 1024 → EReal := fun k => x (ix2 r k)
/-- A row vector. -/
abbrev vec (g : Vec Ideal S1x1024 .f32) : Fin 1024 → EReal := fun k => g (ix2 0 k)
/-- A square matrix. -/
abbrev mat (w : Vec Ideal S1x1024x1024 .f32) : Fin 1024 → Fin 1024 → EReal := fun k j => w (ix3 0 k j)

theorem lnT_at (x : FVec Ideal S256x1024 .f32) (g b : Vec Ideal S1x1024 .f32) (r : Fin 256) (l : Fin 1024) :
    lnT x g b (ix2 r l) = ln (vec g) (vec b) (row x r) l := by
  unfold lnT
  pointwise
  rfl

theorem rowsT_at (x : Vec Ideal S1x256x1024 .f32) (r : Fin 256) (l : Fin 1024) : rowsT x (ix2 r l) = x (ix3 0 r l) := by
  unfold rowsT
  pointwise

theorem linT_at (x : FVec Ideal S256x1024 .f32) (w : Vec Ideal S1x1024x1024 .f32) (r : Fin 256) (l : Fin 1024) :
    linT x w (ix2 r l) = lin (mat w) (row x r) l := by
  unfold linT
  pointwise
  rfl

theorem biasT_at (x : FVec Ideal S256x1024 .f32) (b : Vec Ideal S1x1024 .f32) (r : Fin 256) (l : Fin 1024) :
    biasT x b (ix2 r l) = x (ix2 r l) + b (ix2 0 l) := by
  unfold biasT
  pointwise

theorem headT_at (h : Fin 8) (ho) (q k v : FVec Ideal S256x1024 .f32) (r : Fin 256) (d : Fin 128) :
    headT (128 * h.val) ho q k v (ix2 r d) = head (row q r) (row k) (row v) h d := by
  unfold headT
  pointwise
  rfl

/-- Eight pieces of 128 columns side by side, read at column `d` of piece `h`. -/
theorem pieces_at (p : Fin 8 → FVec Ideal S256x128 .f32) (r : Fin 256) (h : Fin 8) (d : Fin 128) :
    concatenate S256x1024 1 [⟨S256x128, p 0⟩, ⟨S256x128, p 1⟩, ⟨S256x128, p 2⟩, ⟨S256x128, p 3⟩, ⟨S256x128, p 4⟩, ⟨S256x128, p 5⟩,
      ⟨S256x128, p 6⟩, ⟨S256x128, p 7⟩]
      concatenates_S256x128_S256x128_S256x128_S256x128_S256x128_S256x128_S256x128_S256x128_S256x1024_d1 (ix2 r (col h d)) =
    p h (ix2 r d) := by
  have hd := d.isLt
  pointwise
  have hc : (col h d).val = 128 * h.val + d.val := rfl
  generalize col h d = e at hc ⊢
  fin_cases h <;> simp only [Fin.zero_eta, Fin.mk_one, Fin.reduceFinMk, Fin.coe_ofNat_eq_mod] at hc
  all_goals
    repeat first | rw [dif_pos (by omega)] | rw [dif_neg (by omega)]
    refine congrArg (fun e => p _ (ix2 r e)) (Fin.ext ?_)
    simp only []
    omega

theorem headsT_at (q k v : FVec Ideal S256x1024 .f32) (r : Fin 256) (j : Fin 1024) :
    headsT q k v (ix2 r j) = att (row q r) (row k) (row v) j := by
  obtain ⟨h, d, rfl⟩ : ∃ (h : Fin 8) (d : Fin 128), j = col h d :=
    ⟨⟨j.val / 128, by omega⟩, ⟨j.val % 128, Nat.mod_lt _ (by norm_num)⟩, Fin.ext (Nat.div_add_mod _ _).symm⟩
  have e : att (row q r) (row k) (row v) (col h d) = head (row q r) (row k) (row v) h d := by
    unfold att
    congr 1 <;> apply Fin.ext <;> simp only [col] <;> omega
  rw [e]
  have ho : ∀ h : Fin 8, S256x1024.Slices ![0, 128 * h.val] S256x128 := by
    intro h; fin_cases h <;> decide
  exact (pieces_at (fun h => headT (128 * h.val) (ho h) q k v) r h d).trans (headT_at h (ho h) q k v r d)

theorem hidT_at (xn : FVec Ideal S256x1024 .f32) (w1 : Vec Ideal S1x1024x512 .f32) (b1 : Vec Ideal S1x512 .f32) (r : Fin 256)
    (k : Fin 512) : hidT xn w1 b1 (ix2 r k) = gelu ((∑ x, row xn r x * w1 (ix3 0 x k)) + b1 (ix2 0 k)) := by
  unfold hidT
  pointwise
  rfl

theorem stepT_at (xn : FVec Ideal S256x1024 .f32) (w1 : Vec Ideal S1x1024x512 .f32) (b1 : Vec Ideal S1x512 .f32)
    (w2 : Vec Ideal S1x512x1024 .f32) (o : Vec Ideal S1x256x1024 .f32) (r : Fin 256) (l : Fin 1024) :
    stepT xn w1 b1 w2 o (ix3 0 r l) = o (ix3 0 r l) + ∑ k, hidT xn w1 b1 (ix2 r k) * w2 (ix3 0 k l) := by
  unfold stepT rowsT
  pointwise

theorem midT_at (x : Vec Ideal S1x256x1024 .f32) (g b : Vec Ideal S1x1024 .f32) (wq : Vec Ideal S1x1024x1024 .f32)
    (k v : Vec Ideal S1x256x1024 .f32) (wo : Vec Ideal S1x1024x1024 .f32) (bo : Vec Ideal S1x1024 .f32) (r : Fin 256) (l : Fin 1024) :
    midT x g b wq k v wo bo (ix2 r l) = mid (vec g) (vec b) (mat wq) (fun t j => k (ix3 0 t j)) (fun t j => v (ix3 0 t j)) (mat wo)
      (vec bo) (fun j => x (ix3 0 r j)) l := by
  have e : addf (rowsT x) (linT (headsT (linT (lnT (rowsT x) g b) wq) (rowsT k) (rowsT v)) wo) (ix2 r l) =
      rowsT x (ix2 r l) + linT (headsT (linT (lnT (rowsT x) g b) wq) (rowsT k) (rowsT v)) wo (ix2 r l) := rfl
  unfold midT
  rw [biasT_at, e, rowsT_at, linT_at]
  have e1 : Value.row (rowsT x) r = fun j => x (ix3 0 r j) := funext fun j => rowsT_at x r j
  have e2 : Value.row (lnT (rowsT x) g b) r = ln (vec g) (vec b) (Value.row (rowsT x) r) := funext fun j => lnT_at _ g b r j
  have e3 : Value.row (linT (lnT (rowsT x) g b) wq) r = lin (mat wq) (Value.row (lnT (rowsT x) g b) r) := funext fun j => linT_at _ wq r j
  have e4 : Value.row (headsT (linT (lnT (rowsT x) g b) wq) (rowsT k) (rowsT v)) r = _ := funext fun j => headsT_at _ _ _ r j
  have ek : Value.row (rowsT k) = fun t j => k (ix3 0 t j) := funext fun t => funext fun j => rowsT_at k t j
  have ev : Value.row (rowsT v) = fun t j => v (ix3 0 t j) := funext fun t => funext fun j => rowsT_at v t j
  rw [e4, e3, e2, e1, ek, ev]
  rfl

/-- Chunk `c` of the hidden layer's columns of a matrix. -/
abbrev cols (w1 : Fin 1024 → Fin 4096 → EReal) (c : Fin 8) (x : Fin 1024) (k : Fin 512) : EReal := w1 x ⟨c.val * 512 + k.val, by omega⟩

/-- Eight terms added one after the other onto a sum, in another order. -/
theorem add_eight (x b c0 c1 c2 c3 c4 c5 c6 c7 : EReal) :
    x + b + c0 + c1 + c2 + c3 + c4 + c5 + c6 + c7 = x + (c0 + c1 + c2 + c3 + c4 + c5 + c6 + c7) + b := by
  ac_rfl

theorem tailT_at (x1 : FVec Ideal S256x1024 .f32) (g2 b2 bb : Vec Ideal S1x1024 .f32) (w1 : Fin 8 → Vec Ideal S1x1024x512 .f32)
    (b1 : Fin 8 → Vec Ideal S1x512 .f32) (w2 : Fin 8 → Vec Ideal S1x512x1024 .f32) (u1 : Fin 1024 → Fin 4096 → EReal)
    (c1 : Fin 4096 → EReal) (u2 : Fin 4096 → Fin 1024 → EReal)
    (h1 : ∀ c x k, w1 c (ix3 0 x k) = u1 x ⟨c.val * 512 + k.val, by omega⟩)
    (hb : ∀ c k, b1 c (ix2 0 k) = c1 ⟨c.val * 512 + k.val, by omega⟩)
    (h2 : ∀ c k l, w2 c (ix3 0 k l) = u2 ⟨c.val * 512 + k.val, by omega⟩ l) (r : Fin 256) (l : Fin 1024) :
    tailT x1 g2 b2 bb w1 b1 w2 (ix3 0 r l) = out (vec g2) (vec b2) u1 c1 u2 (vec bb) (row x1 r) l := by
  have e : shapeCast S1x256x1024 (biasT x1 bb) shapeCasts_S256x1024_S1x256x1024 (ix3 0 r l) = biasT x1 bb (ix2 r l) := by
    pointwise
  have e2 : Value.row (lnT x1 g2 b2) r = ln (vec g2) (vec b2) (Value.row x1 r) := funext fun j => lnT_at _ g2 b2 r j
  let C : Fin 8 → EReal := fun c => ∑ k : Fin 512, unit u1 c1 u2 (ln (vec g2) (vec b2) (Value.row x1 r)) l ⟨c.val * 512 + k.val, by omega⟩
  have step : ∀ c o, stepT (lnT x1 g2 b2) (w1 c) (b1 c) (w2 c) o (ix3 0 r l) = o (ix3 0 r l) + C c := by
    intro c o
    rw [stepT_at]
    refine congrArg (o (ix3 0 r l) + ·) (Finset.sum_congr rfl fun k _ => ?_)
    rw [hidT_at, e2, hb, h2]
    simp only [h1]
    rfl
  have sum : ∑ k, unit u1 c1 u2 (ln (vec g2) (vec b2) (Value.row x1 r)) l k = C 0 + C 1 + C 2 + C 3 + C 4 + C 5 + C 6 + C 7 := by
    rw [Fin.sum_univ_tiles 8 512 rfl, Fin.sum_univ_eight]
  unfold tailT out
  rw [sum, step, step, step, step, step, step, step, step, e, biasT_at]
  exact add_eight _ _ _ _ _ _ _ _ _ _

end Cert.KernelIdeal.Value

end
-- ==== Proof.Value.Layer.lean ====
/-
  One attention and feed-forward layer on whole arrays: every row of the input mapped by the row functions.
-/
module

public import proofs.«01_k».proof.Proof.Value.TileSpec

@[expose] public section

noncomputable section

namespace Cert.KernelIdeal.Value

open Cert.KernelIdeal Cert.KernelIdeal.Gen
open Idealize.ShloMosaic
open Cert.Spec

/-- Layer `l` applied to the array `x`, with the keys `K` and the values `V` of each batch. -/
def layer (l : Fin 2) (x : Vec Ideal S2x4096x1024 .f32) (g b : Vec Ideal S2x1024 .f32) (wq : Vec Ideal S2x1024x1024 .f32)
    (K V : Vec Ideal S2x256x1024 .f32) (wo : Vec Ideal S2x1024x1024 .f32) (bo g2 b2 : Vec Ideal S2x1024 .f32)
    (w1 : Vec Ideal S2x1024x4096 .f32) (b1 : Vec Ideal S2x4096 .f32) (w2 : Vec Ideal S2x4096x1024 .f32) (bb : Vec Ideal S2x1024 .f32) :
    Vec Ideal S2x4096x1024 .f32 := fun i =>
  out (fun k => g2 (ix2 l k)) (fun k => b2 (ix2 l k)) (fun k j => w1 (ix3 l k j)) (fun k => b1 (ix2 l k)) (fun k j => w2 (ix3 l k j))
    (fun k => bb (ix2 l k))
    (mid (fun k => g (ix2 l k)) (fun k => b (ix2 l k)) (fun k j => wq (ix3 l k j)) (fun t j => K (ix3 (i 0) t j))
      (fun t j => V (ix3 (i 0) t j)) (fun k j => wo (ix3 l k j)) (fun k => bo (ix2 l k)) (fun j => x (ix3 (i 0) (i 1) j))) (i 2)

theorem vec_rowOf (l : Fin 2) (v : Vec Ideal S2x1024 .f32) : vec (rowOf l v) = fun k => v (ix2 l k) := by
  funext k
  show rowOf l v (ix2 0 k) = v (ix2 l k)
  unfold rowOf
  pointwise

theorem colsOf_at (w : Vec Ideal S1x1024x4096 .f32) (c : Fin 8) (y : Fin 1024) (k : Fin 512) :
    colsOf w c (ix3 0 y k) = w (ix3 0 y ⟨c.val * 512 + k.val, by omega⟩) := by
  unfold colsOf
  pointwise
  exact congrArg (fun e => w (ix3 0 y e)) (Fin.ext (by simp only []; omega))

theorem biasOf_at (l : Fin 2) (w : Vec Ideal S2x4096 .f32) (c : Fin 8) (k : Fin 512) :
    biasOf l w c (ix2 0 k) = w (ix2 l ⟨c.val * 512 + k.val, by omega⟩) := by
  unfold biasOf
  pointwise
  exact congrArg (fun e => w (ix2 l e)) (Fin.ext (by simp only []; omega))

theorem rowsOf_at (w : Vec Ideal S1x4096x1024 .f32) (c : Fin 8) (k : Fin 512) (y : Fin 1024) :
    rowsOf w c (ix3 0 k y) = w (ix3 0 ⟨c.val * 512 + k.val, by omega⟩ y) := by
  unfold rowsOf
  pointwise
  exact congrArg (fun e => w (ix3 0 e y)) (Fin.ext (by simp only []; omega))

/-- One tile is the layer's rows there, when each of its blocks reads the layer's arrays. -/
theorem tile_layer (l : Fin 2) (x : Vec Ideal S2x4096x1024 .f32) (g b : Vec Ideal S2x1024 .f32) (wq : Vec Ideal S2x1024x1024 .f32)
    (K V : Vec Ideal S2x256x1024 .f32) (wo : Vec Ideal S2x1024x1024 .f32) (bo g2 b2 : Vec Ideal S2x1024 .f32)
    (w1 : Vec Ideal S2x1024x4096 .f32) (b1 : Vec Ideal S2x4096 .f32) (w2 : Vec Ideal S2x4096x1024 .f32) (bb : Vec Ideal S2x1024 .f32)
    (x' : Vec Ideal S1x256x1024 .f32) (g' b' : Vec Ideal S2x1024 .f32) (wq' : Vec Ideal S1x1024x1024 .f32)
    (K' V' : Vec Ideal S1x256x1024 .f32) (wo' : Vec Ideal S1x1024x1024 .f32) (bo' g2' b2' : Vec Ideal S2x1024 .f32)
    (w1' : Vec Ideal S1x1024x4096 .f32) (b1' : Vec Ideal S2x4096 .f32) (w2' : Vec Ideal S1x4096x1024 .f32) (bb' : Vec Ideal S2x1024 .f32)
    (n : Fin 2) (p : Fin 4096) (r : Fin 256)
    (hx : ∀ j, x' (ix3 0 r j) = x (ix3 n p j)) (hg : g' = g) (hb : b' = b) (hwq : ∀ k j, wq' (ix3 0 k j) = wq (ix3 l k j))
    (hK : ∀ k j, K' (ix3 0 k j) = K (ix3 n k j)) (hV : ∀ k j, V' (ix3 0 k j) = V (ix3 n k j))
    (hwo : ∀ k j, wo' (ix3 0 k j) = wo (ix3 l k j)) (hbo : bo' = bo) (hg2 : g2' = g2) (hb2 : b2' = b2)
    (hw1 : ∀ k j, w1' (ix3 0 k j) = w1 (ix3 l k j)) (hb1 : b1' = b1) (hw2 : ∀ k j, w2' (ix3 0 k j) = w2 (ix3 l k j))
    (hbb : bb' = bb) (j : Fin 1024) :
    tailT (midT x' (rowOf l g') (rowOf l b') wq' K' V' wo' (rowOf l bo')) (rowOf l g2') (rowOf l b2') (rowOf l bb') (colsOf w1')
      (biasOf l b1') (rowsOf w2') (ix3 0 r j) = layer l x g b wq K V wo bo g2 b2 w1 b1 w2 bb (ix3 n p j) := by
  subst hg hb hbo hg2 hb2 hb1 hbb
  have e : Value.row (midT x' (rowOf l g') (rowOf l b') wq' K' V' wo' (rowOf l bo')) r = mid (fun k => g' (ix2 l k)) (fun k => b' (ix2 l k))
      (fun k j => wq (ix3 l k j)) (fun t j => K (ix3 n t j)) (fun t j => V (ix3 n t j)) (fun k j => wo (ix3 l k j))
      (fun k => bo' (ix2 l k)) (fun j => x (ix3 n p j)) := by
    have h1 : mat wq' = fun k j => wq (ix3 l k j) := funext fun k => funext fun j => hwq k j
    have h2 : mat wo' = fun k j => wo (ix3 l k j) := funext fun k => funext fun j => hwo k j
    have h3 : (fun t j => K' (ix3 0 t j)) = fun t j => K (ix3 n t j) := funext fun k => funext fun j => hK k j
    have h4 : (fun t j => V' (ix3 0 t j)) = fun t j => V (ix3 n t j) := funext fun k => funext fun j => hV k j
    have h5 : (fun j => x' (ix3 0 r j)) = fun j => x (ix3 n p j) := funext hx
    refine (funext fun j => midT_at x' (rowOf l g') (rowOf l b') wq' K' V' wo' (rowOf l bo') r j).trans ?_
    rw [h1, h2, h3, h4, h5, vec_rowOf, vec_rowOf, vec_rowOf]
  rw [tailT_at _ _ _ _ _ _ _ (fun k j => w1 (ix3 l k j)) (fun k => b1' (ix2 l k)) (fun k j => w2 (ix3 l k j))
    (fun c y k => (colsOf_at w1' c y k).trans (hw1 _ _)) (fun c k => biasOf_at l b1' c k)
    (fun c k y => (rowsOf_at w2' c k y).trans (hw2 _ _)), e, vec_rowOf, vec_rowOf, vec_rowOf]
  rfl

end Cert.KernelIdeal.Value

end
-- ==== Proof.Value.Proj.lean ====
/-
  One tile of a key/value projection read at a position: the tile's share of the projection over the sequence.
-/
module

public import proofs.«01_k».proof.Proof.Whole.LnKv
public import proofs.«01_k».proof.Proof.Value.Spec
public import Idealize.ShloMosaic.Lib.Pointwise

@[expose] public section

set_option maxRecDepth 16384

noncomputable section

namespace Cert.KernelIdeal.Value

open Cert.KernelIdeal Cert.KernelIdeal.Gen Cert.KernelIdeal.Whole
open Idealize.ShloMosaic
open Cert.Spec

/-- The keys (or the values) of every batch: the normalized rows projected by `w`, then along the sequence by `p`. -/
def proj (l : Fin 2) (x : Vec Ideal S2x4096x1024 .f32) (g b : Vec Ideal S2x1024 .f32) (w : Vec Ideal S2x1024x1024 .f32)
    (p : Vec Ideal S2x4096x256 .f32) : Vec Ideal S2x256x1024 .f32 := fun i =>
  ∑ n : Fin 4096, p (ix3 l n (i 1)) *
    lin (fun k j => w (ix3 l k j)) (ln (fun k => g (ix2 l k)) (fun k => b (ix2 l k)) fun k => x (ix3 (i 0) n k)) (i 2)

/-- A tile's share at position `t` and column `j`. -/
def share (x : Vec Ideal S1x512x1024 .f32) (g b : Vec Ideal S1x1024 .f32) (w : Vec Ideal S1x1024x1024 .f32)
    (p : Vec Ideal S1x512x256 .f32) (t : Fin 256) (j : Fin 1024) : EReal :=
  ∑ r : Fin 512, p (ix3 0 r t) *
    lin (fun k j => w (ix3 0 k j)) (ln (fun k => g (ix2 0 k)) (fun k => b (ix2 0 k)) fun k => x (ix3 0 r k)) j

theorem norm_at (x : Vec Ideal S1x512x1024 .f32) (g b : Vec Ideal S1x1024 .f32) (r : Fin 512) (k : Fin 1024) :
    k0_pay7 x g b (ix2 r k) = ln (fun k => g (ix2 0 k)) (fun k => b (ix2 0 k)) (fun k => x (ix3 0 r k)) k := by
  unfold k0_pay7
  pointwise
  rfl

theorem keys_at (x : Vec Ideal S1x512x1024 .f32) (g b : Vec Ideal S1x1024 .f32) (w : Vec Ideal S1x1024x1024 .f32) (r : Fin 512) (j : Fin 1024) :
    k0_pay8 x g b w (ix2 r j) = lin (fun k j => w (ix3 0 k j)) (ln (fun k => g (ix2 0 k)) (fun k => b (ix2 0 k)) fun k => x (ix3 0 r k)) j := by
  unfold k0_pay8
  pointwise [norm_at]
  rfl

theorem vals_at (x : Vec Ideal S1x512x1024 .f32) (g b : Vec Ideal S1x1024 .f32) (w : Vec Ideal S1x1024x1024 .f32) (r : Fin 512) (j : Fin 1024) :
    k0_pay9 x g b w (ix2 r j) = lin (fun k j => w (ix3 0 k j)) (ln (fun k => g (ix2 0 k)) (fun k => b (ix2 0 k)) fun k => x (ix3 0 r k)) j := by
  unfold k0_pay9
  pointwise [norm_at]
  rfl

theorem kFirst_at (x : Vec Ideal S1x512x1024 .f32) (g b : Vec Ideal S1x1024 .f32) (w : Vec Ideal S1x1024x1024 .f32)
    (p : Vec Ideal S1x512x256 .f32) (t : Fin 256) (j : Fin 1024) : kFirst x g b w p (ix3 0 t j) = share x g b w p t j := by
  unfold kFirst k0_pay3 k0_pay1 k0_pay10
  pointwise [keys_at]
  rfl

theorem vFirst_at (x : Vec Ideal S1x512x1024 .f32) (g b : Vec Ideal S1x1024 .f32) (w : Vec Ideal S1x1024x1024 .f32)
    (p : Vec Ideal S1x512x256 .f32) (t : Fin 256) (j : Fin 1024) : vFirst x g b w p (ix3 0 t j) = share x g b w p t j := by
  unfold vFirst k0_pay4 k0_pay2
  pointwise [vals_at]
  rfl

theorem kNext_at (x : Vec Ideal S1x512x1024 .f32) (g b : Vec Ideal S1x1024 .f32) (w : Vec Ideal S1x1024x1024 .f32)
    (p : Vec Ideal S1x512x256 .f32) (o : Vec Ideal S1x256x1024 .f32) (t : Fin 256) (j : Fin 1024) :
    kNext x g b w p o (ix3 0 t j) = o (ix3 0 t j) + share x g b w p t j := by
  unfold kNext k0_pay5 k0_pay1 k0_pay10
  pointwise [keys_at]
  rfl

theorem vNext_at (x : Vec Ideal S1x512x1024 .f32) (g b : Vec Ideal S1x1024 .f32) (w : Vec Ideal S1x1024x1024 .f32)
    (p : Vec Ideal S1x512x256 .f32) (o : Vec Ideal S1x256x1024 .f32) (t : Fin 256) (j : Fin 1024) :
    vNext x g b w p o (ix3 0 t j) = o (ix3 0 t j) + share x g b w p t j := by
  unfold vNext k0_pay6 k0_pay2
  pointwise [vals_at]
  rfl

/-- Eight tiles' shares are the projection over the sequence, when each tile's blocks read the arrays there. -/
theorem sum_share (l : Fin 2) (x : Vec Ideal S2x4096x1024 .f32) (g b : Vec Ideal S2x1024 .f32) (w : Vec Ideal S2x1024x1024 .f32)
    (p : Vec Ideal S2x4096x256 .f32) (n : Fin 2) (x' : Fin 8 → Vec Ideal S1x512x1024 .f32) (g' b' : Fin 8 → Vec Ideal S1x1024 .f32)
    (w' : Fin 8 → Vec Ideal S1x1024x1024 .f32) (p' : Fin 8 → Vec Ideal S1x512x256 .f32)
    (hx : ∀ s r k, x' s (ix3 0 r k) = x (ix3 n (⟨s.val * 512 + r.val, by omega⟩ : Fin 4096) k))
    (hg : ∀ s k, g' s (ix2 0 k) = g (ix2 l k)) (hb : ∀ s k, b' s (ix2 0 k) = b (ix2 l k))
    (hw : ∀ s k j, w' s (ix3 0 k j) = w (ix3 l k j))
    (hp : ∀ s r k, p' s (ix3 0 r k) = p (ix3 l (⟨s.val * 512 + r.val, by omega⟩ : Fin 4096) k)) (t : Fin 256) (j : Fin 1024) :
    ∑ s, share (x' s) (g' s) (b' s) (w' s) (p' s) t j = proj l x g b w p (ix3 n t j) := by
  show _ = ∑ n' : Fin 4096, p (ix3 l n' t) *
    lin (fun k j => w (ix3 l k j)) (ln (fun k => g (ix2 l k)) (fun k => b (ix2 l k)) fun k => x (ix3 n n' k)) j
  refine Eq.trans ?_ (Fin.sum_univ_tiles (N := 4096) 8 512 (by norm_num) _).symm
  refine Finset.sum_congr rfl fun s _ => ?_
  unfold share
  refine Finset.sum_congr rfl fun r _ => ?_
  rw [hp, funext (hg s), funext (hb s), funext (hx s r), funext fun k => funext (hw s k)]

end Cert.KernelIdeal.Value

end
-- ==== Proof.Value.Rows.lean ====
/-
  One tile of a row projection of the convolution layers read at a position: the normalized rows times a matrix.
-/
module

public import proofs.«01_k».proof.Proof.Value.Layer

@[expose] public section

set_option maxRecDepth 16384

noncomputable section

namespace Cert.KernelIdeal.Value

open Cert.KernelIdeal Cert.KernelIdeal.Gen
open Idealize.ShloMosaic
open Cert.Spec

/-- The normalized rows projected by matrix `l` of `w`. -/
def normRows (l : Fin 2) (x : Vec Ideal S8192x1024 .f32) (g b : Vec Ideal S2x1024 .f32) (w : Vec Ideal S2x1024x1024 .f32) :
    Vec Ideal S8192x1024 .f32 := fun i =>
  lin (fun k j => w (ix3 l k j)) (ln (fun k => g (ix2 l k)) (fun k => b (ix2 l k)) fun k => x (ix2 (i 0) k)) (i 1)

/-- The offsets of a whole block of two axes are zero. -/
theorem zeros2 : (![0, 0] : Fin 2 → Nat) = fun _ => 0 := by
  funext a; fin_cases a <;> rfl

/-- A load of a whole tile of rows. -/
theorem ld_rows (x : Vec Ideal S256x1024 .f32) (inb) : View.ld (S := S256x1024) (Val := Elt Ideal) (e' := .f32) x (Rect.unit ![0, 0] ![256, 1024] inb) = x :=
  View.ld_unit_zero zeros2 inb x

theorem k4_norm_at (x : Vec Ideal S256x1024 .f32) (g b : Vec Ideal S1x1024 .f32) (r : Fin 256) (k : Fin 1024) :
    k4_pay1 x g b (ix2 r k) = ln (vec g) (vec b) (fun k => x (ix2 r k)) k := by
  unfold k4_pay1
  pointwise
  rfl

theorem k4_rows_at (x : Vec Ideal S256x1024 .f32) (g b : Vec Ideal S1x1024 .f32) (w : Vec Ideal S1x1024x1024 .f32) (r : Fin 256) (j : Fin 1024) :
    k4_pay2 x g b w (ix2 r j) = lin (mat w) (ln (vec g) (vec b) fun k => x (ix2 r k)) j := by
  unfold k4_pay2
  pointwise [k4_norm_at]
  rfl

/-- One tile is the array's rows there, when each of its blocks reads the arrays. -/
theorem tile_rows (l : Fin 2) (x : Vec Ideal S8192x1024 .f32) (g b : Vec Ideal S2x1024 .f32) (w : Vec Ideal S2x1024x1024 .f32)
    (x' : Vec Ideal S256x1024 .f32) (g' b' : Vec Ideal S2x1024 .f32) (w' : Vec Ideal S1x1024x1024 .f32) (p : Fin 8192) (r : Fin 256)
    (hx : ∀ k, x' (ix2 r k) = x (ix2 p k)) (hg : g' = g) (hb : b' = b) (hw : ∀ k j, w' (ix3 0 k j) = w (ix3 l k j)) (j : Fin 1024) :
    k4_pay2 x' (rowOf l g') (rowOf l b') w' (ix2 r j) = normRows l x g b w (ix2 p j) := by
  subst hg hb
  have h1 : mat w' = fun k j => w (ix3 l k j) := funext fun k => funext fun j => hw k j
  rw [k4_rows_at, vec_rowOf, vec_rowOf, h1, funext hx]
  rfl

end Cert.KernelIdeal.Value

end
-- ==== Proof.Value.Conv.lean ====
/-
  The two output blocks of a strided convolution after its last point: the sum over the window and the channels.
-/
module

public import proofs.«01_k».proof.Proof.Whole.ConvStep
public import Idealize.ShloMosaic.Lib.Pointwise

@[expose] public section

set_option maxRecDepth 16384

noncomputable section

namespace Cert.KernelIdeal.Value

open Cert.KernelIdeal Cert.KernelIdeal.Gen Cert.KernelIdeal.Whole
open Idealize.ShloMosaic Idealize.ShloMosaic.TcCoe
open Idealize.SL.Sem

/-- The strided convolution with kernel `l` of `w`: the sum over the sixteen rows of a window and their channels. -/
def conv1 (l : Fin 2) (w : Vec Ideal S2x1024x16x1024 .f32) (y : Vec Ideal S2x256x16x1024 .f32) : Vec Ideal S2x256x1024 .f32 := fun i =>
  ∑ s : Fin 16, ∑ k : Fin 1024, y (ix4 (i 0) (i 1) s k) * w (ix4 l (i 2) s k)

/-- One row's share of a window. -/
def tap (w : Vec Ideal S1x1024x1x1024 .f32) (x : Vec Ideal S1x1x256x1x1024 .f32) (t : Fin 256) (j : Fin 1024) : EReal :=
  ∑ k : Fin 1024, x (ix5 0 0 t 0 k) * w (ix4 0 j 0 k)

theorem ld_half (bb : Fin 2) (inb : ∀ a, (![bb.val, 0, 0] : Fin 3 → ℕ) a + S1x256x1024.size a ≤ S2x256x1024.size a) (o : Vec Ideal S2x256x1024 .f32)
    (t : Fin 256) (j : Fin 1024) : View.ld o (halfRect bb.val inb) (ix3 0 t j) = o (ix3 bb t j) := by
  refine congrArg o (funext fun a => Fin.ext ?_)
  fin_cases a
  · show bb.val + 1 * 0 = bb.val; omega
  · show 0 + 1 * t.val = t.val; omega
  · show 0 + 1 * j.val = j.val; omega

theorem stack2_zero (a b : Vec Ideal S1x256x1024 .f32) (t : Fin 256) (j : Fin 1024) : stack2 a b (ix3 0 t j) = a (ix3 0 t j) := if_pos rfl
theorem stack2_one (a b : Vec Ideal S1x256x1024 .f32) (t : Fin 256) (j : Fin 1024) : stack2 a b (ix3 1 t j) = b (ix3 0 t j) := if_neg Nat.one_ne_zero

theorem pay11_at (w : Vec Ideal S1x1024x1x1024 .f32) (x : Vec Ideal S1x1x256x1x1024 .f32) (t : Fin 256) (j : Fin 1024) :
    k5_pay11 w x (ix3 0 t j) = tap w x t j := by
  unfold k5_pay11 k5_pay9 k5_pay7
  pointwise
  rfl
theorem pay3_at (w : Vec Ideal S1x1024x1x1024 .f32) (x : Vec Ideal S1x1x256x1x1024 .f32) (t : Fin 256) (j : Fin 1024) :
    k5_pay3 (k5_pay7 w) (k5_pay15 x) (ix3 0 t j) = tap w x t j := by
  unfold k5_pay3 k5_pay1 k5_pay7 k5_pay15
  pointwise
  rfl
theorem pay13_at (w : Vec Ideal S1x1024x1x1024 .f32) (x : Vec Ideal S1x1x256x1x1024 .f32) (o : Vec Ideal S1x256x1024 .f32) (t : Fin 256) (j : Fin 1024) :
    k5_pay13 w x o (ix3 0 t j) = o (ix3 0 t j) + tap w x t j := by
  unfold k5_pay13 k5_pay9 k5_pay7
  pointwise
  rfl
theorem pay5_at (w : Vec Ideal S1x1024x1x1024 .f32) (x : Vec Ideal S1x1x256x1x1024 .f32) (o : Vec Ideal S1x256x1024 .f32) (t : Fin 256) (j : Fin 1024) :
    k5_pay5 (k5_pay7 w) (k5_pay15 x) o (ix3 0 t j) = o (ix3 0 t j) + tap w x t j := by
  unfold k5_pay5 k5_pay1 k5_pay7 k5_pay15
  pointwise
  rfl

/-- The values' blocks are computed as the keys' are. -/
theorem vStart_eq (w : Vec Ideal S1x1024x1x1024 .f32) (x0 x1 : Vec Ideal S1x1x256x1x1024 .f32) : vStart w x0 x1 = kStart w x0 x1 := rfl
theorem vMore_eq (w : Vec Ideal S1x1024x1x1024 .f32) (x0 x1 : Vec Ideal S1x1x256x1x1024 .f32) (o : Vec Ideal S2x256x1024 .f32) :
    vMore w x0 x1 o = kMore w x0 x1 o := rfl

theorem kStart_at (w : Vec Ideal S1x1024x1x1024 .f32) (x : Fin 2 → Vec Ideal S1x1x256x1x1024 .f32) (b : Fin 2) (t : Fin 256) (j : Fin 1024) :
    kStart w (x 0) (x 1) (ix3 b t j) = tap w (x b) t j := by
  unfold kStart
  fin_cases b
  · exact (stack2_zero _ _ t j).trans (pay11_at w (x 0) t j)
  · exact (stack2_one _ _ t j).trans (pay3_at w (x 1) t j)

theorem kMore_at (w : Vec Ideal S1x1024x1x1024 .f32) (x : Fin 2 → Vec Ideal S1x1x256x1x1024 .f32) (o : Vec Ideal S2x256x1024 .f32) (b : Fin 2)
    (t : Fin 256) (j : Fin 1024) : kMore w (x 0) (x 1) o (ix3 b t j) = o (ix3 b t j) + tap w (x b) t j := by
  unfold kMore
  fin_cases b
  · exact (stack2_zero _ _ t j).trans ((pay13_at w (x 0) _ t j).trans (congrArg (· + _) (ld_half 0 _ o t j)))
  · exact (stack2_one _ _ t j).trans ((pay5_at w (x 1) _ t j).trans (congrArg (· + _) (ld_half 1 _ o t j)))

section Sum
variable (c : Dev nD) (li : Fin 2) (N1 N2 : Memref sig .tc .hbm S2x1024x16x1024 .f32) (N3 N4 : Memref sig .tc .hbm S2x256x16x1024 .f32)
  (W1 : HbBuf (F := Ideal) c N1) (W2 : HbBuf (F := Ideal) c N2) (W3 : HbBuf (F := Ideal) c N3) (W4 : HbBuf (F := Ideal) c N4)

theorem tap_blk (N : Memref sig .tc .hbm S2x1024x16x1024 .f32) (W : HbBuf (F := Ideal) c N) (N' : Memref sig .tc .hbm S2x256x16x1024 .f32)
    (W' : HbBuf (F := Ideal) c N') (s : Fin 16) (b : Fin 2) (t : Fin 256) (j : Fin 1024) :
    tap (wBlk c li N W s) (xBlk c N' W' s b) t j =
      ∑ k : Fin 1024, N'.view.read (Elt Ideal) W' (ix4 b t s k) * N.view.read (Elt Ideal) W (ix4 li j s k) := by
  unfold tap
  refine Finset.sum_congr rfl fun k _ => congrArg (_ * ·) ?_
  refine congrArg (N.view.read (Elt Ideal) W) (funext fun a => Fin.ext ?_)
  fin_cases a
  · show li.val + 1 * 0 = li.val; omega
  · show 0 + 1 * j.val = j.val; omega
  · show 1 * s.val + 1 * 0 = s.val; omega
  · show 0 + 1 * k.val = k.val; omega

theorem outAcc_at (n : ℕ) (b : Fin 2) (t : Fin 256) (j : Fin 1024) :
    (outAcc c li N1 N2 N3 N4 W1 W2 W3 W4 n).1 (ix3 b t j) = ∑ s ∈ Finset.range (n + 1), tap (wBlk c li N1 W1 (Ring.bk 16 s)) (xBlk c N3 W3 (Ring.bk 16 s) b) t j ∧
    (outAcc c li N1 N2 N3 N4 W1 W2 W3 W4 n).2 (ix3 b t j) = ∑ s ∈ Finset.range (n + 1), tap (wBlk c li N2 W2 (Ring.bk 16 s)) (xBlk c N4 W4 (Ring.bk 16 s) b) t j := by
  induction n with
  | zero =>
    rw [Finset.sum_range_one, Finset.sum_range_one]
    exact ⟨kStart_at _ (xBlk c N3 W3 (Ring.bk 16 0)) b t j, kStart_at _ (xBlk c N4 W4 (Ring.bk 16 0)) b t j⟩
  | succ n ih =>
    rw [Finset.sum_range_succ, Finset.sum_range_succ _ (n + 1), ← ih.1, ← ih.2]
    exact ⟨kMore_at _ (xBlk c N3 W3 (Ring.bk 16 (n + 1))) _ b t j, kMore_at _ (xBlk c N4 W4 (Ring.bk 16 (n + 1))) _ b t j⟩

theorem sum_taps (N : Memref sig .tc .hbm S2x1024x16x1024 .f32) (W : HbBuf (F := Ideal) c N) (N' : Memref sig .tc .hbm S2x256x16x1024 .f32)
    (W' : HbBuf (F := Ideal) c N') (b : Fin 2) (t : Fin 256) (j : Fin 1024) :
    ∑ s ∈ Finset.range (15 + 1), tap (wBlk c li N W (Ring.bk 16 s)) (xBlk c N' W' (Ring.bk 16 s) b) t j =
      conv1 li (N.view.read (Elt Ideal) W) (N'.view.read (Elt Ideal) W') (ix3 b t j) := by
  rw [Finset.sum_range]
  refine Finset.sum_congr rfl fun s _ => ?_
  have hs : Ring.bk 16 s.val = s := Fin.ext (Nat.mod_eq_of_lt s.isLt)
  rw [hs]
  exact tap_blk c li N W N' W' s b t j

/-- The keys' block after the last point. -/
theorem outAcc_keys : (outAcc c li N1 N2 N3 N4 W1 W2 W3 W4 15).1 = conv1 li (N1.view.read (Elt Ideal) W1) (N3.view.read (Elt Ideal) W3) := by
  funext i
  idx_vars i
  exact (outAcc_at c li N1 N2 N3 N4 W1 W2 W3 W4 15 i0 i1 i2).1.trans (sum_taps c li N1 W1 N3 W3 i0 i1 i2)

/-- The values' block after the last point. -/
theorem outAcc_vals : (outAcc c li N1 N2 N3 N4 W1 W2 W3 W4 15).2 = conv1 li (N2.view.read (Elt Ideal) W2) (N4.view.read (Elt Ideal) W4) := by
  funext i
  idx_vars i
  exact (outAcc_at c li N1 N2 N3 N4 W1 W2 W3 W4 15 i0 i1 i2).2.trans (sum_taps c li N2 W2 N4 W4 i0 i1 i2)

end Sum

end Cert.KernelIdeal.Value

end
-- ==== Proof.Value.Match.lean ====
/-
  The kernel's layers are the reference's: a layer after its keys and values, the keys and values projected along the sequence,
  and the keys and values convolved along it.
-/
module

public import proofs.«01_k».proof.Proof.Value.RefLayer
public import proofs.«01_k».proof.Proof.Value.Layer
public import proofs.«01_k».proof.Proof.Value.Proj
public import proofs.«01_k».proof.Proof.Value.Rows
public import proofs.«01_k».proof.Proof.Value.Conv

@[expose] public section

set_option maxRecDepth 16384

noncomputable section

namespace Cert.Ref

open Cert.ReferenceIdeal Cert.ReferenceIdeal.Gen
open Cert.KernelIdeal.Value (layer proj conv1 normRows)
open Idealize.ShloMosaic
open Cert.Spec

/-- A layer after its keys and values, in the kernel and in the reference. -/
theorem layer_eq (l : Fin 2) (x : FVec Ideal S2x4096x1024 .f32) (g b : FVec Ideal S2x1024 .f32) (wq : FVec Ideal S2x1024x1024 .f32)
    (K V : FVec Ideal S2x256x1024 .f32) (wo : FVec Ideal S2x1024x1024 .f32) (bo g2 b2 : FVec Ideal S2x1024 .f32)
    (w1 : FVec Ideal S2x1024x4096 .f32) (b1 : FVec Ideal S2x4096 .f32) (w2 : FVec Ideal S2x4096x1024 .f32) (bb : FVec Ideal S2x1024 .f32) :
    layer l x g b wq K V wo bo g2 b2 w1 b1 w2 bb = tailR l x g b wq K V wo bo g2 b2 w1 b1 w2 bb := by
  funext i
  idx_vars i
  unfold tailR
  simp only [outR_at, midR_at, vecOf_at, matOf_at, upOf_at, upBiasOf_at, downOf_at]
  rfl

/-- The keys or the values projected along the sequence, in the kernel and in the reference. -/
theorem proj_eq (l : Fin 2) (x : FVec Ideal S2x4096x1024 .f32) (g b : FVec Ideal S2x1024 .f32) (w : FVec Ideal S2x1024x1024 .f32)
    (p : FVec Ideal S2x4096x256 .f32) : proj l x g b w p = seqKV l x g b w p := by
  funext i
  idx_vars i
  unfold seqKV
  simp only [seqR_at, linR_at, lnR_at, vecOf_at, matOf_at, seqOf_at]
  rfl

/-- The kernel's convolution kernel read at a position: the last two axes of the reference's are exchanged. -/
theorem swap_at (p : FVec Ideal S2x1024x1024x16 .f32)
    (h : S2x1024x1024x16.Transposes [0, 1, 3, 2] Cert.KernelIdeal.S2x1024x16x1024) (l : Fin 2) (o : Fin 1024) (s : Fin 16) (k : Fin 1024) :
    transpose Cert.KernelIdeal.S2x1024x16x1024 [0, 1, 3, 2] p h (ix4 l o s k) = p (ix4 l o k s) := by
  pointwise

/-- The kernel's normed and multiplied rows, cut into windows of sixteen rows. -/
theorem windows_at (l : Fin 2) (x : FVec Ideal S2x4096x1024 .f32) (g b : FVec Ideal S2x1024 .f32) (w : FVec Ideal S2x1024x1024 .f32)
    (h₁ : S2x4096x1024.ShapeCasts Cert.KernelIdeal.S8192x1024) (h₂ : Cert.KernelIdeal.S8192x1024.ShapeCasts S2x256x16x1024)
    (n : Fin 2) (t : Fin 256) (s : Fin 16) (k : Fin 1024) :
    (shapeCast S2x256x16x1024 (normRows l (shapeCast Cert.KernelIdeal.S8192x1024 x h₁) g b w : FVec Ideal Cert.KernelIdeal.S8192x1024 .f32) h₂) (ix4 n t s k)
      = lin (fun k j => w (ix3 l k j)) (ln (fun k => g (ix2 l k)) (fun k => b (ix2 l k))
          fun k => x (ix3 n (⟨t.val * 16 + s.val, by omega⟩ : Fin 4096) k)) k := by
  unfold normRows
  pointwise
  refine congrArg (fun r => lin (fun k j => w (ix3 l k j)) (ln (fun k => g (ix2 l k)) (fun k => b (ix2 l k)) r) k) (funext fun k => ?_)
  exact congrArg₂ (fun a b => x (ix3 a b k)) (Fin.ext (by simp only []; omega)) (Fin.ext (by simp only []; omega))

/-- The keys or the values convolved along the sequence, in the kernel and in the reference. -/
theorem conv_eq (l : Fin 2) (x : FVec Ideal S2x4096x1024 .f32) (g b : FVec Ideal S2x1024 .f32) (w : FVec Ideal S2x1024x1024 .f32)
    (p : FVec Ideal S2x1024x1024x16 .f32)
    (h : S2x1024x1024x16.Transposes [0, 1, 3, 2] Cert.KernelIdeal.S2x1024x16x1024)
    (h₁ : S2x4096x1024.ShapeCasts Cert.KernelIdeal.S8192x1024) (h₂ : Cert.KernelIdeal.S8192x1024.ShapeCasts S2x256x16x1024) :
    conv1 l (transpose Cert.KernelIdeal.S2x1024x16x1024 [0, 1, 3, 2] p h)
        (shapeCast S2x256x16x1024 (normRows l (shapeCast Cert.KernelIdeal.S8192x1024 x h₁) g b w : FVec Ideal Cert.KernelIdeal.S8192x1024 .f32) h₂)
      = convKV l x g b w p := by
  funext i
  idx_vars i
  unfold convKV conv1
  simp only [convR_at, linR_at, lnR_at, vecOf_at, matOf_at, kerOf_at]
  rw [Finset.sum_comm]
  refine Finset.sum_congr rfl fun k _ => Finset.sum_congr rfl fun s _ => ?_
  exact congrArg₂ (· * ·) (windows_at l x g b w h₁ h₂ _ _ s k) (swap_at p h l _ s k)

end Cert.Ref

end
-- ==== Proof.Value.Row.lean ====
/-
  A load of one row of a table of two rows.
-/
module

public import proofs.«01_k».proof.Proof.Whole.LnKv
public import Idealize.ShloMosaic.Lib.Pointwise

@[expose] public section

noncomputable section

namespace Cert.KernelIdeal.Value

open Cert.KernelIdeal Cert.KernelIdeal.Gen Cert.KernelIdeal.Whole
open Idealize.ShloMosaic

theorem ld_row (li : Fin 2) (inb : ∀ a, (![li.val, 0] : Fin S2x1024.rank → ℕ) a + S1x1024.size a ≤ S2x1024.size a) (x : Vec Ideal S2x1024 .f32)
    (k : Fin 1024) : View.ld x (rowRect li.val inb) (ix2 0 k) = x (ix2 li k) := by
  refine congrArg x (funext fun a => Fin.ext ?_)
  fin_cases a
  · show li.val + 1 * 0 = li.val; omega
  · show 0 + 1 * k.val = k.val; omega

end Cert.KernelIdeal.Value

end
-- ==== Proof.Value.Array0.lean ====
/-
  What region 0 leaves in its two output arrays: the keys and the values of layer 0.
-/
module

public import proofs.«01_k».proof.Proof.Whole.K0
public import proofs.«01_k».proof.Proof.Value.Proj
public import proofs.«01_k».proof.Proof.Value.Row
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.KernelIdeal.Whole.K0
open Idealize.ShloMosaic Idealize.ShloMosaic.TcCoe
open Idealize.SL Idealize.SL.RA Idealize.SL.Sem
open Idealize.ShloMosaic.Pipeline (Dat)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- Where each window's block lies at a grid point: batch `t / 8`, tile `t % 8`. -/
theorem place0 : ∀ t : Fin cfg0.N, win0_0.index t = ![t.val / 8, t.val % 8, 0] ∧ win0_1.index t = ![0, 0] ∧ win0_2.index t = ![0, 0] ∧
    win0_3.index t = ![0, 0, 0] ∧ win0_4.index t = ![0, 0, 0] ∧ win0_5.index t = ![0, t.val % 8, 0] ∧ win0_6.index t = ![0, t.val % 8, 0] ∧
    win0_7.index t = ![t.val / 8, 0, 0] ∧ win0_8.index t = ![t.val / 8, 0, 0] :=
  (by decide +kernel : ∀ t : Fin grid0.N, _)

/-- The keys' block at a batch's last tile: the eight tiles' shares. -/
theorem acc0_keys (c : Dev nD) (t : Fin cfg0.N) (h : t.val % 8 = 7) (i : Fin 256 × Fin 1024) :
    (acc V c t.val t.isLt).1 (ix3 0 i.1 i.2) = ∑ s : Fin 8, share (iblk V c 0 ⟨8 * (t.val / 8) + s.val, Pipeline.run_point_lt_of_flush t h s⟩)
      (View.ld (iblk V c 1 ⟨8 * (t.val / 8) + s.val, Pipeline.run_point_lt_of_flush t h s⟩) K0.row) (View.ld (iblk V c 2 ⟨8 * (t.val / 8) + s.val, Pipeline.run_point_lt_of_flush t h s⟩) K0.row)
      (iblk V c 3 ⟨8 * (t.val / 8) + s.val, Pipeline.run_point_lt_of_flush t h s⟩) (iblk V c 5 ⟨8 * (t.val / 8) + s.val, Pipeline.run_point_lt_of_flush t h s⟩) i.1 i.2 := by
  have := Pipeline.eq_sum_fin_of_reset_step_apply_of_flush (fun n h (i : Fin 256 × Fin 1024) => (acc V c n h).1 (ix3 0 i.1 i.2)) 8 (fun _ => 0)
    (fun t i => share (iblk V c 0 t) (View.ld (iblk V c 1 t) K0.row) (View.ld (iblk V c 2 t) K0.row) (iblk V c 3 t) (iblk V c 5 t) i.1 i.2)
    (fun t h i => by
      rw [acc_first V c t h]
      exact (kFirst_at _ _ _ _ _ _ _).trans (zero_add _).symm)
    (fun t h i => by
      rw [acc_next V c t h]
      exact kNext_at _ _ _ _ _ _ _ _) t h i
  rwa [zero_add] at this

/-- The values' block at a batch's last tile. -/
theorem acc0_vals (c : Dev nD) (t : Fin cfg0.N) (h : t.val % 8 = 7) (i : Fin 256 × Fin 1024) :
    (acc V c t.val t.isLt).2 (ix3 0 i.1 i.2) = ∑ s : Fin 8, share (iblk V c 0 ⟨8 * (t.val / 8) + s.val, Pipeline.run_point_lt_of_flush t h s⟩)
      (View.ld (iblk V c 1 ⟨8 * (t.val / 8) + s.val, Pipeline.run_point_lt_of_flush t h s⟩) K0.row) (View.ld (iblk V c 2 ⟨8 * (t.val / 8) + s.val, Pipeline.run_point_lt_of_flush t h s⟩) K0.row)
      (iblk V c 4 ⟨8 * (t.val / 8) + s.val, Pipeline.run_point_lt_of_flush t h s⟩) (iblk V c 6 ⟨8 * (t.val / 8) + s.val, Pipeline.run_point_lt_of_flush t h s⟩) i.1 i.2 := by
  have := Pipeline.eq_sum_fin_of_reset_step_apply_of_flush (fun n h (i : Fin 256 × Fin 1024) => (acc V c n h).2 (ix3 0 i.1 i.2)) 8 (fun _ => 0)
    (fun t i => share (iblk V c 0 t) (View.ld (iblk V c 1 t) K0.row) (View.ld (iblk V c 2 t) K0.row) (iblk V c 4 t) (iblk V c 6 t) i.1 i.2)
    (fun t h i => by
      rw [acc_first V c t h]
      exact (vFirst_at _ _ _ _ _ _ _).trans (zero_add _).symm)
    (fun t h i => by
      rw [acc_next V c t h]
      exact vNext_at _ _ _ _ _ _ _ _) t h i
  rwa [zero_add] at this

set_option maxHeartbeats 4000000 in
theorem array0_keys (c : Dev nD) : (dat (Ix := Ix) (U := U) (Lvl := Lvl) V D c).arrAt 7 cfg0.N =
    proj 0 (V c main_arg0) (V c main_arg1) (V c main_arg2) (V c main_arg4) (V c main_arg6) := by
  refine (dat (Ix := Ix) (U := U) (Lvl := Lvl) V D c).arrAt_eq_of_covers 7 _ (by decide +kernel) fun t hf y => ?_
  have h := (flush0_7 t).mp hf
  have ht : t.val < 16 := N_0 ▸ t.isLt
  blk_simp
  idx_vars y
  obtain rfl : y0 = 0 := Subsingleton.elim _ _
  obtain ⟨-, -, -, -, -, -, -, i7, -⟩ := place0 t
  have hy : ((cfg0.win 7).blk t).view.emb (ix3 0 y1 y2) = ix3 (⟨t.val / 8, by omega⟩ : Fin 2) y1 y2 := by
    blk_ext [i7]
  rw [hy]
  refine (acc0_keys V c t h (y1, y2)).trans ?_
  refine sum_share 0 (V c main_arg0) (V c main_arg1) (V c main_arg2) (V c main_arg4) (V c main_arg6) ⟨t.val / 8, by omega⟩ _ _ _ _ _ ?_ ?_ ?_ ?_ ?_ y1 y2
  all_goals
    intro s
    have hs := s.isLt
    have q1 : (8 * (t.val / 8) + s.val) / 8 = t.val / 8 := by omega
    have q2 : (8 * (t.val / 8) + s.val) % 8 = s.val := by omega
    obtain ⟨i0, i1, i2, i3, i4, i5, i6, -, -⟩ := place0 ⟨8 * (t.val / 8) + s.val, Pipeline.run_point_lt_of_flush t h s⟩
    simp only [q1, q2] at i0 i5 i6
  · intro r k; blk_ext [iblk, i0]
  · intro k; refine (ld_row 0 _ _ _).trans ?_; blk_ext [iblk, i1]
  · intro k; refine (ld_row 0 _ _ _).trans ?_; blk_ext [iblk, i2]
  · intro r k; blk_ext [iblk, i3]
  · intro r k; blk_ext [iblk, i5]

set_option maxHeartbeats 4000000 in
theorem array0_vals (c : Dev nD) : (dat (Ix := Ix) (U := U) (Lvl := Lvl) V D c).arrAt 8 cfg0.N =
    proj 0 (V c main_arg0) (V c main_arg1) (V c main_arg2) (V c main_arg5) (V c main_arg7) := by
  refine (dat (Ix := Ix) (U := U) (Lvl := Lvl) V D c).arrAt_eq_of_covers 8 _ (by decide +kernel) fun t hf y => ?_
  have h := (flush0_8 t).mp hf
  have ht : t.val < 16 := N_0 ▸ t.isLt
  blk_simp
  idx_vars y
  obtain rfl : y0 = 0 := Subsingleton.elim _ _
  obtain ⟨-, -, -, -, -, -, -, -, i8⟩ := place0 t
  have hy : ((cfg0.win 8).blk t).view.emb (ix3 0 y1 y2) = ix3 (⟨t.val / 8, by omega⟩ : Fin 2) y1 y2 := by
    blk_ext [i8]
  rw [hy]
  refine (acc0_vals V c t h (y1, y2)).trans ?_
  refine sum_share 0 (V c main_arg0) (V c main_arg1) (V c main_arg2) (V c main_arg5) (V c main_arg7) ⟨t.val / 8, by omega⟩ _ _ _ _ _ ?_ ?_ ?_ ?_ ?_ y1 y2
  all_goals
    intro s
    have hs := s.isLt
    have q1 : (8 * (t.val / 8) + s.val) / 8 = t.val / 8 := by omega
    have q2 : (8 * (t.val / 8) + s.val) % 8 = s.val := by omega
    obtain ⟨i0, i1, i2, i3, i4, i5, i6, -, -⟩ := place0 ⟨8 * (t.val / 8) + s.val, Pipeline.run_point_lt_of_flush t h s⟩
    simp only [q1, q2] at i0 i5 i6
  · intro r k; blk_ext [iblk, i0]
  · intro k; refine (ld_row 0 _ _ _).trans ?_; blk_ext [iblk, i1]
  · intro k; refine (ld_row 0 _ _ _).trans ?_; blk_ext [iblk, i2]
  · intro r k; blk_ext [iblk, i4]
  · intro r k; blk_ext [iblk, i6]

end Cert.KernelIdeal.Value

end
-- ==== Proof.Value.Tile1.lean ====
/-
  What region 1 leaves in its output tile at a grid point: the tile function of the input blocks there.
-/
module

public import proofs.«01_k».proof.Proof.Gen.Own.KernelIdeal.K1.Frame
public import proofs.«01_k».proof.Proof.Value.Tile
public import Idealize.ShloMosaic.Lib.Pipeline.Value

@[expose] public section

noncomputable section

namespace Cert.KernelIdeal.Value

open Cert.KernelIdeal Cert.KernelIdeal.Gen Cert.KernelIdeal.Own.K1
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]
variable (𝒱₀ : Variants) (V : (c : Dev nD) → (b : Ref sig .tc) → Buf (Elt F) ((c : Thread nD τ).loc b))

/-- The tile of the region at a grid point. -/
theorem tile1 (c : Dev nD) (t : Fin cfg1.N) : outsAt1 (F := F) (Ix := Ix) (U := U) (Lvl := Lvl) 𝒱₀ V c t =
    tailT (midT (iblk V c 0 t) (rowOf 0 (iblk V c 1 t)) (rowOf 0 (iblk V c 2 t)) (iblk V c 3 t) (iblk V c 4 t) (iblk V c 5 t)
        (iblk V c 6 t) (rowOf 0 (iblk V c 7 t)))
      (rowOf 0 (iblk V c 8 t)) (rowOf 0 (iblk V c 9 t)) (rowOf 0 (iblk V c 13 t))
      (colsOf (iblk V c 10 t)) (biasOf 0 (iblk V c 11 t)) (rowsOf (iblk V c 12 t)) := by
  unfold outsAt1 out1_A_14
  rw [View.read_writes_eq_canon _ _ _ (cover1_A_14 _ _ _ _ _ _ _ _ _ _ _ _ _ _ _ _ _ _ _ _ _ _ _ _ _ _ _ _ _ _ _ _ _ _ _ _ _ _ _ _ _ _ _ _ _ _ _)]
  unfold kernelRun1_A
  dsimp only
  sl_unfold_words
  simp only [View.readAt_eq_ld, (hs1_0 t).read_unread, (hs1_1 t).read_unread, (hs1_2 t).read_unread, (hs1_3 t).read_unread, (hs1_4 t).read_unread, (hs1_5 t).read_unread, (hs1_6 t).read_unread, (hs1_7 t).read_unread, (hs1_8 t).read_unread, (hs1_9 t).read_unread, (hs1_10 t).read_unread, (hs1_11 t).read_unread, (hs1_12 t).read_unread, (hs1_13 t).read_unread]
  rw [View.canon_cons_unit_zero zeros3]
  simp only [readCov_tile, ld_tile, ld_square]
  rfl

end Cert.KernelIdeal.Value

end
-- ==== Proof.Value.Array1.lean ====
/-
  What region 1 leaves in its output array: layer 0 of the arrays it read.
-/
module

public import proofs.«01_k».proof.Proof.Value.Tile1
public import proofs.«01_k».proof.Proof.Value.Layer
public import Idealize.ShloMosaic.Lib.Pipeline.ValueKit

@[expose] public section

set_option maxRecDepth 16384

noncomputable section

namespace Cert.KernelIdeal.Value

open Cert.KernelIdeal Cert.KernelIdeal.Gen Cert.KernelIdeal.Own.K1
open Idealize.ShloMosaic Idealize.ShloMosaic.TcCoe
open Idealize.SL Idealize.SL.RA Idealize.SL.Sem
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- Where each window's block lies at a grid point: batch `t / 16`, tile `t % 16`. -/
theorem place1 : ∀ t : Fin cfg1.N, win1_0.index t = ![t.val / 16, t.val % 16, 0] ∧ win1_1.index t = ![0, 0] ∧ win1_2.index t = ![0, 0] ∧
    win1_3.index t = ![0, 0, 0] ∧ win1_4.index t = ![t.val / 16, 0, 0] ∧ win1_5.index t = ![t.val / 16, 0, 0] ∧
    win1_6.index t = ![0, 0, 0] ∧ win1_7.index t = ![0, 0] ∧ win1_8.index t = ![0, 0] ∧ win1_9.index t = ![0, 0] ∧
    win1_10.index t = ![0, 0, 0] ∧ win1_11.index t = ![0, 0] ∧ win1_12.index t = ![0, 0, 0] ∧ win1_13.index t = ![0, 0] ∧
    win1_14.index t = ![t.val / 16, t.val % 16, 0] :=
  (by decide +kernel : ∀ t : Fin grid1.N, _)

set_option maxHeartbeats 4000000 in
theorem array1 (c : Dev nD) : (dat (Ix := Ix) (U := U) (Lvl := Lvl) 𝒱₀ V D c).arrAt 14 cfg1.N =
    layer 0 (V c main_arg0) (V c main_arg1) (V c main_arg2) (V c main_arg3) (V c main_v1_0) (V c main_v1_1) (V c main_arg8) (V c main_arg9) (V c main_arg10) (V c main_arg11) (V c main_arg12) (V c main_arg13)
      (V c main_arg14) (V c main_arg15) := by
  refine (dat (Ix := Ix) (U := U) (Lvl := Lvl) 𝒱₀ V D c).arrAt_eq_of_covers 14 _ (by decide +kernel) fun t _ y => ?_
  blk_simp
  rw [after1_14, tile1]
  have ht : t.val < 32 := N_1 ▸ t.isLt
  obtain ⟨i0, i1, i2, i3, i4, i5, i6, i7, i8, i9, i10, i11, i12, i13, i14⟩ := place1 t
  idx_vars y
  obtain rfl : y0 = 0 := Subsingleton.elim _ _
  have hy : ((cfg1.win 14).blk t).view.emb (ix3 0 y1 y2) = ix3 (⟨t.val / 16, by omega⟩ : Fin 2) (⟨t.val % 16 * 256 + y1.val, by omega⟩ : Fin 4096) y2 := by
    blk_ext [i14]
  rw [hy]
  refine tile_layer 0 (V c main_arg0) (V c main_arg1) (V c main_arg2) (V c main_arg3) (V c main_v1_0) (V c main_v1_1) (V c main_arg8) (V c main_arg9) (V c main_arg10) (V c main_arg11) (V c main_arg12)
    (V c main_arg13) (V c main_arg14) (V c main_arg15) _ _ _ _ _ _ _ _ _ _ _ _ _ _ _ _ y1 ?_ ?_ ?_ ?_ ?_ ?_ ?_ ?_ ?_ ?_ ?_ ?_ ?_ ?_ y2
  · intro j; blk_ext [iblk, i0]
  · funext y; blk_ext [iblk, i1]
  · funext y; blk_ext [iblk, i2]
  · intro k j; blk_ext [iblk, i3]
  · intro k j; blk_ext [iblk, i4]
  · intro k j; blk_ext [iblk, i5]
  · intro k j; blk_ext [iblk, i6]
  · funext y; blk_ext [iblk, i7]
  · funext y; blk_ext [iblk, i8]
  · funext y; blk_ext [iblk, i9]
  · intro k j; blk_ext [iblk, i10]
  · funext y; blk_ext [iblk, i11]
  · intro k j; blk_ext [iblk, i12]
  · funext y; blk_ext [iblk, i13]

end Cert.KernelIdeal.Value

end
-- ==== Proof.Value.Array2.lean ====
/-
  What region 2 leaves in its two output arrays: the keys and the values of layer 1.
-/
module

public import proofs.«01_k».proof.Proof.Whole.K2
public import proofs.«01_k».proof.Proof.Value.Proj
public import proofs.«01_k».proof.Proof.Value.Row
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.KernelIdeal.Whole.K2
open Idealize.ShloMosaic Idealize.ShloMosaic.TcCoe
open Idealize.SL Idealize.SL.RA Idealize.SL.Sem
open Idealize.ShloMosaic.Pipeline (Dat)

variable {Ix : Type} [DecidableEq Ix] {U : Type} [URA U] {Lvl : Type} [Preorder Lvl]
variable (V : (c : Dev nD) → (b : Ref sig .tc) → Buf (Elt Ideal) ((c : Thread nD τ).loc b)) (D : Dev nD → CellTallies nD τ sig Ix)

/-- Where each window's block lies at a grid point: batch `t / 8`, tile `t % 8`. -/
theorem place2 : ∀ t : Fin cfg2.N, win2_0.index t = ![t.val / 8, t.val % 8, 0] ∧ win2_1.index t = ![0, 0] ∧ win2_2.index t = ![0, 0] ∧
    win2_3.index t = ![1, 0, 0] ∧ win2_4.index t = ![1, 0, 0] ∧ win2_5.index t = ![1, t.val % 8, 0] ∧ win2_6.index t = ![1, t.val % 8, 0] ∧
    win2_7.index t = ![t.val / 8, 0, 0] ∧ win2_8.index t = ![t.val / 8, 0, 0] :=
  (by decide +kernel : ∀ t : Fin grid2.N, _)

/-- The keys' block at a batch's last tile: the eight tiles' shares. -/
theorem acc2_keys (c : Dev nD) (t : Fin cfg2.N) (h : t.val % 8 = 7) (i : Fin 256 × Fin 1024) :
    (acc V c t.val t.isLt).1 (ix3 0 i.1 i.2) = ∑ s : Fin 8, share (iblk V c 0 ⟨8 * (t.val / 8) + s.val, Pipeline.run_point_lt_of_flush t h s⟩)
      (View.ld (iblk V c 1 ⟨8 * (t.val / 8) + s.val, Pipeline.run_point_lt_of_flush t h s⟩) K2.row) (View.ld (iblk V c 2 ⟨8 * (t.val / 8) + s.val, Pipeline.run_point_lt_of_flush t h s⟩) K2.row)
      (iblk V c 3 ⟨8 * (t.val / 8) + s.val, Pipeline.run_point_lt_of_flush t h s⟩) (iblk V c 5 ⟨8 * (t.val / 8) + s.val, Pipeline.run_point_lt_of_flush t h s⟩) i.1 i.2 := by
  have := Pipeline.eq_sum_fin_of_reset_step_apply_of_flush (fun n h (i : Fin 256 × Fin 1024) => (acc V c n h).1 (ix3 0 i.1 i.2)) 8 (fun _ => 0)
    (fun t i => share (iblk V c 0 t) (View.ld (iblk V c 1 t) K2.row) (View.ld (iblk V c 2 t) K2.row) (iblk V c 3 t) (iblk V c 5 t) i.1 i.2)
    (fun t h i => by
      rw [acc_first V c t h]
      exact (kFirst_at _ _ _ _ _ _ _).trans (zero_add _).symm)
    (fun t h i => by
      rw [acc_next V c t h]
      exact kNext_at _ _ _ _ _ _ _ _) t h i
  rwa [zero_add] at this

/-- The values' block at a batch's last tile. -/
theorem acc2_vals (c : Dev nD) (t : Fin cfg2.N) (h : t.val % 8 = 7) (i : Fin 256 × Fin 1024) :
    (acc V c t.val t.isLt).2 (ix3 0 i.1 i.2) = ∑ s : Fin 8, share (iblk V c 0 ⟨8 * (t.val / 8) + s.val, Pipeline.run_point_lt_of_flush t h s⟩)
      (View.ld (iblk V c 1 ⟨8 * (t.val / 8) + s.val, Pipeline.run_point_lt_of_flush t h s⟩) K2.row) (View.ld (iblk V c 2 ⟨8 * (t.val / 8) + s.val, Pipeline.run_point_lt_of_flush t h s⟩) K2.row)
      (iblk V c 4 ⟨8 * (t.val / 8) + s.val, Pipeline.run_point_lt_of_flush t h s⟩) (iblk V c 6 ⟨8 * (t.val / 8) + s.val, Pipeline.run_point_lt_of_flush t h s⟩) i.1 i.2 := by
  have := Pipeline.eq_sum_fin_of_reset_step_apply_of_flush (fun n h (i : Fin 256 × Fin 1024) => (acc V c n h).2 (ix3 0 i.1 i.2)) 8 (fun _ => 0)
    (fun t i => share (iblk V c 0 t) (View.ld (iblk V c 1 t) K2.row) (View.ld (iblk V c 2 t) K2.row) (iblk V c 4 t) (iblk V c 6 t) i.1 i.2)
    (fun t h i => by
      rw [acc_first V c t h]
      exact (vFirst_at _ _ _ _ _ _ _).trans (zero_add _).symm)
    (fun t h i => by
      rw [acc_next V c t h]
      exact vNext_at _ _ _ _ _ _ _ _) t h i
  rwa [zero_add] at this

set_option maxHeartbeats 4000000 in
theorem array2_keys (c : Dev nD) : (dat (Ix := Ix) (U := U) (Lvl := Lvl) V D c).arrAt 7 cfg2.N =
    proj 1 (V c main_v2) (V c main_arg1) (V c main_arg2) (V c main_arg4) (V c main_arg6) := by
  refine (dat (Ix := Ix) (U := U) (Lvl := Lvl) V D c).arrAt_eq_of_covers 7 _ (by decide +kernel) fun t hf y => ?_
  have h := (flush2_7 t).mp hf
  have ht : t.val < 16 := N_2 ▸ t.isLt
  blk_simp
  idx_vars y
  obtain rfl : y0 = 0 := Subsingleton.elim _ _
  obtain ⟨-, -, -, -, -, -, -, i7, -⟩ := place2 t
  have hy : ((cfg2.win 7).blk t).view.emb (ix3 0 y1 y2) = ix3 (⟨t.val / 8, by omega⟩ : Fin 2) y1 y2 := by
    blk_ext [i7]
  rw [hy]
  refine (acc2_keys V c t h (y1, y2)).trans ?_
  refine sum_share 1 (V c main_v2) (V c main_arg1) (V c main_arg2) (V c main_arg4) (V c main_arg6) ⟨t.val / 8, by omega⟩ _ _ _ _ _ ?_ ?_ ?_ ?_ ?_ y1 y2
  all_goals
    intro s
    have hs := s.isLt
    have q1 : (8 * (t.val / 8) + s.val) / 8 = t.val / 8 := by omega
    have q2 : (8 * (t.val / 8) + s.val) % 8 = s.val := by omega
    obtain ⟨i0, i1, i2, i3, i4, i5, i6, -, -⟩ := place2 ⟨8 * (t.val / 8) + s.val, Pipeline.run_point_lt_of_flush t h s⟩
    simp only [q1, q2] at i0 i5 i6
  · intro r k; blk_ext [iblk, i0]
  · intro k; refine (ld_row 1 _ _ _).trans ?_; blk_ext [iblk, i1]
  · intro k; refine (ld_row 1 _ _ _).trans ?_; blk_ext [iblk, i2]
  · intro r k; blk_ext [iblk, i3]
  · intro r k; blk_ext [iblk, i5]

set_option maxHeartbeats 4000000 in
theorem array2_vals (c : Dev nD) : (dat (Ix := Ix) (U := U) (Lvl := Lvl) V D c).arrAt 8 cfg2.N =
    proj 1 (V c main_v2) (V c main_arg1) (V c main_arg2) (V c main_arg5) (V c main_arg7) := by
  refine (dat (Ix := Ix) (U := U) (Lvl := Lvl) V D c).arrAt_eq_of_covers 8 _ (by decide +kernel) fun t hf y => ?_
  have h := (flush2_8 t).mp hf
  have ht : t.val < 16 := N_2 ▸ t.isLt
  blk_simp
  idx_vars y
  obtain rfl : y0 = 0 := Subsingleton.elim _ _
  obtain ⟨-, -, -, -, -, -, -, -, i8⟩ := place2 t
  have hy : ((cfg2.win 8).blk t).view.emb (ix3 0 y1 y2) = ix3 (⟨t.val / 8, by omega⟩ : Fin 2) y1 y2 := by
    blk_ext [i8]
  rw [hy]
  refine (acc2_vals V c t h (y1, y2)).trans ?_
  refine sum_share 1 (V c main_v2) (V c main_arg1) (V c main_arg2) (V c main_arg5) (V c main_arg7) ⟨t.val / 8, by omega⟩ _ _ _ _ _ ?_ ?_ ?_ ?_ ?_ y1 y2
  all_goals
    intro s
    have hs := s.isLt
    have q1 : (8 * (t.val / 8) + s.val) / 8 = t.val / 8 := by omega
    have q2 : (8 * (t.val / 8) + s.val) % 8 = s.val := by omega
    obtain ⟨i0, i1, i2, i3, i4, i5, i6, -, -⟩ := place2 ⟨8 * (t.val / 8) + s.val, Pipeline.run_point_lt_of_flush t h s⟩
    simp only [q1, q2] at i0 i5 i6
  · intro r k; blk_ext [iblk, i0]
  · intro k; refine (ld_row 1 _ _ _).trans ?_; blk_ext [iblk, i1]
  · intro k; refine (ld_row 1 _ _ _).trans ?_; blk_ext [iblk, i2]
  · intro r k; blk_ext [iblk, i4]
  · intro r k; blk_ext [iblk, i6]

end Cert.KernelIdeal.Value

end
-- ==== Proof.Value.Tile3.lean ====
/-
  What region 3 leaves in its output tile at a grid point: the tile function of the input blocks there.
-/
module

public import proofs.«01_k».proof.Proof.Gen.Own.KernelIdeal.K3.Frame
public import proofs.«01_k».proof.Proof.Value.Tile
public import Idealize.ShloMosaic.Lib.Pipeline.Value

@[expose] public section

noncomputable section

namespace Cert.KernelIdeal.Value

open Cert.KernelIdeal Cert.KernelIdeal.Gen Cert.KernelIdeal.Own.K3
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]
variable (𝒱₀ : Variants) (V : (c : Dev nD) → (b : Ref sig .tc) → Buf (Elt F) ((c : Thread nD τ).loc b))

/-- The tile of the region at a grid point. -/
theorem tile3 (c : Dev nD) (t : Fin cfg3.N) : outsAt3 (F := F) (Ix := Ix) (U := U) (Lvl := Lvl) 𝒱₀ V c t =
    tailT (midT (iblk V c 0 t) (rowOf 1 (iblk V c 1 t)) (rowOf 1 (iblk V c 2 t)) (iblk V c 3 t) (iblk V c 4 t) (iblk V c 5 t)
        (iblk V c 6 t) (rowOf 1 (iblk V c 7 t)))
      (rowOf 1 (iblk V c 8 t)) (rowOf 1 (iblk V c 9 t)) (rowOf 1 (iblk V c 13 t))
      (colsOf (iblk V c 10 t)) (biasOf 1 (iblk V c 11 t)) (rowsOf (iblk V c 12 t)) := by
  unfold outsAt3 out3_A_14
  rw [View.read_writes_eq_canon _ _ _ (cover3_A_14 _ _ _ _ _ _ _ _ _ _ _ _ _ _ _ _ _ _ _ _ _ _ _ _ _ _ _ _ _ _ _ _ _ _ _ _ _ _ _ _ _ _ _ _ _ _ _)]
  unfold kernelRun3_A
  dsimp only
  sl_unfold_words
  simp only [View.readAt_eq_ld, (hs3_0 t).read_unread, (hs3_1 t).read_unread, (hs3_2 t).read_unread, (hs3_3 t).read_unread, (hs3_4 t).read_unread, (hs3_5 t).read_unread, (hs3_6 t).read_unread, (hs3_7 t).read_unread, (hs3_8 t).read_unread, (hs3_9 t).read_unread, (hs3_10 t).read_unread, (hs3_11 t).read_unread, (hs3_12 t).read_unread, (hs3_13 t).read_unread]
  rw [View.canon_cons_unit_zero zeros3]
  simp only [readCov_tile, ld_tile, ld_square]
  rfl

end Cert.KernelIdeal.Value

end
-- ==== Proof.Value.Array3.lean ====
/-
  What region 3 leaves in its output array: layer 1 of the arrays it read.
-/
module

public import proofs.«01_k».proof.Proof.Value.Tile3
public import proofs.«01_k».proof.Proof.Value.Layer
public import Idealize.ShloMosaic.Lib.Pipeline.ValueKit

@[expose] public section

set_option maxRecDepth 16384

noncomputable section

namespace Cert.KernelIdeal.Value

open Cert.KernelIdeal Cert.KernelIdeal.Gen Cert.KernelIdeal.Own.K3
open Idealize.ShloMosaic Idealize.ShloMosaic.TcCoe
open Idealize.SL Idealize.SL.RA Idealize.SL.Sem
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- Where each window's block lies at a grid point: batch `t / 16`, tile `t % 16`. -/
theorem place3 : ∀ t : Fin cfg3.N, win3_0.index t = ![t.val / 16, t.val % 16, 0] ∧ win3_1.index t = ![0, 0] ∧ win3_2.index t = ![0, 0] ∧
    win3_3.index t = ![1, 0, 0] ∧ win3_4.index t = ![t.val / 16, 0, 0] ∧ win3_5.index t = ![t.val / 16, 0, 0] ∧
    win3_6.index t = ![1, 0, 0] ∧ win3_7.index t = ![0, 0] ∧ win3_8.index t = ![0, 0] ∧ win3_9.index t = ![0, 0] ∧
    win3_10.index t = ![1, 0, 0] ∧ win3_11.index t = ![0, 0] ∧ win3_12.index t = ![1, 0, 0] ∧ win3_13.index t = ![0, 0] ∧
    win3_14.index t = ![t.val / 16, t.val % 16, 0] :=
  (by decide +kernel : ∀ t : Fin grid3.N, _)

set_option maxHeartbeats 4000000 in
theorem array3 (c : Dev nD) : (dat (Ix := Ix) (U := U) (Lvl := Lvl) 𝒱₀ V D c).arrAt 14 cfg3.N =
    layer 1 (V c main_v2) (V c main_arg1) (V c main_arg2) (V c main_arg3) (V c main_v3_0) (V c main_v3_1) (V c main_arg8) (V c main_arg9) (V c main_arg10) (V c main_arg11) (V c main_arg12) (V c main_arg13)
      (V c main_arg14) (V c main_arg15) := by
  refine (dat (Ix := Ix) (U := U) (Lvl := Lvl) 𝒱₀ V D c).arrAt_eq_of_covers 14 _ (by decide +kernel) fun t _ y => ?_
  blk_simp
  rw [after3_14, tile3]
  have ht : t.val < 32 := N_3 ▸ t.isLt
  obtain ⟨i0, i1, i2, i3, i4, i5, i6, i7, i8, i9, i10, i11, i12, i13, i14⟩ := place3 t
  idx_vars y
  obtain rfl : y0 = 0 := Subsingleton.elim _ _
  have hy : ((cfg3.win 14).blk t).view.emb (ix3 0 y1 y2) = ix3 (⟨t.val / 16, by omega⟩ : Fin 2) (⟨t.val % 16 * 256 + y1.val, by omega⟩ : Fin 4096) y2 := by
    blk_ext [i14]
  rw [hy]
  refine tile_layer 1 (V c main_v2) (V c main_arg1) (V c main_arg2) (V c main_arg3) (V c main_v3_0) (V c main_v3_1) (V c main_arg8) (V c main_arg9) (V c main_arg10) (V c main_arg11) (V c main_arg12)
    (V c main_arg13) (V c main_arg14) (V c main_arg15) _ _ _ _ _ _ _ _ _ _ _ _ _ _ _ _ y1 ?_ ?_ ?_ ?_ ?_ ?_ ?_ ?_ ?_ ?_ ?_ ?_ ?_ ?_ y2
  · intro j; blk_ext [iblk, i0]
  · funext y; blk_ext [iblk, i1]
  · funext y; blk_ext [iblk, i2]
  · intro k j; blk_ext [iblk, i3]
  · intro k j; blk_ext [iblk, i4]
  · intro k j; blk_ext [iblk, i5]
  · intro k j; blk_ext [iblk, i6]
  · funext y; blk_ext [iblk, i7]
  · funext y; blk_ext [iblk, i8]
  · funext y; blk_ext [iblk, i9]
  · intro k j; blk_ext [iblk, i10]
  · funext y; blk_ext [iblk, i11]
  · intro k j; blk_ext [iblk, i12]
  · funext y; blk_ext [iblk, i13]

end Cert.KernelIdeal.Value

end
-- ==== Proof.Value.Array4.lean ====
/-
  What region 4 leaves in its two output arrays: the rows of layer 2 projected for the keys and for the values.
-/
module

public import proofs.«01_k».proof.Proof.Gen.Own.KernelIdeal.K4.Frame
public import proofs.«01_k».proof.Proof.Value.Rows
public import Idealize.ShloMosaic.Lib.Pipeline.ValueKit

@[expose] public section

set_option maxRecDepth 16384

noncomputable section

namespace Cert.KernelIdeal.Value

open Cert.KernelIdeal Cert.KernelIdeal.Gen Cert.KernelIdeal.Own.K4
open Idealize.ShloMosaic Idealize.ShloMosaic.TcCoe Idealize.ShloMosaic.Tactic
open Idealize.SL Idealize.SL.RA Idealize.SL.Sem
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- The keys' tile of the region at a grid point. -/
theorem tile4_keys (c : Dev nD) (t : Fin cfg4.N) : (outsAt4 (Ix := Ix) (U := U) (Lvl := Lvl) 𝒱₀ V c t).1 =
    k4_pay2 (iblk V c 0 t) (rowOf 0 (iblk V c 1 t)) (rowOf 0 (iblk V c 2 t)) (iblk V c 3 t) := by
  unfold outsAt4 out4_A_5
  dsimp only
  rw [View.read_writes_eq_canon _ _ _ (cover4_A_5 _ _ _ _ _ _ _ _ _ _ _ _ _ _ _ _ _ _ _ _ _ _)]
  unfold kernelRun4_A
  dsimp only
  sl_unfold_words
  simp only [View.readAt_eq_ld, (hs4_0 t).read_unread, (hs4_1 t).read_unread, (hs4_2 t).read_unread, (hs4_3 t).read_unread, (hs4_4 t).read_unread]
  rw [View.canon_cons_unit_zero zeros2]
  simp only [ld_rows, ld_square]
  rfl

/-- The values' tile of the region at a grid point. -/
theorem tile4_vals (c : Dev nD) (t : Fin cfg4.N) : (outsAt4 (Ix := Ix) (U := U) (Lvl := Lvl) 𝒱₀ V c t).2 =
    k4_pay2 (iblk V c 0 t) (rowOf 0 (iblk V c 1 t)) (rowOf 0 (iblk V c 2 t)) (iblk V c 4 t) := by
  unfold outsAt4 out4_A_6
  dsimp only
  rw [View.read_writes_eq_canon _ _ _ (cover4_A_6 _ _ _ _ _ _ _ _ _ _ _ _ _ _ _ _ _ _ _ _ _ _)]
  unfold kernelRun4_A
  dsimp only
  sl_unfold_words
  simp only [View.readAt_eq_ld, (hs4_0 t).read_unread, (hs4_1 t).read_unread, (hs4_2 t).read_unread, (hs4_3 t).read_unread, (hs4_4 t).read_unread]
  rw [View.canon_cons_unit_zero zeros2]
  simp only [ld_rows, ld_square]
  rfl

/-- Where each window's block lies at a grid point. -/
theorem place4 : ∀ t : Fin cfg4.N, win4_0.index t = ![t.val, 0] ∧ win4_1.index t = ![0, 0] ∧ win4_2.index t = ![0, 0] ∧
    win4_3.index t = ![0, 0, 0] ∧ win4_4.index t = ![0, 0, 0] ∧ win4_5.index t = ![t.val, 0] ∧ win4_6.index t = ![t.val, 0] :=
  (by decide +kernel : ∀ t : Fin grid4.N, _)

set_option maxHeartbeats 1000000 in
theorem array4_keys (c : Dev nD) : (dat (Ix := Ix) (U := U) (Lvl := Lvl) 𝒱₀ V D c).arrAt 5 cfg4.N =
    normRows 0 (V c main_v7) (V c main_arg16) (V c main_arg17) (V c main_arg19) := by
  refine (dat (Ix := Ix) (U := U) (Lvl := Lvl) 𝒱₀ V D c).arrAt_eq_of_covers 5 _ (by decide +kernel) fun t _ y => ?_
  blk_simp
  rw [after4_5, tile4_keys]
  have ht : t.val < 32 := N_4 ▸ t.isLt
  obtain ⟨i0, i1, i2, i3, i4, i5, i6⟩ := place4 t
  idx_vars y
  have hy : ((cfg4.win 5).blk t).view.emb (ix2 y0 y1) = ix2 (⟨t.val * 256 + y0.val, by omega⟩ : Fin 8192) y1 := by
    blk_ext [i5]
  rw [hy]
  refine tile_rows 0 (V c main_v7) (V c main_arg16) (V c main_arg17) (V c main_arg19) _ _ _ _ _ y0 ?_ ?_ ?_ ?_ y1
  · intro j; blk_ext [iblk, i0]
  · funext y; blk_ext [iblk, i1]
  · funext y; blk_ext [iblk, i2]
  · intro k j; blk_ext [iblk, i3]

set_option maxHeartbeats 1000000 in
theorem array4_vals (c : Dev nD) : (dat (Ix := Ix) (U := U) (Lvl := Lvl) 𝒱₀ V D c).arrAt 6 cfg4.N =
    normRows 0 (V c main_v7) (V c main_arg16) (V c main_arg17) (V c main_arg20) := by
  refine (dat (Ix := Ix) (U := U) (Lvl := Lvl) 𝒱₀ V D c).arrAt_eq_of_covers 6 _ (by decide +kernel) fun t _ y => ?_
  blk_simp
  rw [after4_6, tile4_vals]
  have ht : t.val < 32 := N_4 ▸ t.isLt
  obtain ⟨i0, i1, i2, i3, i4, i5, i6⟩ := place4 t
  idx_vars y
  have hy : ((cfg4.win 6).blk t).view.emb (ix2 y0 y1) = ix2 (⟨t.val * 256 + y0.val, by omega⟩ : Fin 8192) y1 := by
    blk_ext [i6]
  rw [hy]
  refine tile_rows 0 (V c main_v7) (V c main_arg16) (V c main_arg17) (V c main_arg20) _ _ _ _ _ y0 ?_ ?_ ?_ ?_ y1
  · intro j; blk_ext [iblk, i0]
  · funext y; blk_ext [iblk, i1]
  · funext y; blk_ext [iblk, i2]
  · intro k j; blk_ext [iblk, i4]

end Cert.KernelIdeal.Value

end
-- ==== Proof.Value.Array5.lean ====
/-
  What region 5 leaves in its two output arrays: the strided convolutions of layer 2.
-/
module

public import proofs.«01_k».proof.Proof.Whole.K5
public import proofs.«01_k».proof.Proof.Value.Conv
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.KernelIdeal.Whole.K5
open Idealize.ShloMosaic Idealize.ShloMosaic.TcCoe
open Idealize.SL Idealize.SL.RA Idealize.SL.Sem
open Idealize.ShloMosaic.Pipeline (Dat)

variable (V : (c : Dev nD) → (b : Ref sig .tc) → Buf (Elt Ideal) ((c : Thread nD τ).loc b))

theorem place5 : ∀ t : Fin cfg5.N, win5_0.index t = ![0, 0, 0] ∧ win5_1.index t = ![0, 0, 0] :=
  (by decide +kernel : ∀ t : Fin grid5.N, _)

set_option maxHeartbeats 1000000 in
theorem array5_keys (c : Dev nD) : (dat (F := Ideal) V c).arrAt 0 cfg5.N = conv1 0 (V c main_v5) (V c main_v9) := by
  refine (dat (F := Ideal) V c).arrAt_eq_of_covers 0 _ (by decide +kernel) fun t hf y => ?_
  have h := (flush5_0 t).mp hf
  have ht : t.val = 15 := by have := lt_of_lt_of_eq t.isLt N_5; omega
  blk_simp
  idx_vars y
  have hy : ((cfg5.win 0).blk t).view.emb (ix3 y0 y1 y2) = ix3 y0 y1 y2 := by
    blk_ext [(place5 t).1]
  rw [hy]
  show (acc V c t.val).1 (ix3 y0 y1 y2) = _
  rw [ht]
  exact congrFun (outAcc_keys c 0 (Memref.whole main_v5) (Memref.whole main_v6) (Memref.whole main_v9) (Memref.whole main_v10) (V c main_v5) (V c main_v6) (V c main_v9) (V c main_v10)) _

set_option maxHeartbeats 1000000 in
theorem array5_vals (c : Dev nD) : (dat (F := Ideal) V c).arrAt 1 cfg5.N = conv1 0 (V c main_v6) (V c main_v10) := by
  refine (dat (F := Ideal) V c).arrAt_eq_of_covers 1 _ (by decide +kernel) fun t hf y => ?_
  have h := (flush5_1 t).mp hf
  have ht : t.val = 15 := by have := lt_of_lt_of_eq t.isLt N_5; omega
  blk_simp
  idx_vars y
  have hy : ((cfg5.win 1).blk t).view.emb (ix3 y0 y1 y2) = ix3 y0 y1 y2 := by
    blk_ext [(place5 t).2]
  rw [hy]
  show (acc V c t.val).2 (ix3 y0 y1 y2) = _
  rw [ht]
  exact congrFun (outAcc_vals c 0 (Memref.whole main_v5) (Memref.whole main_v6) (Memref.whole main_v9) (Memref.whole main_v10) (V c main_v5) (V c main_v6) (V c main_v9) (V c main_v10)) _

end Cert.KernelIdeal.Value

end
-- ==== Proof.Value.Tile6.lean ====
/-
  What region 6 leaves in its output tile at a grid point: the tile function of the input blocks there.
-/
module

public import proofs.«01_k».proof.Proof.Gen.Own.KernelIdeal.K6.Frame
public import proofs.«01_k».proof.Proof.Value.Tile
public import Idealize.ShloMosaic.Lib.Pipeline.Value

@[expose] public section

noncomputable section

namespace Cert.KernelIdeal.Value

open Cert.KernelIdeal Cert.KernelIdeal.Gen Cert.KernelIdeal.Own.K6
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]
variable (𝒱₀ : Variants) (V : (c : Dev nD) → (b : Ref sig .tc) → Buf (Elt F) ((c : Thread nD τ).loc b))

/-- The tile of the region at a grid point. -/
theorem tile6 (c : Dev nD) (t : Fin cfg6.N) : outsAt6 (F := F) (Ix := Ix) (U := U) (Lvl := Lvl) 𝒱₀ V c t =
    tailT (midT (iblk V c 0 t) (rowOf 0 (iblk V c 1 t)) (rowOf 0 (iblk V c 2 t)) (iblk V c 3 t) (iblk V c 4 t) (iblk V c 5 t)
        (iblk V c 6 t) (rowOf 0 (iblk V c 7 t)))
      (rowOf 0 (iblk V c 8 t)) (rowOf 0 (iblk V c 9 t)) (rowOf 0 (iblk V c 13 t))
      (colsOf (iblk V c 10 t)) (biasOf 0 (iblk V c 11 t)) (rowsOf (iblk V c 12 t)) := by
  unfold outsAt6 out6_A_14
  rw [View.read_writes_eq_canon _ _ _ (cover6_A_14 _ _ _ _ _ _ _ _ _ _ _ _ _ _ _ _ _ _ _ _ _ _ _ _ _ _ _ _ _ _ _ _ _ _ _ _ _ _ _ _ _ _ _ _ _ _ _)]
  unfold kernelRun6_A
  dsimp only
  sl_unfold_words
  simp only [View.readAt_eq_ld, (hs6_0 t).read_unread, (hs6_1 t).read_unread, (hs6_2 t).read_unread, (hs6_3 t).read_unread, (hs6_4 t).read_unread, (hs6_5 t).read_unread, (hs6_6 t).read_unread, (hs6_7 t).read_unread, (hs6_8 t).read_unread, (hs6_9 t).read_unread, (hs6_10 t).read_unread, (hs6_11 t).read_unread, (hs6_12 t).read_unread, (hs6_13 t).read_unread]
  rw [View.canon_cons_unit_zero zeros3]
  simp only [readCov_tile, ld_tile, ld_square]
  rfl

end Cert.KernelIdeal.Value

end
-- ==== Proof.Value.Array6.lean ====
/-
  What region 6 leaves in its output array: layer 0 of the arrays it read.
-/
module

public import proofs.«01_k».proof.Proof.Value.Tile6
public import proofs.«01_k».proof.Proof.Value.Layer
public import Idealize.ShloMosaic.Lib.Pipeline.ValueKit

@[expose] public section

set_option maxRecDepth 16384

noncomputable section

namespace Cert.KernelIdeal.Value

open Cert.KernelIdeal Cert.KernelIdeal.Gen Cert.KernelIdeal.Own.K6
open Idealize.ShloMosaic Idealize.ShloMosaic.TcCoe
open Idealize.SL Idealize.SL.RA Idealize.SL.Sem
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- Where each window's block lies at a grid point: batch `t / 16`, tile `t % 16`. -/
theorem place6 : ∀ t : Fin cfg6.N, win6_0.index t = ![t.val / 16, t.val % 16, 0] ∧ win6_1.index t = ![0, 0] ∧ win6_2.index t = ![0, 0] ∧
    win6_3.index t = ![0, 0, 0] ∧ win6_4.index t = ![t.val / 16, 0, 0] ∧ win6_5.index t = ![t.val / 16, 0, 0] ∧
    win6_6.index t = ![0, 0, 0] ∧ win6_7.index t = ![0, 0] ∧ win6_8.index t = ![0, 0] ∧ win6_9.index t = ![0, 0] ∧
    win6_10.index t = ![0, 0, 0] ∧ win6_11.index t = ![0, 0] ∧ win6_12.index t = ![0, 0, 0] ∧ win6_13.index t = ![0, 0] ∧
    win6_14.index t = ![t.val / 16, t.val % 16, 0] :=
  (by decide +kernel : ∀ t : Fin grid6.N, _)

set_option maxHeartbeats 4000000 in
theorem array6 (c : Dev nD) : (dat (Ix := Ix) (U := U) (Lvl := Lvl) 𝒱₀ V D c).arrAt 14 cfg6.N =
    layer 0 (V c main_v4) (V c main_arg16) (V c main_arg17) (V c main_arg18) (V c main_v11_0) (V c main_v11_1) (V c main_arg23) (V c main_arg24) (V c main_arg25) (V c main_arg26) (V c main_arg27) (V c main_arg28)
      (V c main_arg29) (V c main_arg30) := by
  refine (dat (Ix := Ix) (U := U) (Lvl := Lvl) 𝒱₀ V D c).arrAt_eq_of_covers 14 _ (by decide +kernel) fun t _ y => ?_
  blk_simp
  rw [after6_14, tile6]
  have ht : t.val < 32 := N_6 ▸ t.isLt
  obtain ⟨i0, i1, i2, i3, i4, i5, i6, i7, i8, i9, i10, i11, i12, i13, i14⟩ := place6 t
  idx_vars y
  obtain rfl : y0 = 0 := Subsingleton.elim _ _
  have hy : ((cfg6.win 14).blk t).view.emb (ix3 0 y1 y2) = ix3 (⟨t.val / 16, by omega⟩ : Fin 2) (⟨t.val % 16 * 256 + y1.val, by omega⟩ : Fin 4096) y2 := by
    blk_ext [i14]
  rw [hy]
  refine tile_layer 0 (V c main_v4) (V c main_arg16) (V c main_arg17) (V c main_arg18) (V c main_v11_0) (V c main_v11_1) (V c main_arg23) (V c main_arg24) (V c main_arg25) (V c main_arg26) (V c main_arg27)
    (V c main_arg28) (V c main_arg29) (V c main_arg30) _ _ _ _ _ _ _ _ _ _ _ _ _ _ _ _ y1 ?_ ?_ ?_ ?_ ?_ ?_ ?_ ?_ ?_ ?_ ?_ ?_ ?_ ?_ y2
  · intro j; blk_ext [iblk, i0]
  · funext y; blk_ext [iblk, i1]
  · funext y; blk_ext [iblk, i2]
  · intro k j; blk_ext [iblk, i3]
  · intro k j; blk_ext [iblk, i4]
  · intro k j; blk_ext [iblk, i5]
  · intro k j; blk_ext [iblk, i6]
  · funext y; blk_ext [iblk, i7]
  · funext y; blk_ext [iblk, i8]
  · funext y; blk_ext [iblk, i9]
  · intro k j; blk_ext [iblk, i10]
  · funext y; blk_ext [iblk, i11]
  · intro k j; blk_ext [iblk, i12]
  · funext y; blk_ext [iblk, i13]

end Cert.KernelIdeal.Value

end
-- ==== Proof.Value.Array7.lean ====
/-
  What region 7 leaves in its two output arrays: the rows of layer 3 projected for the keys and for the values.
-/
module

public import proofs.«01_k».proof.Proof.Gen.Own.KernelIdeal.K7.Frame
public import proofs.«01_k».proof.Proof.Value.Rows
public import Idealize.ShloMosaic.Lib.Pipeline.ValueKit

@[expose] public section

set_option maxRecDepth 16384

noncomputable section

namespace Cert.KernelIdeal.Value

open Cert.KernelIdeal Cert.KernelIdeal.Gen Cert.KernelIdeal.Own.K7
open Idealize.ShloMosaic Idealize.ShloMosaic.TcCoe Idealize.ShloMosaic.Tactic
open Idealize.SL Idealize.SL.RA Idealize.SL.Sem
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- The keys' tile of the region at a grid point. -/
theorem tile7_keys (c : Dev nD) (t : Fin cfg7.N) : (outsAt7 (Ix := Ix) (U := U) (Lvl := Lvl) 𝒱₀ V c t).1 =
    k4_pay2 (iblk V c 0 t) (rowOf 1 (iblk V c 1 t)) (rowOf 1 (iblk V c 2 t)) (iblk V c 3 t) := by
  unfold outsAt7 out7_A_5
  dsimp only
  rw [View.read_writes_eq_canon _ _ _ (cover7_A_5 _ _ _ _ _ _ _ _ _ _ _ _ _ _ _ _ _ _ _ _ _ _)]
  unfold kernelRun7_A
  dsimp only
  sl_unfold_words
  simp only [View.readAt_eq_ld, (hs7_0 t).read_unread, (hs7_1 t).read_unread, (hs7_2 t).read_unread, (hs7_3 t).read_unread, (hs7_4 t).read_unread]
  rw [View.canon_cons_unit_zero zeros2]
  simp only [ld_rows, ld_square]
  rfl

/-- The values' tile of the region at a grid point. -/
theorem tile7_vals (c : Dev nD) (t : Fin cfg7.N) : (outsAt7 (Ix := Ix) (U := U) (Lvl := Lvl) 𝒱₀ V c t).2 =
    k4_pay2 (iblk V c 0 t) (rowOf 1 (iblk V c 1 t)) (rowOf 1 (iblk V c 2 t)) (iblk V c 4 t) := by
  unfold outsAt7 out7_A_6
  dsimp only
  rw [View.read_writes_eq_canon _ _ _ (cover7_A_6 _ _ _ _ _ _ _ _ _ _ _ _ _ _ _ _ _ _ _ _ _ _)]
  unfold kernelRun7_A
  dsimp only
  sl_unfold_words
  simp only [View.readAt_eq_ld, (hs7_0 t).read_unread, (hs7_1 t).read_unread, (hs7_2 t).read_unread, (hs7_3 t).read_unread, (hs7_4 t).read_unread]
  rw [View.canon_cons_unit_zero zeros2]
  simp only [ld_rows, ld_square]
  rfl

/-- Where each window's block lies at a grid point. -/
theorem place7 : ∀ t : Fin cfg7.N, win7_0.index t = ![t.val, 0] ∧ win7_1.index t = ![0, 0] ∧ win7_2.index t = ![0, 0] ∧
    win7_3.index t = ![1, 0, 0] ∧ win7_4.index t = ![1, 0, 0] ∧ win7_5.index t = ![t.val, 0] ∧ win7_6.index t = ![t.val, 0] :=
  (by decide +kernel : ∀ t : Fin grid7.N, _)

set_option maxHeartbeats 1000000 in
theorem array7_keys (c : Dev nD) : (dat (Ix := Ix) (U := U) (Lvl := Lvl) 𝒱₀ V D c).arrAt 5 cfg7.N =
    normRows 1 (V c main_v13) (V c main_arg16) (V c main_arg17) (V c main_arg19) := by
  refine (dat (Ix := Ix) (U := U) (Lvl := Lvl) 𝒱₀ V D c).arrAt_eq_of_covers 5 _ (by decide +kernel) fun t _ y => ?_
  blk_simp
  rw [after7_5, tile7_keys]
  have ht : t.val < 32 := N_7 ▸ t.isLt
  obtain ⟨i0, i1, i2, i3, i4, i5, i6⟩ := place7 t
  idx_vars y
  have hy : ((cfg7.win 5).blk t).view.emb (ix2 y0 y1) = ix2 (⟨t.val * 256 + y0.val, by omega⟩ : Fin 8192) y1 := by
    blk_ext [i5]
  rw [hy]
  refine tile_rows 1 (V c main_v13) (V c main_arg16) (V c main_arg17) (V c main_arg19) _ _ _ _ _ y0 ?_ ?_ ?_ ?_ y1
  · intro j; blk_ext [iblk, i0]
  · funext y; blk_ext [iblk, i1]
  · funext y; blk_ext [iblk, i2]
  · intro k j; blk_ext [iblk, i3]

set_option maxHeartbeats 1000000 in
theorem array7_vals (c : Dev nD) : (dat (Ix := Ix) (U := U) (Lvl := Lvl) 𝒱₀ V D c).arrAt 6 cfg7.N =
    normRows 1 (V c main_v13) (V c main_arg16) (V c main_arg17) (V c main_arg20) := by
  refine (dat (Ix := Ix) (U := U) (Lvl := Lvl) 𝒱₀ V D c).arrAt_eq_of_covers 6 _ (by decide +kernel) fun t _ y => ?_
  blk_simp
  rw [after7_6, tile7_vals]
  have ht : t.val < 32 := N_7 ▸ t.isLt
  obtain ⟨i0, i1, i2, i3, i4, i5, i6⟩ := place7 t
  idx_vars y
  have hy : ((cfg7.win 6).blk t).view.emb (ix2 y0 y1) = ix2 (⟨t.val * 256 + y0.val, by omega⟩ : Fin 8192) y1 := by
    blk_ext [i6]
  rw [hy]
  refine tile_rows 1 (V c main_v13) (V c main_arg16) (V c main_arg17) (V c main_arg20) _ _ _ _ _ y0 ?_ ?_ ?_ ?_ y1
  · intro j; blk_ext [iblk, i0]
  · funext y; blk_ext [iblk, i1]
  · funext y; blk_ext [iblk, i2]
  · intro k j; blk_ext [iblk, i4]

end Cert.KernelIdeal.Value

end
-- ==== Proof.Value.Array8.lean ====
/-
  What region 8 leaves in its two output arrays: the strided convolutions of layer 3.
-/
module

public import proofs.«01_k».proof.Proof.Whole.K8
public import proofs.«01_k».proof.Proof.Value.Conv
public import Idealize.ShloMosaic.Lib.Pipeline.ValueKit

@[expose] public section

set_option maxRecDepth 16384

noncomputable section

namespace Cert.KernelIdeal.Value

open Cert.KernelIdeal Cert.KernelIdeal.Gen Cert.KernelIdeal.Whole Cert.KernelIdeal.Whole.K8
open Idealize.ShloMosaic Idealize.ShloMosaic.TcCoe
open Idealize.SL Idealize.SL.RA Idealize.SL.Sem
open Idealize.ShloMosaic.Pipeline (Dat)

variable (V : (c : Dev nD) → (b : Ref sig .tc) → Buf (Elt Ideal) ((c : Thread nD τ).loc b))

theorem place8 : ∀ t : Fin cfg8.N, win8_0.index t = ![0, 0, 0] ∧ win8_1.index t = ![0, 0, 0] :=
  (by decide +kernel : ∀ t : Fin grid8.N, _)

set_option maxHeartbeats 1000000 in
theorem array8_keys (c : Dev nD) : (dat (F := Ideal) V c).arrAt 0 cfg8.N = conv1 1 (V c main_v5) (V c main_v15) := by
  refine (dat (F := Ideal) V c).arrAt_eq_of_covers 0 _ (by decide +kernel) fun t hf y => ?_
  have h := (flush8_0 t).mp hf
  have ht : t.val = 15 := by have := lt_of_lt_of_eq t.isLt N_8; omega
  blk_simp
  idx_vars y
  have hy : ((cfg8.win 0).blk t).view.emb (ix3 y0 y1 y2) = ix3 y0 y1 y2 := by
    blk_ext [(place8 t).1]
  rw [hy]
  show (acc V c t.val).1 (ix3 y0 y1 y2) = _
  rw [ht]
  exact congrFun (outAcc_keys c 1 (Memref.whole main_v5) (Memref.whole main_v6) (Memref.whole main_v15) (Memref.whole main_v16) (V c main_v5) (V c main_v6) (V c main_v15) (V c main_v16)) _

set_option maxHeartbeats 1000000 in
theorem array8_vals (c : Dev nD) : (dat (F := Ideal) V c).arrAt 1 cfg8.N = conv1 1 (V c main_v6) (V c main_v16) := by
  refine (dat (F := Ideal) V c).arrAt_eq_of_covers 1 _ (by decide +kernel) fun t hf y => ?_
  have h := (flush8_1 t).mp hf
  have ht : t.val = 15 := by have := lt_of_lt_of_eq t.isLt N_8; omega
  blk_simp
  idx_vars y
  have hy : ((cfg8.win 1).blk t).view.emb (ix3 y0 y1 y2) = ix3 y0 y1 y2 := by
    blk_ext [(place8 t).2]
  rw [hy]
  show (acc V c t.val).2 (ix3 y0 y1 y2) = _
  rw [ht]
  exact congrFun (outAcc_vals c 1 (Memref.whole main_v5) (Memref.whole main_v6) (Memref.whole main_v15) (Memref.whole main_v16) (V c main_v5) (V c main_v6) (V c main_v15) (V c main_v16)) _

end Cert.KernelIdeal.Value

end
-- ==== Proof.Value.Tile9.lean ====
/-
  What region 9 leaves in its output tile at a grid point: the tile function of the input blocks there.
-/
module

public import proofs.«01_k».proof.Proof.Gen.Own.KernelIdeal.K9.Frame
public import proofs.«01_k».proof.Proof.Value.Tile
public import Idealize.ShloMosaic.Lib.Pipeline.Value

@[expose] public section

noncomputable section

namespace Cert.KernelIdeal.Value

open Cert.KernelIdeal Cert.KernelIdeal.Gen Cert.KernelIdeal.Own.K9
open Idealize.ShloMosaic Idealize.ShloMosaic.TcCoe Idealize.ShloMosaic.Tactic
open Idealize.SL Idealize.SL.RA Idealize.SL.Sem

variable {F : FTy → Type} [FloatOps F]
variable {Ix : Type} [DecidableEq Ix] {U : Type} [URA U] {Lvl : Type} [Preorder Lvl]
variable (𝒱₀ : Variants) (V : (c : Dev nD) → (b : Ref sig .tc) → Buf (Elt F) ((c : Thread nD τ).loc b))

/-- The tile of the region at a grid point. -/
theorem tile9 (c : Dev nD) (t : Fin cfg9.N) : outsAt9 (F := F) (Ix := Ix) (U := U) (Lvl := Lvl) 𝒱₀ V c t =
    tailT (midT (iblk V c 0 t) (rowOf 1 (iblk V c 1 t)) (rowOf 1 (iblk V c 2 t)) (iblk V c 3 t) (iblk V c 4 t) (iblk V c 5 t)
        (iblk V c 6 t) (rowOf 1 (iblk V c 7 t)))
      (rowOf 1 (iblk V c 8 t)) (rowOf 1 (iblk V c 9 t)) (rowOf 1 (iblk V c 13 t))
      (colsOf (iblk V c 10 t)) (biasOf 1 (iblk V c 11 t)) (rowsOf (iblk V c 12 t)) := by
  unfold outsAt9 out9_A_14
  rw [View.read_writes_eq_canon _ _ _ (cover9_A_14 _ _ _ _ _ _ _ _ _ _ _ _ _ _ _ _ _ _ _ _ _ _ _ _ _ _ _ _ _ _ _ _ _ _ _ _ _ _ _ _ _ _ _ _ _ _ _)]
  unfold kernelRun9_A
  dsimp only
  sl_unfold_words
  simp only [View.readAt_eq_ld, (hs9_0 t).read_unread, (hs9_1 t).read_unread, (hs9_2 t).read_unread, (hs9_3 t).read_unread, (hs9_4 t).read_unread, (hs9_5 t).read_unread, (hs9_6 t).read_unread, (hs9_7 t).read_unread, (hs9_8 t).read_unread, (hs9_9 t).read_unread, (hs9_10 t).read_unread, (hs9_11 t).read_unread, (hs9_12 t).read_unread, (hs9_13 t).read_unread]
  rw [View.canon_cons_unit_zero zeros3]
  simp only [readCov_tile, ld_tile, ld_square]
  rfl

end Cert.KernelIdeal.Value

end
-- ==== Proof.Value.Array9.lean ====
/-
  What region 9 leaves in its output array: layer 1 of the arrays it read.
-/
module

public import proofs.«01_k».proof.Proof.Value.Tile9
public import proofs.«01_k».proof.Proof.Value.Layer
public import Idealize.ShloMosaic.Lib.Pipeline.ValueKit

@[expose] public section

set_option maxRecDepth 16384

noncomputable section

namespace Cert.KernelIdeal.Value

open Cert.KernelIdeal Cert.KernelIdeal.Gen Cert.KernelIdeal.Own.K9
open Idealize.ShloMosaic Idealize.ShloMosaic.TcCoe
open Idealize.SL Idealize.SL.RA Idealize.SL.Sem
open Idealize.ShloMosaic.Pipeline (Dat)

variable {Ix : Type} [DecidableEq Ix] {U : Type} [URA U] {Lvl : Type} [Preorder Lvl]
variable (𝒱₀ : Variants) (V : (c : Dev nD) → (b : Ref sig .tc) → Buf (Elt Ideal) ((c : Thread nD τ).loc b)) (D : Dev nD → CellTallies nD τ sig Ix)

/-- Where each window's block lies at a grid point: batch `t / 16`, tile `t % 16`. -/
theorem place9 : ∀ t : Fin cfg9.N, win9_0.index t = ![t.val / 16, t.val % 16, 0] ∧ win9_1.index t = ![0, 0] ∧ win9_2.index t = ![0, 0] ∧
    win9_3.index t = ![1, 0, 0] ∧ win9_4.index t = ![t.val / 16, 0, 0] ∧ win9_5.index t = ![t.val / 16, 0, 0] ∧
    win9_6.index t = ![1, 0, 0] ∧ win9_7.index t = ![0, 0] ∧ win9_8.index t = ![0, 0] ∧ win9_9.index t = ![0, 0] ∧
    win9_10.index t = ![1, 0, 0] ∧ win9_11.index t = ![0, 0] ∧ win9_12.index t = ![1, 0, 0] ∧ win9_13.index t = ![0, 0] ∧
    win9_14.index t = ![t.val / 16, t.val % 16, 0] :=
  (by decide +kernel : ∀ t : Fin grid9.N, _)

set_option maxHeartbeats 4000000 in
theorem array9 (c : Dev nD) : (dat (Ix := Ix) (U := U) (Lvl := Lvl) 𝒱₀ V D c).arrAt 14 cfg9.N =
    layer 1 (V c main_v12) (V c main_arg16) (V c main_arg17) (V c main_arg18) (V c main_v17_0) (V c main_v17_1) (V c main_arg23) (V c main_arg24) (V c main_arg25) (V c main_arg26) (V c main_arg27) (V c main_arg28)
      (V c main_arg29) (V c main_arg30) := by
  refine (dat (Ix := Ix) (U := U) (Lvl := Lvl) 𝒱₀ V D c).arrAt_eq_of_covers 14 _ (by decide +kernel) fun t _ y => ?_
  blk_simp
  rw [after9_14, tile9]
  have ht : t.val < 32 := N_9 ▸ t.isLt
  obtain ⟨i0, i1, i2, i3, i4, i5, i6, i7, i8, i9, i10, i11, i12, i13, i14⟩ := place9 t
  idx_vars y
  obtain rfl : y0 = 0 := Subsingleton.elim _ _
  have hy : ((cfg9.win 14).blk t).view.emb (ix3 0 y1 y2) = ix3 (⟨t.val / 16, by omega⟩ : Fin 2) (⟨t.val % 16 * 256 + y1.val, by omega⟩ : Fin 4096) y2 := by
    blk_ext [i14]
  rw [hy]
  refine tile_layer 1 (V c main_v12) (V c main_arg16) (V c main_arg17) (V c main_arg18) (V c main_v17_0) (V c main_v17_1) (V c main_arg23) (V c main_arg24) (V c main_arg25) (V c main_arg26) (V c main_arg27)
    (V c main_arg28) (V c main_arg29) (V c main_arg30) _ _ _ _ _ _ _ _ _ _ _ _ _ _ _ _ y1 ?_ ?_ ?_ ?_ ?_ ?_ ?_ ?_ ?_ ?_ ?_ ?_ ?_ ?_ y2
  · intro j; blk_ext [iblk, i0]
  · funext y; blk_ext [iblk, i1]
  · funext y; blk_ext [iblk, i2]
  · intro k j; blk_ext [iblk, i3]
  · intro k j; blk_ext [iblk, i4]
  · intro k j; blk_ext [iblk, i5]
  · intro k j; blk_ext [iblk, i6]
  · funext y; blk_ext [iblk, i7]
  · funext y; blk_ext [iblk, i8]
  · funext y; blk_ext [iblk, i9]
  · intro k j; blk_ext [iblk, i10]
  · funext y; blk_ext [iblk, i11]
  · intro k j; blk_ext [iblk, i12]
  · funext y; blk_ext [iblk, i13]

end Cert.KernelIdeal.Value

end
-- ==== Proof.Value.Compose.lean ====
/-
  The kernel's result as a function of its arguments, layer by layer: each region's output arrays, the host operations between
  the regions, and the reference's layers.
-/
module

public import proofs.«01_k».proof.Proof.Whole.Kept
public import proofs.«01_k».proof.Proof.Value.Match
public import proofs.«01_k».proof.Proof.Value.Array0
public import proofs.«01_k».proof.Proof.Value.Array1
public import proofs.«01_k».proof.Proof.Value.Array2
public import proofs.«01_k».proof.Proof.Value.Array3
public import proofs.«01_k».proof.Proof.Value.Array4
public import proofs.«01_k».proof.Proof.Value.Array5
public import proofs.«01_k».proof.Proof.Value.Array6
public import proofs.«01_k».proof.Proof.Value.Array7
public import proofs.«01_k».proof.Proof.Value.Array8
public import proofs.«01_k».proof.Proof.Value.Array9

@[expose] public section

set_option maxRecDepth 16384

noncomputable section

namespace Cert.KernelIdeal.Value

open Cert.KernelIdeal Cert.KernelIdeal.Gen Cert.KernelIdeal.Whole
open Cert.Ref (layer_eq proj_eq conv_eq tailR seqKV convKV)
open Idealize.ShloMosaic Idealize.ShloMosaic.TcCoe
open Idealize.SL.Sem

/-! ## The host operations between the regions -/

theorem host4_v5 (W : Valuation τ sig (Elt Ideal)) : StableHlo.after (hostOps4 (F := Ideal)) W (Proc.devRef .tc main_v5) = transpose S2x1024x16x1024 [0, 1, 3, 2] (W (Proc.devRef .tc main_arg21)) transposes_S2x1024x1024x16_S2x1024x16x1024_0_1_3_2 := by
  after_results; try rfl
theorem host4_v6 (W : Valuation τ sig (Elt Ideal)) : StableHlo.after (hostOps4 (F := Ideal)) W (Proc.devRef .tc main_v6) = transpose S2x1024x16x1024 [0, 1, 3, 2] (W (Proc.devRef .tc main_arg22)) transposes_S2x1024x1024x16_S2x1024x16x1024_0_1_3_2 := by
  after_results; try rfl
theorem host4_v7 (W : Valuation τ sig (Elt Ideal)) : StableHlo.after (hostOps4 (F := Ideal)) W (Proc.devRef .tc main_v7) = shapeCast S8192x1024 (W (Proc.devRef .tc main_v4)) shapeCasts_S2x4096x1024_S8192x1024 := by
  after_results; try rfl
theorem host5_v9 (W : Valuation τ sig (Elt Ideal)) : StableHlo.after (hostOps5 (F := Ideal)) W (Proc.devRef .tc main_v9) = shapeCast S2x256x16x1024 (W (Proc.devRef .tc main_v8_0)) shapeCasts_S8192x1024_S2x256x16x1024 := by
  after_results; try rfl
theorem host5_v10 (W : Valuation τ sig (Elt Ideal)) : StableHlo.after (hostOps5 (F := Ideal)) W (Proc.devRef .tc main_v10) = shapeCast S2x256x16x1024 (W (Proc.devRef .tc main_v8_1)) shapeCasts_S8192x1024_S2x256x16x1024 := by
  after_results; try rfl
theorem host7_v13 (W : Valuation τ sig (Elt Ideal)) : StableHlo.after (hostOps7 (F := Ideal)) W (Proc.devRef .tc main_v13) = shapeCast S8192x1024 (W (Proc.devRef .tc main_v12)) shapeCasts_S2x4096x1024_S8192x1024 := by
  after_results; try rfl
theorem host8_v15 (W : Valuation τ sig (Elt Ideal)) : StableHlo.after (hostOps8 (F := Ideal)) W (Proc.devRef .tc main_v15) = shapeCast S2x256x16x1024 (W (Proc.devRef .tc main_v14_0)) shapeCasts_S8192x1024_S2x256x16x1024 := by
  after_results; try rfl
theorem host8_v16 (W : Valuation τ sig (Elt Ideal)) : StableHlo.after (hostOps8 (F := Ideal)) W (Proc.devRef .tc main_v16) = shapeCast S2x256x16x1024 (W (Proc.devRef .tc main_v14_1)) shapeCasts_S8192x1024_S2x256x16x1024 := by
  after_results; try rfl

variable (m : (ℓ : Loc nD τ sig) → Buf (Elt Ideal) ℓ) (c : Dev nD)

/-- An array at launch. -/
abbrev A (r : Ref sig .tc) : Buf (Elt Ideal) ((c.tc : Thread nD τ).loc r) := m (c, Proc.devRef .tc r)

/-! ## The four layers -/

theorem v1_keys : (D0 m c).arrAt 7 cfg0.N = seqKV 0 (A m c main_arg0) (A m c main_arg1) (A m c main_arg2) (A m c main_arg4) (A m c main_arg6) := by
  refine (array0_keys (entry (W1 m)) none₀ c).trans ?_
  dsimp only [entry]
  rw [W1_kept m c main_arg0 (by decide), W1_kept m c main_arg1 (by decide), W1_kept m c main_arg2 (by decide), W1_kept m c main_arg4 (by decide), W1_kept m c main_arg6 (by decide)]
  exact proj_eq ..

theorem v1_vals : (D0 m c).arrAt 8 cfg0.N = seqKV 0 (A m c main_arg0) (A m c main_arg1) (A m c main_arg2) (A m c main_arg5) (A m c main_arg7) := by
  refine (array0_vals (entry (W1 m)) none₀ c).trans ?_
  dsimp only [entry]
  rw [W1_kept m c main_arg0 (by decide), W1_kept m c main_arg1 (by decide), W1_kept m c main_arg2 (by decide), W1_kept m c main_arg5 (by decide), W1_kept m c main_arg7 (by decide)]
  exact proj_eq ..

/-- The array after the first layer. -/
def L0 : FVec Ideal S2x4096x1024 .f32 :=
  tailR 0 (A m c main_arg0) (A m c main_arg1) (A m c main_arg2) (A m c main_arg3) (seqKV 0 (A m c main_arg0) (A m c main_arg1) (A m c main_arg2) (A m c main_arg4) (A m c main_arg6)) (seqKV 0 (A m c main_arg0) (A m c main_arg1) (A m c main_arg2) (A m c main_arg5) (A m c main_arg7)) (A m c main_arg8) (A m c main_arg9) (A m c main_arg10) (A m c main_arg11) (A m c main_arg12) (A m c main_arg13) (A m c main_arg14) (A m c main_arg15)

theorem v2_eq : (D1 m c).arrAt 14 cfg1.N = L0 m c := by
  refine (array1 Variants.none (entry (W2 m)) none₀ c).trans ?_
  dsimp only [entry]
  rw [W2_main_v1_0, W2_main_v1_1, v1_keys, v1_vals, W2_kept m c main_arg0 (by decide), W2_kept m c main_arg1 (by decide), W2_kept m c main_arg2 (by decide), W2_kept m c main_arg3 (by decide), W2_kept m c main_arg8 (by decide), W2_kept m c main_arg9 (by decide), W2_kept m c main_arg10 (by decide), W2_kept m c main_arg11 (by decide), W2_kept m c main_arg12 (by decide), W2_kept m c main_arg13 (by decide), W2_kept m c main_arg14 (by decide), W2_kept m c main_arg15 (by decide)]
  exact layer_eq ..

theorem v3_keys : (D2 m c).arrAt 7 cfg2.N = seqKV 1 (L0 m c) (A m c main_arg1) (A m c main_arg2) (A m c main_arg4) (A m c main_arg6) := by
  refine (array2_keys (entry (W3 m)) none₀ c).trans ?_
  dsimp only [entry]
  rw [W3_main_v2, v2_eq, W3_kept m c main_arg1 (by decide), W3_kept m c main_arg2 (by decide), W3_kept m c main_arg4 (by decide), W3_kept m c main_arg6 (by decide)]
  exact proj_eq ..

theorem v3_vals : (D2 m c).arrAt 8 cfg2.N = seqKV 1 (L0 m c) (A m c main_arg1) (A m c main_arg2) (A m c main_arg5) (A m c main_arg7) := by
  refine (array2_vals (entry (W3 m)) none₀ c).trans ?_
  dsimp only [entry]
  rw [W3_main_v2, v2_eq, W3_kept m c main_arg1 (by decide), W3_kept m c main_arg2 (by decide), W3_kept m c main_arg5 (by decide), W3_kept m c main_arg7 (by decide)]
  exact proj_eq ..

/-- The array after the second layer. -/
def L1 : FVec Ideal S2x4096x1024 .f32 :=
  tailR 1 (L0 m c) (A m c main_arg1) (A m c main_arg2) (A m c main_arg3) (seqKV 1 (L0 m c) (A m c main_arg1) (A m c main_arg2) (A m c main_arg4) (A m c main_arg6)) (seqKV 1 (L0 m c) (A m c main_arg1) (A m c main_arg2) (A m c main_arg5) (A m c main_arg7)) (A m c main_arg8) (A m c main_arg9) (A m c main_arg10) (A m c main_arg11) (A m c main_arg12) (A m c main_arg13) (A m c main_arg14) (A m c main_arg15)

theorem v4_eq : (D3 m c).arrAt 14 cfg3.N = L1 m c := by
  refine (array3 Variants.none (entry (W4 m)) none₀ c).trans ?_
  dsimp only [entry]
  rw [W4_main_v3_0, W4_main_v3_1, v3_keys, v3_vals, W4_of m c main_v2 (by decide) (by decide), W3_main_v2, v2_eq, W4_kept m c main_arg1 (by decide), W4_kept m c main_arg2 (by decide), W4_kept m c main_arg3 (by decide), W4_kept m c main_arg8 (by decide), W4_kept m c main_arg9 (by decide), W4_kept m c main_arg10 (by decide), W4_kept m c main_arg11 (by decide), W4_kept m c main_arg12 (by decide), W4_kept m c main_arg13 (by decide), W4_kept m c main_arg14 (by decide), W4_kept m c main_arg15 (by decide)]
  exact layer_eq ..

theorem v8_keys : (D4 m c).arrAt 5 cfg4.N
    = normRows 0 (shapeCast S8192x1024 (L1 m c) shapeCasts_S2x4096x1024_S8192x1024) (A m c main_arg16) (A m c main_arg17) (A m c main_arg19) := by
  refine (array4_keys Variants.none (entry (W6 m)) none₀ c).trans ?_
  dsimp only [entry]
  rw [W6_kept m c main_arg16 (by decide), W6_kept m c main_arg17 (by decide), W6_kept m c main_arg19 (by decide), show W6 m c (Proc.devRef .tc main_v7) = _ from host4_v7 _, W5_main_v4, v4_eq]

theorem v8_vals : (D4 m c).arrAt 6 cfg4.N
    = normRows 0 (shapeCast S8192x1024 (L1 m c) shapeCasts_S2x4096x1024_S8192x1024) (A m c main_arg16) (A m c main_arg17) (A m c main_arg20) := by
  refine (array4_vals Variants.none (entry (W6 m)) none₀ c).trans ?_
  dsimp only [entry]
  rw [W6_kept m c main_arg16 (by decide), W6_kept m c main_arg17 (by decide), W6_kept m c main_arg20 (by decide), show W6 m c (Proc.devRef .tc main_v7) = _ from host4_v7 _, W5_main_v4, v4_eq]

theorem v11_keys : (D5 m c).arrAt 0 cfg5.N = convKV 0 (L1 m c) (A m c main_arg16) (A m c main_arg17) (A m c main_arg19) (A m c main_arg21) := by
  refine (array5_keys (entry (W8 m)) c).trans ?_
  dsimp only [entry]
  rw [show W8 m c (Proc.devRef .tc main_v9) = _ from host5_v9 _, W7_main_v8_0, v8_keys,
    W8_of m c main_v5 (by decide), W7_of m c main_v5 (by decide) (by decide), show W6 m c (Proc.devRef .tc main_v5) = _ from host4_v5 _, W5_kept m c main_arg21 (by decide)]
  exact conv_eq ..

theorem v11_vals : (D5 m c).arrAt 1 cfg5.N = convKV 0 (L1 m c) (A m c main_arg16) (A m c main_arg17) (A m c main_arg20) (A m c main_arg22) := by
  refine (array5_vals (entry (W8 m)) c).trans ?_
  dsimp only [entry]
  rw [show W8 m c (Proc.devRef .tc main_v10) = _ from host5_v10 _, W7_main_v8_1, v8_vals,
    W8_of m c main_v6 (by decide), W7_of m c main_v6 (by decide) (by decide), show W6 m c (Proc.devRef .tc main_v6) = _ from host4_v6 _, W5_kept m c main_arg22 (by decide)]
  exact conv_eq ..

/-- The array after the third layer. -/
def L2 : FVec Ideal S2x4096x1024 .f32 :=
  tailR 0 (L1 m c) (A m c main_arg16) (A m c main_arg17) (A m c main_arg18) (convKV 0 (L1 m c) (A m c main_arg16) (A m c main_arg17) (A m c main_arg19) (A m c main_arg21)) (convKV 0 (L1 m c) (A m c main_arg16) (A m c main_arg17) (A m c main_arg20) (A m c main_arg22)) (A m c main_arg23) (A m c main_arg24) (A m c main_arg25) (A m c main_arg26) (A m c main_arg27) (A m c main_arg28) (A m c main_arg29) (A m c main_arg30)

theorem v12_eq : (D6 m c).arrAt 14 cfg6.N = L2 m c := by
  refine (array6 Variants.none (entry (W9 m)) none₀ c).trans ?_
  dsimp only [entry]
  rw [W9_main_v11_0, W9_main_v11_1, v11_keys, v11_vals, W9_of m c main_v4 (by decide) (by decide), W8_of m c main_v4 (by decide), W7_of m c main_v4 (by decide) (by decide), W6_of m c main_v4 (by decide), W5_main_v4, v4_eq, W9_kept m c main_arg16 (by decide), W9_kept m c main_arg17 (by decide), W9_kept m c main_arg18 (by decide), W9_kept m c main_arg23 (by decide), W9_kept m c main_arg24 (by decide), W9_kept m c main_arg25 (by decide), W9_kept m c main_arg26 (by decide), W9_kept m c main_arg27 (by decide), W9_kept m c main_arg28 (by decide), W9_kept m c main_arg29 (by decide), W9_kept m c main_arg30 (by decide)]
  exact layer_eq ..

theorem v14_keys : (D7 m c).arrAt 5 cfg7.N
    = normRows 1 (shapeCast S8192x1024 (L2 m c) shapeCasts_S2x4096x1024_S8192x1024) (A m c main_arg16) (A m c main_arg17) (A m c main_arg19) := by
  refine (array7_keys Variants.none (entry (W11 m)) none₀ c).trans ?_
  dsimp only [entry]
  rw [W11_kept m c main_arg16 (by decide), W11_kept m c main_arg17 (by decide), W11_kept m c main_arg19 (by decide), show W11 m c (Proc.devRef .tc main_v13) = _ from host7_v13 _, W10_main_v12, v12_eq]

theorem v14_vals : (D7 m c).arrAt 6 cfg7.N
    = normRows 1 (shapeCast S8192x1024 (L2 m c) shapeCasts_S2x4096x1024_S8192x1024) (A m c main_arg16) (A m c main_arg17) (A m c main_arg20) := by
  refine (array7_vals Variants.none (entry (W11 m)) none₀ c).trans ?_
  dsimp only [entry]
  rw [W11_kept m c main_arg16 (by decide), W11_kept m c main_arg17 (by decide), W11_kept m c main_arg20 (by decide), show W11 m c (Proc.devRef .tc main_v13) = _ from host7_v13 _, W10_main_v12, v12_eq]

theorem v17_keys : (D8 m c).arrAt 0 cfg8.N = convKV 1 (L2 m c) (A m c main_arg16) (A m c main_arg17) (A m c main_arg19) (A m c main_arg21) := by
  refine (array8_keys (entry (W13 m)) c).trans ?_
  dsimp only [entry]
  rw [show W13 m c (Proc.devRef .tc main_v15) = _ from host8_v15 _, W12_main_v14_0, v14_keys,
    W13_of m c main_v5 (by decide), W12_of m c main_v5 (by decide) (by decide), W11_of m c main_v5 (by decide), W10_of m c main_v5 (by decide), W9_of m c main_v5 (by decide) (by decide), W8_of m c main_v5 (by decide), W7_of m c main_v5 (by decide) (by decide), show W6 m c (Proc.devRef .tc main_v5) = _ from host4_v5 _, W5_kept m c main_arg21 (by decide)]
  exact conv_eq ..

theorem v17_vals : (D8 m c).arrAt 1 cfg8.N = convKV 1 (L2 m c) (A m c main_arg16) (A m c main_arg17) (A m c main_arg20) (A m c main_arg22) := by
  refine (array8_vals (entry (W13 m)) c).trans ?_
  dsimp only [entry]
  rw [show W13 m c (Proc.devRef .tc main_v16) = _ from host8_v16 _, W12_main_v14_1, v14_vals,
    W13_of m c main_v6 (by decide), W12_of m c main_v6 (by decide) (by decide), W11_of m c main_v6 (by decide), W10_of m c main_v6 (by decide), W9_of m c main_v6 (by decide) (by decide), W8_of m c main_v6 (by decide), W7_of m c main_v6 (by decide) (by decide), show W6 m c (Proc.devRef .tc main_v6) = _ from host4_v6 _, W5_kept m c main_arg22 (by decide)]
  exact conv_eq ..

/-- The array after the fourth layer. -/
def L3 : FVec Ideal S2x4096x1024 .f32 :=
  tailR 1 (L2 m c) (A m c main_arg16) (A m c main_arg17) (A m c main_arg18) (convKV 1 (L2 m c) (A m c main_arg16) (A m c main_arg17) (A m c main_arg19) (A m c main_arg21)) (convKV 1 (L2 m c) (A m c main_arg16) (A m c main_arg17) (A m c main_arg20) (A m c main_arg22)) (A m c main_arg23) (A m c main_arg24) (A m c main_arg25) (A m c main_arg26) (A m c main_arg27) (A m c main_arg28) (A m c main_arg29) (A m c main_arg30)

theorem v18_eq : (D9 m c).arrAt 14 cfg9.N = L3 m c := by
  refine (array9 Variants.none (entry (W14 m)) none₀ c).trans ?_
  dsimp only [entry]
  rw [W14_main_v17_0, W14_main_v17_1, v17_keys, v17_vals, W14_of m c main_v12 (by decide) (by decide), W13_of m c main_v12 (by decide), W12_of m c main_v12 (by decide) (by decide), W11_of m c main_v12 (by decide), W10_main_v12, v12_eq, W14_kept m c main_arg16 (by decide), W14_kept m c main_arg17 (by decide), W14_kept m c main_arg18 (by decide), W14_kept m c main_arg23 (by decide), W14_kept m c main_arg24 (by decide), W14_kept m c main_arg25 (by decide), W14_kept m c main_arg26 (by decide), W14_kept m c main_arg27 (by decide), W14_kept m c main_arg28 (by decide), W14_kept m c main_arg29 (by decide), W14_kept m c main_arg30 (by decide)]
  exact layer_eq ..

end Cert.KernelIdeal.Value

end
-- ==== Proof.Value.Algebraic.lean ====
/-
  The kernel and the reference compute the same array over the reals.
-/
module

public import proofs.«01_k».proof.Defs
public import proofs.«01_k».proof.Proof.Whole.Frames
public import proofs.«01_k».proof.Proof.Value.Compose

@[expose] public section

set_option maxRecDepth 16384

noncomputable section

namespace Cert.KernelIdeal.Value

open Cert.KernelIdeal Cert.KernelIdeal.Gen
open Idealize.ShloMosaic Idealize.ShloMosaic.TcCoe

/-- The reference's result on the kernel's arguments is the kernel's array after the fourth layer. -/
theorem reference_eq (m : (ℓ : Loc nD τ sig) → Buf (Elt Ideal) ℓ) (c : Dev nD) :
    Cert.ReferenceIdeal.Read.val_main_v515 (F := Ideal) (A m c main_arg0) (A m c main_arg1) (A m c main_arg2) (A m c main_arg3) (A m c main_arg4) (A m c main_arg5) (A m c main_arg6) (A m c main_arg7) (A m c main_arg8) (A m c main_arg9) (A m c main_arg10) (A m c main_arg11) (A m c main_arg12) (A m c main_arg13) (A m c main_arg14) (A m c main_arg15) (A m c main_arg16) (A m c main_arg17) (A m c main_arg18) (A m c main_arg19) (A m c main_arg20) (A m c main_arg21) (A m c main_arg22) (A m c main_arg23) (A m c main_arg24) (A m c main_arg25) (A m c main_arg26) (A m c main_arg27) (A m c main_arg28) (A m c main_arg29) (A m c main_arg30) = L3 m c := by
  rw [Cert.Ref.layer3, Cert.Ref.layer2, Cert.Ref.layer1, Cert.Ref.layer0]
  rfl

end Cert.KernelIdeal.Value

namespace Cert.Whole

open Idealize.ShloMosaic Idealize.ShloMosaic.TcCoe Idealize.ShloMosaic.StableHlo
open Idealize.SL.Sem

theorem algebraic : Cert.algebraic_KernelIdeal_ReferenceIdeal (hKernelIdeal := Cert.KernelIdeal.Gen.facts)
    (hReferenceIdeal := Cert.ReferenceIdeal.Gen.facts) := by
  intro m g m' g' _ h
  refine ⟨fun c => Cert.KernelIdeal.Value.L3 m c, ?_, ?_⟩
  · refine θ_run_mono (θ_run_and (Cert.KernelIdeal.Whole.frame Ideal m g) (Cert.KernelIdeal.Whole.run_read m g)) fun r hr c => ?_
    exact ⟨(hr.2.1 c).2.trans (Cert.KernelIdeal.Value.v18_eq m c), hr.1.1 c⟩
  · refine θ_run_mono (Cert.ReferenceIdeal.Value.run m' g') fun r hr c => ?_
    refine ⟨((hr c).1.trans (Cert.ReferenceIdeal.Read.val_main_v515_eq (launchContents m' c))).trans ?_, (hr c).2⟩
    obtain ⟨h0, h1, h2, h3, h4, h5, h6, h7, h8, h9, h10, h11, h12, h13, h14, h15, h16, h17, h18, h19, h20, h21, h22, h23, h24, h25, h26, h27, h28, h29, h30⟩ := h c
    rw [show launchContents m' c (Proc.devRef .tc Cert.ReferenceIdeal.main_arg0) = _ from h0,
      show launchContents m' c (Proc.devRef .tc Cert.ReferenceIdeal.main_arg1) = _ from h1,
      show launchContents m' c (Proc.devRef .tc Cert.ReferenceIdeal.main_arg2) = _ from h2,
      show launchContents m' c (Proc.devRef .tc Cert.ReferenceIdeal.main_arg3) = _ from h3,
      show launchContents m' c (Proc.devRef .tc Cert.ReferenceIdeal.main_arg4) = _ from h4,
      show launchContents m' c (Proc.devRef .tc Cert.ReferenceIdeal.main_arg5) = _ from h5,
      show launchContents m' c (Proc.devRef .tc Cert.ReferenceIdeal.main_arg6) = _ from h6,
      show launchContents m' c (Proc.devRef .tc Cert.ReferenceIdeal.main_arg7) = _ from h7,
      show launchContents m' c (Proc.devRef .tc Cert.ReferenceIdeal.main_arg8) = _ from h8,
      show launchContents m' c (Proc.devRef .tc Cert.ReferenceIdeal.main_arg9) = _ from h9,
      show launchContents m' c (Proc.devRef .tc Cert.ReferenceIdeal.main_arg10) = _ from h10,
      show launchContents m' c (Proc.devRef .tc Cert.ReferenceIdeal.main_arg11) = _ from h11,
      show launchContents m' c (Proc.devRef .tc Cert.ReferenceIdeal.main_arg12) = _ from h12,
      show launchContents m' c (Proc.devRef .tc Cert.ReferenceIdeal.main_arg13) = _ from h13,
      show launchContents m' c (Proc.devRef .tc Cert.ReferenceIdeal.main_arg14) = _ from h14,
      show launchContents m' c (Proc.devRef .tc Cert.ReferenceIdeal.main_arg15) = _ from h15,
      show launchContents m' c (Proc.devRef .tc Cert.ReferenceIdeal.main_arg16) = _ from h16,
      show launchContents m' c (Proc.devRef .tc Cert.ReferenceIdeal.main_arg17) = _ from h17,
      show launchContents m' c (Proc.devRef .tc Cert.ReferenceIdeal.main_arg18) = _ from h18,
      show launchContents m' c (Proc.devRef .tc Cert.ReferenceIdeal.main_arg19) = _ from h19,
      show launchContents m' c (Proc.devRef .tc Cert.ReferenceIdeal.main_arg20) = _ from h20,
      show launchContents m' c (Proc.devRef .tc Cert.ReferenceIdeal.main_arg21) = _ from h21,
      show launchContents m' c (Proc.devRef .tc Cert.ReferenceIdeal.main_arg22) = _ from h22,
      show launchContents m' c (Proc.devRef .tc Cert.ReferenceIdeal.main_arg23) = _ from h23,
      show launchContents m' c (Proc.devRef .tc Cert.ReferenceIdeal.main_arg24) = _ from h24,
      show launchContents m' c (Proc.devRef .tc Cert.ReferenceIdeal.main_arg25) = _ from h25,
      show launchContents m' c (Proc.devRef .tc Cert.ReferenceIdeal.main_arg26) = _ from h26,
      show launchContents m' c (Proc.devRef .tc Cert.ReferenceIdeal.main_arg27) = _ from h27,
      show launchContents m' c (Proc.devRef .tc Cert.ReferenceIdeal.main_arg28) = _ from h28,
      show launchContents m' c (Proc.devRef .tc Cert.ReferenceIdeal.main_arg29) = _ from h29,
      show launchContents m' c (Proc.devRef .tc Cert.ReferenceIdeal.main_arg30) = _ from h30]
    exact Cert.KernelIdeal.Value.reference_eq m c

end Cert.Whole

end
-- ==== Proof.lean ====
module

public import proofs.«01_k».proof.Defs
public import proofs.«01_k».proof.Proof.Whole.Frames
public import proofs.«01_k».proof.Proof.Value.Algebraic

public section

theorem Cert.Proof.claim : Cert.Claim :=
  ⟨Cert.Whole.kernel_facts, Cert.KernelIdeal.Gen.facts, Cert.ReferenceIdeal.Gen.facts, Cert.Whole.frame_kernel, Cert.Whole.frame_ideal,
    Cert.Whole.frame_reference, trivial, Cert.Whole.algebraic⟩
